-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) = (fun _ => 1#1)

def Pre_Gw (m : (ℓ : Loc Cert.Gw.nD Cert.Gw.τ Cert.Gw.sig) → Buf (Elt Bits) ℓ) : Prop :=
  True

def Pre_GwIdeal (m : (ℓ : Loc Cert.GwIdeal.nD Cert.GwIdeal.τ Cert.GwIdeal.sig) → Buf (Elt Ideal) ℓ) : Prop :=
  True

def Pre_GwRefIdeal (m : (ℓ : Loc Cert.GwRefIdeal.nD Cert.GwRefIdeal.τ Cert.GwRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_ln_finite [hPre_ln_finite : Cert.Pre_ln_finite.Facts] (m : (ℓ : Loc Cert.LnIdeal.nD Cert.LnIdeal.τ Cert.LnIdeal.sig) → Buf (Elt Ideal) ℓ) : Prop :=
  ∀ c : Dev Cert.LnIdeal.nD,
    (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))) = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_ln_finite [hPre_ln_finite : Cert.Pre_ln_finite.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Br (m : (ℓ : Loc Cert.Br.nD Cert.Br.τ Cert.Br.sig) → Buf (Elt Bits) ℓ) : Prop :=
  True

def Pre_BrIdeal (m : (ℓ : Loc Cert.BrIdeal.nD Cert.BrIdeal.τ Cert.BrIdeal.sig) → Buf (Elt Ideal) ℓ) : Prop :=
  True

def Pre_BrIdeal_branch_finite [hPre_branch_finite : Cert.Pre_branch_finite.Facts] (m : (ℓ : Loc Cert.BrIdeal.nD Cert.BrIdeal.τ Cert.BrIdeal.sig) → Buf (Elt Ideal) ℓ) : Prop :=
  ∀ c : Dev Cert.BrIdeal.nD,
    (Cert.Pre_branch_finite.fn (F := Ideal) (m ((c.tc : Thread Cert.BrIdeal.nD Cert.BrIdeal.τ).loc Cert.BrIdeal.main_arg0)) (m ((c.tc : Thread Cert.BrIdeal.nD Cert.BrIdeal.τ).loc Cert.BrIdeal.main_arg1)) (m ((c.tc : Thread Cert.BrIdeal.nD Cert.BrIdeal.τ).loc Cert.BrIdeal.main_arg2)) (m ((c.tc : Thread Cert.BrIdeal.nD Cert.BrIdeal.τ).loc Cert.BrIdeal.main_arg3)) (m ((c.tc : Thread Cert.BrIdeal.nD Cert.BrIdeal.τ).loc Cert.BrIdeal.main_arg4)) (m ((c.tc : Thread Cert.BrIdeal.nD Cert.BrIdeal.τ).loc Cert.BrIdeal.main_arg5)) (m ((c.tc : Thread Cert.BrIdeal.nD Cert.BrIdeal.τ).loc Cert.BrIdeal.main_arg6))) = (fun _ => 1#1)

def Pre_BrRefIdeal (m : (ℓ : Loc Cert.BrRefIdeal.nD Cert.BrRefIdeal.τ Cert.BrRefIdeal.sig) → Buf (Elt Ideal) ℓ) : Prop :=
  True

def Pre_BrRefIdeal_branch_finite [hPre_branch_finite : Cert.Pre_branch_finite.Facts] (m : (ℓ : Loc Cert.BrRefIdeal.nD Cert.BrRefIdeal.τ Cert.BrRefIdeal.sig) → Buf (Elt Ideal) ℓ) : Prop :=
  ∀ c : Dev Cert.BrRefIdeal.nD,
    (Cert.Pre_branch_finite.fn (F := Ideal) (m ((c.tc : Thread Cert.BrRefIdeal.nD Cert.BrRefIdeal.τ).loc Cert.BrRefIdeal.main_arg0)) (m ((c.tc : Thread Cert.BrRefIdeal.nD Cert.BrRefIdeal.τ).loc Cert.BrRefIdeal.main_arg1)) (m ((c.tc : Thread Cert.BrRefIdeal.nD Cert.BrRefIdeal.τ).loc Cert.BrRefIdeal.main_arg2)) (m ((c.tc : Thread Cert.BrRefIdeal.nD Cert.BrRefIdeal.τ).loc Cert.BrRefIdeal.main_arg3)) (m ((c.tc : Thread Cert.BrRefIdeal.nD Cert.BrRefIdeal.τ).loc Cert.BrRefIdeal.main_arg4)) (m ((c.tc : Thread Cert.BrRefIdeal.nD Cert.BrRefIdeal.τ).loc Cert.BrRefIdeal.main_arg5)) (m ((c.tc : Thread Cert.BrRefIdeal.nD Cert.BrRefIdeal.τ).loc Cert.BrRefIdeal.main_arg6))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Gw [hGw : Cert.Gw.Facts] : Prop :=
  ∀ (m : (ℓ : Loc Cert.Gw.nD Cert.Gw.τ Cert.Gw.sig) → Buf (Elt Bits) ℓ) (g : Dev Cert.Gw.nD → PrngReg), Pre_Gw m →
    θ_run (Cert.Gw.defs (F := Bits)) (onTc (τ := Cert.Gw.τ) (Cert.Gw.main (F := Bits))) ⟨m, fun _ => 0, g⟩ (fun r => (∀ c : Dev Cert.Gw.nD,
      r.2.mem ((c.tc : Thread Cert.Gw.nD Cert.Gw.τ).loc Cert.Gw.main_arg0) = m ((c.tc : Thread Cert.Gw.nD Cert.Gw.τ).loc Cert.Gw.main_arg0)
      ∧ r.2.mem ((c.tc : Thread Cert.Gw.nD Cert.Gw.τ).loc Cert.Gw.main_arg1) = m ((c.tc : Thread Cert.Gw.nD Cert.Gw.τ).loc Cert.Gw.main_arg1))
      ∧ r.2.sem = fun _ => 0)

def quiescent_GwIdeal [hGwIdeal : Cert.GwIdeal.Facts] : Prop :=
  ∀ (m : (ℓ : Loc Cert.GwIdeal.nD Cert.GwIdeal.τ Cert.GwIdeal.sig) → Buf (Elt Ideal) ℓ) (g : Dev Cert.GwIdeal.nD → PrngReg), Pre_GwIdeal m →
    θ_run (Cert.GwIdeal.defs (F := Ideal)) (onTc (τ := Cert.GwIdeal.τ) (Cert.GwIdeal.main (F := Ideal))) ⟨m, fun _ => 0, g⟩ (fun r => (∀ c : Dev Cert.GwIdeal.nD,
      r.2.mem ((c.tc : Thread Cert.GwIdeal.nD Cert.GwIdeal.τ).loc Cert.GwIdeal.main_arg0) = m ((c.tc : Thread Cert.GwIdeal.nD Cert.GwIdeal.τ).loc Cert.GwIdeal.main_arg0)
      ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ r.2.sem = fun _ => 0)

def quiescent_GwRefIdeal [hGwRefIdeal : Cert.GwRefIdeal.Facts] : Prop :=
  ∀ (m : (ℓ : Loc Cert.GwRefIdeal.nD Cert.GwRefIdeal.τ Cert.GwRefIdeal.sig) → Buf (Elt Ideal) ℓ) (g : Dev Cert.GwRefIdeal.nD → PrngReg), Pre_GwRefIdeal m →
    θ_run (Cert.GwRefIdeal.defs (F := Ideal)) (onTc (τ := Cert.GwRefIdeal.τ) (Cert.GwRefIdeal.main (F := Ideal))) ⟨m, fun _ => 0, g⟩ (fun r => (∀ c : Dev Cert.GwRefIdeal.nD,
      r.2.mem ((c.tc : Thread Cert.GwRefIdeal.nD Cert.GwRefIdeal.τ).loc Cert.GwRefIdeal.main_arg0) = m ((c.tc : Thread Cert.GwRefIdeal.nD Cert.GwRefIdeal.τ).loc Cert.GwRefIdeal.main_arg0)
      ∧ r.2.mem ((c.tc : Thread Cert.GwRefIdeal.nD Cert.GwRefIdeal.τ).loc Cert.GwRefIdeal.main_arg1) = m ((c.tc : Thread Cert.GwRefIdeal.nD Cert.GwRefIdeal.τ).loc Cert.GwRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnIdeal_pre_ln_finite [hLnIdeal : Cert.LnIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg), Pre_LnIdeal_ln_finite m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnRefIdeal_pre_ln_finite [hLnRefIdeal : Cert.LnRefIdeal.Facts] [hPre_ln_finite : Cert.Pre_ln_finite.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_ln_finite m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10))
      ∧ r.2.sem = fun _ => 0)

def quiescent_Br [hBr : Cert.Br.Facts] : Prop :=
  ∀ (m : (ℓ : Loc Cert.Br.nD Cert.Br.τ Cert.Br.sig) → Buf (Elt Bits) ℓ) (g : Dev Cert.Br.nD → PrngReg), Pre_Br m →
    θ_run (Cert.Br.defs (F := Bits)) (onTc (τ := Cert.Br.τ) (Cert.Br.main (F := Bits))) ⟨m, fun _ => 0, g⟩ (fun r => (∀ c : Dev Cert.Br.nD,
      r.2.mem ((c.tc : Thread Cert.Br.nD Cert.Br.τ).loc Cert.Br.main_arg0) = m ((c.tc : Thread Cert.Br.nD Cert.Br.τ).loc Cert.Br.main_arg0)
      ∧ r.2.mem ((c.tc : Thread Cert.Br.nD Cert.Br.τ).loc Cert.Br.main_arg1) = m ((c.tc : Thread Cert.Br.nD Cert.Br.τ).loc Cert.Br.main_arg1)
      ∧ r.2.mem ((c.tc : Thread Cert.Br.nD Cert.Br.τ).loc Cert.Br.main_arg2) = m ((c.tc : Thread Cert.Br.nD Cert.Br.τ).loc Cert.Br.main_arg2)
      ∧ r.2.mem ((c.tc : Thread Cert.Br.nD Cert.Br.τ).loc Cert.Br.main_arg3) = m ((c.tc : Thread Cert.Br.nD Cert.Br.τ).loc Cert.Br.main_arg3)
      ∧ r.2.mem ((c.tc : Thread Cert.Br.nD Cert.Br.τ).loc Cert.Br.main_arg4) = m ((c.tc : Thread Cert.Br.nD Cert.Br.τ).loc Cert.Br.main_arg4)
      ∧ r.2.mem ((c.tc : Thread Cert.Br.nD Cert.Br.τ).loc Cert.Br.main_arg5) = m ((c.tc : Thread Cert.Br.nD Cert.Br.τ).loc Cert.Br.main_arg5)
      ∧ r.2.mem ((c.tc : Thread Cert.Br.nD Cert.Br.τ).loc Cert.Br.main_arg6) = m ((c.tc : Thread Cert.Br.nD Cert.Br.τ).loc Cert.Br.main_arg6))
      ∧ r.2.sem = fun _ => 0)

def quiescent_BrIdeal [hBrIdeal : Cert.BrIdeal.Facts] : Prop :=
  ∀ (m : (ℓ : Loc Cert.BrIdeal.nD Cert.BrIdeal.τ Cert.BrIdeal.sig) → Buf (Elt Ideal) ℓ) (g : Dev Cert.BrIdeal.nD → PrngReg), Pre_BrIdeal m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1)
      ∧ r.2.mem ((c.tc : Thread Cert.BrIdeal.nD Cert.BrIdeal.τ).loc Cert.BrIdeal.main_arg2) = m ((c.tc : Thread Cert.BrIdeal.nD Cert.BrIdeal.τ).loc Cert.BrIdeal.main_arg2)
      ∧ r.2.mem ((c.tc : Thread Cert.BrIdeal.nD Cert.BrIdeal.τ).loc Cert.BrIdeal.main_arg3) = m ((c.tc : Thread Cert.BrIdeal.nD Cert.BrIdeal.τ).loc Cert.BrIdeal.main_arg3)
      ∧ r.2.mem ((c.tc : Thread Cert.BrIdeal.nD Cert.BrIdeal.τ).loc Cert.BrIdeal.main_arg4) = m ((c.tc : Thread Cert.BrIdeal.nD Cert.BrIdeal.τ).loc Cert.BrIdeal.main_arg4)
      ∧ r.2.mem ((c.tc : Thread Cert.BrIdeal.nD Cert.BrIdeal.τ).loc Cert.BrIdeal.main_arg5) = m ((c.tc : Thread Cert.BrIdeal.nD Cert.BrIdeal.τ).loc Cert.BrIdeal.main_arg5)
      ∧ r.2.mem ((c.tc : Thread Cert.BrIdeal.nD Cert.BrIdeal.τ).loc Cert.BrIdeal.main_arg6) = m ((c.tc : Thread Cert.BrIdeal.nD Cert.BrIdeal.τ).loc Cert.BrIdeal.main_arg6))
      ∧ r.2.sem = fun _ => 0)

def quiescent_BrIdeal_pre_branch_finite [hBrIdeal : Cert.BrIdeal.Facts] [hPre_branch_finite : Cert.Pre_branch_finite.Facts] : Prop :=
  ∀ (m : (ℓ : Loc Cert.BrIdeal.nD Cert.BrIdeal.τ Cert.BrIdeal.sig) → Buf (Elt Ideal) ℓ) (g : Dev Cert.BrIdeal.nD → PrngReg), Pre_BrIdeal_branch_finite m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1)
      ∧ r.2.mem ((c.tc : Thread Cert.BrIdeal.nD Cert.BrIdeal.τ).loc Cert.BrIdeal.main_arg2) = m ((c.tc : Thread Cert.BrIdeal.nD Cert.BrIdeal.τ).loc Cert.BrIdeal.main_arg2)
      ∧ r.2.mem ((c.tc : Thread Cert.BrIdeal.nD Cert.BrIdeal.τ).loc Cert.BrIdeal.main_arg3) = m ((c.tc : Thread Cert.BrIdeal.nD Cert.BrIdeal.τ).loc Cert.BrIdeal.main_arg3)
      ∧ r.2.mem ((c.tc : Thread Cert.BrIdeal.nD Cert.BrIdeal.τ).loc Cert.BrIdeal.main_arg4) = m ((c.tc : Thread Cert.BrIdeal.nD Cert.BrIdeal.τ).loc Cert.BrIdeal.main_arg4)
      ∧ r.2.mem ((c.tc : Thread Cert.BrIdeal.nD Cert.BrIdeal.τ).loc Cert.BrIdeal.main_arg5) = m ((c.tc : Thread Cert.BrIdeal.nD Cert.BrIdeal.τ).loc Cert.BrIdeal.main_arg5)
      ∧ r.2.mem ((c.tc : Thread Cert.BrIdeal.nD Cert.BrIdeal.τ).loc Cert.BrIdeal.main_arg6) = m ((c.tc : Thread Cert.BrIdeal.nD Cert.BrIdeal.τ).loc Cert.BrIdeal.main_arg6))
      ∧ r.2.sem = fun _ => 0)

def quiescent_BrRefIdeal [hBrRefIdeal : Cert.BrRefIdeal.Facts] : Prop :=
  ∀ (m : (ℓ : Loc Cert.BrRefIdeal.nD Cert.BrRefIdeal.τ Cert.BrRefIdeal.sig) → Buf (Elt Ideal) ℓ) (g : Dev Cert.BrRefIdeal.nD → PrngReg), Pre_BrRefIdeal m →
    θ_run (Cert.BrRefIdeal.defs (F := Ideal)) (onTc (τ := Cert.BrRefIdeal.τ) (Cert.BrRefIdeal.main (F := Ideal))) ⟨m, fun _ => 0, g⟩ (fun r => (∀ c : Dev Cert.BrRefIdeal.nD,
      r.2.mem ((c.tc : Thread Cert.BrRefIdeal.nD Cert.BrRefIdeal.τ).loc Cert.BrRefIdeal.main_arg0) = m ((c.tc : Thread Cert.BrRefIdeal.nD Cert.BrRefIdeal.τ).loc Cert.BrRefIdeal.main_arg0)
      ∧ r.2.mem ((c.tc : Thread Cert.BrRefIdeal.nD Cert.BrRefIdeal.τ).loc Cert.BrRefIdeal.main_arg1) = m ((c.tc : Thread Cert.BrRefIdeal.nD Cert.BrRefIdeal.τ).loc Cert.BrRefIdeal.main_arg1)
      ∧ r.2.mem ((c.tc : Thread Cert.BrRefIdeal.nD Cert.BrRefIdeal.τ).loc Cert.BrRefIdeal.main_arg2) = m ((c.tc : Thread Cert.BrRefIdeal.nD Cert.BrRefIdeal.τ).loc Cert.BrRefIdeal.main_arg2)
      ∧ r.2.mem ((c.tc : Thread Cert.BrRefIdeal.nD Cert.BrRefIdeal.τ).loc Cert.BrRefIdeal.main_arg3) = m ((c.tc : Thread Cert.BrRefIdeal.nD Cert.BrRefIdeal.τ).loc Cert.BrRefIdeal.main_arg3)
      ∧ r.2.mem ((c.tc : Thread Cert.BrRefIdeal.nD Cert.BrRefIdeal.τ).loc Cert.BrRefIdeal.main_arg4) = m ((c.tc : Thread Cert.BrRefIdeal.nD Cert.BrRefIdeal.τ).loc Cert.BrRefIdeal.main_arg4)
      ∧ r.2.mem ((c.tc : Thread Cert.BrRefIdeal.nD Cert.BrRefIdeal.τ).loc Cert.BrRefIdeal.main_arg5) = m ((c.tc : Thread Cert.BrRefIdeal.nD Cert.BrRefIdeal.τ).loc Cert.BrRefIdeal.main_arg5)
      ∧ r.2.mem ((c.tc : Thread Cert.BrRefIdeal.nD Cert.BrRefIdeal.τ).loc Cert.BrRefIdeal.main_arg6) = m ((c.tc : Thread Cert.BrRefIdeal.nD Cert.BrRefIdeal.τ).loc Cert.BrRefIdeal.main_arg6))
      ∧ r.2.sem = fun _ => 0)

def quiescent_BrRefIdeal_pre_branch_finite [hBrRefIdeal : Cert.BrRefIdeal.Facts] [hPre_branch_finite : Cert.Pre_branch_finite.Facts] : Prop :=
  ∀ (m : (ℓ : Loc Cert.BrRefIdeal.nD Cert.BrRefIdeal.τ Cert.BrRefIdeal.sig) → Buf (Elt Ideal) ℓ) (g : Dev Cert.BrRefIdeal.nD → PrngReg), Pre_BrRefIdeal_branch_finite m →
    θ_run (Cert.BrRefIdeal.defs (F := Ideal)) (onTc (τ := Cert.BrRefIdeal.τ) (Cert.BrRefIdeal.main (F := Ideal))) ⟨m, fun _ => 0, g⟩ (fun r => (∀ c : Dev Cert.BrRefIdeal.nD,
      r.2.mem ((c.tc : Thread Cert.BrRefIdeal.nD Cert.BrRefIdeal.τ).loc Cert.BrRefIdeal.main_arg0) = m ((c.tc : Thread Cert.BrRefIdeal.nD Cert.BrRefIdeal.τ).loc Cert.BrRefIdeal.main_arg0)
      ∧ r.2.mem ((c.tc : Thread Cert.BrRefIdeal.nD Cert.BrRefIdeal.τ).loc Cert.BrRefIdeal.main_arg1) = m ((c.tc : Thread Cert.BrRefIdeal.nD Cert.BrRefIdeal.τ).loc Cert.BrRefIdeal.main_arg1)
      ∧ r.2.mem ((c.tc : Thread Cert.BrRefIdeal.nD Cert.BrRefIdeal.τ).loc Cert.BrRefIdeal.main_arg2) = m ((c.tc : Thread Cert.BrRefIdeal.nD Cert.BrRefIdeal.τ).loc Cert.BrRefIdeal.main_arg2)
      ∧ r.2.mem ((c.tc : Thread Cert.BrRefIdeal.nD Cert.BrRefIdeal.τ).loc Cert.BrRefIdeal.main_arg3) = m ((c.tc : Thread Cert.BrRefIdeal.nD Cert.BrRefIdeal.τ).loc Cert.BrRefIdeal.main_arg3)
      ∧ r.2.mem ((c.tc : Thread Cert.BrRefIdeal.nD Cert.BrRefIdeal.τ).loc Cert.BrRefIdeal.main_arg4) = m ((c.tc : Thread Cert.BrRefIdeal.nD Cert.BrRefIdeal.τ).loc Cert.BrRefIdeal.main_arg4)
      ∧ r.2.mem ((c.tc : Thread Cert.BrRefIdeal.nD Cert.BrRefIdeal.τ).loc Cert.BrRefIdeal.main_arg5) = m ((c.tc : Thread Cert.BrRefIdeal.nD Cert.BrRefIdeal.τ).loc Cert.BrRefIdeal.main_arg5)
      ∧ r.2.mem ((c.tc : Thread Cert.BrRefIdeal.nD Cert.BrRefIdeal.τ).loc Cert.BrRefIdeal.main_arg6) = m ((c.tc : Thread Cert.BrRefIdeal.nD Cert.BrRefIdeal.τ).loc Cert.BrRefIdeal.main_arg6))
      ∧ r.2.sem = fun _ => 0)

def preserves_Merge_MergeIdeal : Prop :=
  True

def algebraic_MergeIdeal_MergeRefIdeal_on_merge_written_pre_merge_finite [hMergeIdeal : Cert.MergeIdeal.Facts] [hMergeRefIdeal : Cert.MergeRefIdeal.Facts] [hPre_merge_finite : Cert.Pre_merge_finite.Facts] [hOn_merge_written : Cert.On_merge_written.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v47_0)) (v1 : (c : Dev Cert.MergeIdeal.nD) → Buf (Elt Ideal) ((c.tc : Thread Cert.MergeIdeal.nD Cert.MergeIdeal.τ).loc Cert.MergeIdeal.main_v47_1)) (v2 : (c : Dev Cert.MergeIdeal.nD) → Buf (Elt Ideal) ((c.tc : Thread Cert.MergeIdeal.nD Cert.MergeIdeal.τ).loc Cert.MergeIdeal.main_v47_2)) (v3 : (c : Dev Cert.MergeIdeal.nD) → Buf (Elt Ideal) ((c.tc : Thread Cert.MergeIdeal.nD Cert.MergeIdeal.τ).loc Cert.MergeIdeal.main_v47_3)) (v4 : (c : Dev Cert.MergeIdeal.nD) → Buf (Elt Ideal) ((c.tc : Thread Cert.MergeIdeal.nD Cert.MergeIdeal.τ).loc Cert.MergeIdeal.main_v47_4)) (v5 : (c : Dev Cert.MergeIdeal.nD) → Buf (Elt Ideal) ((c.tc : Thread Cert.MergeIdeal.nD Cert.MergeIdeal.τ).loc Cert.MergeIdeal.main_v47_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![2048, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).1 i = 1#1 → r.2.mem ((c.tc : Thread Cert.MergeIdeal.nD Cert.MergeIdeal.τ).loc Cert.MergeIdeal.main_v47_0) i = v0 c i)
          ∧ (∀ i : (⟨2, ![2048, 1536]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.1 i = 1#1 → r.2.mem ((c.tc : Thread Cert.MergeIdeal.nD Cert.MergeIdeal.τ).loc Cert.MergeIdeal.main_v47_1) i = v1 c i)
          ∧ (∀ i : (⟨2, ![2048, 9216]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.1 i = 1#1 → r.2.mem ((c.tc : Thread Cert.MergeIdeal.nD Cert.MergeIdeal.τ).loc Cert.MergeIdeal.main_v47_2) i = v2 c i)
          ∧ (∀ i : (⟨3, ![8, 128, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.1 i = 1#1 → r.2.mem ((c.tc : Thread Cert.MergeIdeal.nD Cert.MergeIdeal.τ).loc Cert.MergeIdeal.main_v47_3) i = v3 c i)
          ∧ (∀ i : (⟨4, ![8, 3, 512, 128]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.1 i = 1#1 → r.2.mem ((c.tc : Thread Cert.MergeIdeal.nD Cert.MergeIdeal.τ).loc Cert.MergeIdeal.main_v47_4) i = v4 c i)
          ∧ (∀ i : (⟨2, ![8, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2 i = 1#1 → r.2.mem ((c.tc : Thread Cert.MergeIdeal.nD Cert.MergeIdeal.τ).loc Cert.MergeIdeal.main_v47_5) i = v5 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![2048, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).1 i = 1#1 → r.2.mem ((c.tc : Thread Cert.MergeRefIdeal.nD Cert.MergeRefIdeal.τ).loc Cert.MergeRefIdeal.main_v119) i = v0 c i)
          ∧ (∀ i : (⟨2, ![2048, 1536]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.1 i = 1#1 → r.2.mem ((c.tc : Thread Cert.MergeRefIdeal.nD Cert.MergeRefIdeal.τ).loc Cert.MergeRefIdeal.main_v155) i = v1 c i)
          ∧ (∀ i : (⟨2, ![2048, 9216]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.1 i = 1#1 → r.2.mem ((c.tc : Thread Cert.MergeRefIdeal.nD Cert.MergeRefIdeal.τ).loc Cert.MergeRefIdeal.main_v161) i = v2 c i)
          ∧ (∀ i : (⟨3, ![8, 128, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.1 i = 1#1 → r.2.mem ((c.tc : Thread Cert.MergeRefIdeal.nD Cert.MergeRefIdeal.τ).loc Cert.MergeRefIdeal.main_v163) i = v3 c i)
          ∧ (∀ i : (⟨4, ![8, 3, 512, 128]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.1 i = 1#1 → r.2.mem ((c.tc : Thread Cert.MergeRefIdeal.nD Cert.MergeRefIdeal.τ).loc Cert.MergeRefIdeal.main_v166) i = v4 c i)
          ∧ (∀ i : (⟨2, ![8, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2 i = 1#1 → r.2.mem ((c.tc : Thread Cert.MergeRefIdeal.nD Cert.MergeRefIdeal.τ).loc Cert.MergeRefIdeal.main_v168) i = v5 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Gw_GwIdeal : Prop :=
  True

def algebraic_GwIdeal_GwRefIdeal [hGwIdeal : Cert.GwIdeal.Facts] [hGwRefIdeal : Cert.GwRefIdeal.Facts] : Prop :=
  ∀ (m : (ℓ : Loc Cert.GwIdeal.nD Cert.GwIdeal.τ Cert.GwIdeal.sig) → Buf (Elt Ideal) ℓ) (g : Dev Cert.GwIdeal.nD → PrngReg)
    (m' : (ℓ : Loc Cert.GwRefIdeal.nD Cert.GwRefIdeal.τ Cert.GwRefIdeal.sig) → Buf (Elt Ideal) ℓ) (g' : Dev Cert.GwRefIdeal.nD → PrngReg), Pre_GwIdeal m →
    (∀ c : Dev Cert.GwIdeal.nD,
      m' ((c.tc : Thread Cert.GwRefIdeal.nD Cert.GwRefIdeal.τ).loc Cert.GwRefIdeal.main_arg0) = m ((c.tc : Thread Cert.GwIdeal.nD Cert.GwIdeal.τ).loc Cert.GwIdeal.main_arg0)
      ∧ m' ((c.tc : Thread Cert.GwRefIdeal.nD Cert.GwRefIdeal.τ).loc Cert.GwRefIdeal.main_arg1) = m ((c.tc : Thread Cert.GwIdeal.nD Cert.GwIdeal.τ).loc Cert.GwIdeal.main_arg1)) →
    ∃ (v0 : (c : Dev Cert.GwIdeal.nD) → Buf (Elt Ideal) ((c.tc : Thread Cert.GwIdeal.nD Cert.GwIdeal.τ).loc Cert.GwIdeal.main_v0)),
      θ_run (Cert.GwIdeal.defs (F := Ideal)) (onTc (τ := Cert.GwIdeal.τ) (Cert.GwIdeal.main (F := Ideal))) ⟨m, fun _ => 0, g⟩ (fun r => ∀ c : Dev Cert.GwIdeal.nD,
          r.2.mem ((c.tc : Thread Cert.GwIdeal.nD Cert.GwIdeal.τ).loc Cert.GwIdeal.main_v0) = v0 c
          ∧ r.2.mem ((c.tc : Thread Cert.GwIdeal.nD Cert.GwIdeal.τ).loc Cert.GwIdeal.main_arg0) = m ((c.tc : Thread Cert.GwIdeal.nD Cert.GwIdeal.τ).loc Cert.GwIdeal.main_arg0)
          ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ θ_run (Cert.GwRefIdeal.defs (F := Ideal)) (onTc (τ := Cert.GwRefIdeal.τ) (Cert.GwRefIdeal.main (F := Ideal))) ⟨m', fun _ => 0, g'⟩ (fun r => ∀ c : Dev Cert.GwRefIdeal.nD,
          r.2.mem ((c.tc : Thread Cert.GwRefIdeal.nD Cert.GwRefIdeal.τ).loc Cert.GwRefIdeal.main_v7) = v0 c
          ∧ r.2.mem ((c.tc : Thread Cert.GwRefIdeal.nD Cert.GwRefIdeal.τ).loc Cert.GwRefIdeal.main_arg0) = m' ((c.tc : Thread Cert.GwRefIdeal.nD Cert.GwRefIdeal.τ).loc Cert.GwRefIdeal.main_arg0)
          ∧ r.2.mem ((c.tc : Thread Cert.GwRefIdeal.nD Cert.GwRefIdeal.τ).loc Cert.GwRefIdeal.main_arg1) = m' ((c.tc : Thread Cert.GwRefIdeal.nD Cert.GwRefIdeal.τ).loc Cert.GwRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Ln_LnIdeal : Prop :=
  True

def algebraic_LnIdeal_LnRefIdeal_pre_ln_finite [hLnIdeal : Cert.LnIdeal.Facts] [hLnRefIdeal : Cert.LnRefIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_ln_finite m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v56) = v0 c
          ∧ r.2.mem ((c.tc : Thread Cert.LnRefIdeal.nD Cert.LnRefIdeal.τ).loc Cert.LnRefIdeal.main_v58) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_v25) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)) →
    ∃ (v0 : (c : Dev Cert.FwdIdeal.nD) → Buf (Elt Ideal) ((c.tc : Thread Cert.FwdIdeal.nD Cert.FwdIdeal.τ).loc Cert.FwdIdeal.main_v3_0)) (v1 : (c : Dev Cert.FwdIdeal.nD) → Buf (Elt Ideal) ((c.tc : Thread Cert.FwdIdeal.nD Cert.FwdIdeal.τ).loc Cert.FwdIdeal.main_v3_1)) (v2 : (c : Dev Cert.FwdIdeal.nD) → Buf (Elt Ideal) ((c.tc : Thread Cert.FwdIdeal.nD Cert.FwdIdeal.τ).loc Cert.FwdIdeal.main_v3_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v3_0) = v0 c
          ∧ r.2.mem ((c.tc : Thread Cert.FwdIdeal.nD Cert.FwdIdeal.τ).loc Cert.FwdIdeal.main_v3_1) = v1 c
          ∧ r.2.mem ((c.tc : Thread Cert.FwdIdeal.nD Cert.FwdIdeal.τ).loc Cert.FwdIdeal.main_v3_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v117) = v0 c
          ∧ r.2.mem ((c.tc : Thread Cert.FwdRefIdeal.nD Cert.FwdRefIdeal.τ).loc Cert.FwdRefIdeal.main_v87) = v1 c
          ∧ r.2.mem ((c.tc : Thread Cert.FwdRefIdeal.nD Cert.FwdRefIdeal.τ).loc Cert.FwdRefIdeal.main_v118) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10))

def preserves_Br_BrIdeal : Prop :=
  True

def algebraic_BrIdeal_BrRefIdeal_pre_branch_finite [hBrIdeal : Cert.BrIdeal.Facts] [hBrRefIdeal : Cert.BrRefIdeal.Facts] [hPre_branch_finite : Cert.Pre_branch_finite.Facts] : Prop :=
  ∀ (m : (ℓ : Loc Cert.BrIdeal.nD Cert.BrIdeal.τ Cert.BrIdeal.sig) → Buf (Elt Ideal) ℓ) (g : Dev Cert.BrIdeal.nD → PrngReg)
    (m' : (ℓ : Loc Cert.BrRefIdeal.nD Cert.BrRefIdeal.τ Cert.BrRefIdeal.sig) → Buf (Elt Ideal) ℓ) (g' : Dev Cert.BrRefIdeal.nD → PrngReg), Pre_BrIdeal_branch_finite m →
    (∀ c : Dev Cert.BrIdeal.nD,
      m' ((c.tc : Thread Cert.BrRefIdeal.nD Cert.BrRefIdeal.τ).loc Cert.BrRefIdeal.main_arg0) = m ((c.tc : Thread Cert.BrIdeal.nD Cert.BrIdeal.τ).loc Cert.BrIdeal.main_arg0)
      ∧ m' ((c.tc : Thread Cert.BrRefIdeal.nD Cert.BrRefIdeal.τ).loc Cert.BrRefIdeal.main_arg1) = m ((c.tc : Thread Cert.BrIdeal.nD Cert.BrIdeal.τ).loc Cert.BrIdeal.main_arg1)
      ∧ m' ((c.tc : Thread Cert.BrRefIdeal.nD Cert.BrRefIdeal.τ).loc Cert.BrRefIdeal.main_arg2) = m ((c.tc : Thread Cert.BrIdeal.nD Cert.BrIdeal.τ).loc Cert.BrIdeal.main_arg2)
      ∧ m' ((c.tc : Thread Cert.BrRefIdeal.nD Cert.BrRefIdeal.τ).loc Cert.BrRefIdeal.main_arg3) = m ((c.tc : Thread Cert.BrIdeal.nD Cert.BrIdeal.τ).loc Cert.BrIdeal.main_arg3)
      ∧ m' ((c.tc : Thread Cert.BrRefIdeal.nD Cert.BrRefIdeal.τ).loc Cert.BrRefIdeal.main_arg4) = m ((c.tc : Thread Cert.BrIdeal.nD Cert.BrIdeal.τ).loc Cert.BrIdeal.main_arg4)
      ∧ m' ((c.tc : Thread Cert.BrRefIdeal.nD Cert.BrRefIdeal.τ).loc Cert.BrRefIdeal.main_arg5) = m ((c.tc : Thread Cert.BrIdeal.nD Cert.BrIdeal.τ).loc Cert.BrIdeal.main_arg5)
      ∧ m' ((c.tc : Thread Cert.BrRefIdeal.nD Cert.BrRefIdeal.τ).loc Cert.BrRefIdeal.main_arg6) = m ((c.tc : Thread Cert.BrIdeal.nD Cert.BrIdeal.τ).loc Cert.BrIdeal.main_arg6)) →
    ∃ (v0 : (c : Dev Cert.BrIdeal.nD) → Buf (Elt Ideal) ((c.tc : Thread Cert.BrIdeal.nD Cert.BrIdeal.τ).loc Cert.BrIdeal.main_v3_0)) (v1 : (c : Dev Cert.BrIdeal.nD) → Buf (Elt Ideal) ((c.tc : Thread Cert.BrIdeal.nD Cert.BrIdeal.τ).loc Cert.BrIdeal.main_v3_1)) (v2 : (c : Dev Cert.BrIdeal.nD) → Buf (Elt Ideal) ((c.tc : Thread Cert.BrIdeal.nD Cert.BrIdeal.τ).loc Cert.BrIdeal.main_v3_2)) (v3 : (c : Dev Cert.BrIdeal.nD) → Buf (Elt Ideal) ((c.tc : Thread Cert.BrIdeal.nD Cert.BrIdeal.τ).loc Cert.BrIdeal.main_v3_3)),
      θ_run (Cert.BrIdeal.defs (F := Ideal)) (onTc (τ := Cert.BrIdeal.τ) (Cert.BrIdeal.main (F := Ideal))) ⟨m, fun _ => 0, g⟩ (fun r => ∀ c : Dev Cert.BrIdeal.nD,
          r.2.mem ((c.tc : Thread Cert.BrIdeal.nD Cert.BrIdeal.τ).loc Cert.BrIdeal.main_v3_0) = v0 c
          ∧ r.2.mem ((c.tc : Thread Cert.BrIdeal.nD Cert.BrIdeal.τ).loc Cert.BrIdeal.main_v3_1) = v1 c
          ∧ r.2.mem ((c.tc : Thread Cert.BrIdeal.nD Cert.BrIdeal.τ).loc Cert.BrIdeal.main_v3_2) = v2 c
          ∧ r.2.mem ((c.tc : Thread Cert.BrIdeal.nD Cert.BrIdeal.τ).loc Cert.BrIdeal.main_v3_3) = v3 c
          ∧ r.2.mem ((c.tc : Thread Cert.BrIdeal.nD Cert.BrIdeal.τ).loc Cert.BrIdeal.main_arg0) = m ((c.tc : Thread Cert.BrIdeal.nD Cert.BrIdeal.τ).loc Cert.BrIdeal.main_arg0)
          ∧ r.2.mem ((c.tc : Thread Cert.BrIdeal.nD Cert.BrIdeal.τ).loc Cert.BrIdeal.main_arg1) = m ((c.tc : Thread Cert.BrIdeal.nD Cert.BrIdeal.τ).loc Cert.BrIdeal.main_arg1)
          ∧ r.2.mem ((c.tc : Thread Cert.BrIdeal.nD Cert.BrIdeal.τ).loc Cert.BrIdeal.main_arg2) = m ((c.tc : Thread Cert.BrIdeal.nD Cert.BrIdeal.τ).loc Cert.BrIdeal.main_arg2)
          ∧ r.2.mem ((c.tc : Thread Cert.BrIdeal.nD Cert.BrIdeal.τ).loc Cert.BrIdeal.main_arg3) = m ((c.tc : Thread Cert.BrIdeal.nD Cert.BrIdeal.τ).loc Cert.BrIdeal.main_arg3)
          ∧ r.2.mem ((c.tc : Thread Cert.BrIdeal.nD Cert.BrIdeal.τ).loc Cert.BrIdeal.main_arg4) = m ((c.tc : Thread Cert.BrIdeal.nD Cert.BrIdeal.τ).loc Cert.BrIdeal.main_arg4)
          ∧ r.2.mem ((c.tc : Thread Cert.BrIdeal.nD Cert.BrIdeal.τ).loc Cert.BrIdeal.main_arg5) = m ((c.tc : Thread Cert.BrIdeal.nD Cert.BrIdeal.τ).loc Cert.BrIdeal.main_arg5)
          ∧ r.2.mem ((c.tc : Thread Cert.BrIdeal.nD Cert.BrIdeal.τ).loc Cert.BrIdeal.main_arg6) = m ((c.tc : Thread Cert.BrIdeal.nD Cert.BrIdeal.τ).loc Cert.BrIdeal.main_arg6))
      ∧ θ_run (Cert.BrRefIdeal.defs (F := Ideal)) (onTc (τ := Cert.BrRefIdeal.τ) (Cert.BrRefIdeal.main (F := Ideal))) ⟨m', fun _ => 0, g'⟩ (fun r => ∀ c : Dev Cert.BrRefIdeal.nD,
          r.2.mem ((c.tc : Thread Cert.BrRefIdeal.nD Cert.BrRefIdeal.τ).loc Cert.BrRefIdeal.main_v124) = v0 c
          ∧ r.2.mem ((c.tc : Thread Cert.BrRefIdeal.nD Cert.BrRefIdeal.τ).loc Cert.BrRefIdeal.main_v113) = v1 c
          ∧ r.2.mem ((c.tc : Thread Cert.BrRefIdeal.nD Cert.BrRefIdeal.τ).loc Cert.BrRefIdeal.main_v111) = v2 c
          ∧ r.2.mem ((c.tc : Thread Cert.BrRefIdeal.nD Cert.BrRefIdeal.τ).loc Cert.BrRefIdeal.main_v126) = v3 c
          ∧ r.2.mem ((c.tc : Thread Cert.BrRefIdeal.nD Cert.BrRefIdeal.τ).loc Cert.BrRefIdeal.main_arg0) = m' ((c.tc : Thread Cert.BrRefIdeal.nD Cert.BrRefIdeal.τ).loc Cert.BrRefIdeal.main_arg0)
          ∧ r.2.mem ((c.tc : Thread Cert.BrRefIdeal.nD Cert.BrRefIdeal.τ).loc Cert.BrRefIdeal.main_arg1) = m' ((c.tc : Thread Cert.BrRefIdeal.nD Cert.BrRefIdeal.τ).loc Cert.BrRefIdeal.main_arg1)
          ∧ r.2.mem ((c.tc : Thread Cert.BrRefIdeal.nD Cert.BrRefIdeal.τ).loc Cert.BrRefIdeal.main_arg2) = m' ((c.tc : Thread Cert.BrRefIdeal.nD Cert.BrRefIdeal.τ).loc Cert.BrRefIdeal.main_arg2)
          ∧ r.2.mem ((c.tc : Thread Cert.BrRefIdeal.nD Cert.BrRefIdeal.τ).loc Cert.BrRefIdeal.main_arg3) = m' ((c.tc : Thread Cert.BrRefIdeal.nD Cert.BrRefIdeal.τ).loc Cert.BrRefIdeal.main_arg3)
          ∧ r.2.mem ((c.tc : Thread Cert.BrRefIdeal.nD Cert.BrRefIdeal.τ).loc Cert.BrRefIdeal.main_arg4) = m' ((c.tc : Thread Cert.BrRefIdeal.nD Cert.BrRefIdeal.τ).loc Cert.BrRefIdeal.main_arg4)
          ∧ r.2.mem ((c.tc : Thread Cert.BrRefIdeal.nD Cert.BrRefIdeal.τ).loc Cert.BrRefIdeal.main_arg5) = m' ((c.tc : Thread Cert.BrRefIdeal.nD Cert.BrRefIdeal.τ).loc Cert.BrRefIdeal.main_arg5)
          ∧ r.2.mem ((c.tc : Thread Cert.BrRefIdeal.nD Cert.BrRefIdeal.τ).loc Cert.BrRefIdeal.main_arg6) = m' ((c.tc : Thread Cert.BrRefIdeal.nD Cert.BrRefIdeal.τ).loc Cert.BrRefIdeal.main_arg6))

def Claim : Prop :=
  ∃ (hMerge : Cert.Merge.Facts) (hMergeIdeal : Cert.MergeIdeal.Facts) (hMergeRefIdeal : Cert.MergeRefIdeal.Facts) (hGw : Cert.Gw.Facts) (hGwIdeal : Cert.GwIdeal.Facts) (hGwRefIdeal : Cert.GwRefIdeal.Facts) (hDh : Cert.Dh.Facts) (hDhIdeal : Cert.DhIdeal.Facts) (hDhRefIdeal : Cert.DhRefIdeal.Facts) (hLn : Cert.Ln.Facts) (hLnIdeal : Cert.LnIdeal.Facts) (hLnRefIdeal : Cert.LnRefIdeal.Facts) (hProj : Cert.Proj.Facts) (hProjIdeal : Cert.ProjIdeal.Facts) (hProjRefIdeal : Cert.ProjRefIdeal.Facts) (hFwd : Cert.Fwd.Facts) (hFwdIdeal : Cert.FwdIdeal.Facts) (hFwdRefIdeal : Cert.FwdRefIdeal.Facts) (hBr : Cert.Br.Facts) (hBrIdeal : Cert.BrIdeal.Facts) (hBrRefIdeal : Cert.BrRefIdeal.Facts) (hPre_merge_finite : Cert.Pre_merge_finite.Facts) (hPre_ln_finite : Cert.Pre_ln_finite.Facts) (hPre_branch_finite : Cert.Pre_branch_finite.Facts) (hOn_merge_written : Cert.On_merge_written.Facts),
    quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Gw (hGw := hGw)
    ∧ quiescent_GwIdeal (hGwIdeal := hGwIdeal)
    ∧ quiescent_GwRefIdeal (hGwRefIdeal := hGwRefIdeal)
    ∧ quiescent_Dh (hDh := hDh)
    ∧ quiescent_DhIdeal (hDhIdeal := hDhIdeal)
    ∧ quiescent_DhRefIdeal (hDhRefIdeal := hDhRefIdeal)
    ∧ quiescent_Ln (hLn := hLn)
    ∧ quiescent_LnIdeal (hLnIdeal := hLnIdeal)
    ∧ quiescent_LnIdeal_pre_ln_finite (hLnIdeal := hLnIdeal) (hPre_ln_finite := hPre_ln_finite)
    ∧ quiescent_LnRefIdeal (hLnRefIdeal := hLnRefIdeal)
    ∧ quiescent_LnRefIdeal_pre_ln_finite (hLnRefIdeal := hLnRefIdeal) (hPre_ln_finite := hPre_ln_finite)
    ∧ quiescent_Proj (hProj := hProj)
    ∧ quiescent_ProjIdeal (hProjIdeal := hProjIdeal)
    ∧ quiescent_ProjRefIdeal (hProjRefIdeal := hProjRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Br (hBr := hBr)
    ∧ quiescent_BrIdeal (hBrIdeal := hBrIdeal)
    ∧ quiescent_BrIdeal_pre_branch_finite (hBrIdeal := hBrIdeal) (hPre_branch_finite := hPre_branch_finite)
    ∧ quiescent_BrRefIdeal (hBrRefIdeal := hBrRefIdeal)
    ∧ quiescent_BrRefIdeal_pre_branch_finite (hBrRefIdeal := hBrRefIdeal) (hPre_branch_finite := hPre_branch_finite)
    ∧ preserves_Merge_MergeIdeal
    ∧ algebraic_MergeIdeal_MergeRefIdeal_on_merge_written_pre_merge_finite (hMergeIdeal := hMergeIdeal) (hMergeRefIdeal := hMergeRefIdeal) (hPre_merge_finite := hPre_merge_finite) (hOn_merge_written := hOn_merge_written)
    ∧ preserves_Gw_GwIdeal
    ∧ algebraic_GwIdeal_GwRefIdeal (hGwIdeal := hGwIdeal) (hGwRefIdeal := hGwRefIdeal)
    ∧ preserves_Dh_DhIdeal
    ∧ algebraic_DhIdeal_DhRefIdeal (hDhIdeal := hDhIdeal) (hDhRefIdeal := hDhRefIdeal)
    ∧ preserves_Ln_LnIdeal
    ∧ algebraic_LnIdeal_LnRefIdeal_pre_ln_finite (hLnIdeal := hLnIdeal) (hLnRefIdeal := hLnRefIdeal) (hPre_ln_finite := hPre_ln_finite)
    ∧ preserves_Proj_ProjIdeal
    ∧ algebraic_ProjIdeal_ProjRefIdeal (hProjIdeal := hProjIdeal) (hProjRefIdeal := hProjRefIdeal)
    ∧ preserves_Fwd_FwdIdeal
    ∧ algebraic_FwdIdeal_FwdRefIdeal (hFwdIdeal := hFwdIdeal) (hFwdRefIdeal := hFwdRefIdeal)
    ∧ preserves_Br_BrIdeal
    ∧ algebraic_BrIdeal_BrRefIdeal_pre_branch_finite (hBrIdeal := hBrIdeal) (hBrRefIdeal := hBrRefIdeal) (hPre_branch_finite := hPre_branch_finite)
-- ==== On_merge_written.lean ====
abbrev S2048x1024 : Shape := ⟨2, ![2048, 1024]⟩
abbrev S2048x1536 : Shape := ⟨2, ![2048, 1536]⟩
abbrev S2048x9216 : Shape := ⟨2, ![2048, 9216]⟩
abbrev S1x1024 : Shape := ⟨2, ![1, 1024]⟩
abbrev S3x512x1024 : Shape := ⟨3, ![3, 512, 1024]⟩
abbrev S1024x1024 : Shape := ⟨2, ![1024, 1024]⟩
abbrev S_ : Shape := ⟨0, ![]⟩
abbrev S8x128x1024 : Shape := ⟨3, ![8, 128, 1024]⟩
abbrev S8x3x512x128 : Shape := ⟨4, ![8, 3, 512, 128]⟩
abbrev S8x1024 : Shape := ⟨2, ![8, 1024]⟩

class Facts : Prop where
  bcast_S_S2048x1024 : S_.BroadcastsInDim S2048x1024 (![] : Fin 0 → Fin S2048x1024.rank)
  bcast_S_S2048x1536 : S_.BroadcastsInDim S2048x1536 (![] : Fin 0 → Fin S2048x1536.rank)
  bcast_S_S2048x9216 : S_.BroadcastsInDim S2048x9216 (![] : Fin 0 → Fin S2048x9216.rank)
  bcast_S_S8x128x1024 : S_.BroadcastsInDim S8x128x1024 (![] : Fin 0 → Fin S8x128x1024.rank)
  bcast_S_S8x3x512x128 : S_.BroadcastsInDim S8x3x512x128 (![] : Fin 0 → Fin S8x3x512x128.rank)
  bcast_S_S8x1024 : S_.BroadcastsInDim S8x1024 (![] : Fin 0 → Fin S8x1024.rank)

variable [Facts]

def fn {F : FTy → Type} [FloatOps F] (main_arg0 : FVec F S2048x1024 .f32) (main_arg1 : FVec F S2048x1024 .f32) (main_arg2 : FVec F S2048x1536 .bf16) (main_arg3 : FVec F S2048x9216 .f32) (main_arg4 : FVec F S1x1024 .f32) (main_arg5 : FVec F S3x512x1024 .bf16) (main_arg6 : FVec F S1024x1024 .bf16) (main_arg7 : FVec F S1x1024 .f32) : IVec S2048x1024 1 × IVec S2048x1536 1 × IVec S2048x9216 1 × IVec S8x128x1024 1 × IVec S8x3x512x128 1 × IVec S8x1024 1 :=
  let main_c : IVec S_ 1 := constantI S_ 1 1#1
  let main_v0 : IVec S2048x1024 1 := broadcastInDim S2048x1024 ![] bcast_S_S2048x1024 main_c
  let main_c_0 : IVec S_ 1 := constantI S_ 1 1#1
  let main_v1 : IVec S2048x1536 1 := broadcastInDim S2048x1536 ![] bcast_S_S2048x1536 main_c_0
  let main_v2 : IVec S2048x9216 32 := iotaInDim S2048x9216 32 1
  let main_c_1 : IVec S_ 32 := constantI S_ 32 6144#32
  let main_v3 : IVec S2048x9216 32 := broadcastInDim S2048x9216 ![] bcast_S_S2048x9216 main_c_1
  let main_v4 : IVec S2048x9216 1 := cmpi .sge main_v2 main_v3
  let main_c_2 : IVec S_ 1 := constantI S_ 1 1#1
  let main_v5 : IVec S8x128x1024 1 := broadcastInDim S8x128x1024 ![] bcast_S_S8x128x1024 main_c_2
  let main_c_3 : IVec S_ 1 := constantI S_ 1 1#1
  let main_v6 : IVec S8x3x512x128 1 := broadcastInDim S8x3x512x128 ![] bcast_S_S8x3x512x128 main_c_3
  let main_c_4 : IVec S_ 1 := constantI S_ 1 1#1
  let main_v7 : IVec S8x1024 1 := broadcastInDim S8x1024 ![] bcast_S_S8x1024 main_c_4
  (main_v0, main_v1, main_v4, main_v5, main_v6, main_v7)
-- ==== Pre_branch_finite.lean ====
abbrev S2048x1536 : Shape := ⟨2, ![2048, 1536]⟩
abbrev S2048x9216 : Shape := ⟨2, ![2048, 9216]⟩
abbrev S2048x512 : Shape := ⟨2, ![2048, 512]⟩
abbrev S1x128 : Shape := ⟨2, ![1, 128]⟩
abbrev S3x512 : Shape := ⟨2, ![3, 512]⟩
abbrev S_ : Shape := ⟨0, ![]⟩

class Facts : Prop where
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x9216 : S_.BroadcastsInDim S2048x9216 (![] : Fin 0 → Fin S2048x9216.rank)
  reducesTo_S2048x9216_S_d0_1 : S2048x9216.ReducesTo [0, 1] S_
  bcast_S_S2048x512 : S_.BroadcastsInDim S2048x512 (![] : Fin 0 → Fin S2048x512.rank)
  reducesTo_S2048x512_S_d0_1 : S2048x512.ReducesTo [0, 1] S_
  bcast_S_S1x128 : S_.BroadcastsInDim S1x128 (![] : Fin 0 → Fin S1x128.rank)
  reducesTo_S1x128_S_d0_1 : S1x128.ReducesTo [0, 1] S_
  bcast_S_S3x512 : S_.BroadcastsInDim S3x512 (![] : Fin 0 → Fin S3x512.rank)
  reducesTo_S3x512_S_d0_1 : S3x512.ReducesTo [0, 1] S_

variable [Facts]

def fn_part1 {F : FTy → Type} [FloatOps F] (main_arg4 : FVec F S1x128 .f32) (main_arg5 : FVec F S3x512 .f32) (main_v14 : IVec S_ 1) (main_v15 : FVec F S2048x512 .f32) (main_cst_5 : FVec F S_ .f32) : IVec S_ 1 :=
  let main_v16 : FVec F S2048x512 .f32 := broadcastInDim S2048x512 ![] bcast_S_S2048x512 main_cst_5
  let main_v17 : IVec S2048x512 1 := cmpf .olt main_v15 main_v16
  let main_c_6 : IVec S_ 1 := constantI S_ 1 1#1
  let main_v18 : IVec S_ 1 := (fun x v => Host.reduce IntOp.andi x v reducesTo_S2048x512_S_d0_1 h_S_) main_v17 main_c_6
  let main_v19 : IVec S_ 1 := andi main_v14 main_v18
  let main_v20 : FVec F S1x128 .f32 := Host.absf main_arg4
  let main_cst_7 : FVec F S_ .f32 := constant S_ .f32 0x7F800000#32
  let main_v21 : FVec F S1x128 .f32 := broadcastInDim S1x128 ![] bcast_S_S1x128 main_cst_7
  let main_v22 : IVec S1x128 1 := cmpf .olt main_v20 main_v21
  let main_c_8 : IVec S_ 1 := constantI S_ 1 1#1
  let main_v23 : IVec S_ 1 := (fun x v => Host.reduce IntOp.andi x v reducesTo_S1x128_S_d0_1 h_S_) main_v22 main_c_8
  let main_v24 : IVec S_ 1 := andi main_v19 main_v23
  let main_v25 : FVec F S3x512 .f32 := Host.absf main_arg5
  let main_cst_9 : FVec F S_ .f32 := constant S_ .f32 0x7F800000#32
  let main_v26 : FVec F S3x512 .f32 := broadcastInDim S3x512 ![] bcast_S_S3x512 main_cst_9
  let main_v27 : IVec S3x512 1 := cmpf .olt main_v25 main_v26
  let main_c_10 : IVec S_ 1 := constantI S_ 1 1#1
  let main_v28 : IVec S_ 1 := (fun x v => Host.reduce IntOp.andi x v reducesTo_S3x512_S_d0_1 h_S_) main_v27 main_c_10
  let main_v29 : IVec S_ 1 := andi main_v24 main_v28
  main_v29

def fn {F : FTy → Type} [FloatOps F] (main_arg0 : FVec F S2048x1536 .f32) (main_arg1 : FVec F S2048x9216 .f32) (main_arg2 : FVec F S2048x512 .f32) (main_arg3 : FVec F S2048x512 .f32) (main_arg4 : FVec F S1x128 .f32) (main_arg5 : FVec F S3x512 .f32) (main_arg6 : FVec F S2048x9216 .bf16) : IVec S_ 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_c : IVec S_ 1 := constantI S_ 1 1#1
  let main_v3 : IVec S_ 1 := (fun x v => Host.reduce IntOp.andi x v reducesTo_S2048x1536_S_d0_1 h_S_) main_v2 main_c
  let main_c_0 : IVec S_ 1 := constantI S_ 1 1#1
  let main_v4 : IVec S_ 1 := andi main_c_0 main_v3
  let main_v5 : FVec F S2048x9216 .f32 := Host.absf main_arg1
  let main_cst_1 : FVec F S_ .f32 := constant S_ .f32 0x7F800000#32
  let main_v6 : FVec F S2048x9216 .f32 := broadcastInDim S2048x9216 ![] bcast_S_S2048x9216 main_cst_1
  let main_v7 : IVec S2048x9216 1 := cmpf .olt main_v5 main_v6
  let main_c_2 : IVec S_ 1 := constantI S_ 1 1#1
  let main_v8 : IVec S_ 1 := (fun x v => Host.reduce IntOp.andi x v reducesTo_S2048x9216_S_d0_1 h_S_) main_v7 main_c_2
  let main_v9 : IVec S_ 1 := andi main_v4 main_v8
  let main_v10 : FVec F S2048x512 .f32 := Host.absf main_arg2
  let main_cst_3 : FVec F S_ .f32 := constant S_ .f32 0x7F800000#32
  let main_v11 : FVec F S2048x512 .f32 := broadcastInDim S2048x512 ![] bcast_S_S2048x512 main_cst_3
  let main_v12 : IVec S2048x512 1 := cmpf .olt main_v10 main_v11
  let main_c_4 : IVec S_ 1 := constantI S_ 1 1#1
  let main_v13 : IVec S_ 1 := (fun x v => Host.reduce IntOp.andi x v reducesTo_S2048x512_S_d0_1 h_S_) main_v12 main_c_4
  let main_v14 : IVec S_ 1 := andi main_v9 main_v13
  let main_v15 : FVec F S2048x512 .f32 := Host.absf main_arg3
  let main_cst_5 : FVec F S_ .f32 := constant S_ .f32 0x7F800000#32
  fn_part1 (F := F) main_arg4 main_arg5 main_v14 main_v15 main_cst_5
-- ==== Pre_ln_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S2048x1024 .f32) (main_cst_5 : FVec F S_ .f32) : IVec S_ 1 :=
  let main_v16 : FVec F S2048x1024 .f32 := broadcastInDim S2048x1024 ![] bcast_S_S2048x1024 main_cst_5
  let main_v17 : IVec S2048x1024 1 := cmpf .olt main_v15 main_v16
  let main_c_6 : IVec S_ 1 := constantI S_ 1 1#1
  let main_v18 : IVec S_ 1 := (fun x v => Host.reduce IntOp.andi x v reducesTo_S2048x1024_S_d0_1 h_S_) main_v17 main_c_6
  let main_v19 : IVec S_ 1 := andi main_v14 main_v18
  main_v19

def fn {F : FTy → Type} [FloatOps F] (main_arg0 : FVec F S2048x1024 .f32) (main_arg1 : FVec F S2048x1024 .f32) (main_arg2 : FVec F S1x1024 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S2048x1024 .f32 := Host.absf main_arg3
  let main_cst_5 : FVec F S_ .f32 := constant S_ .f32 0x7F800000#32
  fn_part1 (F := F) main_v14 main_v15 main_cst_5
-- ==== Pre_merge_finite.lean ====
abbrev S2048x1024 : Shape := ⟨2, ![2048, 1024]⟩
abbrev S2048x1536 : Shape := ⟨2, ![2048, 1536]⟩
abbrev S2048x9216 : Shape := ⟨2, ![2048, 9216]⟩
abbrev S1x1024 : Shape := ⟨2, ![1, 1024]⟩
abbrev S3x512x1024 : Shape := ⟨3, ![3, 512, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  bcast_S_S2048x9216 : S_.BroadcastsInDim S2048x9216 (![] : Fin 0 → Fin S2048x9216.rank)
  reducesTo_S2048x9216_S_d0_1 : S2048x9216.ReducesTo [0, 1] S_
  bcast_S_S1x1024 : S_.BroadcastsInDim S1x1024 (![] : Fin 0 → Fin S1x1024.rank)
  reducesTo_S1x1024_S_d0_1 : S1x1024.ReducesTo [0, 1] S_
  bcast_S_S3x512x1024 : S_.BroadcastsInDim S3x512x1024 (![] : Fin 0 → Fin S3x512x1024.rank)
  reducesTo_S3x512x1024_S_d0_1_2 : S3x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1x1024 .f32) (main_v31 : IVec S_ 1) (main_v33 : FVec F S1024x1024 .f32) (main_cst_11 : FVec F S_ .f32) : IVec S_ 1 :=
  let main_v34 : FVec F S1024x1024 .f32 := broadcastInDim S1024x1024 ![] bcast_S_S1024x1024 main_cst_11
  let main_v35 : IVec S1024x1024 1 := cmpf .olt main_v33 main_v34
  let main_c_12 : IVec S_ 1 := constantI S_ 1 1#1
  let main_v36 : IVec S_ 1 := (fun x v => Host.reduce IntOp.andi x v reducesTo_S1024x1024_S_d0_1 h_S_) main_v35 main_c_12
  let main_v37 : IVec S_ 1 := andi main_v31 main_v36
  let main_v38 : FVec F S1x1024 .f32 := Host.absf main_arg7
  let main_cst_13 : FVec F S_ .f32 := constant S_ .f32 0x7F800000#32
  let main_v39 : FVec F S1x1024 .f32 := broadcastInDim S1x1024 ![] bcast_S_S1x1024 main_cst_13
  let main_v40 : IVec S1x1024 1 := cmpf .olt main_v38 main_v39
  let main_c_14 : IVec S_ 1 := constantI S_ 1 1#1
  let main_v41 : IVec S_ 1 := (fun x v => Host.reduce IntOp.andi x v reducesTo_S1x1024_S_d0_1 h_S_) main_v40 main_c_14
  let main_v42 : IVec S_ 1 := andi main_v37 main_v41
  main_v42

def fn_part1 {F : FTy → Type} [FloatOps F] (main_arg4 : FVec F S1x1024 .f32) (main_arg5 : FVec F S3x512x1024 .bf16) (main_arg6 : FVec F S1024x1024 .bf16) (main_arg7 : FVec F S1x1024 .f32) (main_v15 : IVec S_ 1) (main_v16 : FVec F S2048x9216 .f32) : IVec S_ 1 :=
  let main_cst_5 : FVec F S_ .f32 := constant S_ .f32 0x7F800000#32
  let main_v17 : FVec F S2048x9216 .f32 := broadcastInDim S2048x9216 ![] bcast_S_S2048x9216 main_cst_5
  let main_v18 : IVec S2048x9216 1 := cmpf .olt main_v16 main_v17
  let main_c_6 : IVec S_ 1 := constantI S_ 1 1#1
  let main_v19 : IVec S_ 1 := (fun x v => Host.reduce IntOp.andi x v reducesTo_S2048x9216_S_d0_1 h_S_) main_v18 main_c_6
  let main_v20 : IVec S_ 1 := andi main_v15 main_v19
  let main_v21 : FVec F S1x1024 .f32 := Host.absf main_arg4
  let main_cst_7 : FVec F S_ .f32 := constant S_ .f32 0x7F800000#32
  let main_v22 : FVec F S1x1024 .f32 := broadcastInDim S1x1024 ![] bcast_S_S1x1024 main_cst_7
  let main_v23 : IVec S1x1024 1 := cmpf .olt main_v21 main_v22
  let main_c_8 : IVec S_ 1 := constantI S_ 1 1#1
  let main_v24 : IVec S_ 1 := (fun x v => Host.reduce IntOp.andi x v reducesTo_S1x1024_S_d0_1 h_S_) main_v23 main_c_8
  let main_v25 : IVec S_ 1 := andi main_v20 main_v24
  let main_v26 : FVec F S3x512x1024 .f32 := (extf .f32 · bitsLt_bf16_f32) main_arg5
  let main_v27 : FVec F S3x512x1024 .f32 := Host.absf main_v26
  let main_cst_9 : FVec F S_ .f32 := constant S_ .f32 0x7F800000#32
  let main_v28 : FVec F S3x512x1024 .f32 := broadcastInDim S3x512x1024 ![] bcast_S_S3x512x1024 main_cst_9
  let main_v29 : IVec S3x512x1024 1 := cmpf .olt main_v27 main_v28
  let main_c_10 : IVec S_ 1 := constantI S_ 1 1#1
  let main_v30 : IVec S_ 1 := (fun x v => Host.reduce IntOp.andi x v reducesTo_S3x512x1024_S_d0_1_2 h_S_) main_v29 main_c_10
  let main_v31 : IVec S_ 1 := andi main_v25 main_v30
  let main_v32 : FVec F S1024x1024 .f32 := (extf .f32 · bitsLt_bf16_f32) main_arg6
  let main_v33 : FVec F S1024x1024 .f32 := Host.absf main_v32
  let main_cst_11 : FVec F S_ .f32 := constant S_ .f32 0x7F800000#32
  fn_part2 (F := F) main_arg7 main_v31 main_v33 main_cst_11

def fn {F : FTy → Type} [FloatOps F] (main_arg0 : FVec F S2048x1024 .f32) (main_arg1 : FVec F S2048x1024 .f32) (main_arg2 : FVec F S2048x1536 .bf16) (main_arg3 : FVec F S2048x9216 .f32) (main_arg4 : FVec F S1x1024 .f32) (main_arg5 : FVec F S3x512x1024 .bf16) (main_arg6 : FVec F S1024x1024 .bf16) (main_arg7 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S2048x1536 .f32 := (extf .f32 · bitsLt_bf16_f32) main_arg2
  let main_v11 : FVec F S2048x1536 .f32 := Host.absf main_v10
  let main_cst_3 : FVec F S_ .f32 := constant S_ .f32 0x7F800000#32
  let main_v12 : FVec F S2048x1536 .f32 := broadcastInDim S2048x1536 ![] bcast_S_S2048x1536 main_cst_3
  let main_v13 : IVec S2048x1536 1 := cmpf .olt main_v11 main_v12
  let main_c_4 : IVec S_ 1 := constantI S_ 1 1#1
  let main_v14 : IVec S_ 1 := (fun x v => Host.reduce IntOp.andi x v reducesTo_S2048x1536_S_d0_1 h_S_) main_v13 main_c_4
  let main_v15 : IVec S_ 1 := andi main_v9 main_v14
  let main_v16 : FVec F S2048x9216 .f32 := Host.absf main_arg3
  fn_part1 (F := F) main_arg4 main_arg5 main_arg6 main_arg7 main_v15 main_v16
-- ==== Merge.lean ====
abbrev S2048x1024 : Shape := ⟨2, ![2048, 1024]⟩
abbrev S2048x1536 : Shape := ⟨2, ![2048, 1536]⟩
abbrev S2048x9216 : Shape := ⟨2, ![2048, 9216]⟩
abbrev S1x1024 : Shape := ⟨2, ![1, 1024]⟩
abbrev S3x512x1024 : Shape := ⟨3, ![3, 512, 1024]⟩
abbrev S1024x1024 : Shape := ⟨2, ![1024, 1024]⟩
abbrev S_ : Shape := ⟨0, ![]⟩
abbrev S2048x512 : Shape := ⟨2, ![2048, 512]⟩
abbrev S1x512x1024 : Shape := ⟨3, ![1, 512, 1024]⟩
abbrev S512x1024 : Shape := ⟨2, ![512, 1024]⟩
abbrev S8x128x1024 : Shape := ⟨3, ![8, 128, 1024]⟩
abbrev S8x3x512x128 : Shape := ⟨4, ![8, 3, 512, 128]⟩
abbrev S8x1024 : Shape := ⟨2, ![8, 1024]⟩
abbrev S256x1024 : Shape := ⟨2, ![256, 1024]⟩
abbrev S256x1536 : Shape := ⟨2, ![256, 1536]⟩
abbrev S256x3072 : Shape := ⟨2, ![256, 3072]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S128x1024 : Shape := ⟨2, ![128, 1024]⟩
abbrev S1x128x1024 : Shape := ⟨3, ![1, 128, 1024]⟩
abbrev S1x512x128 : Shape := ⟨3, ![1, 512, 128]⟩
abbrev S512x128 : Shape := ⟨2, ![512, 128]⟩
abbrev S1x1x512x128 : Shape := ⟨4, ![1, 1, 512, 128]⟩

abbrev nBuf : Space → Nat
  | .hbm => 68
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1536, .bf16⟩
  | .hbm, ⟨3, _⟩ => ⟨S2048x9216, .f32⟩
  | .hbm, ⟨4, _⟩ => ⟨S1x1024, .f32⟩
  | .hbm, ⟨5, _⟩ => ⟨S3x512x1024, .bf16⟩
  | .hbm, ⟨6, _⟩ => ⟨S1024x1024, .bf16⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x512, .bf16⟩
  | .hbm, ⟨18, _⟩ => ⟨S2048x512, .f32⟩
  | .hbm, ⟨19, _⟩ => ⟨S1x512x1024, .bf16⟩
  | .hbm, ⟨20, _⟩ => ⟨S512x1024, .bf16⟩
  | .hbm, ⟨21, _⟩ => ⟨S512x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x512, .bf16⟩
  | .hbm, ⟨37, _⟩ => ⟨S2048x512, .f32⟩
  | .hbm, ⟨38, _⟩ => ⟨S1x512x1024, .bf16⟩
  | .hbm, ⟨39, _⟩ => ⟨S512x1024, .bf16⟩
  | .hbm, ⟨40, _⟩ => ⟨S512x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x512, .bf16⟩
  | .hbm, ⟨54, _⟩ => ⟨S2048x512, .f32⟩
  | .hbm, ⟨55, _⟩ => ⟨S1x512x1024, .bf16⟩
  | .hbm, ⟨56, _⟩ => ⟨S512x1024, .bf16⟩
  | .hbm, ⟨57, _⟩ => ⟨S512x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .bf16⟩
  | .hbm, ⟨62, _⟩ => ⟨S2048x1024, .f32⟩
  | .hbm, ⟨63, _⟩ => ⟨S2048x1536, .f32⟩
  | .hbm, ⟨64, _⟩ => ⟨S2048x9216, .bf16⟩
  | .hbm, ⟨65, _⟩ => ⟨S8x128x1024, .bf16⟩
  | .hbm, ⟨66, _⟩ => ⟨S8x3x512x128, .bf16⟩
  | .hbm, ⟨67, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1536, .bf16⟩
  | .local _ .vmem, ⟨7, _⟩ => ⟨S256x1536, .bf16⟩
  | .local _ .vmem, ⟨8, _⟩ => ⟨S256x3072, .f32⟩
  | .local _ .vmem, ⟨9, _⟩ => ⟨S256x3072, .f32⟩
  | .local _ .vmem, ⟨10, _⟩ => ⟨S1x1024, .f32⟩
  | .local _ .vmem, ⟨11, _⟩ => ⟨S3x512x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1536, .f32⟩
  | .local _ .vmem, ⟨17, _⟩ => ⟨S256x1536, .f32⟩
  | .local _ .vmem, ⟨18, _⟩ => ⟨S256x3072, .bf16⟩
  | .local _ .vmem, ⟨19, _⟩ => ⟨S256x3072, .bf16⟩
  | .local _ .vmem, ⟨20, _⟩ => ⟨S8x128x1024, .bf16⟩
  | .local _ .vmem, ⟨21, _⟩ => ⟨S8x3x512x128, .bf16⟩
  | .local _ .vmem, ⟨22, _⟩ => ⟨S8x1024, .f32⟩
  | .local _ .vmem, ⟨23, _⟩ => ⟨S1024x1024, .f32⟩
  | .local _ .vmem, ⟨24, _⟩ => ⟨S3x512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev main_v47_4 : Ref sig .tc := ⟨.hbm, 66, rfl⟩
abbrev main_v47_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v182 : BitVec 1 := Scalar.cmpi .eq arg0 c7_i32
  let v183 : BitVec 32 := Scalar.extui v182
  let c0_i32_125 : BitVec 32 := 0#32
  let v184 : BitVec 1 := Scalar.cmpi .ne v183 c0_i32_125
  v184

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x3x512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeRefIdeal.lean ====
abbrev S2048x1024 : Shape := ⟨2, ![2048, 1024]⟩
abbrev S2048x1536 : Shape := ⟨2, ![2048, 1536]⟩
abbrev S2048x9216 : Shape := ⟨2, ![2048, 9216]⟩
abbrev S1x1024 : Shape := ⟨2, ![1, 1024]⟩
abbrev S3x512x1024 : Shape := ⟨3, ![3, 512, 1024]⟩
abbrev S1024x1024 : Shape := ⟨2, ![1024, 1024]⟩
abbrev S2048x3072 : Shape := ⟨2, ![2048, 3072]⟩
abbrev S_ : Shape := ⟨0, ![]⟩
abbrev S2048x512 : Shape := ⟨2, ![2048, 512]⟩
abbrev S1x512x1024 : Shape := ⟨3, ![1, 512, 1024]⟩
abbrev S512x1024 : Shape := ⟨2, ![512, 1024]⟩
abbrev S2048 : Shape := ⟨1, ![2048]⟩
abbrev S2048x1 : Shape := ⟨2, ![2048, 1]⟩
abbrev S1024 : Shape := ⟨1, ![1024]⟩
abbrev S1024x512 : Shape := ⟨2, ![1024, 512]⟩
abbrev S2048x6144 : Shape := ⟨2, ![2048, 6144]⟩
abbrev S8x128x1024 : Shape := ⟨3, ![8, 128, 1024]⟩
abbrev S3x512x8x128 : Shape := ⟨4, ![3, 512, 8, 128]⟩
abbrev S8x3x512x128 : Shape := ⟨4, ![8, 3, 512, 128]⟩
abbrev S5x1024 : Shape := ⟨2, ![5, 1024]⟩
abbrev S8x1024 : Shape := ⟨2, ![8, 1024]⟩

abbrev nBuf : Space → Nat
  | .hbm => 216
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1536, .bf16⟩
  | 3 => ⟨S2048x9216, .f32⟩
  | 4 => ⟨S1x1024, .f32⟩
  | 5 => ⟨S3x512x1024, .bf16⟩
  | 6 => ⟨S1024x1024, .bf16⟩
  | 7 => ⟨S1x1024, .f32⟩
  | 8 => ⟨S2048x1536, .f32⟩
  | 9 => ⟨S2048x3072, .f32⟩
  | 10 => ⟨S3x512x1024, .f32⟩
  | 11 => ⟨S1024x1024, .f32⟩
  | 12 => ⟨S_, .f32⟩
  | 13 => ⟨S1x1024, .f32⟩
  | 14 => ⟨S2048x1024, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S2048x1024, .f32⟩
  | 27 => ⟨S2048x512, .f32⟩
  | 28 => ⟨S1x512x1024, .f32⟩
  | 29 => ⟨S512x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S2048x1024, .f32⟩
  | 45 => ⟨S2048x512, .f32⟩
  | 46 => ⟨S1x512x1024, .f32⟩
  | 47 => ⟨S512x1024, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S2048x1024, .f32⟩
  | 64 => ⟨S2048x512, .f32⟩
  | 65 => ⟨S1x512x1024, .f32⟩
  | 66 => ⟨S512x1024, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S_, .f32⟩
  | 75 => ⟨S1x1024, .f32⟩
  | 76 => ⟨S1x1024, .f32⟩
  | 77 => ⟨S2048x1024, .f32⟩
  | 78 => ⟨S2048x1024, .f32⟩
  | 79 => ⟨S2048x1024, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S2048x1024, .f32⟩
  | 87 => ⟨S2048x1024, .f32⟩
  | 88 => ⟨S2048x1024, .f32⟩
  | 89 => ⟨S_, .f32⟩
  | 90 => ⟨S2048, .f32⟩
  | 91 => ⟨S2048x1, .f32⟩
  | 92 => ⟨S_, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S2048x1, .f32⟩
  | 99 => ⟨S2048x1, .f32⟩
  | 100 => ⟨S_, .f32⟩
  | 101 => ⟨S2048x1, .f32⟩
  | 102 => ⟨S2048x1, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S_, .f32⟩
  | 111 => ⟨S1024, .f32⟩
  | 112 => ⟨S1x1024, .f32⟩
  | 113 => ⟨S2048x1024, .f32⟩
  | 114 => ⟨S_, .f32⟩
  | 115 => ⟨S1024, .f32⟩
  | 116 => ⟨S1x1024, .f32⟩
  | 117 => ⟨S2048x1024, .f32⟩
  | 118 => ⟨S2048x1024, .f32⟩
  | 119 => ⟨S2048x1024, .f32⟩
  | 120 => ⟨S_, .f32⟩
  | 121 => ⟨S2048, .f32⟩
  | 122 => ⟨S2048x1, .f32⟩
  | 123 => ⟨S2048x1024, .f32⟩
  | 124 => ⟨S2048x1024, .f32⟩
  | 125 => ⟨S2048x1, .f32⟩
  | 126 => ⟨S_, .f32⟩
  | 127 => ⟨S2048x1, .f32⟩
  | _ => ⟨S2048x1024, .f32⟩

abbrev hbmTy0_1 (i : Nat) : BufTy := match i % 128 with
  | 0 => ⟨S2048x1, .f32⟩
  | 1 => ⟨S_, .f32⟩
  | 2 => ⟨S2048, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S_, .f32⟩
  | 23 => ⟨S1024, .f32⟩
  | 24 => ⟨S1x1024, .f32⟩
  | 25 => ⟨S_, .f32⟩
  | 26 => ⟨S2048x1024, .f32⟩
  | 27 => ⟨S2048x1024, .f32⟩
  | 28 => ⟨S1024x1024, .f32⟩
  | 29 => ⟨S1024x1024, .f32⟩
  | 30 => ⟨S2048x1024, .f32⟩
  | 31 => ⟨S2048x1024, .f32⟩
  | 32 => ⟨S2048x1024, .f32⟩
  | 33 => ⟨S1024x512, .f32⟩
  | 34 => ⟨S512x1024, .f32⟩
  | 35 => ⟨S2048x512, .f32⟩
  | 36 => ⟨S1x512x1024, .f32⟩
  | 37 => ⟨S_, .f32⟩
  | 38 => ⟨S3x512x1024, .f32⟩
  | 39 => ⟨S_, .f32⟩
  | 40 => ⟨S2048x1536, .f32⟩
  | 41 => ⟨S2048x1024, .f32⟩
  | 42 => ⟨S_, .f32⟩
  | 43 => ⟨S2048x3072, .f32⟩
  | 44 => ⟨S2048x1024, .f32⟩
  | 45 => ⟨S2048x1024, .f32⟩
  | 46 => ⟨S1024x512, .f32⟩
  | 47 => ⟨S512x1024, .f32⟩
  | 48 => ⟨S2048x512, .f32⟩
  | 49 => ⟨S1x512x1024, .f32⟩
  | 50 => ⟨S_, .f32⟩
  | 51 => ⟨S3x512x1024, .f32⟩
  | 52 => ⟨S3x512x1024, .f32⟩
  | 53 => ⟨S_, .f32⟩
  | 54 => ⟨S2048x1536, .f32⟩
  | 55 => ⟨S2048x1536, .f32⟩
  | 56 => ⟨S2048x1024, .f32⟩
  | 57 => ⟨S_, .f32⟩
  | 58 => ⟨S2048x3072, .f32⟩
  | 59 => ⟨S2048x3072, .f32⟩
  | 60 => ⟨S2048x1024, .f32⟩
  | 61 => ⟨S2048x1024, .f32⟩
  | 62 => ⟨S1024x512, .f32⟩
  | 63 => ⟨S512x1024, .f32⟩
  | 64 => ⟨S2048x512, .f32⟩
  | 65 => ⟨S1x512x1024, .f32⟩
  | 66 => ⟨S_, .f32⟩
  | 67 => ⟨S3x512x1024, .f32⟩
  | 68 => ⟨S3x512x1024, .f32⟩
  | 69 => ⟨S_, .f32⟩
  | 70 => ⟨S2048x1536, .f32⟩
  | 71 => ⟨S2048x1536, .f32⟩
  | 72 => ⟨S2048x1024, .f32⟩
  | 73 => ⟨S_, .f32⟩
  | 74 => ⟨S2048x3072, .f32⟩
  | 75 => ⟨S2048x3072, .f32⟩
  | 76 => ⟨S_, .bf16⟩
  | 77 => ⟨S2048x6144, .bf16⟩
  | 78 => ⟨S2048x3072, .bf16⟩
  | 79 => ⟨S2048x9216, .bf16⟩
  | 80 => ⟨S8x128x1024, .f32⟩
  | 81 => ⟨S8x128x1024, .bf16⟩
  | 82 => ⟨S3x512x8x128, .f32⟩
  | 83 => ⟨S8x3x512x128, .f32⟩
  | 84 => ⟨S8x3x512x128, .bf16⟩
  | 85 => ⟨S_, .f32⟩
  | 86 => ⟨S5x1024, .f32⟩
  | 87 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_cst_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_22 : Ref sig .tc := ⟨.hbm, 137, rfl⟩
abbrev main_v106 : Ref sig .tc := ⟨.hbm, 138, rfl⟩
abbrev main_v107 : Ref sig .tc := ⟨.hbm, 139, rfl⟩
abbrev main_cst_23 : Ref sig .tc := ⟨.hbm, 140, rfl⟩
abbrev main_v108 : Ref sig .tc := ⟨.hbm, 141, rfl⟩
abbrev main_v109 : Ref sig .tc := ⟨.hbm, 142, rfl⟩
abbrev main_cst_24 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_25 : Ref sig .tc := ⟨.hbm, 150, rfl⟩
abbrev main_v116 : Ref sig .tc := ⟨.hbm, 151, rfl⟩
abbrev main_v117 : Ref sig .tc := ⟨.hbm, 152, rfl⟩
abbrev main_cst_26 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_27 : Ref sig .tc := ⟨.hbm, 165, rfl⟩
abbrev main_v129 : Ref sig .tc := ⟨.hbm, 166, rfl⟩
abbrev main_cst_28 : Ref sig .tc := ⟨.hbm, 167, rfl⟩
abbrev main_v130 : Ref sig .tc := ⟨.hbm, 168, rfl⟩
abbrev main_v131 : Ref sig .tc := ⟨.hbm, 169, rfl⟩
abbrev main_cst_29 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_30 : Ref sig .tc := ⟨.hbm, 178, rfl⟩
abbrev main_v139 : Ref sig .tc := ⟨.hbm, 179, rfl⟩
abbrev main_v140 : Ref sig .tc := ⟨.hbm, 180, rfl⟩
abbrev main_cst_31 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_32 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_33 : Ref sig .tc := ⟨.hbm, 194, rfl⟩
abbrev main_v152 : Ref sig .tc := ⟨.hbm, 195, rfl⟩
abbrev main_v153 : Ref sig .tc := ⟨.hbm, 196, rfl⟩
abbrev main_cst_34 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_35 : Ref sig .tc := ⟨.hbm, 201, rfl⟩
abbrev main_v157 : Ref sig .tc := ⟨.hbm, 202, rfl⟩
abbrev main_v158 : Ref sig .tc := ⟨.hbm, 203, rfl⟩
abbrev main_cst_36 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_37 : Ref sig .tc := ⟨.hbm, 213, rfl⟩
abbrev main_v167 : Ref sig .tc := ⟨.hbm, 214, rfl⟩
abbrev main_v168 : Ref sig .tc := ⟨.hbm, 215, rfl⟩

abbrev nD : Nat := 1
abbrev τ : Topo := Topo.v7x

variable {F : FTy → Type} [FloatOps F]
-- ==== Gw.lean ====
abbrev S1024x2048 : Shape := ⟨2, ![1024, 2048]⟩
abbrev S2048x9216 : Shape := ⟨2, ![2048, 9216]⟩
abbrev S1024x9216 : Shape := ⟨2, ![1024, 9216]⟩
abbrev S2048x2304 : Shape := ⟨2, ![2048, 2304]⟩
abbrev S1024x2304 : Shape := ⟨2, ![1024, 2304]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x9216, .bf16⟩
  | .hbm, ⟨2, _⟩ => ⟨S1024x9216, .bf16⟩
  | .local _ .vmem, ⟨0, _⟩ => ⟨S1024x2048, .bf16⟩
  | .local _ .vmem, ⟨1, _⟩ => ⟨S2048x2304, .bf16⟩
  | .local _ .vmem, ⟨2, _⟩ => ⟨S2048x2304, .bf16⟩
  | .local _ .vmem, ⟨3, _⟩ => ⟨S1024x2304, .bf16⟩
  | .local _ .vmem, ⟨4, _⟩ => ⟨S1024x2304, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GwRefIdeal.lean ====
abbrev S1024x2048 : Shape := ⟨2, ![1024, 2048]⟩
abbrev S2048x9216 : Shape := ⟨2, ![2048, 9216]⟩
abbrev S2048x1024 : Shape := ⟨2, ![2048, 1024]⟩
abbrev S_ : Shape := ⟨0, ![]⟩
abbrev S1024x9216 : Shape := ⟨2, ![1024, 9216]⟩
abbrev S9216x1024 : Shape := ⟨2, ![9216, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x9216, .bf16⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S1024x9216, .f32⟩
  | .hbm, ⟨6, _⟩ => ⟨S2048x9216, .f32⟩
  | .hbm, ⟨7, _⟩ => ⟨S2048x9216, .f32⟩
  | .hbm, ⟨8, _⟩ => ⟨S9216x1024, .f32⟩
  | .hbm, ⟨9, _⟩ => ⟨S1024x9216, .f32⟩
  | .hbm, ⟨10, _⟩ => ⟨S1024x9216, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh.lean ====
abbrev S2048x9216 : Shape := ⟨2, ![2048, 9216]⟩
abbrev S1024x9216 : Shape := ⟨2, ![1024, 9216]⟩
abbrev S8x128 : Shape := ⟨2, ![8, 128]⟩
abbrev S2048x1024 : Shape := ⟨2, ![2048, 1024]⟩
abbrev S1024x4608 : Shape := ⟨2, ![1024, 4608]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x9216, .bf16⟩
  | .hbm, ⟨1, _⟩ => ⟨S1024x9216, .bf16⟩
  | .hbm, ⟨2, _⟩ => ⟨S8x128, .f32⟩
  | .hbm, ⟨3, _⟩ => ⟨S2048x1024, .f32⟩
  | .local _ .vmem, ⟨0, _⟩ => ⟨S1024x4608, .bf16⟩
  | .local _ .vmem, ⟨1, _⟩ => ⟨S1024x4608, .bf16⟩
  | .local _ .vmem, ⟨2, _⟩ => ⟨S1024x4608, .bf16⟩
  | .local _ .vmem, ⟨3, _⟩ => ⟨S1024x4608, .bf16⟩
  | .local _ .vmem, ⟨4, _⟩ => ⟨S1024x1024, .f32⟩
  | .local _ .vmem, ⟨5, _⟩ => ⟨S1024x1024, .f32⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhRefIdeal.lean ====
abbrev S2048x9216 : Shape := ⟨2, ![2048, 9216]⟩
abbrev S1024x9216 : Shape := ⟨2, ![1024, 9216]⟩
abbrev S8x128 : Shape := ⟨2, ![8, 128]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x9216, .bf16⟩
  | .hbm, ⟨1, _⟩ => ⟨S1024x9216, .bf16⟩
  | .hbm, ⟨2, _⟩ => ⟨S8x128, .f32⟩
  | .hbm, ⟨3, _⟩ => ⟨S1024x9216, .f32⟩
  | .hbm, ⟨4, _⟩ => ⟨S_, .f32⟩
  | .hbm, ⟨5, _⟩ => ⟨S2048x1024, .f32⟩
  | .hbm, ⟨6, _⟩ => ⟨S2048x9216, .f32⟩
  | .hbm, ⟨7, _⟩ => ⟨S2048x9216, .f32⟩
  | .hbm, ⟨8, _⟩ => ⟨S2048x1024, .f32⟩
  | _, _ => ⟨S2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ln.lean ====
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S6x1024, .f32⟩
  | .hbm, ⟨79, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proj.lean ====
abbrev S2048x1024 : Shape := ⟨2, ![2048, 1024]⟩
abbrev S1x1024 : Shape := ⟨2, ![1, 1024]⟩
abbrev S1024x9216 : Shape := ⟨2, ![1024, 9216]⟩
abbrev S2048x9216 : Shape := ⟨2, ![2048, 9216]⟩
abbrev S1024x2048 : Shape := ⟨2, ![1024, 2048]⟩
abbrev S1024x1024 : Shape := ⟨2, ![1024, 1024]⟩
abbrev S1024x2304 : Shape := ⟨2, ![1024, 2304]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x9216, .bf16⟩
  | .hbm, ⟨4, _⟩ => ⟨S2048x9216, .f32⟩
  | .hbm, ⟨5, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2304, .bf16⟩
  | .local _ .vmem, ⟨5, _⟩ => ⟨S1024x2304, .bf16⟩
  | .local _ .vmem, ⟨6, _⟩ => ⟨S1024x2304, .f32⟩
  | .local _ .vmem, ⟨7, _⟩ => ⟨S1024x2304, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S2048x1024 : Shape := ⟨2, ![2048, 1024]⟩
abbrev S1x1024 : Shape := ⟨2, ![1, 1024]⟩
abbrev S1024x9216 : Shape := ⟨2, ![1024, 9216]⟩
abbrev S_ : Shape := ⟨0, ![]⟩
abbrev S2048 : Shape := ⟨1, ![2048]⟩
abbrev S2048x1 : Shape := ⟨2, ![2048, 1]⟩
abbrev S2048x9216 : Shape := ⟨2, ![2048, 9216]⟩
abbrev S1024x2048 : Shape := ⟨2, ![1024, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x9216, .bf16⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1024x9216, .f32⟩
  | .hbm, ⟨33, _⟩ => ⟨S2048x9216, .f32⟩
  | .hbm, ⟨34, _⟩ => ⟨S1024x2048, .f32⟩
  | .hbm, ⟨35, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Fwd.lean ====
abbrev S2048x1024 : Shape := ⟨2, ![2048, 1024]⟩
abbrev S2048x9216 : Shape := ⟨2, ![2048, 9216]⟩
abbrev S2048x512 : Shape := ⟨2, ![2048, 512]⟩
abbrev S1x1024 : Shape := ⟨2, ![1, 1024]⟩
abbrev S1x128 : Shape := ⟨2, ![1, 128]⟩
abbrev S3x512 : Shape := ⟨2, ![3, 512]⟩
abbrev S3x512x1024 : Shape := ⟨3, ![3, 512, 1024]⟩
abbrev S1024x1024 : Shape := ⟨2, ![1024, 1024]⟩
abbrev S1x1x1x128 : Shape := ⟨4, ![1, 1, 1, 128]⟩
abbrev S1x1x4x128 : Shape := ⟨4, ![1, 1, 4, 128]⟩
abbrev S1x512 : Shape := ⟨2, ![1, 512]⟩
abbrev S2048x1536 : Shape := ⟨2, ![2048, 1536]⟩
abbrev S256x1024 : Shape := ⟨2, ![256, 1024]⟩
abbrev S256x512 : Shape := ⟨2, ![256, 512]⟩
abbrev S8x512 : Shape := ⟨2, ![8, 512]⟩
abbrev S256x3072 : Shape := ⟨2, ![256, 3072]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S264x512 : Shape := ⟨2, ![264, 512]⟩
abbrev S1x512x1024 : Shape := ⟨3, ![1, 512, 1024]⟩
abbrev S512x1024 : Shape := ⟨2, ![512, 1024]⟩

abbrev nBuf : Space → Nat
  | .hbm => 17
  | .vmem => 37
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S2048x512, .f32⟩
  | .hbm, ⟨3, _⟩ => ⟨S2048x512, .f32⟩
  | .hbm, ⟨4, _⟩ => ⟨S1x1024, .f32⟩
  | .hbm, ⟨5, _⟩ => ⟨S1x128, .f32⟩
  | .hbm, ⟨6, _⟩ => ⟨S3x512, .f32⟩
  | .hbm, ⟨7, _⟩ => ⟨S3x512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1x1x128, .f32⟩
  | .hbm, ⟨12, _⟩ => ⟨S1x1x4x128, .f32⟩
  | .hbm, ⟨13, _⟩ => ⟨S1x512, .f32⟩
  | .hbm, ⟨14, _⟩ => ⟨S2048x1024, .f32⟩
  | .hbm, ⟨15, _⟩ => ⟨S2048x1024, .bf16⟩
  | .hbm, ⟨16, _⟩ => ⟨S2048x1536, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S256x3072, .f32⟩
  | .local _ .vmem, ⟨23, _⟩ => ⟨S256x3072, .f32⟩
  | .local _ .vmem, ⟨24, _⟩ => ⟨S1x1024, .f32⟩
  | .local _ .vmem, ⟨25, _⟩ => ⟨S1x512, .f32⟩
  | .local _ .vmem, ⟨26, _⟩ => ⟨S3x512, .f32⟩
  | .local _ .vmem, ⟨27, _⟩ => ⟨S3x512x1024, .bf16⟩
  | .local _ .vmem, ⟨28, _⟩ => ⟨S1024x1024, .bf16⟩
  | .local _ .vmem, ⟨29, _⟩ => ⟨S1x1024, .f32⟩
  | .local _ .vmem, ⟨30, _⟩ => ⟨S1x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S256x1536, .bf16⟩
  | .local _ .vmem, ⟨36, _⟩ => ⟨S256x1536, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_8 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1536 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== FwdRefIdeal.lean ====
abbrev S2048x1024 : Shape := ⟨2, ![2048, 1024]⟩
abbrev S2048x9216 : Shape := ⟨2, ![2048, 9216]⟩
abbrev S2048x512 : Shape := ⟨2, ![2048, 512]⟩
abbrev S1x1024 : Shape := ⟨2, ![1, 1024]⟩
abbrev S1x128 : Shape := ⟨2, ![1, 128]⟩
abbrev S3x512 : Shape := ⟨2, ![3, 512]⟩
abbrev S3x512x1024 : Shape := ⟨3, ![3, 512, 1024]⟩
abbrev S1024x1024 : Shape := ⟨2, ![1024, 1024]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩
abbrev S2050x512 : Shape := ⟨2, ![2050, 512]⟩
abbrev S1x512 : Shape := ⟨2, ![1, 512]⟩
abbrev S1x512x1024 : Shape := ⟨3, ![1, 512, 1024]⟩
abbrev S512x1024 : Shape := ⟨2, ![512, 1024]⟩
abbrev S2048 : Shape := ⟨1, ![2048]⟩
abbrev S2048x1 : Shape := ⟨2, ![2048, 1]⟩
abbrev S2048x1536 : Shape := ⟨2, ![2048, 1536]⟩

abbrev nBuf : Space → Nat
  | .hbm => 172
  | .vmem => 0
  | .smem => 0
  | _ => 0

abbrev hbmTy0_0 (i : Nat) : BufTy := match i % 128 with
  | 0 => ⟨S2048x1024, .f32⟩
  | 1 => ⟨S2048x9216, .f32⟩
  | 2 => ⟨S2048x512, .f32⟩
  | 3 => ⟨S2048x512, .f32⟩
  | 4 => ⟨S1x1024, .f32⟩
  | 5 => ⟨S1x128, .f32⟩
  | 6 => ⟨S3x512, .f32⟩
  | 7 => ⟨S3x512x1024, .bf16⟩
  | 8 => ⟨S1024x1024, .bf16⟩
  | 9 => ⟨S1x1024, .f32⟩
  | 10 => ⟨S1x1024, .f32⟩
  | 11 => ⟨S2048x512, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S2048x512, .f32⟩
  | 21 => ⟨S2048x512, .f32⟩
  | 22 => ⟨S2048x512, .bf16⟩
  | 23 => ⟨S2048x4x128, .f32⟩
  | 24 => ⟨S2048x4x128, .f32⟩
  | 25 => ⟨S_, .f32⟩
  | 26 => ⟨S2048x4, .f32⟩
  | 27 => ⟨S2048x4x1, .f32⟩
  | 28 => ⟨S_, .f32⟩
  | 29 => ⟨S2048x4x1, .f32⟩
  | 30 => ⟨S2048x4x1, .f32⟩
  | 31 => ⟨S_, .f32⟩
  | 32 => ⟨S2048x4x1, .f32⟩
  | 33 => ⟨S2048x4x1, .f32⟩
  | 34 => ⟨S2048x4x1, .f32⟩
  | 35 => ⟨S2048x4x128, .f32⟩
  | 36 => ⟨S2048x4x128, .f32⟩
  | 37 => ⟨S1x1x128, .f32⟩
  | 38 => ⟨S2048x4x128, .f32⟩
  | 39 => ⟨S2048x4x128, .f32⟩
  | 40 => ⟨S2048x512, .f32⟩
  | 41 => ⟨S2048x512, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S_, .f32⟩
  | 48 => ⟨S2048x512, .f32⟩
  | 49 => ⟨S2048x512, .f32⟩
  | 50 => ⟨S2048x512, .f32⟩
  | 51 => ⟨S2048x512, .f32⟩
  | 52 => ⟨S2048x512, .bf16⟩
  | 53 => ⟨S2048x512, .f32⟩
  | 54 => ⟨S2048x512, .f32⟩
  | 55 => ⟨S2048x512, .f32⟩
  | 56 => ⟨S2048x512, .f32⟩
  | 57 => ⟨S_, .i32⟩
  | 58 => ⟨S_, .f32⟩
  | 59 => ⟨S2050x512, .f32⟩
  | 60 => ⟨S1x512, .f32⟩
  | 61 => ⟨S2048x512, .f32⟩
  | 62 => ⟨S2048x512, .f32⟩
  | 63 => ⟨S2048x512, .f32⟩
  | 64 => ⟨S1x512, .f32⟩
  | 65 => ⟨S2048x512, .f32⟩
  | 66 => ⟨S2048x512, .f32⟩
  | 67 => ⟨S2048x512, .f32⟩
  | 68 => ⟨S2048x512, .f32⟩
  | 69 => ⟨S1x512, .f32⟩
  | 70 => ⟨S2048x512, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S2048x512, .f32⟩
  | 84 => ⟨S2048x512, .f32⟩
  | 85 => ⟨S2048x512, .bf16⟩
  | 86 => ⟨S2048x1024, .f32⟩
  | 87 => ⟨S2048x1024, .f32⟩
  | 88 => ⟨S2048x1024, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S2048x512, .f32⟩
  | 98 => ⟨S1x512x1024, .bf16⟩
  | 99 => ⟨S512x1024, .bf16⟩
  | 100 => ⟨S512x1024, .f32⟩
  | 101 => ⟨S2048x1024, .f32⟩
  | 102 => ⟨S2048x1024, .f32⟩
  | 103 => ⟨S2048x1024, .f32⟩
  | 104 => ⟨S2048x1024, .f32⟩
  | 105 => ⟨S_, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S2048x512, .f32⟩
  | 112 => ⟨S1x512x1024, .bf16⟩
  | 113 => ⟨S512x1024, .bf16⟩
  | 114 => ⟨S512x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S_, .f32⟩
  | 121 => ⟨S2048x1024, .f32⟩
  | 122 => ⟨S2048x1024, .f32⟩
  | 123 => ⟨S_, .f32⟩
  | 124 => ⟨S2048x1024, .f32⟩
  | 125 => ⟨S2048x1024, .f32⟩
  | 126 => ⟨S2048x512, .f32⟩
  | 127 => ⟨S1x512x1024, .bf16⟩
  | _ => ⟨S2048x1024, .f32⟩

abbrev hbmTy0_1 (i : Nat) : BufTy := match i % 128 with
  | 0 => ⟨S512x1024, .bf16⟩
  | 1 => ⟨S512x1024, .f32⟩
  | 2 => ⟨S2048x1024, .f32⟩
  | 3 => ⟨S2048x1024, .f32⟩
  | 4 => ⟨S2048x1024, .f32⟩
  | 5 => ⟨S2048x1024, .bf16⟩
  | 6 => ⟨S2048x1024, .f32⟩
  | 7 => ⟨S1024x1024, .f32⟩
  | 8 => ⟨S2048x1024, .f32⟩
  | 9 => ⟨S_, .f32⟩
  | 10 => ⟨S2048x1024, .f32⟩
  | 11 => ⟨S2048x1024, .f32⟩
  | 12 => ⟨S_, .f32⟩
  | 13 => ⟨S1x1024, .f32⟩
  | 14 => ⟨S1x1024, .f32⟩
  | 15 => ⟨S2048x1024, .f32⟩
  | 16 => ⟨S2048x1024, .f32⟩
  | 17 => ⟨S2048x1024, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x1024, .f32⟩
  | 25 => ⟨S2048x1024, .f32⟩
  | 26 => ⟨S2048x1024, .f32⟩
  | 27 => ⟨S_, .f32⟩
  | 28 => ⟨S2048, .f32⟩
  | 29 => ⟨S2048x1, .f32⟩
  | 30 => ⟨S_, .f32⟩
  | 31 => ⟨S2048x1, .f32⟩
  | 32 => ⟨S2048x1, .f32⟩
  | 33 => ⟨S_, .f32⟩
  | 34 => ⟨S2048x1, .f32⟩
  | 35 => ⟨S2048x1, .f32⟩
  | 36 => ⟨S2048x1, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1536, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c : Ref sig .tc := ⟨.hbm, 57, rfl⟩
abbrev main_call2_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_2 : Ref sig .tc := ⟨.hbm, 91, rfl⟩
abbrev main_v51 : Ref sig .tc := ⟨.hbm, 92, rfl⟩
abbrev main_v52 : Ref sig .tc := ⟨.hbm, 93, rfl⟩
abbrev main_cst_3 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_4 : Ref sig .tc := ⟨.hbm, 105, rfl⟩
abbrev main_v63 : Ref sig .tc := ⟨.hbm, 106, rfl⟩
abbrev main_v64 : Ref sig .tc := ⟨.hbm, 107, rfl⟩
abbrev main_cst_5 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_6 : Ref sig .tc := ⟨.hbm, 120, rfl⟩
abbrev main_v76 : Ref sig .tc := ⟨.hbm, 121, rfl⟩
abbrev main_v77 : Ref sig .tc := ⟨.hbm, 122, rfl⟩
abbrev main_cst_7 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_8 : Ref sig .tc := ⟨.hbm, 137, rfl⟩
abbrev main_v91 : Ref sig .tc := ⟨.hbm, 138, rfl⟩
abbrev main_v92 : Ref sig .tc := ⟨.hbm, 139, rfl⟩
abbrev main_cst_9 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_10 : Ref sig .tc := ⟨.hbm, 146, rfl⟩
abbrev main_v98 : Ref sig .tc := ⟨.hbm, 147, rfl⟩
abbrev main_v99 : Ref sig .tc := ⟨.hbm, 148, rfl⟩
abbrev main_cst_11 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_12 : Ref sig .tc := ⟨.hbm, 155, rfl⟩
abbrev main_v105 : Ref sig .tc := ⟨.hbm, 156, rfl⟩
abbrev main_v106 : Ref sig .tc := ⟨.hbm, 157, rfl⟩
abbrev main_cst_13 : Ref sig .tc := ⟨.hbm, 158, rfl⟩
abbrev main_v107 : Ref sig .tc := ⟨.hbm, 159, rfl⟩
abbrev main_v108 : Ref sig .tc := ⟨.hbm, 160, rfl⟩
abbrev main_cst_14 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩

abbrev nD : Nat := 1
abbrev τ : Topo := Topo.v7x

variable {F : FTy → Type} [FloatOps F]
-- ==== Br.lean ====
abbrev S2048x1536 : Shape := ⟨2, ![2048, 1536]⟩
abbrev S2048x9216 : Shape := ⟨2, ![2048, 9216]⟩
abbrev S2048x512 : Shape := ⟨2, ![2048, 512]⟩
abbrev S1x128 : Shape := ⟨2, ![1, 128]⟩
abbrev S3x512 : Shape := ⟨2, ![3, 512]⟩
abbrev S1x1x1x128 : Shape := ⟨4, ![1, 1, 1, 128]⟩
abbrev S1x1x4x128 : Shape := ⟨4, ![1, 1, 4, 128]⟩
abbrev S1x512 : Shape := ⟨2, ![1, 512]⟩
abbrev S8x512 : Shape := ⟨2, ![8, 512]⟩
abbrev S256x512 : Shape := ⟨2, ![256, 512]⟩
abbrev S256x2048 : Shape := ⟨2, ![256, 2048]⟩
abbrev S3 : Shape := ⟨1, ![3]⟩
abbrev S256x128 : Shape := ⟨2, ![256, 128]⟩
abbrev S256 : Shape := ⟨1, ![256]⟩
abbrev S256x1 : Shape := ⟨2, ![256, 1]⟩
abbrev S512 : Shape := ⟨1, ![512]⟩
abbrev S264x512 : Shape := ⟨2, ![264, 512]⟩
abbrev S1 : Shape := ⟨1, ![1]⟩
abbrev S_ : Shape := ⟨0, ![]⟩

abbrev nBuf : Space → Nat
  | .hbm => 14
  | .vmem => 42
  | .smem => 0
  | _ => 0

abbrev bufTy : (tb : Table) → Fin (tcTables nBuf tb) → BufTy
  | .hbm, ⟨0, _⟩ => ⟨S2048x1536, .f32⟩
  | .hbm, ⟨1, _⟩ => ⟨S2048x9216, .f32⟩
  | .hbm, ⟨2, _⟩ => ⟨S2048x512, .f32⟩
  | .hbm, ⟨3, _⟩ => ⟨S2048x512, .f32⟩
  | .hbm, ⟨4, _⟩ => ⟨S1x128, .f32⟩
  | .hbm, ⟨5, _⟩ => ⟨S3x512, .f32⟩
  | .hbm, ⟨6, _⟩ => ⟨S2048x9216, .bf16⟩
  | .hbm, ⟨7, _⟩ => ⟨S1x1x1x128, .f32⟩
  | .hbm, ⟨8, _⟩ => ⟨S1x1x4x128, .f32⟩
  | .hbm, ⟨9, _⟩ => ⟨S1x512, .f32⟩
  | .hbm, ⟨10, _⟩ => ⟨S2048x9216, .bf16⟩
  | .hbm, ⟨11, _⟩ => ⟨S2048x512, .f32⟩
  | .hbm, ⟨12, _⟩ => ⟨S2048x512, .f32⟩
  | .hbm, ⟨13, _⟩ => ⟨S8x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | .local _ .vmem, ⟨30, _⟩ => ⟨S8x512, .f32⟩
  | .local _ .vmem, ⟨31, _⟩ => ⟨S8x512, .f32⟩
  | .local _ .vmem, ⟨32, _⟩ => ⟨S1x512, .f32⟩
  | .local _ .vmem, ⟨33, _⟩ => ⟨S3x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S8x512, .f32⟩
  | .local _ .vmem, ⟨39, _⟩ => ⟨S256x512, .bf16⟩
  | .local _ .vmem, ⟨40, _⟩ => ⟨S256x512, .bf16⟩
  | .local _ .vmem, ⟨41, _⟩ => ⟨S256x2048, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v310 : BitVec 32 := Scalar.muli arg0 c256_i32
  v310
def k0_off1 (i : grid0.Coords) : Fin 2 → Nat :=
  let arg0 : BitVec 32 := BitVec.ofNat 32 (i 0).val
  let c256_i32 : BitVec 32 := 256#32
  let v310 : BitVec 32 := Scalar.muli arg0 c256_i32
  let v311 : BitVec 32 := v310
  let c1536_i32 : BitVec 32 := 1536#32
  ![v311.toNat, 1536]
def k0_off2 (i : grid0.Coords) : Fin 2 → Nat :=
  let arg0 : BitVec 32 := BitVec.ofNat 32 (i 0).val
  let c256_i32 : BitVec 32 := 256#32
  let v310 : BitVec 32 := Scalar.muli arg0 c256_i32
  let v311 : BitVec 32 := v310
  let c3584_i32 : BitVec 32 := 3584#32
  ![v311.toNat, 3584]
def k0_off3 (i : grid0.Coords) : Fin 2 → Nat :=
  let arg0 : BitVec 32 := BitVec.ofNat 32 (i 0).val
  let c256_i32 : BitVec 32 := 256#32
  let v310 : BitVec 32 := Scalar.muli arg0 c256_i32
  let v311 : BitVec 32 := v310
  let c4096_i32 : BitVec 32 := 4096#32
  ![v311.toNat, 4096]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_11 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c9_i32 : BitVec 32 := 9#32
  let c0_i32 : BitVec 32 := 0#32
  ![v2.toNat, c9_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c11_i32 : BitVec 32 := 11#32
  let c0_i32 : BitVec 32 := 0#32
  ![v2.toNat, c11_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== BrRefIdeal.lean ====
abbrev S2048x1536 : Shape := ⟨2, ![2048, 1536]⟩
abbrev S2048x9216 : Shape := ⟨2, ![2048, 9216]⟩
abbrev S2048x512 : Shape := ⟨2, ![2048, 512]⟩
abbrev S1x128 : Shape := ⟨2, ![1, 128]⟩
abbrev S3x512 : Shape := ⟨2, ![3, 512]⟩
abbrev S1x1x1x128 : Shape := ⟨4, ![1, 1, 1, 128]⟩
abbrev S1x1x4x128 : Shape := ⟨4, ![1, 1, 4, 128]⟩
abbrev S1x512 : Shape := ⟨2, ![1, 512]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S2x512 : Shape := ⟨2, ![2, 512]⟩
abbrev S2050x512 : Shape := ⟨2, ![2050, 512]⟩
abbrev S512 : Shape := ⟨1, ![512]⟩
abbrev S2048x3072 : Shape := ⟨2, ![2048, 3072]⟩
abbrev S4x512 : Shape := ⟨2, ![4, 512]⟩
abbrev S8x512 : Shape := ⟨2, ![8, 512]⟩

abbrev nBuf : Space → Nat
  | .hbm => 199
  | .vmem => 0
  | .smem => 0
  | _ => 0

abbrev hbmTy0_0 (i : Nat) : BufTy := match i % 128 with
  | 0 => ⟨S2048x1536, .f32⟩
  | 1 => ⟨S2048x9216, .f32⟩
  | 2 => ⟨S2048x512, .f32⟩
  | 3 => ⟨S2048x512, .f32⟩
  | 4 => ⟨S1x128, .f32⟩
  | 5 => ⟨S3x512, .f32⟩
  | 6 => ⟨S2048x9216, .bf16⟩
  | 7 => ⟨S2048x512, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S1x1x1x128, .f32⟩
  | 14 => ⟨S1x1x4x128, .f32⟩
  | 15 => ⟨S1x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S_, .f32⟩
  | 22 => ⟨S2048x512, .f32⟩
  | 23 => ⟨S2048x512, .f32⟩
  | 24 => ⟨S_, .f32⟩
  | 25 => ⟨S2048x512, .f32⟩
  | 26 => ⟨S2048x512, .f32⟩
  | 27 => ⟨S2048x512, .f32⟩
  | 28 => ⟨S2048x512, .f32⟩
  | 29 => ⟨S2048x512, .f32⟩
  | 30 => ⟨S2048x4x128, .f32⟩
  | 31 => ⟨S2048x4x128, .f32⟩
  | 32 => ⟨S_, .f32⟩
  | 33 => ⟨S2048x4, .f32⟩
  | 34 => ⟨S2048x4x1, .f32⟩
  | 35 => ⟨S_, .f32⟩
  | 36 => ⟨S2048x4x1, .f32⟩
  | 37 => ⟨S2048x4x1, .f32⟩
  | 38 => ⟨S_, .f32⟩
  | 39 => ⟨S2048x4x1, .f32⟩
  | 40 => ⟨S2048x4x1, .f32⟩
  | 41 => ⟨S2048x4x1, .f32⟩
  | 42 => ⟨S2048x4x1, .f32⟩
  | 43 => ⟨S_, .f32⟩
  | 44 => ⟨S2048x4x1, .f32⟩
  | 45 => ⟨S2048x4x1, .f32⟩
  | 46 => ⟨S2048x4x128, .f32⟩
  | 47 => ⟨S2048x4x128, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S_, .f32⟩
  | 66 => ⟨S2x512, .f32⟩
  | 67 => ⟨S2048x512, .f32⟩
  | 68 => ⟨S2050x512, .f32⟩
  | 69 => ⟨S_, .f32⟩
  | 70 => ⟨S2x512, .f32⟩
  | 71 => ⟨S1x512, .f32⟩
  | 72 => ⟨S2048x512, .f32⟩
  | 73 => ⟨S2048x512, .f32⟩
  | 74 => ⟨S2048x512, .f32⟩
  | 75 => ⟨S1x512, .f32⟩
  | 76 => ⟨S2048x512, .f32⟩
  | 77 => ⟨S2048x512, .f32⟩
  | 78 => ⟨S2048x512, .f32⟩
  | 79 => ⟨S2048x512, .f32⟩
  | 80 => ⟨S1x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S2048x512, .f32⟩
  | 88 => ⟨S_, .f32⟩
  | 89 => ⟨S2048x512, .f32⟩
  | 90 => ⟨S2048x512, .f32⟩
  | 91 => ⟨S_, .f32⟩
  | 92 => ⟨S2048x512, .f32⟩
  | 93 => ⟨S2048x512, .f32⟩
  | 94 => ⟨S_, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S_, .f32⟩
  | 115 => ⟨S512, .f32⟩
  | 116 => ⟨S1x512, .f32⟩
  | 117 => ⟨S_, .f32⟩
  | 118 => ⟨S2050x512, .f32⟩
  | 119 => ⟨S_, .f32⟩
  | 120 => ⟨S3x512, .f32⟩
  | 121 => ⟨S2048x512, .f32⟩
  | 122 => ⟨S2048x512, .f32⟩
  | 123 => ⟨S2048x512, .f32⟩
  | 124 => ⟨S_, .f32⟩
  | 125 => ⟨S512, .f32⟩
  | 126 => ⟨S1x512, .f32⟩
  | 127 => ⟨S_, .f32⟩
  | _ => ⟨S2048x1536, .f32⟩

abbrev hbmTy0_1 (i : Nat) : BufTy := match i % 128 with
  | 0 => ⟨S2050x512, .f32⟩
  | 1 => ⟨S2050x512, .f32⟩
  | 2 => ⟨S_, .f32⟩
  | 3 => ⟨S3x512, .f32⟩
  | 4 => ⟨S3x512, .f32⟩
  | 5 => ⟨S2048x512, .f32⟩
  | 6 => ⟨S2048x512, .f32⟩
  | 7 => ⟨S2048x512, .f32⟩
  | 8 => ⟨S_, .f32⟩
  | 9 => ⟨S512, .f32⟩
  | 10 => ⟨S1x512, .f32⟩
  | 11 => ⟨S_, .f32⟩
  | 12 => ⟨S2050x512, .f32⟩
  | 13 => ⟨S2050x512, .f32⟩
  | 14 => ⟨S_, .f32⟩
  | 15 => ⟨S3x512, .f32⟩
  | 16 => ⟨S3x512, .f32⟩
  | 17 => ⟨S2x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S_, .f32⟩
  | 29 => ⟨S512, .f32⟩
  | 30 => ⟨S1x512, .f32⟩
  | 31 => ⟨S2048x512, .f32⟩
  | 32 => ⟨S2048x512, .f32⟩
  | 33 => ⟨S2048x4x128, .f32⟩
  | 34 => ⟨S2048x4x128, .f32⟩
  | 35 => ⟨S_, .f32⟩
  | 36 => ⟨S2048x4, .f32⟩
  | 37 => ⟨S2048x4x1, .f32⟩
  | 38 => ⟨S2048x4x128, .f32⟩
  | 39 => ⟨S2048x4x128, .f32⟩
  | 40 => ⟨S2048x4x1, .f32⟩
  | 41 => ⟨S_, .f32⟩
  | 42 => ⟨S2048x4x1, .f32⟩
  | 43 => ⟨S2048x4x1, .f32⟩
  | 44 => ⟨S_, .f32⟩
  | 45 => ⟨S2048x4, .f32⟩
  | 46 => ⟨S2048x4x128, .f32⟩
  | 47 => ⟨S2048x4x128, .f32⟩
  | 48 => ⟨S2048x4x128, .f32⟩
  | 49 => ⟨S2048x4x128, .f32⟩
  | 50 => ⟨S2048x4x128, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S2048x1536, .bf16⟩
  | 59 => ⟨S2048x512, .bf16⟩
  | 60 => ⟨S2048x1536, .bf16⟩
  | 61 => ⟨S2048x512, .bf16⟩
  | 62 => ⟨S2048x512, .bf16⟩
  | 63 => ⟨S2048x512, .bf16⟩
  | 64 => ⟨S2048x512, .bf16⟩
  | 65 => ⟨S2048x512, .bf16⟩
  | 66 => ⟨S2048x3072, .bf16⟩
  | 67 => ⟨S2048x9216, .bf16⟩
  | 68 => ⟨S_, .f32⟩
  | 69 => ⟨S4x512, .f32⟩
  | 70 => ⟨S8x512, .f32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v9_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v9_1 : Ref sig .tc := ⟨.hbm, 27, rfl⟩
abbrev main_v9_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_v28_2 : Ref sig .tc := ⟨.hbm, 58, rfl⟩
abbrev main_call1_cst_1 : Ref sig .tc := ⟨.hbm, 59, rfl⟩
abbrev main_call1_v6 : Ref sig .tc := ⟨.hbm, 60, rfl⟩
abbrev main_call1_v7 : Ref sig .tc := ⟨.hbm, 61, rfl⟩
abbrev main_v28_1 : Ref sig .tc := ⟨.hbm, 62, rfl⟩
abbrev main_v28_0 : Ref sig .tc := ⟨.hbm, 63, rfl⟩
abbrev main_v29 : Ref sig .tc := ⟨.hbm, 64, rfl⟩
abbrev main_cst_3 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_v49_2 : Ref sig .tc := ⟨.hbm, 93, rfl⟩
abbrev main_call2_cst_1 : Ref sig .tc := ⟨.hbm, 94, rfl⟩
abbrev main_call2_v6 : Ref sig .tc := ⟨.hbm, 95, rfl⟩
abbrev main_call2_v7 : Ref sig .tc := ⟨.hbm, 96, rfl⟩
abbrev main_v49_1 : Ref sig .tc := ⟨.hbm, 97, rfl⟩
abbrev main_v49_0 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_5 : Ref sig .tc := ⟨.hbm, 114, rfl⟩
abbrev main_v62 : Ref sig .tc := ⟨.hbm, 115, rfl⟩
abbrev main_v63 : Ref sig .tc := ⟨.hbm, 116, rfl⟩
abbrev main_cst_6 : Ref sig .tc := ⟨.hbm, 117, rfl⟩
abbrev main_v64 : Ref sig .tc := ⟨.hbm, 118, rfl⟩
abbrev main_cst_7 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_8 : Ref sig .tc := ⟨.hbm, 124, rfl⟩
abbrev main_v69 : Ref sig .tc := ⟨.hbm, 125, rfl⟩
abbrev main_v70 : Ref sig .tc := ⟨.hbm, 126, rfl⟩
abbrev main_cst_9 : Ref sig .tc := ⟨.hbm, 127, rfl⟩
abbrev main_v71 : Ref sig .tc := ⟨.hbm, 128, rfl⟩
abbrev main_v72 : Ref sig .tc := ⟨.hbm, 129, rfl⟩
abbrev main_cst_10 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_11 : Ref sig .tc := ⟨.hbm, 136, rfl⟩
abbrev main_v78 : Ref sig .tc := ⟨.hbm, 137, rfl⟩
abbrev main_v79 : Ref sig .tc := ⟨.hbm, 138, rfl⟩
abbrev main_cst_12 : Ref sig .tc := ⟨.hbm, 139, rfl⟩
abbrev main_v80 : Ref sig .tc := ⟨.hbm, 140, rfl⟩
abbrev main_v81 : Ref sig .tc := ⟨.hbm, 141, rfl⟩
abbrev main_cst_13 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v90 : Ref sig .tc := ⟨.hbm, 154, rfl⟩
abbrev main_v91 : Ref sig .tc := ⟨.hbm, 155, rfl⟩
abbrev main_cst_14 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_15 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_cst_16 : Ref sig .tc := ⟨.hbm, 169, rfl⟩
abbrev main_v103 : Ref sig .tc := ⟨.hbm, 170, rfl⟩
abbrev main_v104 : Ref sig .tc := ⟨.hbm, 171, rfl⟩
abbrev main_cst_17 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_18 : Ref sig .tc := ⟨.hbm, 196, rfl⟩
abbrev main_v125 : Ref sig .tc := ⟨.hbm, 197, rfl⟩
abbrev main_v126 : Ref sig .tc := ⟨.hbm, 198, rfl⟩

abbrev nD : Nat := 1
abbrev τ : Topo := Topo.v7x

variable {F : FTy → Type} [FloatOps F]
-- ==== Proof.Gw.lean ====
/- The weight gradient of the projection: `h_t @ dproj`, computed in four blocks of 2304 columns, against the reference's
   derivative of `w ↦ h @ w`. Both results are, at row `i` and column `j`, the sum over the 2048 tokens of
   `h[k, i] · dproj[k, j]`; the two programs multiply the factors in opposite orders. -/
module

public import proofs.«01_k».proof.Defs
public import proofs.«01_k».proof.Proof.Gen.GwIdeal.Value
public import proofs.«01_k».proof.Proof.Gen.GwRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GwIdeal.Value

open Cert.GwIdeal Cert.GwIdeal.Gen

variable (m : (ℓ : Loc nD τ sig) → Buf (Elt Ideal) ℓ) (ρ : Dev nD → PrngReg)

/-- The product of the two arguments. -/
def prod (a : Vec Ideal S1024x2048 .bf16) (b : Vec Ideal S2048x9216 .bf16) : Vec Ideal S1024x9216 .bf16 :=
  fun i => ∑ k : Fin 2048, a (ix2 (i 0) k) * b (ix2 k (i 1))

/-- One block's product at an index. -/
theorem pay_apply (x0 : Vec Ideal S1024x2048 .bf16) (x1 : Vec Ideal S2048x2304 .bf16) (j : S1024x2304.Idx) :
    k0_pay1 (F := Ideal) x0 x1 j = ∑ k : Fin 2048, x0 (ix2 (j 0) k) * x1 (ix2 k (j 1)) := by
  pointwise [k0_pay1]
  all_goals simp

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The result array is the whole product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  unfold prod
  blk_point [iblk, V, idx0 t, idx1 t, idx2 t]

end Cert.GwIdeal.Value

namespace Cert.GwRefIdeal.Value

open Cert.GwRefIdeal Cert.GwRefIdeal.Gen Cert.GwRefIdeal.Read

/-- The reference's result is the same product. -/
theorem ref_eq (a : Vec Ideal S1024x2048 .bf16) (b : Vec Ideal S2048x9216 .bf16) :
    val_main_v7 (F := Ideal) a b = Cert.GwIdeal.Value.prod a b := by
  funext i
  unfold Cert.GwIdeal.Value.prod
  pointwise [val_main_v7, val_main_v6, val_main_v5, val_main_v4, val_main_v1, val_main_v0]
  exact Finset.sum_congr rfl fun k _ => mul_comm _ _

end Cert.GwRefIdeal.Value

namespace Cert.Proof

/-- The weight gradient's value claim. -/
theorem gw_algebraic : Cert.algebraic_GwIdeal_GwRefIdeal := by
  intro m g m' g' _ hag
  refine ⟨fun c => Cert.GwIdeal.Value.prod (m ((c.tc : Thread Cert.GwIdeal.nD Cert.GwIdeal.τ).loc Cert.GwIdeal.main_arg0))
    (m ((c.tc : Thread Cert.GwIdeal.nD Cert.GwIdeal.τ).loc Cert.GwIdeal.main_arg1)), ?_, ?_⟩
  · refine (θ_run _ _ _).mono (fun r h c => ?_) (Cert.GwIdeal.Value.run_blocks m g)
    obtain ⟨h0, h1, h2⟩ := h c
    exact ⟨h0.trans (Cert.GwIdeal.Value.final m c), h1, h2⟩
  · refine (θ_run _ _ _).mono (fun r h c => ?_) (Cert.GwRefIdeal.Value.run m' g')
    obtain ⟨h0, h1, h2⟩ := h c
    refine ⟨h0.trans ?_, h1, h2⟩
    rw [Cert.GwRefIdeal.Read.val_main_v7_eq, Cert.GwRefIdeal.Value.ref_eq]
    obtain ⟨e0, e1⟩ := hag c
    exact congrArg₂ _ e0 e1

end Cert.Proof

end
-- ==== Proof.Dh.lean ====
/- The input gradient of the projection: `dproj @ w_fullᵀ`, computed in two row tiles of 1024 rows, each the sum of two
   products over halves of the 9216 columns: the first is stored, the second is added to it. The reference is the derivative
   of `h ↦ h @ w`. Both results are, at row `i` and column `j`, the sum over the 9216 columns of `dproj[i, k] · w[j, k]`. -/
module

public import proofs.«01_k».proof.Defs
public import proofs.«01_k».proof.Proof.Gen.DhIdeal.Value
public import proofs.«01_k».proof.Proof.Gen.DhRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhIdeal.Value

open Cert.DhIdeal Cert.DhIdeal.Gen

variable (m : (ℓ : Loc nD τ sig) → Buf (Elt Ideal) ℓ) (ρ : Dev nD → PrngReg)

/-- The product of the first argument and the transposed second. -/
def prod (a : Vec Ideal S2048x9216 .bf16) (b : Vec Ideal S1024x9216 .bf16) : Vec Ideal S2048x1024 .f32 :=
  fun i => ∑ k : Fin 9216, a (ix2 (i 0) k) * b (ix2 (i 1) k)

/-- The first half's product at an index. -/
theorem pay1_apply (x0 : Vec Ideal S1024x4608 .bf16) (x1 : Vec Ideal S1024x4608 .bf16) (j : S1024x1024.Idx) :
    k0_pay1 (F := Ideal) x0 x1 j = ∑ k : Fin 4608, x0 (ix2 (j 0) k) * x1 (ix2 (j 1) k) := by
  pointwise [k0_pay1]
  all_goals simp

/-- The second half's product is added to what the first left. -/
theorem pay2_apply (x0 : Vec Ideal S1024x4608 .bf16) (x1 : Vec Ideal S1024x4608 .bf16) (x2 : Vec Ideal S1024x1024 .f32)
    (j : S1024x1024.Idx) :
    k0_pay2 (F := Ideal) x0 x1 x2 j = x2 j + ∑ k : Fin 4608, x0 (ix2 (j 0) k) * x1 (ix2 (j 1) k) := by
  rw [← pay1_apply]
  pointwise [k0_pay2]

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)

/-- The result array is the whole product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [pay1_apply, zero_add])
    (fun t h j => by rw [outsAt0_B m c t h (by omega)]; frame_out; rw [pay2_apply]) t ((flush0_2 t).mp hf) y, zero_add]
  unfold prod
  refine Fin.sum_mul_add_congr fun s k hl => ?_
  blk_point [iblk, V, idx0, idx1, idx2]

end Cert.DhIdeal.Value

namespace Cert.DhRefIdeal.Value

open Cert.DhRefIdeal Cert.DhRefIdeal.Gen Cert.DhRefIdeal.Read

/-- The reference's result is the same product. -/
theorem ref_eq (a : Vec Ideal S2048x9216 .bf16) (b : Vec Ideal S1024x9216 .bf16) :
    val_main_v4 (F := Ideal) a b = Cert.DhIdeal.Value.prod a b := by
  funext i
  unfold Cert.DhIdeal.Value.prod
  pointwise [val_main_v4, val_main_v3, val_main_v0]

end Cert.DhRefIdeal.Value

namespace Cert.Proof

/-- The input gradient's value claim. -/
theorem dh_algebraic : Cert.algebraic_DhIdeal_DhRefIdeal := by
  intro m g m' g' _ hag
  refine ⟨fun c => Cert.DhIdeal.Value.prod (m ((c.tc : Thread Cert.DhIdeal.nD Cert.DhIdeal.τ).loc Cert.DhIdeal.main_arg0))
    (m ((c.tc : Thread Cert.DhIdeal.nD Cert.DhIdeal.τ).loc Cert.DhIdeal.main_arg1)), ?_, ?_⟩
  · refine (θ_run _ _ _).mono (fun r h c => ?_) (Cert.DhIdeal.Value.run_blocks m g)
    obtain ⟨h0, h1⟩ := h c
    exact ⟨h0.trans (Cert.DhIdeal.Value.final m c), h1⟩
  · refine (θ_run _ _ _).mono (fun r h c => ?_) (Cert.DhRefIdeal.Value.run m' g')
    obtain ⟨h0, h1⟩ := h c
    refine ⟨h0.trans ?_, h1⟩
    rw [Cert.DhRefIdeal.Read.val_main_v4_eq, Cert.DhRefIdeal.Value.ref_eq]
    obtain ⟨e0, e1, -⟩ := hag c
    exact congrArg₂ _ e0 e1

end Cert.Proof

end
-- ==== Proof.Reals.lean ====
/- Finite extended reals as reals: sums, quotients and reciprocal roots of real numbers, the constants of the normalisations,
   and the derivative of a row's standardisation in the two forms in which the programs compute it. -/
module

public import Idealize.ShloMosaic.PureOps.Ideal
public import Idealize.ShloMosaic.Lib.Pointwise
public import Idealize.ShloMosaic.Lib.IdealHost
public import Idealize.ShloMosaic.Lib.ReduceAll

@[expose] public section

noncomputable section

namespace Cert.Reals

open Idealize.ShloMosaic

/-- A sum of reals, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The normalisations' small constant. -/
def eps : ℝ := 10995116 / 2 ^ 40

theorem eps_pos : 0 < eps := by unfold eps; positivity

theorem ofBits_eps : Ideal.ofBits .f32 0x3727C5AC#32 = (eps : EReal) := by
  simp [Ideal.ofBits, Ideal.ieee, eps, -EReal.coe_mul]; norm_num
theorem ofBits_one : Ideal.ofBits .f32 0x3F800000#32 = ((1 : ℝ) : EReal) := by
  simp [Ideal.ofBits, Ideal.ieee, -EReal.coe_mul]; norm_num
theorem ofBits_width : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]

/-- An extended real whose absolute value is below infinity is a real. -/
theorem real_of_abs_lt (x : EReal) (h : max x (-x) < ⊤) : ∃ r : ℝ, x = r := by
  induction x using EReal.rec with
  | bot => simp at h
  | coe r => exact ⟨r, rfl⟩
  | top => simp at h

theorem ofBits_inf : Ideal.ofBits .f32 0x7F800000#32 = ⊤ := by
  simp [Ideal.ofBits, Ideal.ieee]

instance : Subsingleton (Shape.Idx ⟨0, ![]⟩) := ⟨fun a b => funext fun k => k.elim0⟩

/-- `jnp.all(jnp.abs(x) < inf)`. -/
theorem real_of_all {s : Shape} {d : List (Fin s.rank)} (x : FVec Ideal s .f32) (hb : (⟨0, ![]⟩ : Shape).BroadcastsInDim s (![] : Fin 0 → Fin s.rank))
    (hr : s.ReducesTo d (⟨0, ![]⟩ : Shape)) (hn : 0 < (⟨0, ![]⟩ : Shape).numel) (i : (⟨0, ![]⟩ : Shape).Idx)
    (h : Host.reduce IntOp.andi (cmpf .olt (Host.absf x) (broadcastInDim s ![] hb (constant (⟨0, ![]⟩ : Shape) .f32 0x7F800000#32)))
      (constantI (⟨0, ![]⟩ : Shape) 1 1#1) hr hn i = 1#1) : ∃ r : s.Idx → ℝ, x = fun j => (r j : EReal) := by
  have hj : ∀ j, ∃ r : ℝ, x j = (r : EReal) := fun j => by
    have e := Host.reduce_andi_all _ _ hr hn i h j
    apply real_of_abs_lt
    rw [← ofBits_inf]
    have e' : BitVec.ofBool (decide (max (x j) (-x j) < Ideal.ofBits .f32 0x7F800000#32)) = 1#1 := e
    by_contra hc
    rw [decide_eq_false hc] at e'
    exact absurd e' (by decide)
  choose r hr using hj
  exact ⟨r, funext hr⟩

/-! ## A row's standardisation and its derivative -/

/-- The row's mean. -/
def mu (x : Fin 1024 → ℝ) : ℝ := (∑ k, x k) / 1024
/-- The row less its mean. -/
def xc (x : Fin 1024 → ℝ) (j : Fin 1024) : ℝ := x j - mu x
/-- The row's variance plus the small constant. -/
def var (x : Fin 1024 → ℝ) : ℝ := (∑ k, xc x k * xc x k) / 1024 + eps
/-- The reciprocal of the row's deviation. -/
def rstd (x : Fin 1024 → ℝ) : ℝ := (Real.sqrt (var x))⁻¹
/-- The standardised row. -/
def xhat (x : Fin 1024 → ℝ) (j : Fin 1024) : ℝ := xc x j * rstd x

theorem var_pos (x : Fin 1024 → ℝ) : 0 < var x := by
  have := eps_pos
  have : 0 ≤ ∑ k, xc x k * xc x k := Finset.sum_nonneg fun k _ => mul_self_nonneg _
  unfold var; positivity

theorem sum_xc (x : Fin 1024 → ℝ) : ∑ k, xc x k = 0 := by
  unfold xc mu
  rw [Finset.sum_sub_distrib, Finset.sum_const, Finset.card_univ, Fintype.card_fin, nsmul_eq_mul]
  norm_num; ring

theorem rstd_sq (x : Fin 1024 → ℝ) : rstd x * rstd x = 1 / var x := by
  unfold rstd
  rw [← mul_inv, Real.mul_self_sqrt (var_pos x).le, one_div]

/-- The derivative of the standardisation, as the kernels compute it. -/
def stdBwd (x g : Fin 1024 → ℝ) (j : Fin 1024) : ℝ :=
  rstd x * ((g j - (∑ k, g k) / 1024) - xhat x j * ((∑ k, g k * xhat x k) / 1024))

/-- The correction along the row less its mean in the references' form. -/
def refC (x g : Fin 1024 → ℝ) : ℝ := ((∑ k, xc x k * g k) * (-(1 / 2) * (rstd x / var x))) / 1024
/-- The derivative before the mean is taken off. -/
def refT (x g : Fin 1024 → ℝ) (j : Fin 1024) : ℝ := (g j * rstd x + xc x j * refC x g) + refC x g * xc x j
/-- The derivative of the standardisation, as the references compute it. -/
def refBwd (x g : Fin 1024 → ℝ) (j : Fin 1024) : ℝ := refT x g j + (∑ k, -refT x g k) / 1024

theorem refBwd_eq (x g : Fin 1024 → ℝ) (j : Fin 1024) : refBwd x g j = stdBwd x g j := by
  have hs : ∑ k, -refT x g k = -(∑ k, g k) * rstd x := by
    rw [Finset.sum_neg_distrib]
    unfold refT
    rw [Finset.sum_add_distrib, Finset.sum_add_distrib, ← Finset.sum_mul, ← Finset.sum_mul, ← Finset.mul_sum, sum_xc]
    ring
  have hg : ∑ k, g k * xhat x k = (∑ k, xc x k * g k) * rstd x := by
    rw [Finset.sum_mul]
    exact Finset.sum_congr rfl fun k _ => by unfold xhat; ring
  unfold refBwd stdBwd
  rw [hs, hg]
  unfold refT refC xhat
  have h := rstd_sq x
  have hv : rstd x / var x = rstd x * (rstd x * rstd x) := by rw [h]; ring
  rw [hv]; ring

end Cert.Reals

end
-- ==== Proof.Rows.lean ====
/- Buffers written row by row: what a read finds after a store of one whole row, and after a store of the whole buffer. -/
module

public import Idealize.ShloMosaic.Lib.Pipeline.ValueKit
public import Idealize.ShloMosaic.Lib.Pointwise
public import Idealize.ShloMosaic.Lib.WritesUnit

@[expose] public section

noncomputable section

namespace Cert.Rows

open Idealize.ShloMosaic

variable {sig : RefSig} {κ : Kind} {sp : Space} {e : EltTy} {Val : EltTy → Type} {H W : Nat}

/-- After a store of row `o`, an index of that row reads the stored row and any other index what was there before. -/
theorem read_row (v : View sig κ sp (⟨2, ![H, W]⟩ : Shape) e) (f : v.ty.Contents Val) (o : Nat)
    (inb : ∀ a : Fin 2, (![o, 0] : Fin 2 → Nat) a + (![1, W] : Fin 2 → Nat) a ≤ (![H, W] : Fin 2 → Nat) a)
    (w : (⟨2, ![1, W]⟩ : Shape).Idx → Val e) (L : List (View.Piece Val (⟨2, ![H, W]⟩ : Shape) e)) (y : (⟨2, ![H, W]⟩ : Shape).Idx) :
    v.read Val (v.writes Val f ((⟨Rect.unit (s := ⟨2, ![H, W]⟩) ![o, 0] ![1, W] inb, w⟩ : View.Piece Val (⟨2, ![H, W]⟩ : Shape) e) :: L)) y
      = if (y 0).val = o then w (ix2 (0 : Fin 1) (y 1)) else v.read Val (v.writes Val f L) y := by
  by_cases h : (y 0).val = o
  · rw [if_pos h]
    exact View.read_writes_cons_rows_of_mem v f inb w L y (ix2 (0 : Fin 1) (y 1)) rfl h rfl
  · rw [if_neg h]
    exact View.read_writes_cons_rows_of_not_mem (o := o) (W := 1) v f inb w L y rfl rfl
      (by change (y 0).val < o ∨ o + 1 ≤ (y 0).val; omega)

/-- After a store of the whole buffer every index reads it. -/
theorem read_whole (v : View sig κ sp (⟨2, ![H, W]⟩ : Shape) e) (f : v.ty.Contents Val)
    (inb : ∀ a : Fin 2, (![0, 0] : Fin 2 → Nat) a + (![H, W] : Fin 2 → Nat) a ≤ (![H, W] : Fin 2 → Nat) a)
    (w : (⟨2, ![H, W]⟩ : Shape).Idx → Val e) (L : List (View.Piece Val (⟨2, ![H, W]⟩ : Shape) e)) (y : (⟨2, ![H, W]⟩ : Shape).Idx) :
    v.read Val (v.writes Val f ((⟨Rect.unit (s := ⟨2, ![H, W]⟩) ![0, 0] ![H, W] inb, w⟩ : View.Piece Val (⟨2, ![H, W]⟩ : Shape) e) :: L)) y = w y :=
  View.read_writes_cons_rows_of_mem v f inb w L y y (o := 0) rfl (Nat.zero_add _).symm rfl

/-- The index of a row's rectangle. -/
theorem row_idx (o : Nat)
    (inb : ∀ a : Fin 2, (![o, 0] : Fin 2 → Nat) a + (![1, W] : Fin 2 → Nat) a ≤ (![H, W] : Fin 2 → Nat) a)
    (ho : o < H) (j : (⟨2, ![1, W]⟩ : Shape).Idx) :
    (Rect.unit (s := ⟨2, ![H, W]⟩) ![o, 0] ![1, W] inb).idx j = ix2 (⟨o, ho⟩ : Fin H) (j 1) := by
  funext a
  refine Fin.ext ?_
  rw [Rect.idx_unit_val]
  revert a
  refine Fin.forall_fin_two.mpr ⟨?_, ?_⟩
  · change o + (j 0).val = o
    have h : (j 0).val < 1 := (j 0).isLt
    omega
  · change 0 + (j 1).val = (j 1).val
    omega

/-! Arrays of three axes written slab by slab. -/

/-- A statement about the three axes is one about each. -/
theorem all3 {p : Fin 3 → Prop} (h0 : p 0) (h1 : p 1) (h2 : p 2) : ∀ a, p a := fun a => match a with
  | 0 => h0
  | 1 => h1
  | 2 => h2

variable [∀ e, Nonempty (Val e)] {A B C : Nat}

/-- After a store of slab `o`, an index of that slab finds the stored slab and any other index what was there before. -/
theorem canon_slab (o : Nat)
    (inb : ∀ a : Fin 3, (![o, 0, 0] : Fin 3 → Nat) a + (![1, B, C] : Fin 3 → Nat) a ≤ (![A, B, C] : Fin 3 → Nat) a)
    (w : (⟨3, ![1, B, C]⟩ : Shape).Idx → Val e) (L : List (View.Piece Val (⟨3, ![A, B, C]⟩ : Shape) e))
    (y : (⟨3, ![A, B, C]⟩ : Shape).Idx) :
    View.canon ((⟨Rect.unit (s := ⟨3, ![A, B, C]⟩) ![o, 0, 0] ![1, B, C] inb, w⟩ : View.Piece Val (⟨3, ![A, B, C]⟩ : Shape) e) :: L) y
      = if (y 0).val = o then w (ix3 (0 : Fin 1) (y 1) (y 2)) else View.canon L y := by
  by_cases h : (y 0).val = o
  · rw [if_pos h]
    have e : (Rect.unit (s := ⟨3, ![A, B, C]⟩) ![o, 0, 0] ![1, B, C] inb).emb (ix3 (0 : Fin 1) (y 1) (y 2)) = y := by
      funext a
      refine Fin.ext ((Rect.idx_unit_val _ _ _ _ a).trans ?_)
      revert a
      refine all3 ?_ ?_ ?_
      · change o + 0 = (y 0).val
        omega
      · exact Nat.zero_add _
      · exact Nat.zero_add _
    exact (congrArg _ e.symm).trans (View.canon_cons_emb (Rect.unit (s := ⟨3, ![A, B, C]⟩) ![o, 0, 0] ![1, B, C] inb) w L (ix3 (0 : Fin 1) (y 1) (y 2)))
  · rw [if_neg h]
    refine View.canon_cons_of_not_mem _ L fun hm => h ?_
    have h' := (Rect.mem_set_unit (inb := inb)).mp hm 0
    change o ≤ (y 0).val ∧ (y 0).val < o + 1 at h'
    omega

/-- After a store of the whole array every index finds it. -/
theorem canon_all (inb : ∀ a : Fin 3, (![0, 0, 0] : Fin 3 → Nat) a + (![A, B, C] : Fin 3 → Nat) a ≤ (![A, B, C] : Fin 3 → Nat) a)
    (w : (⟨3, ![A, B, C]⟩ : Shape).Idx → Val e) (L : List (View.Piece Val (⟨3, ![A, B, C]⟩ : Shape) e))
    (y : (⟨3, ![A, B, C]⟩ : Shape).Idx) :
    View.canon ((⟨Rect.unit (s := ⟨3, ![A, B, C]⟩) ![0, 0, 0] ![A, B, C] inb, w⟩ : View.Piece Val (⟨3, ![A, B, C]⟩ : Shape) e) :: L) y = w y := by
  have e : (Rect.unit (s := ⟨3, ![A, B, C]⟩) ![0, 0, 0] ![A, B, C] inb).emb y = y := by
    funext a
    refine Fin.ext ((Rect.idx_unit_val _ _ _ _ a).trans ?_)
    revert a
    exact all3 (Nat.zero_add _) (Nat.zero_add _) (Nat.zero_add _)
  exact (congrArg _ e.symm).trans (View.canon_cons_emb (Rect.unit (s := ⟨3, ![A, B, C]⟩) ![0, 0, 0] ![A, B, C] inb) w L y)

/-- The same for an array of two axes. -/
theorem canon_all2 (inb : ∀ a : Fin 2, (![0, 0] : Fin 2 → Nat) a + (![B, C] : Fin 2 → Nat) a ≤ (![B, C] : Fin 2 → Nat) a)
    (w : (⟨2, ![B, C]⟩ : Shape).Idx → Val e) (L : List (View.Piece Val (⟨2, ![B, C]⟩ : Shape) e))
    (y : (⟨2, ![B, C]⟩ : Shape).Idx) :
    View.canon ((⟨Rect.unit (s := ⟨2, ![B, C]⟩) ![0, 0] ![B, C] inb, w⟩ : View.Piece Val (⟨2, ![B, C]⟩ : Shape) e) :: L) y = w y := by
  have e : (Rect.unit (s := ⟨2, ![B, C]⟩) ![0, 0] ![B, C] inb).emb y = y := by
    funext a
    refine Fin.ext ((Rect.idx_unit_val _ _ _ _ a).trans ?_)
    revert a
    exact Fin.forall_fin_two.mpr ⟨Nat.zero_add _, Nat.zero_add _⟩
  exact (congrArg _ e.symm).trans (View.canon_cons_emb (Rect.unit (s := ⟨2, ![B, C]⟩) ![0, 0] ![B, C] inb) w L y)

/-- The index of a slab's rectangle. -/
theorem slab_idx (o : Nat)
    (inb : ∀ a : Fin 3, (![o, 0, 0] : Fin 3 → Nat) a + (![1, B, C] : Fin 3 → Nat) a ≤ (![A, B, C] : Fin 3 → Nat) a)
    (ho : o < A) (j : (⟨3, ![1, B, C]⟩ : Shape).Idx) :
    (Rect.unit (s := ⟨3, ![A, B, C]⟩) ![o, 0, 0] ![1, B, C] inb).idx j = ix3 (⟨o, ho⟩ : Fin A) (j 1) (j 2) := by
  funext a
  refine Fin.ext ?_
  rw [Rect.idx_unit_val]
  revert a
  refine all3 ?_ ?_ ?_
  · change o + (j 0).val = o
    have h : (j 0).val < 1 := (j 0).isLt
    omega
  · exact Nat.zero_add _
  · exact Nat.zero_add _

end Cert.Rows

end
-- ==== Proof.Ln.lean ====
/- The backward pass of the adaptive layer normalisation, computed in four row tiles of 512 rows: the input's gradient tile by
   tile, and the gradients of the shift and of the scale summed over the tiles in rows 0 and 1 of an 8-row block that the first
   tile zeroes. The reference is the derivative of the normalisation in its residual form. At finite arguments both results
   are real: row `i` of the first is `stdBwd` of the row at `dh · (1 + scale)` plus the residual's gradient. -/
module

public import proofs.«01_k».proof.Defs
public import proofs.«01_k».proof.Proof.Gen.LnIdeal.Value
public import proofs.«01_k».proof.Proof.Gen.LnRefIdeal.Read
public import proofs.«01_k».proof.Proof.Gen.Pre_ln_finite
public import proofs.«01_k».proof.Proof.Reals
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Ln

open Cert.Reals

/-- A matrix of reals as an array of extended reals. -/
def mat {a b : Nat} (X : Fin a → Fin b → ℝ) : (⟨2, ![a, b]⟩ : Shape).Idx → EReal := fun i => (X (i 0) (i 1) : EReal)

theorem mat_ix2 {a b : Nat} (X : Fin a → Fin b → ℝ) (r : Fin a) (l : Fin b) : mat X (ix2 r l) = (X r l : EReal) := rfl

/-- Every array of reals is such a matrix. -/
theorem eq_mat {a b : Nat} (r : (⟨2, ![a, b]⟩ : Shape).Idx → ℝ) : (fun i => (r i : EReal)) = mat fun p q => r (ix2 p q) := by
  funext i
  unfold mat
  congr 2
  exact (ix2_eta i).symm

/-- The gradient the standardised row receives. -/
def scaled {a : Nat} (D : Fin a → Fin 1024 → ℝ) (S : Fin 1 → Fin 1024 → ℝ) (r : Fin a) (l : Fin 1024) : ℝ := D r l * (1 + S 0 l)

/-- The input's gradient. -/
def dx {a : Nat} (D X : Fin a → Fin 1024 → ℝ) (S : Fin 1 → Fin 1024 → ℝ) (R : Fin a → Fin 1024 → ℝ) (r : Fin a) (l : Fin 1024) : ℝ :=
  stdBwd (X r) (scaled D S r) l + R r l

/-- The shift's and the scale's gradients in rows 0 and 1 of eight. -/
def vec {a : Nat} (D X : Fin a → Fin 1024 → ℝ) (r : Fin 8) (l : Fin 1024) : ℝ :=
  if r.val = 0 then ∑ k, D k l else if r.val = 1 then ∑ k, D k l * xhat (X k) l else 0

end Cert.Ln

namespace Cert.LnIdeal.Value

open Cert.LnIdeal Cert.LnIdeal.Gen Cert.Ln Cert.Reals

variable (m : (ℓ : Loc nD τ sig) → Buf (Elt Ideal) ℓ) (ρ : Dev nD → PrngReg)

theorem one_coe : (1 : EReal) = ((1 : ℝ) : EReal) := rfl

theorem pay3_mat (X : Fin 512 → Fin 1024 → ℝ) : k0_pay3 (F := Ideal) (mat X) = mat fun r l => xc (X r) l := by
  funext i
  pointwise [k0_pay3, mat]
  simp only [ofBits_width, coe_sum]
  rw [div_real _ (by norm_num), ← EReal.coe_sub]
  rfl

theorem pay4_apply (X : Fin 512 → Fin 1024 → ℝ) (i : S512x1.Idx) : k0_pay4 (F := Ideal) (mat X) i = (rstd (X (i 0)) : EReal) := by
  unfold k0_pay4
  rw [pay3_mat]
  pointwise [mat]
  simp only [ofBits_width, ofBits_eps, ← EReal.coe_mul, coe_sum]
  rw [div_real _ (by norm_num), ← EReal.coe_add]
  exact rsqrt_real (var_pos _)

theorem pay5_mat (X : Fin 512 → Fin 1024 → ℝ) : k0_pay5 (F := Ideal) (mat X) = mat fun r l => xhat (X r) l := by
  unfold k0_pay5
  rw [pay3_mat]
  funext i
  pointwise [mat]
  rw [pay4_apply, ← EReal.coe_mul]
  rfl

/-- The input's gradient of a tile. -/
theorem pay1_mat (D X R : Fin 512 → Fin 1024 → ℝ) (S : Fin 1 → Fin 1024 → ℝ) :
    k0_pay1 (F := Ideal) (mat D) (k0_pay4 (mat X)) (k0_pay5 (mat X)) (mat S) (mat R) = mat (dx D X S R) := by
  unfold k0_pay1
  rw [pay5_mat]
  funext i
  pointwise [mat]
  simp only [pay4_apply, ofBits_width, one_coe, ← EReal.coe_mul, ← EReal.coe_add, coe_sum]
  rw [div_real _ (by norm_num), div_real _ (by norm_num)]
  simp only [← EReal.coe_mul, ← EReal.coe_add, ← EReal.coe_sub]
  rfl

/-- Row 0 of the sums receives the tile's column sums. -/
theorem pay6_apply (D : Fin 512 → Fin 1024 → ℝ) (v : Vec Ideal S1x1024 .f32) (i : S1x1024.Idx) :
    k0_pay6 (F := Ideal) (mat D) v i = v i + ((∑ k, D k (i 1) : ℝ) : EReal) := by
  pointwise [k0_pay6, mat]
  rw [coe_sum]

/-- Row 1 receives the tile's column sums of the products with the standardised rows. -/
theorem pay7_apply (D X : Fin 512 → Fin 1024 → ℝ) (v : Vec Ideal S1x1024 .f32) (i : S1x1024.Idx) :
    k0_pay7 (F := Ideal) (mat D) (mat X) v i = v i + ((∑ k, D k (i 1) * xhat (X k) (i 1) : ℝ) : EReal) := by
  unfold k0_pay7
  rw [pay5_mat]
  pointwise [mat]
  simp only [← EReal.coe_mul, coe_sum]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- The rows of tile `t`. -/
def tile (X : Fin 2048 → Fin 1024 → ℝ) (t : Fin cfg0.N) (r : Fin 512) (l : Fin 1024) : ℝ :=
  X ⟨512 * t.val + r.val, by have h : t.val < 4 := t.isLt; omega⟩ l

section Real

variable (c : Dev nD) (D X R : Fin 2048 → Fin 1024 → ℝ) (S : Fin 1 → Fin 1024 → ℝ)

theorem blk0 (h : m ((c : Thread nD τ).loc main_arg0) = mat D) (t : Fin cfg0.N) : iblk m c 0 t = mat (tile D t) := by
  funext y
  have e : iblk m c 0 t y = m ((c : Thread nD τ).loc main_arg0)
      (ix2 (⟨512 * t.val + (y 0).val, by have h : t.val < 4 := t.isLt; have := (y 0).isLt; simp at this; omega⟩ : Fin 2048) (y 1)) := by
    blk_point [iblk, V, idx0]
  rw [e, h]
  rfl
theorem blk1 (h : m ((c : Thread nD τ).loc main_arg1) = mat X) (t : Fin cfg0.N) : iblk m c 1 t = mat (tile X t) := by
  funext y
  have e : iblk m c 1 t y = m ((c : Thread nD τ).loc main_arg1)
      (ix2 (⟨512 * t.val + (y 0).val, by have h : t.val < 4 := t.isLt; have := (y 0).isLt; simp at this; omega⟩ : Fin 2048) (y 1)) := by
    blk_point [iblk, V, idx1]
  rw [e, h]
  rfl
theorem blk2 (h : m ((c : Thread nD τ).loc main_arg2) = mat S) (t : Fin cfg0.N) : iblk m c 2 t = mat S := by
  funext y
  unfold mat
  blk_point [iblk, V, idx2, h]
theorem blk3 (h : m ((c : Thread nD τ).loc main_arg3) = mat R) (t : Fin cfg0.N) : iblk m c 3 t = mat (tile R t) := by
  funext y
  have e : iblk m c 3 t y = m ((c : Thread nD τ).loc main_arg3)
      (ix2 (⟨512 * t.val + (y 0).val, by have h : t.val < 4 := t.isLt; have := (y 0).isLt; simp at this; omega⟩ : Fin 2048) (y 1)) := by
    blk_point [iblk, V, idx3]
  rw [e, h]
  rfl

/-- A tile's input gradient is its rows of the whole. -/
theorem dx_tile (t : Fin cfg0.N) (r : Fin 512) (l : Fin 1024) :
    dx (tile D t) (tile X t) S (tile R t) r l = tile (dx D X S R) t r l := rfl

/-- The first result array is the input's gradient. -/
theorem final4 (h0 : m ((c : Thread nD τ).loc main_arg0) = mat D) (h1 : m ((c : Thread nD τ).loc main_arg1) = mat X)
    (h2 : m ((c : Thread nD τ).loc main_arg2) = mat S) (h3 : m ((c : Thread nD τ).loc main_arg3) = mat R) :
    (dats m 0 c).arrAt 4 cfg0.N = mat (dx D X S R) := by
  refine (dats m 0 c).arrAt_eq_of_covers 4 _ (by decide +kernel) fun t hf y => ?_
  blk_simp
  have e : (outsAt0 m c t.val t.isLt).1 = mat (tile (dx D X S R) t) := by
    by_cases h : t.val % 4 = 0
    · rw [outsAt0_A m c t h]; frame_out
      rw [blk0 m c D h0, blk1 m c X h1, blk2 m c S h2, blk3 m c R h3, pay1_mat]
      rfl
    · rw [outsAt0_B m c t h]; frame_out
      rw [blk0 m c D h0, blk1 m c X h1, blk2 m c S h2, blk3 m c R h3, pay1_mat]
      rfl
  rw [after0_4, e]
  change mat (dx D X S R) (ix2 (⟨512 * t.val + (y 0).val, _⟩ : Fin 2048) (y 1)) = _
  generalize mat (dx D X S R) = Q
  blk_point [idx4]

/-- What a tile adds to the sums. -/
def term (t : Fin cfg0.N) (j : S8x1024.Idx) : EReal := (vec (tile D t) (tile X t) (j 0) (j 1) : EReal)

theorem step_first (h0 : m ((c : Thread nD τ).loc main_arg0) = mat D) (h1 : m ((c : Thread nD τ).loc main_arg1) = mat X)
    (t : Fin cfg0.N) (h : t.val % 4 = 0) (j : S8x1024.Idx) : (outsAt0 m c t.val t.isLt).2 j = 0 + term D X t j := by
  have z : ∀ i : S8x1024.Idx, k0_pay2 (F := Ideal) i = 0 := fun i => by pointwise [k0_pay2]
  rw [outsAt0_A m c t h]; frame_out
  rw [blk0 m c D h0, blk1 m c X h1]
  simp only [View.readCov_eq_canon', ← View.read_writes_junk_apply_eq_canon (ms0_5 t).view]
  refine (Rows.read_row _ _ 1 _ _ _ j).trans ?_
  unfold term vec
  by_cases h1 : (j 0).val = 1
  · rw [if_pos h1, if_neg (by omega), if_pos h1]
    refine (pay7_apply _ _ _ _).trans (congrArg (· + _) ?_)
    rw [Rows.row_idx 1 _ (by decide)]
    refine (Rows.read_row _ _ 0 _ _ _ _).trans ((if_neg (show ¬(1 : Nat) = 0 by decide)).trans ?_)
    exact (Rows.read_whole _ _ _ _ _ _).trans (z _)
  rw [if_neg h1]
  refine (Rows.read_row _ _ 0 _ _ _ j).trans ?_
  by_cases h0 : (j 0).val = 0
  · rw [if_pos h0, if_pos h0]
    refine (pay6_apply _ _ _).trans (congrArg (· + _) ?_)
    exact (Rows.read_whole _ _ _ _ _ _).trans (z _)
  · rw [if_neg h0, if_neg h0, if_neg h1]
    refine ((Rows.read_whole _ _ _ _ _ _).trans (z _)).trans ?_
    simp

theorem step_next (h0 : m ((c : Thread nD τ).loc main_arg0) = mat D) (h1 : m ((c : Thread nD τ).loc main_arg1) = mat X)
    (t : Fin cfg0.N) (h : ¬t.val % 4 = 0) (j : S8x1024.Idx) :
    (outsAt0 m c t.val t.isLt).2 j = (outsAt0 m c (t.val - 1) (Nat.lt_of_le_of_lt (Nat.sub_le _ _) t.isLt)).2 j + term D X t j := by
  have e : ∀ o : Nat, (j 0).val = o → ∀ ho : o < 8, ix2 (⟨o, ho⟩ : Fin 8) (j 1) = j := fun o h ho => by
    subst h; exact ix2_eta j
  rw [outsAt0_B m c t h]; frame_out
  rw [blk0 m c D h0, blk1 m c X h1]
  refine (Rows.read_row _ _ 1 _ _ _ j).trans ?_
  unfold term vec
  by_cases h1 : (j 0).val = 1
  · rw [if_pos h1, if_neg (by omega), if_pos h1]
    refine (pay7_apply _ _ _ _).trans (congrArg (· + _) ?_)
    rw [View.ld_apply, Rows.row_idx 1 _ (by decide)]
    exact congrArg _ (e 1 h1 (by decide))
  rw [if_neg h1]
  refine (Rows.read_row _ _ 0 _ _ _ j).trans ?_
  by_cases h0 : (j 0).val = 0
  · rw [if_pos h0, if_pos h0]
    refine (pay6_apply _ _ _).trans (congrArg (· + _) ?_)
    rw [View.ld_apply, Rows.row_idx 0 _ (by decide)]
    exact congrArg _ (e 0 h0 (by decide))
  · rw [if_neg h0, if_neg h0, if_neg h1, EReal.coe_zero, add_zero, View.writes_nil]
    exact congrFun ((hs0_5 t).read_unread _) j

/-- The sums over the tiles are the sums over all rows. -/
theorem sum_term (j : S8x1024.Idx) : ∑ t : Fin cfg0.N, term D X t j = (vec D X (j 0) (j 1) : EReal) := by
  have key : ∀ f : Fin 2048 → ℝ, ∑ t : Fin 4, ∑ k : Fin 512, f ⟨512 * t.val + k.val, by omega⟩ = ∑ i, f i := fun f => by
    refine Fin.sum_mul_add_congr fun s k hl => congrArg f (Fin.ext ?_)
    exact congrArg (· + k.val) (Nat.mul_comm _ _)
  unfold term
  rw [coe_sum]
  congr 1
  unfold vec
  split
  · exact key fun i => D i (j 1)
  split
  · exact key fun i => D i (j 1) * xhat (X i) (j 1)
  · simp

/-- The second result array is the sums. -/
theorem final5 (h0 : m ((c : Thread nD τ).loc main_arg0) = mat D) (h1 : m ((c : Thread nD τ).loc main_arg1) = mat X) :
    (dats m 0 c).arrAt 5 cfg0.N = mat (vec D X) := by
  refine (dats m 0 c).arrAt_eq_of_covers 5 _ (by decide +kernel) fun t hf y => ?_
  blk_simp
  rw [after0_5, Pipeline.eq_sum_fin_of_reset_step_apply_last (fun n h => (outsAt0 m c n h).2) 4 (fun _ => 0) (term D X)
    (step_first m c D X h0 h1) (step_next m c D X h0 h1) (by decide)
    t (by have h : t.val % 4 = 3 := (flush0_5 t).mp hf; have h' : t.val < 4 := t.isLt; change t.val + 1 = 4; omega) y, zero_add, sum_term]
  change mat (vec D X) y = _
  generalize mat (vec D X) = Q
  blk_point [idx5]

end Real

end Cert.LnIdeal.Value

namespace Cert.LnRefIdeal.Value

open Cert.LnRefIdeal Cert.LnRefIdeal.Gen Cert.LnRefIdeal.Read Cert.Ln Cert.Reals

variable (D X R : Fin 2048 → Fin 1024 → ℝ) (S : Fin 1 → Fin 1024 → ℝ)

theorem one_coe : (1 : EReal) = ((1 : ℝ) : EReal) := rfl

/-- The rows less their means. -/
theorem v6 : val_main_v6 (F := Ideal) (mat X) = mat fun r l => xc (X r) l := by
  funext i
  pointwise [val_main_v6, val_main_v5, val_main_v4, val_main_v3, val_main_v2, val_main_v1, val_main_cst_0, val_main_cst_1, mat]
  simp only [ofBits_width, coe_sum]
  rw [div_real _ (by norm_num), ← EReal.coe_sub]
  rfl

/-- The rows' variances plus the small constant. -/
theorem v13 : val_main_v13 (F := Ideal) (mat X) = mat fun r _ => var (X r) := by
  unfold val_main_v13 val_main_v11 val_main_v9 val_main_v8 val_main_v7
  rw [v6]
  funext i
  pointwise [val_main_v10, val_main_v12, val_main_cst_2, val_main_cst_3, val_main_cst_4, mat]
  simp only [ofBits_width, ofBits_eps, ← EReal.coe_mul, coe_sum]
  rw [div_real _ (by norm_num), ← EReal.coe_add]
  rfl

theorem v14 : val_main_v14 (F := Ideal) (mat X) = mat fun r _ => rstd (X r) := by
  unfold val_main_v14
  rw [v13]
  funext i
  exact rsqrt_real (var_pos _)

theorem v17 : val_main_v17 (F := Ideal) (mat X) = mat fun r _ => -(1 / 2) * (rstd (X r) / var (X r)) := by
  unfold val_main_v17 val_main_v15
  rw [v14, v13]
  funext i
  pointwise [val_main_v16, val_main_cst_5, mat]
  rw [ofBits_neg_half, div_real _ (var_pos _).ne', ← EReal.coe_mul]

theorem v19 : val_main_v19 (F := Ideal) (mat X) = mat fun r l => xhat (X r) l := by
  unfold val_main_v19 val_main_v18
  rw [v14, v6]
  funext i
  pointwise [mat]
  rw [← EReal.coe_mul]
  rfl

theorem v33 : val_main_v33 (F := Ideal) (mat D) (mat S) = mat (scaled D S) := by
  funext i
  pointwise [val_main_v33, val_main_v32, val_main_v21, val_main_v20, val_main_cst_6, val_main_v26, mat]
  simp only [one_coe, ← EReal.coe_mul, ← EReal.coe_add]
  rfl

theorem v43 : val_main_v43 (F := Ideal) (mat D) (mat X) (mat S) = mat fun r _ => refC (X r) (scaled D S r) := by
  unfold val_main_v43 val_main_v42 val_main_v41 val_main_v39 val_main_v36 val_main_v35 val_main_v34
  rw [v6, v17, v33]
  funext i
  pointwise [val_main_v40, val_main_cst_9, val_main_cst_10, val_main_cst_11, mat]
  simp only [ofBits_width, ← EReal.coe_mul, coe_sum]
  rw [div_real _ (by norm_num)]
  exact Fin.sum_univ_one _

theorem v47 : val_main_v47 (F := Ideal) (mat D) (mat X) (mat S) = mat fun r l => refT (X r) (scaled D S r) l := by
  unfold val_main_v47 val_main_v45 val_main_v46 val_main_v44 val_main_v38 val_main_v37
  rw [v6, v14, v33, v43]
  funext i
  pointwise [mat]
  simp only [← EReal.coe_mul, ← EReal.coe_add]
  rfl

/-- The reference's first result is the input's gradient. -/
theorem v56 : val_main_v56 (F := Ideal) (mat D) (mat X) (mat S) (mat R) = mat (dx D X S R) := by
  unfold val_main_v56 val_main_v55 val_main_v54 val_main_v53 val_main_v52 val_main_v50 val_main_v49 val_main_v48
  rw [v47]
  funext i
  pointwise [val_main_v51, val_main_cst_12, val_main_cst_13, val_main_cst_14, mat]
  simp only [ofBits_width, ← EReal.coe_neg, coe_sum]
  rw [div_real _ (by norm_num)]
  refine (congrArg (fun x : EReal => ((refT (X (i 0)) (scaled D S (i 0)) (i 1) : ℝ) : EReal) + x + ((R (i 0) (i 1) : ℝ) : EReal))
    (Fin.sum_univ_one _)).trans ?_
  exact congrArg (fun x : ℝ => ((x + R (i 0) (i 1) : ℝ) : EReal)) (refBwd_eq (X (i 0)) (scaled D S (i 0)) (i 1))

/-- The reference's second result is the sums. -/
theorem v58 : val_main_v58 (F := Ideal) (mat D) (mat X) = mat (vec D X) := by
  unfold val_main_v58 val_main_v31 val_main_v30 val_main_v29
  rw [v19]
  funext i
  pointwise [val_main_v28, val_main_v27, val_main_v26, val_main_v57, val_main_cst_7, val_main_cst_8, val_main_cst_15, mat]
  unfold vec
  by_cases h0 : (i 0).val = 0
  · rw [dif_pos (by omega), if_pos h0, coe_sum]
  rw [dif_neg (by omega), if_neg h0]
  by_cases h1 : (i 0).val = 1
  · rw [dif_pos (by omega), if_pos h1]
    simp only [← EReal.coe_mul, coe_sum]
    exact congrArg _ (Finset.sum_congr rfl fun k _ => mul_comm _ _)
  · rw [dif_neg (by omega), if_neg h1]
    rfl

end Cert.LnRefIdeal.Value

namespace Cert.Proof

open Cert.Ln Cert.Reals

/-- The precondition: every element of every argument is a real. -/
theorem ln_real (a b d : FVec Ideal Cert.Pre_ln_finite.S2048x1024 .f32) (s : FVec Ideal Cert.Pre_ln_finite.S1x1024 .f32)
    (h : Cert.Pre_ln_finite.fn (F := Ideal) a b s d = fun _ => 1#1) :
    ∃ (D X R : Fin 2048 → Fin 1024 → ℝ) (S : Fin 1 → Fin 1024 → ℝ), a = mat D ∧ b = mat X ∧ s = mat S ∧ d = mat R := by
  have e := congrFun h (fun k => k.elim0)
  unfold Cert.Pre_ln_finite.fn Cert.Pre_ln_finite.fn_part1 at e
  obtain ⟨e, e3⟩ := IntOp.andi_eq_one.mp e
  obtain ⟨e, e2⟩ := IntOp.andi_eq_one.mp e
  obtain ⟨e, e1⟩ := IntOp.andi_eq_one.mp e
  obtain ⟨_, e0⟩ := IntOp.andi_eq_one.mp e
  obtain ⟨r0, h0⟩ := real_of_all _ _ _ _ _ e0
  obtain ⟨r1, h1⟩ := real_of_all _ _ _ _ _ e1
  obtain ⟨r2, h2⟩ := real_of_all _ _ _ _ _ e2
  obtain ⟨r3, h3⟩ := real_of_all _ _ _ _ _ e3
  exact ⟨_, _, _, _, h0.trans (eq_mat r0), h1.trans (eq_mat r1), h2.trans (eq_mat r2), h3.trans (eq_mat r3)⟩

/-- The normalisation's value claim. -/
theorem ln_algebraic : Cert.algebraic_LnIdeal_LnRefIdeal_pre_ln_finite := by
  intro m g m' g' hpre hag
  choose D X R S hD hX hS hR using fun c => ln_real _ _ _ _ (hpre c)
  refine ⟨fun c => mat (dx (D c) (X c) (S c) (R c)), fun c => mat (vec (D c) (X c)), ?_, ?_⟩
  · refine (θ_run _ _ _).mono (fun r h c => ?_) (Cert.LnIdeal.Value.run_blocks m g)
    obtain ⟨h0, h1, h2⟩ := h c
    exact ⟨h0.trans (Cert.LnIdeal.Value.final4 m c _ _ _ _ (hD c) (hX c) (hS c) (hR c)),
      h1.trans (Cert.LnIdeal.Value.final5 m c _ _ (hD c) (hX c)), h2⟩
  · refine (θ_run _ _ _).mono (fun r h c => ?_) (Cert.LnRefIdeal.Value.run m' g')
    obtain ⟨h0, h1, h2⟩ := h c
    obtain ⟨e0, e1, e2, e3⟩ := hag c
    refine ⟨h0.trans ?_, h1.trans ?_, h2⟩
    · refine (Cert.LnRefIdeal.Read.val_main_v56_eq m' c).trans ?_
      exact (congr (congr (congr (congrArg _ (e0.trans (hD c))) (e1.trans (hX c))) (e2.trans (hS c))) (e3.trans (hR c))).trans
        (Cert.LnRefIdeal.Value.v56 _ _ _ _)
    · refine (Cert.LnRefIdeal.Read.val_main_v58_eq _ _).trans ?_
      exact (congr (congrArg _ (e0.trans (hD c))) (e1.trans (hX c))).trans (Cert.LnRefIdeal.Value.v58 _ _)

end Cert.Proof

end
-- ==== Proof.ProjRun.lean ====
module

public import proofs.«01_k».proof.Proof.Gen.ProjIdeal.Frame
public import proofs.«01_k».proof.Proof.Gen.ProjIdeal.Skeleton
public import Idealize.ShloMosaic.Lib.Pipeline.Value
public import Idealize.ShloMosaic.Lib.Pipeline.TableIdle
public import Idealize.ShloMosaic.Lib.VecWindow
public import Idealize.ShloMosaic.Lib.Claim

/-!
# The run of the normalise-and-project call

The grid is 2 by 4.  The first point of a row block normalises the block into the scratch and into the
transposed output's buffer; every point multiplies the scratch by one column block of the weights.
The proof data names what every buffer holds after each point in terms of the row block's first point.
-/

@[expose] public section

set_option maxRecDepth 16384

noncomputable section

namespace Cert.ProjIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-- The body at the first point of a row block, on whole memrefs. -/
theorem run_first (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1024x2304 .bf16) (harg5 : arg5.IsWhole) (arg6 : Memref sig .tc .vmem S1024x2304 .f32) (harg6 : arg6.IsWhole)
    (arg7 : Memref sig .tc .vmem S1024x1024 .bf16) (harg7 : arg7.IsWhole) (arg8 : Memref sig .tc .vmem S1024x1024 .bf16) (harg8 : arg8.IsWhole)
    (hc : k0_cond1 i = 1#1) (x : Vec F S1024x1024 .f32) (s b : Vec F S1x1024 .f32) (w : Vec F S1024x2304 .bf16)
    (E : Set ℕ) (K : PUnit → sProp 𝕄) :
    iprop(owns (c : Thread nD τ) arg2 fullShare x ∗ owns (c : Thread nD τ) arg3 fullShare b ∗ owns (c : Thread nD τ) arg4 fullShare s
        ∗ owns (c : Thread nD τ) arg5 fullShare w ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare b ∗ owns (c : Thread nD τ) arg4 fullShare s
            ∗ owns (c : Thread nD τ) arg5 fullShare w ∗ owns (c : Thread nD τ) arg6 fullShare (k0_pay4 (k0_pay2 x s b) w)
            ∗ owns (c : Thread nD τ) arg7 fullShare (k0_pay3 x s b) ∗ owns (c : Thread nD τ) arg8 fullShare (k0_pay2 x s b)) -∗ K ⟨⟩))
      ⊢ wp frame (wpE (defs₀ (F := F)) Variants.none c none) E
          (cc0_ln_proj i arg2 harg2 arg3 harg3 arg4 harg4 arg5 harg5 arg6 harg6 arg7 harg7 arg8 harg8) K := by
  simp only [cc0_ln_proj_eq_skeleton]; unfold cc0_ln_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_full, View.readAt_full, harg5.read_unread]
    unfold run_first.sl.v3
    unfold run_first.sl.H8_1
    rw [View.readCov_full, View.readAt_full, View.readAt_full, View.readAt_full, harg2.read_unread, harg3.read_unread, harg4.read_unread]
  isplitl [H7]
  · iexists _; isplitr
    swap; · iexact H7
    ipureintro
    rw [View.read_writes_full, View.readAt_full, View.readAt_full, View.readAt_full, harg2.read_unread, harg3.read_unread, harg4.read_unread]
  iexists _; isplitr
  swap; · iexact H8
  ipureintro
  unfold run_first.sl.H8_1
  rw [View.read_writes_full, View.readAt_full, View.readAt_full, View.readAt_full, harg2.read_unread, harg3.read_unread, harg4.read_unread]

/-- The body at any other point, on whole memrefs: the scratch and the transposed output's buffer stay. -/
theorem run_next (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1024x2304 .bf16) (harg5 : arg5.IsWhole) (arg6 : Memref sig .tc .vmem S1024x2304 .f32) (harg6 : arg6.IsWhole)
    (arg7 : Memref sig .tc .vmem S1024x1024 .bf16) (harg7 : arg7.IsWhole) (arg8 : Memref sig .tc .vmem S1024x1024 .bf16) (harg8 : arg8.IsWhole)
    (hc : ¬k0_cond1 i = 1#1) (w : Vec F S1024x2304 .bf16) (h : Vec F S1024x1024 .bf16)
    (E : Set ℕ) (K : PUnit → sProp 𝕄) :
    iprop(owns (c : Thread nD τ) arg5 fullShare w ∗ (∃ d, owns (c : Thread nD τ) arg6 fullShare d) ∗ owns (c : Thread nD τ) arg8 fullShare h
        ∗ (iprop(owns (c : Thread nD τ) arg5 fullShare w ∗ owns (c : Thread nD τ) arg6 fullShare (k0_pay4 h w)
            ∗ owns (c : Thread nD τ) arg8 fullShare h) -∗ K ⟨⟩))
      ⊢ wp frame (wpE (defs₀ (F := F)) Variants.none c none) E
          (cc0_ln_proj i arg2 harg2 arg3 harg3 arg4 harg4 arg5 harg5 arg6 harg6 arg7 harg7 arg8 harg8) K := by
  simp only [cc0_ln_proj_eq_skeleton]; unfold cc0_ln_proj_skel
  unfold owns
  iintro ⟨⟨%f5, %hf5, H5⟩, ⟨%d6, %f6, -, H6⟩, ⟨%f8, %hf8, H8⟩, Hk⟩
  obtain rfl := harg5.eq_unread hf5; obtain rfl := harg8.eq_unread hf8
  sl_exec (disch := first | sl_exact hc)
  sl_step
  iapply Hk
  isplitl [H5]
  · iexists _; isplitr; · ipureintro; exact harg5.read_unread _
    iexact H5
  isplitl [H6]
  · iexists _; isplitr
    swap; · iexact H6
    ipureintro
    rw [View.read_writes_full, View.readAt_full, View.readAt_full, harg5.read_unread, harg8.read_unread]
  iexists _; isplitr; · ipureintro; exact harg8.read_unread _
  iexact H8

/-! ## The schedule -/

theorem first_iff : ∀ t : Fin cfg0.N, k0_cond1 (grid0.coords t) = 1#1 ↔ t.val % 4 = 0 := by decide +kernel
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, t.val % 4 = 0 → cfg0.idle 5 (grid0.coords t) = false := by decide +kernel
theorem idle_5 : ∀ t : Fin cfg0.N, t.val % 4 ≠ 0 → cfg0.idle 5 (grid0.coords t) = true := by decide +kernel
theorem flush_5 : ∀ t : Fin cfg0.N, t.val % 4 = 3 → (cfg0.win 5).flush t = true := by decide +kernel
theorem noFlush_5 : ∀ t : Fin cfg0.N, t.val % 4 ≠ 3 → (cfg0.win 5).flush t = false := by decide +kernel
theorem notFresh_5 : ∀ t : Fin cfg0.N, t.val % 4 ≠ 0 → cfg0.fresh 5 t.val = false := by decide +kernel

abbrev ms_0 (t : Fin cfg0.N) : Memref sig .tc .vmem S1024x1024 .f32 := win0_0.stage (cfg0.slots t 0)
abbrev ms_1 (t : Fin cfg0.N) : Memref sig .tc .vmem S1x1024 .f32 := win0_1.stage (cfg0.slots t 1)
abbrev ms_2 (t : Fin cfg0.N) : Memref sig .tc .vmem S1x1024 .f32 := win0_2.stage (cfg0.slots t 2)
abbrev ms_3 (t : Fin cfg0.N) : Memref sig .tc .vmem S1024x2304 .bf16 := win0_3.stage (cfg0.slots t 3)
abbrev ms_4 (t : Fin cfg0.N) : Memref sig .tc .vmem S1024x2304 .f32 := win0_4.stage (cfg0.slots t 4)
abbrev ms_5 (t : Fin cfg0.N) : Memref sig .tc .vmem S1024x1024 .bf16 := win0_5.stage (cfg0.slots t 5)
/-- The scratch, as a memref. -/
abbrev scr : Memref sig .tc .vmem S1024x1024 .bf16 := Memref.whole cc0_scratch0

variable (m : (ℓ : Loc nD τ sig) → Buf (Elt F) ℓ) (ρ : Dev nD → PrngReg)

/-- The first point of the row block that point `n` lies in. -/
def base (n : ℕ) (h : n < cfg0.N) : Fin cfg0.N := ⟨n - n % 4, by omega⟩

theorem base_first (t : Fin cfg0.N) (h : t.val % 4 = 0) : base t.val t.isLt = t :=
  Fin.ext (by show t.val - t.val % 4 = t.val; omega)

theorem base_next (t : Fin cfg0.N) (h : t.val % 4 ≠ 0) (h' : t.val - 1 < cfg0.N) : base (t.val - 1) h' = base t.val t.isLt :=
  Fin.ext (by show (t.val - 1) - (t.val - 1) % 4 = t.val - t.val % 4; omega)

/-- The normalised row block at point `b`, and its transpose. -/
def hrow (c : Dev nD) (b : Fin cfg0.N) : Vec F S1024x1024 .bf16 := k0_pay2 (iblk m c 0 b) (iblk m c 2 b) (iblk m c 1 b)
def hcol (c : Dev nD) (b : Fin cfg0.N) : Vec F S1024x1024 .bf16 := k0_pay3 (iblk m c 0 b) (iblk m c 2 b) (iblk m c 1 b)

/-- The class's invariant, with the scratch as a memref. -/
theorem anyScratch (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The invariant before position `n`: after the first point the scratch holds the current row block, normalised. -/
def PhiS (c : Dev nD) : (n : ℕ) → n ≤ cfg0.N → sProp 𝕄
  | 0, _ => Pipeline.ΦA spec0 c
  | n + 1, hn => iprop(owns (c : Thread nD τ) scr fullShare (hrow m c (base n hn)) ∗ (∃ r, prngReg c r))

theorem PhiS_pos (c : Dev nD) (n : ℕ) (h : n ≤ cfg0.N) (hz : n ≠ 0) :
    PhiS m c n h = iprop(owns (c : Thread nD τ) scr fullShare (hrow m c (base (n - 1) (by omega))) ∗ (∃ r, prngReg c r)) := by
  cases n with
  | zero => exact absurd rfl hz
  | succ n => rfl

/-- Whatever the invariant says, the scratch is held at some contents. -/
theorem PhiS_any (c : Dev nD) (n : ℕ) (h : n ≤ cfg0.N) : PhiS m c n h ⊢ Pipeline.ΦA spec0 c := by
  by_cases hz : n = 0
  · subst hz; exact .rfl
  · rw [PhiS_pos m c n h hz, anyScratch]
    iintro ⟨HS, Hg⟩
    isplitl [HS]
    · iexists _; iexact HS
    iexact Hg

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (hrow m c (base t.val t.isLt)) (iblk m c 3 t)
    | ⟨5, _⟩ => hcol m c (base t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) :
    (dats m 0 c).Φ t.succ = iprop(owns (c : Thread nD τ) scr fullShare (hrow m c (base t.val t.isLt)) ∗ (∃ r, prngReg c r)) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = k0_pay4 (hrow m c (base t.val t.isLt)) (iblk m c 3 t) := by dsimp only [dats]
theorem after5 (c : Dev nD) (t : Fin cfg0.N) : (dats m 0 c).after 5 t = hcol m c (base t.val t.isLt) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Away from a row block's first point the transposed output's buffer holds what that first point stored. -/
theorem before5 (c : Dev nD) (t : Fin cfg0.N) (h : t.val % 4 ≠ 0) (d) :
    (dats m 0 c).before 5 t d = hcol m c (base t.val t.isLt) := by
  have carry : ∀ (t : Fin cfg0.N) (_ : t.val ≠ 0), cfg0.idle 5 (grid0.coords t) = true → cfg0.fresh 5 t.val = false →
      (dats m 0 c).after 5 t = (dats m 0 c).after 5 ⟨t.val - 1, by omega⟩ := by
    intro t _ hi _
    rw [after5, after5]
    by_cases h : t.val % 4 = 0
    · rw [live_5 t h] at hi; exact absurd hi Bool.false_ne_true
    · rw [base_next t h (by omega)]
  rw [Dat.before_out_traj _ 5 rfl (fun _ _ => rfl) carry t.val t rfl d, if_neg (by rw [notFresh_5 t h]; exact Bool.false_ne_true),
    after5, base_next t h (by omega)]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) :
    (dats m 0 c).leavesExact 0 t = owns (c : Thread nD τ) (ms_0 t) fullShare (iblk m c 0 t) := by
  unfold Dat.leavesExact; rw [live_0 t, after0]
theorem leaves_1 (c : Dev nD) (t : Fin cfg0.N) :
    (dats m 0 c).leavesExact 1 t = owns (c : Thread nD τ) (ms_1 t) fullShare (iblk m c 1 t) := by
  unfold Dat.leavesExact; rw [live_1 t, after1]
theorem leaves_2 (c : Dev nD) (t : Fin cfg0.N) :
    (dats m 0 c).leavesExact 2 t = owns (c : Thread nD τ) (ms_2 t) fullShare (iblk m c 2 t) := by
  unfold Dat.leavesExact; rw [live_2 t, after2]
theorem leaves_3 (c : Dev nD) (t : Fin cfg0.N) :
    (dats m 0 c).leavesExact 3 t = owns (c : Thread nD τ) (ms_3 t) fullShare (iblk m c 3 t) := by
  unfold Dat.leavesExact; rw [live_3 t, after3]
theorem leaves_4 (c : Dev nD) (t : Fin cfg0.N) :
    (dats m 0 c).leavesExact 4 t
      = owns (c : Thread nD τ) (ms_4 t) fullShare (k0_pay4 (hrow m c (base t.val t.isLt)) (iblk m c 3 t)) := by
  unfold Dat.leavesExact; rw [live_4 t, after4]
theorem leaves_5_first (c : Dev nD) (t : Fin cfg0.N) (h : t.val % 4 = 0) :
    (dats m 0 c).leavesExact 5 t = owns (c : Thread nD τ) (ms_5 t) fullShare (hcol m c (base t.val t.isLt)) := by
  unfold Dat.leavesExact; rw [live_5 t h, after5]

/-- Away from the first point the transposed output's buffer is handed back as found, written back or not. -/
theorem leaves_5_next (c : Dev nD) (t : Fin cfg0.N) (h : t.val % 4 ≠ 0) :
    owns (c : Thread nD τ) (ms_5 t) fullShare (hcol m c (base t.val t.isLt)) ⊢ (dats m 0 c).leavesExact 5 t := by
  by_cases h3 : t.val % 4 = 3
  · rw [show (dats m 0 c).leavesExact 5 t = owns (c : Thread nD τ) (ms_5 t) fullShare (hcol m c (base t.val t.isLt)) from by
      unfold Dat.leavesExact; rw [idle_5 t h, flush_5 t h3, after5]]
  · rw [Dat.leavesExact_idle (dats m 0 c) 5 t (idle_5 t h) (noFlush_5 t h3)]
    simp only [before5 m c t h]
    iintro H
    iexists (hcol m c (base t.val t.isLt))
    iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [Phi_succ, Phi_castSucc, leaves_0, leaves_1, leaves_2, leaves_3, leaves_4,
    show (dats m 0 c).owesAt () t.succ = (dats m 0 c).owesAt () t.castSucc from rfl]
  by_cases h : t.val % 4 = 0
  · rw [leaves_5_first m c t h, base_first t h]
    refine (sep_mono (PhiS_any m c _ _) .rfl).trans ?_
    rw [anyScratch]
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((first_iff t).mpr h) (iblk m c 0 t) (iblk m c 2 t) (iblk m c 1 t)
      (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h (by rw [e])
    rw [PhiS_pos m c _ _ hz, base_next t h]
    simp only [before5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (fun e => h ((first_iff t).mp e)) (iblk m c 3 t)
      (hrow m c (base t.val t.isLt)) Set.univ _)
    isplitl [H3]; · iexact H3
    isplitl [H4]; · iexists _; iexact H4
    isplitl [HS]; · iexact HS
    iintro ⟨H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5_next m c t h)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

set_option backward.isDefEq.respectTransparency.types false in
/-- The launch: every array of the pipeline ends at what the proof data computes, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.ProjIdeal.Run

end
-- ==== Proof.Proj.lean ====
/- The forward adaptive layer normalisation and its projection, on a grid of two row blocks by four column blocks. A row block
   is normalised once, into a scratch that its four products read. Both programs normalise a row by the same operations in the
   same order, so the results agree at all arguments, finite or not. -/
module

public import proofs.«01_k».proof.Defs
public import proofs.«01_k».proof.Proof.ProjRun
public import proofs.«01_k».proof.Proof.Gen.ProjRefIdeal.Read
public import proofs.«01_k».proof.Proof.Gen.ProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Pj

/-- A row's distance from its mean. -/
def cen (x : Fin 1024 → EReal) (l : Fin 1024) : EReal := x l - Ideal.div (∑ k, x k) (Ideal.ofBits FTy.f32 1149239296#32)

/-- A row normalised, scaled and shifted. -/
def nrow (x b s : Fin 1024 → EReal) (l : Fin 1024) : EReal :=
  cen x l * Ideal.rsqrt (Ideal.div (∑ k, cen x k * cen x k) (Ideal.ofBits FTy.f32 1149239296#32) + Ideal.ofBits FTy.f32 925353388#32)
    * (1 + s l) + b l

/-- The normalised rows. -/
def hmat (x : (⟨2, ![2048, 1024]⟩ : Shape).Idx → EReal) (b s : (⟨2, ![1, 1024]⟩ : Shape).Idx → EReal) (r : Fin 2048) (l : Fin 1024) : EReal :=
  nrow (fun k => x (ix2 r k)) (fun k => b (ix2 0 k)) (fun k => s (ix2 0 k)) l

/-- Their product with the weights. -/
def proj (x : (⟨2, ![2048, 1024]⟩ : Shape).Idx → EReal) (b s : (⟨2, ![1, 1024]⟩ : Shape).Idx → EReal)
    (w : (⟨2, ![1024, 9216]⟩ : Shape).Idx → EReal) : (⟨2, ![2048, 9216]⟩ : Shape).Idx → EReal :=
  fun i => ∑ k, hmat x b s (i 0) k * w (ix2 k (i 1))

/-- Their transpose. -/
def ht (x : (⟨2, ![2048, 1024]⟩ : Shape).Idx → EReal) (b s : (⟨2, ![1, 1024]⟩ : Shape).Idx → EReal) :
    (⟨2, ![1024, 2048]⟩ : Shape).Idx → EReal :=
  fun i => hmat x b s (i 1) (i 0)

end Cert.Pj

namespace Cert.ProjIdeal.Value

open Cert.ProjIdeal Cert.ProjIdeal.Gen Cert.ProjIdeal.Run Cert.Pj

variable (m : (ℓ : Loc nD τ sig) → Buf (Elt Ideal) ℓ) (ρ : Dev nD → PrngReg)

theorem pay2_at (x : Vec Ideal S1024x1024 .f32) (s b : Vec Ideal S1x1024 .f32) (i : S1024x1024.Idx) :
    k0_pay2 (F := Ideal) x s b i = nrow (fun k => x (ix2 (i 0) k)) (fun k => b (ix2 0 k)) (fun k => s (ix2 0 k)) (i 1) := by
  obtain ⟨p, q, rfl⟩ : ∃ p q, i = ix2 p q := ⟨i 0, i 1, (ix2_eta i).symm⟩
  pointwise [k0_pay2, k0_pay1]
  rfl

theorem pay3_at (x : Vec Ideal S1024x1024 .f32) (s b : Vec Ideal S1x1024 .f32) (i : S1024x1024.Idx) :
    k0_pay3 (F := Ideal) x s b i = nrow (fun k => x (ix2 (i 1) k)) (fun k => b (ix2 0 k)) (fun k => s (ix2 0 k)) (i 0) := by
  obtain ⟨p, q, rfl⟩ : ∃ p q, i = ix2 p q := ⟨i 0, i 1, (ix2_eta i).symm⟩
  pointwise [k0_pay3, k0_pay1]
  rfl

theorem pay4_at (h : Vec Ideal S1024x1024 .bf16) (w : Vec Ideal S1024x2304 .bf16) (i : S1024x2304.Idx) :
    k0_pay4 (F := Ideal) h w i = ∑ k, h (ix2 (i 0) k) * w (ix2 k (i 1)) := by
  pointwise [k0_pay4]
  all_goals simp

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![t.val / 4, t.val % 4] := (by decide +kernel : ∀ t : Fin grid0.N, _)
theorem idx5 : ∀ t : Fin cfg0.N, win0_5.index t = ![0, t.val / 4] := (by decide +kernel : ∀ t : Fin grid0.N, _)

/-- Row `a` of the row block of point `t`. -/
def gr (t : Fin cfg0.N) (a : Fin 1024) : Fin 2048 := ⟨1024 * (t.val / 4) + a.val, by have h : t.val < 8 := t.isLt; omega⟩
/-- Column `b` of the column block of point `t`. -/
def gc (t : Fin cfg0.N) (b : Fin 2304) : Fin 9216 := ⟨2304 * (t.val % 4) + b.val, by omega⟩

section Args

variable (c : Dev nD)

abbrev aX := m ((c : Thread nD τ).loc main_arg0)
abbrev aB := m ((c : Thread nD τ).loc main_arg1)
abbrev aS := m ((c : Thread nD τ).loc main_arg2)
abbrev aW := m ((c : Thread nD τ).loc main_arg3)

theorem blk0 (t : Fin cfg0.N) (a b : Fin 1024) : iblk m c 0 t (ix2 a b) = aX m c (ix2 (gr t a) b) := by
  unfold gr
  blk_point [iblk, V, idx0]
theorem blk1 (t : Fin cfg0.N) (b : Fin 1024) : iblk m c 1 t (ix2 0 b) = aB m c (ix2 0 b) := by
  blk_point [iblk, V, idx1]
theorem blk2 (t : Fin cfg0.N) (b : Fin 1024) : iblk m c 2 t (ix2 0 b) = aS m c (ix2 0 b) := by
  blk_point [iblk, V, idx2]
theorem blk3 (t : Fin cfg0.N) (a : Fin 1024) (b : Fin 2304) : iblk m c 3 t (ix2 a b) = aW m c (ix2 a (gc t b)) := by
  unfold gc
  blk_point [iblk, V, idx3]

theorem gr_base (t : Fin cfg0.N) (a : Fin 1024) : gr (base t.val t.isLt) a = gr t a :=
  Fin.ext (by show 1024 * ((t.val - t.val % 4) / 4) + a.val = 1024 * (t.val / 4) + a.val; omega)

theorem hrow_at (t : Fin cfg0.N) (a b : Fin 1024) :
    hrow m c (base t.val t.isLt) (ix2 a b) = hmat (aX m c) (aB m c) (aS m c) (gr t a) b := by
  unfold hrow hmat
  refine (pay2_at _ _ _ (ix2 a b)).trans ?_
  have e0 : (fun k => iblk m c 0 (base t.val t.isLt) (ix2 a k)) = fun k => aX m c (ix2 (gr t a) k) :=
    funext fun k => by rw [blk0, gr_base]
  have e1 : (fun k => iblk m c 1 (base t.val t.isLt) (ix2 0 k)) = fun k => aB m c (ix2 0 k) := funext fun k => blk1 m c _ k
  have e2 : (fun k => iblk m c 2 (base t.val t.isLt) (ix2 0 k)) = fun k => aS m c (ix2 0 k) := funext fun k => blk2 m c _ k
  exact congrFun (congr (congrArg₂ nrow e0 e1) e2) b

theorem hcol_at (t : Fin cfg0.N) (a b : Fin 1024) :
    hcol m c (base t.val t.isLt) (ix2 a b) = hmat (aX m c) (aB m c) (aS m c) (gr t b) a := by
  unfold hcol hmat
  refine (pay3_at _ _ _ (ix2 a b)).trans ?_
  have e0 : (fun k => iblk m c 0 (base t.val t.isLt) (ix2 b k)) = fun k => aX m c (ix2 (gr t b) k) :=
    funext fun k => by rw [blk0, gr_base]
  have e1 : (fun k => iblk m c 1 (base t.val t.isLt) (ix2 0 k)) = fun k => aB m c (ix2 0 k) := funext fun k => blk1 m c _ k
  have e2 : (fun k => iblk m c 2 (base t.val t.isLt) (ix2 0 k)) = fun k => aS m c (ix2 0 k) := funext fun k => blk2 m c _ k
  exact congrFun (congr (congrArg₂ nrow e0 e1) e2) a

theorem out4_at (t : Fin cfg0.N) (a : Fin 1024) (b : Fin 2304) :
    k0_pay4 (F := Ideal) (hrow m c (base t.val t.isLt)) (iblk m c 3 t) (ix2 a b)
      = proj (aX m c) (aB m c) (aS m c) (aW m c) (ix2 (gr t a) (gc t b)) := by
  refine (pay4_at _ _ (ix2 a b)).trans ?_
  exact Finset.sum_congr rfl fun k _ => congrArg₂ (· * ·) (hrow_at m c t a k) (blk3 m c t k b)

/-- The projection's array is the product. -/
theorem final4 : (dats m 0 c).arrAt 4 cfg0.N = proj (aX m c) (aB m c) (aS m c) (aW m c) := by
  refine (dats m 0 c).arrAt_eq_of_covers 4 _ (by decide +kernel) fun t hf y => ?_
  blk_simp
  rw [after4]
  obtain ⟨a, b, rfl⟩ : ∃ a b, y = ix2 a b := ⟨y 0, y 1, (ix2_eta y).symm⟩
  refine (out4_at m c t a b).trans ?_
  unfold gr gc
  generalize proj (aX m c) (aB m c) (aS m c) (aW m c) = Q
  blk_point [idx4]

/-- The transposed rows' array. -/
theorem final5 : (dats m 0 c).arrAt 5 cfg0.N = ht (aX m c) (aB m c) (aS m c) := by
  refine (dats m 0 c).arrAt_eq_of_covers 5 _ (by decide +kernel) fun t hf y => ?_
  blk_simp
  rw [after5]
  obtain ⟨a, b, rfl⟩ : ∃ a b, y = ix2 a b := ⟨y 0, y 1, (ix2_eta y).symm⟩
  refine (hcol_at m c t a b).trans ?_
  change ht (aX m c) (aB m c) (aS m c) (ix2 a (gr t b)) = _
  unfold gr
  generalize ht (aX m c) (aB m c) (aS m c) = Q
  blk_point [idx5]

end Args

end Cert.ProjIdeal.Value

namespace Cert.ProjRefIdeal.Value

open Cert.ProjRefIdeal Cert.ProjRefIdeal.Gen Cert.ProjRefIdeal.Read Cert.Pj

theorem rows_eq (x : Vec Ideal S2048x1024 .f32) (b s : Vec Ideal S1x1024 .f32) (r : Fin 2048) (l : Fin 1024) :
    val_main_v21 (F := Ideal) x b s (ix2 r l) = hmat x b s r l := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4]
  rfl

theorem proj_eq (x : Vec Ideal S2048x1024 .f32) (b s : Vec Ideal S1x1024 .f32) (w : Vec Ideal S1024x9216 .bf16) :
    val_main_v23 (F := Ideal) x b s w = proj x b s w := by
  funext i
  unfold val_main_v23 val_main_v22
  have key : ∀ h : Vec Ideal S2048x1024 .f32, (∀ r l, h (ix2 r l) = hmat x b s r l) →
      Host.dotGeneral (F := Ideal) (φ₁ := .f32) (φ₂ := .f32) dot_S2048x1024_S1024x9216_S2048x9216_1_0_0_1_n_n none h (extf .f32 w bitsLt_bf16_f32) i = proj x b s w i := ?_
  · exact key _ (rows_eq x b s)
  intro h hh
  obtain ⟨p, q, rfl⟩ : ∃ p q, i = ix2 p q := ⟨i 0, i 1, (ix2_eta i).symm⟩
  pointwise []
  exact Finset.sum_congr rfl fun k _ => congrArg (· * _) (hh p k)

theorem ht_eq (x : Vec Ideal S2048x1024 .f32) (b s : Vec Ideal S1x1024 .f32) :
    val_main_v25 (F := Ideal) x b s = ht x b s := by
  funext i
  unfold val_main_v25 val_main_v24
  have key : ∀ h : Vec Ideal S2048x1024 .f32, (∀ r l, h (ix2 r l) = hmat x b s r l) →
      truncf (F := Ideal) .bf16 (transpose S1024x2048 [1, 0] h transposes_S2048x1024_S1024x2048_1_0) bitsLt_bf16_f32 i = ht x b s i := ?_
  · exact key _ (rows_eq x b s)
  intro h hh
  obtain ⟨p, q, rfl⟩ : ∃ p q, i = ix2 p q := ⟨i 0, i 1, (ix2_eta i).symm⟩
  pointwise []
  exact hh q p

end Cert.ProjRefIdeal.Value

namespace Cert.Proof

/-- The forward normalisation and projection's value claim. -/
theorem proj_algebraic : Cert.algebraic_ProjIdeal_ProjRefIdeal := by
  intro m g m' g' _ hag
  refine ⟨fun c => Cert.Pj.proj (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2))
      (m ((c.tc : Thread Cert.ProjIdeal.nD Cert.ProjIdeal.τ).loc Cert.ProjIdeal.main_arg3)),
    fun c => Cert.Pj.ht (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2)), ?_, ?_⟩
  · refine (θ_run _ _ _).mono (fun r h c => ?_) (θ_run_and (Cert.ProjIdeal.Run.run_main m g) (Cert.ProjIdeal.Run.frame m g))
    obtain ⟨hp, hf, _⟩ := h
    obtain ⟨f0, f1, f2, f3⟩ := hf c
    exact ⟨((hp c).1 4).trans (Cert.ProjIdeal.Value.final4 m c), ((hp c).1 5).trans (Cert.ProjIdeal.Value.final5 m c), f0, f1, f2, f3⟩
  · refine (θ_run _ _ _).mono (fun r h c => ?_) (Cert.ProjRefIdeal.Value.run m' g')
    obtain ⟨h0, h1, h2⟩ := h c
    obtain ⟨e0, e1, e2, e3⟩ := hag c
    refine ⟨h0.trans ?_, h1.trans ?_, h2⟩
    · rw [Cert.ProjRefIdeal.Read.val_main_v23_eq, Cert.ProjRefIdeal.Value.proj_eq]
      exact congr (congr (congrArg₂ Cert.Pj.proj e0 e1) e2) e3
    · rw [Cert.ProjRefIdeal.Read.val_main_v25_eq, Cert.ProjRefIdeal.Value.ht_eq]
      exact congr (congrArg₂ Cert.Pj.ht e0 e1) e2

end Cert.Proof

end
-- ==== Proof.BrRun.lean ====
module

public import proofs.«01_k».proof.Proof.Gen.BrIdeal.Frame
public import proofs.«01_k».proof.Proof.Gen.BrIdeal.Skeleton
public import Idealize.ShloMosaic.Lib.Pipeline.Value
public import Idealize.ShloMosaic.Lib.Pipeline.FrameValue
public import Idealize.ShloMosaic.Lib.VecWindow
public import Idealize.ShloMosaic.Lib.Claim

/-!
# The run of the branches' backward call on whole buffers

At each of the eight points the body computes the gradients of one row block, adds the row sums into
the small result, and copies three scratches into their columns of the large result.  The run is
stated once, for any point and any contents; what every buffer holds afterwards is found by the run.
-/

@[expose] public section

set_option maxRecDepth 16384
noncomputable section
namespace Cert.BrIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BrIdeal.Gen

variable {F : FTy → Type} [FloatOps F]

local notation "𝕄" => MT nD τ sig Unit (Elt F) ℕ (Pipeline.UD sig nD τ) ℕ

set_option maxHeartbeats 8000000 in
/-- The body on whole buffers, at any contents: the two gradient blocks, the small result, the three scratches and the
    large result end at what the run finds; the inputs and the three counters end as they were. -/
def bodyRun (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S3x512 .f32) (harg18 : arg18.IsWhole) (arg21 : Memref sig .tc .vmem S256x512 .f32) (harg21 : arg21.IsWhole) (arg22 : Memref sig .tc .vmem S256x512 .f32) (harg22 : arg22.IsWhole) (arg23 : Memref sig .tc .vmem S8x512 .f32) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x2048 .bf16) (harg26 : arg26.IsWhole) (arg20 : Memref sig .tc .hbm S2048x9216 .bf16) (harg20 : arg20.IsWhole)
    (hd21 : Disjoint (arg20.slice (Rect.unit (s := S2048x9216) (k0_off2 i) S256x512.size (k0_off2_inb i)) (fun _ => rfl)).view.set (arg20.slice (Rect.unit (s := S2048x9216) (k0_off1 i) S256x512.size (k0_off1_inb i)) (fun _ => rfl)).view.set) (hd31 : Disjoint (arg20.slice (Rect.unit (s := S2048x9216) (k0_off3 i) S256x2048.size (k0_off3_inb i)) (fun _ => rfl)).view.set (arg20.slice (Rect.unit (s := S2048x9216) (k0_off1 i) S256x512.size (k0_off1_inb i)) (fun _ => rfl)).view.set) (hd32 : Disjoint (arg20.slice (Rect.unit (s := S2048x9216) (k0_off3 i) S256x2048.size (k0_off3_inb i)) (fun _ => rfl)).view.set (arg20.slice (Rect.unit (s := S2048x9216) (k0_off2 i) S256x512.size (k0_off2_inb i)) (fun _ => rfl)).view.set)
    (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S8x512 .f32) (x13 : Vec F S8x512 .f32) (x14 : Vec F S8x512 .f32) (x15 : Vec F S8x512 .f32) (x16 : Vec F S8x512 .f32) (x17 : Vec F S1x512 .f32) (x18 : Vec F S3x512 .f32) (d21 d22 : Vec F S256x512 .f32) (v : Vec F S8x512 .f32) (d24 d25 : Vec F S256x512 .bf16) (d26 : Vec F S256x2048 .bf16) (f : Buf (Elt F) (arg20.view.loc (c : Thread nD τ))) :
    { p : Buf (Elt F) (arg21.view.loc (c : Thread nD τ)) × Buf (Elt F) (arg22.view.loc (c : Thread nD τ)) × Buf (Elt F) (arg23.view.loc (c : Thread nD τ)) × Buf (Elt F) (arg24.view.loc (c : Thread nD τ)) × Buf (Elt F) (arg25.view.loc (c : Thread nD τ)) × Buf (Elt F) (arg26.view.loc (c : Thread nD τ)) × Buf (Elt F) (arg20.view.loc (c : Thread nD τ)) //
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
            ∗ owns (c : Thread nD τ) arg21 fullShare d21 ∗ owns (c : Thread nD τ) arg22 fullShare d22 ∗ owns (c : Thread nD τ) arg23 fullShare v ∗ owns (c : Thread nD τ) arg24 fullShare d24 ∗ owns (c : Thread nD τ) arg25 fullShare d25 ∗ owns (c : Thread nD τ) arg26 fullShare d26
            ∗ semVal ((c : Thread nD τ), SemLoc.dma ⟨39, by decide⟩) 0 ∗ semVal ((c : Thread nD τ), SemLoc.dma ⟨40, by decide⟩) 0 ∗ semVal ((c : Thread nD τ), SemLoc.dma ⟨41, by decide⟩) 0
            ∗ (arg20.view.loc (c : Thread nD τ) ↦{fullShare} f) ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
                ∗ (arg21.view.loc (c : Thread nD τ) ↦[arg21.view.set]{fullShare} (p.1)) ∗ (arg22.view.loc (c : Thread nD τ) ↦[arg22.view.set]{fullShare} (p.2.1)) ∗ (arg23.view.loc (c : Thread nD τ) ↦[arg23.view.set]{fullShare} (p.2.2.1)) ∗ (arg24.view.loc (c : Thread nD τ) ↦[arg24.view.set]{fullShare} (p.2.2.2.1)) ∗ (arg25.view.loc (c : Thread nD τ) ↦[arg25.view.set]{fullShare} (p.2.2.2.2.1)) ∗ (arg26.view.loc (c : Thread nD τ) ↦[arg26.view.set]{fullShare} (p.2.2.2.2.2.1))
                ∗ semVal ((c : Thread nD τ), SemLoc.dma ⟨39, by decide⟩) 0 ∗ semVal ((c : Thread nD τ), SemLoc.dma ⟨40, by decide⟩) 0 ∗ semVal ((c : Thread nD τ), SemLoc.dma ⟨41, by decide⟩) 0
                ∗ (arg20.view.loc (c : Thread nD τ) ↦{fullShare} (p.2.2.2.2.2.2)) ∗ (∃ W', owes (c : Thread nD τ) 0 W')) -∗ K ⟨⟩))
          ⊢ wp frame (wpE (defs₀ (F := F)) Variants.none c none) Set.univ
              (cc0_branch_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg20 harg20 arg20 harg20 arg21 harg21 arg22 harg22 arg23 harg23 arg24 harg24 arg25 harg25 arg26 harg26 cc0_scratch3) K } := by
  refine ⟨⟨?_, ?_, ?_, ?_, ?_, ?_, ?_⟩, fun W K => ?run⟩
  case run =>
    simp only [cc0_branch_bwd_eq_skeleton]; unfold cc0_branch_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f21, %hf21, H21⟩, ⟨%f22, %hf22, H22⟩, ⟨%f23, %hf23, H23⟩, ⟨%f24, %hf24, H24⟩, ⟨%f25, %hf25, H25⟩, ⟨%f26, %hf26, H26⟩, Hq0, Hq1, Hq2, Hb, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg21.eq_unread hf21; obtain rfl := harg22.eq_unread hf22; obtain rfl := harg23.eq_unread hf23; obtain rfl := harg24.eq_unread hf24; obtain rfl := harg25.eq_unread hf25; obtain rfl := harg26.eq_unread hf26
    set_option sl_exec.dmaWindow true in
    set_option sl_exec.dmaWindowLent true in
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H21]; · iexact H21
    isplitl [H22]; · iexact H22
    isplitl [H23]; · iexact H23
    isplitl [H24]; · iexact H24
    isplitl [H25]; · iexact H25
    isplitl [H26]; · iexact H26
    isplitl [Hq0]; · iexact Hq0
    isplitl [Hq1]; · iexact Hq1
    isplitl [Hq2]; · iexact Hq2
    isplitl [Hb]; · iexact Hb
    iexists _; iexact HW

end Cert.BrIdeal.Run

end
-- ==== Proof.BrPay.lean ====
module

public import proofs.«01_k».proof.Proof.BrRun
public import proofs.«01_k».proof.Proof.Rows

/-!
# What a point of the branches' backward call leaves

The eighteen blocks a point reads, and in closed form the gradient blocks, the step of the small
result and the step of the large one that the run finds.
-/

@[expose] public section

set_option maxRecDepth 16384
noncomputable section
namespace Cert.BrIdeal.Run

open Idealize.ShloMosaic Idealize.ShloMosaic.TcCoe
open Cert.BrIdeal.Gen

variable {F : FTy → Type} [FloatOps F]

/-- The blocks a point reads, in the order of its windows. -/
structure Blk (F : FTy → Type) where

  x1 : Vec F S256x512 .f32
  x2 : Vec F S256x512 .f32
  x3 : Vec F S256x512 .f32
  x4 : Vec F S256x512 .f32
  x5 : Vec F S256x512 .f32
  x6 : Vec F S256x512 .f32
  x7 : Vec F S256x512 .f32
  x8 : Vec F S256x512 .f32
  x9 : Vec F S256x512 .f32
  x10 : Vec F S256x512 .f32
  x11 : Vec F S256x512 .f32
  x12 : Vec F S8x512 .f32
  x13 : Vec F S8x512 .f32
  x14 : Vec F S8x512 .f32
  x15 : Vec F S8x512 .f32
  x16 : Vec F S8x512 .f32
  x17 : Vec F S1x512 .f32
  x18 : Vec F S3x512 .f32

/-- Row `o` of the small result. -/
def vrow (o : Nat) (ho : o < 8) (u : Vec F S8x512 .f32) : Vec F S1x512 .f32 := fun z => u (ix2 (⟨o, ho⟩ : Fin 8) (z 1))

/-- The small result as a point finds it: zero at the first point. -/
def isFirst (i : grid0.Coords) : Prop :=
  Scalar.cmpi .ne (Scalar.extui (Scalar.cmpi .eq (BitVec.ofNat 32 (i 0).val) 0#32)) 0#32 = 1#1
instance (i : grid0.Coords) : Decidable (isFirst i) := inferInstanceAs (Decidable (_ = _))
def vbase (i : grid0.Coords) (u : Vec F S8x512 .f32) : Vec F S8x512 .f32 := if isFirst i then k0_pay1 else u

namespace Blk

variable (B : Blk F) (i : grid0.Coords)

def pt : BitVec 32 := BitVec.ofNat 32 (i 0).val
def doa : FVec F S256x512 .f32 := k0_pay3 B.x5 B.x1
def dza : FVec F S256x512 .bf16 := k0_pay4 B.x5 B.x1 B.x4
def h0 : FVec F S256x128 .f32 := k0_pay8 (k0_pay5 B.x6) (k0_pay6 B.x6)
def ohat : FVec F S256x512 .f32 := k0_pay25 B.h0 (k0_pay13 B.x6) (k0_pay18 B.x6) (k0_pay21 B.x6) (k0_pay22 B.x6)
def rst : FVec F S256x512 .f32 := k0_pay26 (k0_pay10 (k0_pay6 B.x6)) (k0_pay15 B.x6) (k0_pay20 B.x6) (k0_pay22 B.x6)
def dn : FVec F S256x512 .f32 := k0_pay29 B.x7 B.x2
def dob : FVec F S256x512 .f32 :=
  k0_pay37 B.ohat B.rst (k0_pay31 B.x17 B.dn) (k0_pay32 B.x17 B.ohat B.rst B.dn) (k0_pay33 B.x17 B.ohat B.rst B.dn)
    (k0_pay34 B.x17 B.ohat B.rst B.dn) (k0_pay35 B.x17 B.ohat B.dn) k0_pay36
def dzb : FVec F S256x512 .bf16 :=
  k0_pay28 B.x17 (k0_pay9 B.x17 (k0_pay5 B.x6) (k0_pay6 B.x6)) (k0_pay14 B.x17 B.x6) (k0_pay19 B.x17 B.x6) (k0_pay21 B.x6) (k0_pay22 B.x6)
    B.x7 B.x2
def a0 : FVec F S256x512 .f32 := k0_pay38 B.x8 B.x10
def a1 : FVec F S256x512 .f32 := k0_pay40 (pt i) B.x8 B.x10 B.x12 B.x13
def a2 : FVec F S256x512 .f32 := k0_pay41 (pt i) B.x8 B.x10 B.x12 B.x13
def conv : FVec F S256x512 .f32 := k0_pay42 (pt i) B.x18 B.x8 B.x10 B.x12 B.x13
def dcv : FVec F S256x512 .f32 := k0_pay46 B.x9 B.x11 B.x3
def nxt : FVec F S8x512 .f32 := k0_pay47 (pt i) B.x16 B.x14 B.x15
def dc0 : FVec F S256x512 .bf16 :=
  k0_pay52 B.x18 B.x10 B.dcv (B.nxt i) (k0_pay48 B.x18 B.x9 B.x11 B.x3) (k0_pay49 (pt i) B.x9 B.x11 B.x3 B.x16 B.x14 B.x15) (k0_pay50 B.x18)
def dc1 : FVec F S256x512 .bf16 := k0_pay53 (B.conv i) (k0_pay44 B.x11) B.x3
def dc2 : FVec F S256x512 .bf16 :=
  k0_pay54 B.x18 B.x8 B.dcv (B.nxt i) (k0_pay48 B.x18 B.x9 B.x11 B.x3) (k0_pay49 (pt i) B.x9 B.x11 B.x3 B.x16 B.x14 B.x15) (k0_pay50 B.x18)
def dc3 : FVec F S256x512 .bf16 := k0_pay55 B.x9 (B.conv i) (k0_pay45 B.x11) B.x3

/-- The four blocks of 512 columns side by side. -/
def dc : FVec F S256x2048 .bf16 := fun y =>
  if h3 : 1536 ≤ (y 1).val ∧ (y 1).val < 1536 + 512 then B.dc3 i (ix2 (y 0) (⟨(y 1).val - 1536, by omega⟩ : Fin 512))
  else if h2 : 1024 ≤ (y 1).val ∧ (y 1).val < 1024 + 512 then B.dc2 i (ix2 (y 0) (⟨(y 1).val - 1024, by omega⟩ : Fin 512))
  else if h1 : 512 ≤ (y 1).val ∧ (y 1).val < 512 + 512 then B.dc1 i (ix2 (y 0) (⟨(y 1).val - 512, by omega⟩ : Fin 512))
  else if h0 : 0 ≤ (y 1).val ∧ (y 1).val < 0 + 512 then B.dc0 i (ix2 (y 0) (⟨(y 1).val - 0, by omega⟩ : Fin 512))
  else B.dc0 i (ix2 (y 0) (0 : Fin 512))

/-- The small result after a point that found `u`. -/
def vstep (u : Vec F S8x512 .f32) : Vec F S8x512 .f32 := fun y =>
  if (y 0).val = 3 then k0_pay58 B.a0 B.dcv (vrow 3 (by decide) u) (ix2 (0 : Fin 1) (y 1))
  else if (y 0).val = 2 then k0_pay57 (B.a1 i) B.dcv (vrow 2 (by decide) u) (ix2 (0 : Fin 1) (y 1))
  else if (y 0).val = 1 then k0_pay56 (B.a2 i) B.dcv (vrow 1 (by decide) u) (ix2 (0 : Fin 1) (y 1))
  else if (y 0).val = 0 then
    k0_pay30 B.h0 (k0_pay13 B.x6) (k0_pay18 B.x6) (k0_pay21 B.x6) (k0_pay22 B.x6) B.x7 B.x2 (vrow 0 (by decide) u) (ix2 (0 : Fin 1) (y 1))
  else u y

end Blk

/-- The three blocks a point writes into the large result. -/
def bigStep (m : Memref sig .tc .hbm S2048x9216 .bf16) (i : grid0.Coords) (sa sb : FVec F S256x512 .bf16) (sc : FVec F S256x2048 .bf16)
    (f : m.view.ty.Contents (Elt F)) : m.view.ty.Contents (Elt F) :=
  View.write (Elt F) (m.slice (Rect.unit (s := S2048x9216) (k0_off3 i) S256x2048.size (k0_off3_inb i)) (fun _ => rfl)).view
    (View.write (Elt F) (m.slice (Rect.unit (s := S2048x9216) (k0_off2 i) S256x512.size (k0_off2_inb i)) (fun _ => rfl)).view
      (View.write (Elt F) (m.slice (Rect.unit (s := S2048x9216) (k0_off1 i) S256x512.size (k0_off1_inb i)) (fun _ => rfl)).view f sa Finset.univ)
      sb Finset.univ) sc Finset.univ

theorem ld256 (arg : Memref sig .tc .vmem S256x512 .f32) (harg : arg.IsWhole) (x : Vec F S256x512 .f32) :
    View.readAt (Elt F) arg.view (Rect.unit ![0, 0] S256x512.size inb_S256x512_S256x512_0_0).toLoadRect (harg.unread x) = x := by
  rw [View.readAt_full, harg.read_unread]

theorem ld8 (arg : Memref sig .tc .vmem S8x512 .f32) (harg : arg.IsWhole) (x : Vec F S8x512 .f32) :
    View.readAt (Elt F) arg.view (Rect.unit ![0, 0] S8x512.size inb_S8x512_S8x512_0_0).toLoadRect (harg.unread x) = x := by
  rw [View.readAt_full, harg.read_unread]

theorem ld1 (arg : Memref sig .tc .vmem S1x512 .f32) (harg : arg.IsWhole) (x : Vec F S1x512 .f32) :
    View.readAt (Elt F) arg.view (Rect.unit ![0, 0] S1x512.size inb_S1x512_S1x512_0_0).toLoadRect (harg.unread x) = x := by
  rw [View.readAt_full, harg.read_unread]

theorem ld3 (arg : Memref sig .tc .vmem S3x512 .f32) (harg : arg.IsWhole) (x : Vec F S3x512 .f32) :
    View.readAt (Elt F) arg.view (Rect.unit ![0, 0] S3x512.size inb_S3x512_S3x512_0_0).toLoadRect (harg.unread x) = x := by
  rw [View.readAt_full, harg.read_unread]

/-- A load of one row reads that row. -/
theorem ldrow (arg : Memref sig .tc .vmem S8x512 .f32) (g : arg.view.ty.Contents (Elt F)) (o : Nat) (ho : o < 8)
    (inb : ∀ a : Fin 2, (![o, 0] : Fin 2 → Nat) a + (![1, 512] : Fin 2 → Nat) a ≤ (![8, 512] : Fin 2 → Nat) a) :
    View.readAt (Elt F) arg.view (Rect.unit (s := S8x512) ![o, 0] S1x512.size inb).toLoadRect g = vrow o ho (arg.view.read (Elt F) g) := by
  funext z
  exact congrArg (arg.view.read (Elt F) g) (Rows.row_idx (H := 8) (W := 512) o inb ho z)

/-- After a store of a block of whole columns, an index of the block reads it and any other what was there before. -/
theorem read_cols {sig : RefSig} {κ : Kind} {sp : Space} {e : EltTy} {Val : EltTy → Type} {H W N : Nat} (v : View sig κ sp (⟨2, ![H, N]⟩ : Shape) e)
    (f : v.ty.Contents Val) (o : Nat)
    (inb : ∀ a : Fin 2, (![0, o] : Fin 2 → Nat) a + (![H, W] : Fin 2 → Nat) a ≤ (![H, N] : Fin 2 → Nat) a)
    (w : (⟨2, ![H, W]⟩ : Shape).Idx → Val e) (L : List (View.Piece Val (⟨2, ![H, N]⟩ : Shape) e)) (y : (⟨2, ![H, N]⟩ : Shape).Idx) :
    v.read Val (v.writes Val f ((⟨Rect.unit (s := ⟨2, ![H, N]⟩) ![0, o] ![H, W] inb, w⟩ : View.Piece Val (⟨2, ![H, N]⟩ : Shape) e) :: L)) y
      = if h : o ≤ (y 1).val ∧ (y 1).val < o + W then w (ix2 (y 0) (⟨(y 1).val - o, by omega⟩ : Fin W))
        else v.read Val (v.writes Val f L) y := by
  by_cases h : o ≤ (y 1).val ∧ (y 1).val < o + W
  · rw [dif_pos h]
    refine View.read_writes_cons_unit_of_mem v f inb w L y (ix2 (y 0) (⟨(y 1).val - o, by omega⟩ : Fin W)) rfl
      (Fin.forall_fin_two.mpr ⟨(Nat.zero_add _).symm, ?_⟩)
    change (y 1).val = o + ((y 1).val - o)
    omega
  · rw [dif_neg h]
    refine View.read_writes_cons_unit_of_not_mem v f inb w L y rfl (1 : Fin 2) ?_
    change (y 1).val < o ∨ o + W ≤ (y 1).val
    omega

section Ends

variable  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S1x512 .f32) (harg17 : arg17.IsWhole) (arg18 : Memref sig .tc .vmem S3x512 .f32) (harg18 : arg18.IsWhole) (arg21 : Memref sig .tc .vmem S256x512 .f32) (harg21 : arg21.IsWhole) (arg22 : Memref sig .tc .vmem S256x512 .f32) (harg22 : arg22.IsWhole) (arg23 : Memref sig .tc .vmem S8x512 .f32) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x2048 .bf16) (harg26 : arg26.IsWhole) (arg20 : Memref sig .tc .hbm S2048x9216 .bf16) (harg20 : arg20.IsWhole)
    (hd21 : Disjoint (arg20.slice (Rect.unit (s := S2048x9216) (k0_off2 i) S256x512.size (k0_off2_inb i)) (fun _ => rfl)).view.set (arg20.slice (Rect.unit (s := S2048x9216) (k0_off1 i) S256x512.size (k0_off1_inb i)) (fun _ => rfl)).view.set) (hd31 : Disjoint (arg20.slice (Rect.unit (s := S2048x9216) (k0_off3 i) S256x2048.size (k0_off3_inb i)) (fun _ => rfl)).view.set (arg20.slice (Rect.unit (s := S2048x9216) (k0_off1 i) S256x512.size (k0_off1_inb i)) (fun _ => rfl)).view.set) (hd32 : Disjoint (arg20.slice (Rect.unit (s := S2048x9216) (k0_off3 i) S256x2048.size (k0_off3_inb i)) (fun _ => rfl)).view.set (arg20.slice (Rect.unit (s := S2048x9216) (k0_off2 i) S256x512.size (k0_off2_inb i)) (fun _ => rfl)).view.set)
    (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S8x512 .f32) (x13 : Vec F S8x512 .f32) (x14 : Vec F S8x512 .f32) (x15 : Vec F S8x512 .f32) (x16 : Vec F S8x512 .f32) (x17 : Vec F S1x512 .f32) (x18 : Vec F S3x512 .f32) (d21 d22 : Vec F S256x512 .f32) (v : Vec F S8x512 .f32) (d24 d25 : Vec F S256x512 .bf16) (d26 : Vec F S256x2048 .bf16) (f : Buf (Elt F) (arg20.view.loc (c : Thread nD τ)))
set_option maxHeartbeats 2000000 in
/-- The first gradient block. -/
theorem end21 : arg21.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 arg24 harg24 arg25 harg25 arg26 harg26 arg20 harg20 hd21 hd31 hd32 x1 x2 x3 x4 x5 x6 x7 x8 x9 x10 x11 x12 x13 x14 x15 x16 x17 x18 d21 d22 v d24 d25 d26 f).1.1 = (Blk.mk x1 x2 x3 x4 x5 x6 x7 x8 x9 x10 x11 x12 x13 x14 x15 x16 x17 x18).doa := by
  delta bodyRun
  dsimp only
  rw [View.read_writes_full, ld256 arg5 harg5 x5, ld256 arg1 harg1 x1]
  rfl

set_option maxHeartbeats 2000000 in
/-- The second gradient block. -/
theorem end22 : arg22.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 arg24 harg24 arg25 harg25 arg26 harg26 arg20 harg20 hd21 hd31 hd32 x1 x2 x3 x4 x5 x6 x7 x8 x9 x10 x11 x12 x13 x14 x15 x16 x17 x18 d21 d22 v d24 d25 d26 f).1.2.1 = (Blk.mk x1 x2 x3 x4 x5 x6 x7 x8 x9 x10 x11 x12 x13 x14 x15 x16 x17 x18).dob := by
  have e15 : bodyRun.sl.r_15 c arg6 harg6 x6 = (Blk.mk x1 x2 x3 x4 x5 x6 x7 x8 x9 x10 x11 x12 x13 x14 x15 x16 x17 x18).ohat := by
    unfold bodyRun.sl.r_15 bodyRun.sl.r_4 bodyRun.sl.r_7 bodyRun.sl.r_10 bodyRun.sl.r_13 bodyRun.sl.r_14 bodyRun.sl.r_2 bodyRun.sl.r_3 bodyRun.sl.r_1
    rw [ld256 arg6 harg6 x6]
    rfl
  have e16 : bodyRun.sl.r_16 c arg6 harg6 x6 = (Blk.mk x1 x2 x3 x4 x5 x6 x7 x8 x9 x10 x11 x12 x13 x14 x15 x16 x17 x18).rst := by
    unfold bodyRun.sl.r_16 bodyRun.sl.r_6 bodyRun.sl.r_9 bodyRun.sl.r_12 bodyRun.sl.r_14 bodyRun.sl.r_3 bodyRun.sl.r_1
    rw [ld256 arg6 harg6 x6]
    rfl
  have e17 : bodyRun.sl.r_17 c arg2 harg2 arg7 harg7 x2 x7 = (Blk.mk x1 x2 x3 x4 x5 x6 x7 x8 x9 x10 x11 x12 x13 x14 x15 x16 x17 x18).dn := by
    unfold bodyRun.sl.r_17
    rw [ld256 arg7 harg7 x7, ld256 arg2 harg2 x2]
    rfl
  have e0 : bodyRun.sl.r c arg17 harg17 x17 = x17 := by
    unfold bodyRun.sl.r
    rw [ld1 arg17 harg17 x17]
  delta bodyRun
  dsimp only
  rw [View.read_writes_full]
  unfold bodyRun.sl.r_19 bodyRun.sl.r_20 bodyRun.sl.r_21 bodyRun.sl.r_22 bodyRun.sl.r_23
  rw [e15, e16, e17, e0]
  rfl

/-- What the point finds in the small result. -/
theorem base23 : View.read (Elt F) arg23.view (if hc : bodyRun.sl.v2 i = 1#1 then arg23.view.writes (Elt F) (harg23.unread v) [⟨Rect.unit (s := S8x512) ![0, 0] S8x512.size inb_S8x512_S8x512_0_0, k0_pay1⟩]
      else harg23.unread v) = vbase i v := by
  have hs : (if isFirst i then (k0_pay1 : Vec F S8x512 .f32) else v) = if bodyRun.sl.v2 i = 1#1 then k0_pay1 else v := rfl
  unfold vbase
  rw [hs]
  by_cases hc : bodyRun.sl.v2 i = 1#1
  · rw [dif_pos hc, if_pos hc, View.read_writes_full]
  · rw [dif_neg hc, if_neg hc, harg23.read_unread]

set_option maxHeartbeats 2000000 in
/-- The small result. -/
theorem end23 : arg23.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 arg24 harg24 arg25 harg25 arg26 harg26 arg20 harg20 hd21 hd31 hd32 x1 x2 x3 x4 x5 x6 x7 x8 x9 x10 x11 x12 x13 x14 x15 x16 x17 x18 d21 d22 v d24 d25 d26 f).1.2.2.1 = (Blk.mk x1 x2 x3 x4 x5 x6 x7 x8 x9 x10 x11 x12 x13 x14 x15 x16 x17 x18).vstep i (vbase i v) := by
  have e36 : bodyRun.sl.r_36 c arg3 harg3 arg9 harg9 arg11 harg11 x3 x9 x11 = (Blk.mk x1 x2 x3 x4 x5 x6 x7 x8 x9 x10 x11 x12 x13 x14 x15 x16 x17 x18).dcv := by
    unfold bodyRun.sl.r_36 bodyRun.sl.r_27 bodyRun.sl.r_32
    rw [ld256 arg9 harg9 x9, ld256 arg11 harg11 x11, ld256 arg3 harg3 x3]
    rfl
  have e28 : bodyRun.sl.r_28 c arg8 harg8 arg10 harg10 x8 x10 = (Blk.mk x1 x2 x3 x4 x5 x6 x7 x8 x9 x10 x11 x12 x13 x14 x15 x16 x17 x18).a0 := by
    unfold bodyRun.sl.r_28
    rw [ld256 arg8 harg8 x8, ld256 arg10 harg10 x10]
    rfl
  have e29 : bodyRun.sl.r_29 c i arg8 harg8 arg10 harg10 arg12 harg12 arg13 harg13 x8 x10 x12 x13 = (Blk.mk x1 x2 x3 x4 x5 x6 x7 x8 x9 x10 x11 x12 x13 x14 x15 x16 x17 x18).a1 i := by
    unfold bodyRun.sl.r_29
    rw [ld256 arg8 harg8 x8, ld256 arg10 harg10 x10, ld8 arg12 harg12 x12, ld8 arg13 harg13 x13]
    rfl
  have e30 : bodyRun.sl.r_30 c i arg8 harg8 arg10 harg10 arg12 harg12 arg13 harg13 x8 x10 x12 x13 = (Blk.mk x1 x2 x3 x4 x5 x6 x7 x8 x9 x10 x11 x12 x13 x14 x15 x16 x17 x18).a2 i := by
    unfold bodyRun.sl.r_30
    rw [ld256 arg8 harg8 x8, ld256 arg10 harg10 x10, ld8 arg12 harg12 x12, ld8 arg13 harg13 x13]
    rfl
  have v0 : bodyRun.sl.v120 c i arg23 harg23 v = vrow 0 (by decide) (vbase i v) := by
    unfold bodyRun.sl.v120
    rw [ldrow _ _ 0 (by decide), base23]
  have v1 : bodyRun.sl.v289 c i arg23 harg23 v = vrow 1 (by decide) (vbase i v) := by
    unfold bodyRun.sl.v289
    rw [ldrow _ _ 1 (by decide), base23]
  have v2 : bodyRun.sl.v296 c i arg23 harg23 v = vrow 2 (by decide) (vbase i v) := by
    unfold bodyRun.sl.v296
    rw [ldrow _ _ 2 (by decide), base23]
  have v3 : bodyRun.sl.v303 c i arg23 harg23 v = vrow 3 (by decide) (vbase i v) := by
    unfold bodyRun.sl.v303
    rw [ldrow _ _ 3 (by decide), base23]
  have e18 : bodyRun.sl.r_18 c i arg2 harg2 arg6 harg6 arg7 harg7 arg23 harg23 x2 x6 x7 v
      = k0_pay30 (Blk.mk x1 x2 x3 x4 x5 x6 x7 x8 x9 x10 x11 x12 x13 x14 x15 x16 x17 x18).h0 (k0_pay13 x6) (k0_pay18 x6) (k0_pay21 x6) (k0_pay22 x6) x7 x2 (vrow 0 (by decide) (vbase i v)) := by
    unfold bodyRun.sl.r_18
    rw [v0]
    unfold bodyRun.sl.r_4 bodyRun.sl.r_7 bodyRun.sl.r_10 bodyRun.sl.r_13 bodyRun.sl.r_14 bodyRun.sl.r_2 bodyRun.sl.r_3 bodyRun.sl.r_1
    rw [ld256 arg6 harg6 x6, ld256 arg7 harg7 x7, ld256 arg2 harg2 x2]
    rfl
  funext y
  delta bodyRun
  dsimp only
  rw [e18, e36, e28, e29, e30, v1, v2, v3]
  refine (Rows.read_row arg23.view _ 3 _ _ _ y).trans ?_
  rw [Rows.read_row arg23.view _ 2, Rows.read_row arg23.view _ 1, Rows.read_row arg23.view _ 0]
  refine (congrArg (fun q => ite _ _ (ite _ _ (ite _ _ (ite _ _ q)))) (congrFun (base23 i arg23 harg23 v) y)).trans ?_
  rfl

theorem end24 : bodyRun.sl.dma48 c arg1 harg1 arg4 harg4 arg5 harg5 arg24 harg24 x1 x4 x5 d24 = (Blk.mk x1 x2 x3 x4 x5 x6 x7 x8 x9 x10 x11 x12 x13 x14 x15 x16 x17 x18).dza := by
  unfold bodyRun.sl.dma48 bodyRun.sl.H24_1
  rw [View.read_writes_full, ld256 arg5 harg5 x5, ld256 arg1 harg1 x1, ld256 arg4 harg4 x4]
  rfl

theorem end25 : bodyRun.sl.dma48_1 c arg2 harg2 arg6 harg6 arg7 harg7 arg17 harg17 arg25 harg25 x2 x6 x7 x17 d25 = (Blk.mk x1 x2 x3 x4 x5 x6 x7 x8 x9 x10 x11 x12 x13 x14 x15 x16 x17 x18).dzb := by
  unfold bodyRun.sl.dma48_1 bodyRun.sl.H25_1
  rw [View.read_writes_full]
  unfold bodyRun.sl.r_5 bodyRun.sl.r_8 bodyRun.sl.r_11 bodyRun.sl.r_13 bodyRun.sl.r_14 bodyRun.sl.r_2 bodyRun.sl.r_3 bodyRun.sl.r_1 bodyRun.sl.r
  rw [ld1 arg17 harg17 x17, ld256 arg6 harg6 x6, ld256 arg7 harg7 x7, ld256 arg2 harg2 x2]
  rfl

theorem end26 : bodyRun.sl.dma48_2 c i arg3 harg3 arg8 harg8 arg9 harg9 arg10 harg10 arg11 harg11 arg12 harg12 arg13 harg13 arg14 harg14 arg15 harg15 arg16 harg16 arg18 harg18 arg26 harg26 x3 x8 x9 x10 x11 x12 x13 x14 x15 x16 x18 d26 = (Blk.mk x1 x2 x3 x4 x5 x6 x7 x8 x9 x10 x11 x12 x13 x14 x15 x16 x17 x18).dc i := by
  have e36 : bodyRun.sl.r_36 c arg3 harg3 arg9 harg9 arg11 harg11 x3 x9 x11 = (Blk.mk x1 x2 x3 x4 x5 x6 x7 x8 x9 x10 x11 x12 x13 x14 x15 x16 x17 x18).dcv := by
    unfold bodyRun.sl.r_36 bodyRun.sl.r_27 bodyRun.sl.r_32
    rw [ld256 arg9 harg9 x9, ld256 arg11 harg11 x11, ld256 arg3 harg3 x3]
    rfl
  have e37 : bodyRun.sl.r_37 c i arg14 harg14 arg15 harg15 arg16 harg16 x14 x15 x16 = (Blk.mk x1 x2 x3 x4 x5 x6 x7 x8 x9 x10 x11 x12 x13 x14 x15 x16 x17 x18).nxt i := by
    unfold bodyRun.sl.r_37
    rw [ld8 arg16 harg16 x16, ld8 arg14 harg14 x14, ld8 arg15 harg15 x15]
    rfl
  have e31 : bodyRun.sl.r_31 c i arg8 harg8 arg10 harg10 arg12 harg12 arg13 harg13 arg18 harg18 x8 x10 x12 x13 x18 = (Blk.mk x1 x2 x3 x4 x5 x6 x7 x8 x9 x10 x11 x12 x13 x14 x15 x16 x17 x18).conv i := by
    unfold bodyRun.sl.r_31
    rw [ld3 arg18 harg18 x18, ld256 arg8 harg8 x8, ld256 arg10 harg10 x10, ld8 arg12 harg12 x12, ld8 arg13 harg13 x13]
    rfl
  have e38 : bodyRun.sl.r_38 c arg3 harg3 arg9 harg9 arg11 harg11 arg18 harg18 x3 x9 x11 x18 = k0_pay48 x18 x9 x11 x3 := by
    unfold bodyRun.sl.r_38 bodyRun.sl.r_24 bodyRun.sl.r_27 bodyRun.sl.r_32
    rw [ld3 arg18 harg18 x18, ld256 arg9 harg9 x9, ld256 arg11 harg11 x11, ld256 arg3 harg3 x3]
  have e39 : bodyRun.sl.r_39 c i arg3 harg3 arg9 harg9 arg11 harg11 arg14 harg14 arg15 harg15 arg16 harg16 x3 x9 x11 x14 x15 x16 = k0_pay49 (Blk.pt i) x9 x11 x3 x16 x14 x15 := by
    unfold bodyRun.sl.r_39 bodyRun.sl.r_27 bodyRun.sl.r_32
    rw [ld256 arg9 harg9 x9, ld256 arg11 harg11 x11, ld256 arg3 harg3 x3, ld8 arg16 harg16 x16, ld8 arg14 harg14 x14, ld8 arg15 harg15 x15]
    rfl
  have e40 : bodyRun.sl.r_40 c arg18 harg18 x18 = k0_pay50 x18 := by
    unfold bodyRun.sl.r_40 bodyRun.sl.r_24
    rw [ld3 arg18 harg18 x18]
  unfold bodyRun.sl.dma48_2 bodyRun.sl.H26_4
  rw [e31, e36, e37, e38, e39, e40]
  unfold bodyRun.sl.r_24 bodyRun.sl.r_25 bodyRun.sl.r_26 bodyRun.sl.r_27 bodyRun.sl.r_33 bodyRun.sl.r_34 bodyRun.sl.r_35 bodyRun.sl.r_32
  rw [ld3 arg18 harg18 x18, ld256 arg8 harg8 x8, ld256 arg10 harg10 x10, ld256 arg9 harg9 x9, ld256 arg11 harg11 x11, ld256 arg3 harg3 x3]
  funext y
  refine (read_cols (H := 256) (W := 512) (N := 2048) arg26.view (harg26.unread d26) 1536 _ _ _ y).trans ?_
  rw [read_cols (H := 256) (W := 512) (N := 2048) arg26.view (harg26.unread d26) 1024,
    read_cols (H := 256) (W := 512) (N := 2048) arg26.view (harg26.unread d26) 512,
    read_cols (H := 256) (W := 512) (N := 2048) arg26.view (harg26.unread d26) 0]
  have hy : (y 1).val < 2048 := (y 1).isLt
  unfold Blk.dc
  split
  · rfl
  split
  · rfl
  split
  · rfl
  split
  · rfl
  · omega

set_option maxHeartbeats 2000000 in
/-- The large result. -/
theorem end20 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 arg24 harg24 arg25 harg25 arg26 harg26 arg20 harg20 hd21 hd31 hd32 x1 x2 x3 x4 x5 x6 x7 x8 x9 x10 x11 x12 x13 x14 x15 x16 x17 x18 d21 d22 v d24 d25 d26 f).1.2.2.2.2.2.2
    = bigStep arg20 i (Blk.mk x1 x2 x3 x4 x5 x6 x7 x8 x9 x10 x11 x12 x13 x14 x15 x16 x17 x18).dza (Blk.mk x1 x2 x3 x4 x5 x6 x7 x8 x9 x10 x11 x12 x13 x14 x15 x16 x17 x18).dzb ((Blk.mk x1 x2 x3 x4 x5 x6 x7 x8 x9 x10 x11 x12 x13 x14 x15 x16 x17 x18).dc i) f := by
  delta bodyRun
  dsimp only
  unfold bodyRun.sl.Hb_w2 bodyRun.sl.Hb_w1 bodyRun.sl.Hb_w0 bigStep
  rw [show bodyRun.sl.dma48 c arg1 harg1 arg4 harg4 arg5 harg5 arg24 harg24 x1 x4 x5 d24 = (Blk.mk x1 x2 x3 x4 x5 x6 x7 x8 x9 x10 x11 x12 x13 x14 x15 x16 x17 x18).dza from end24 .., show bodyRun.sl.dma48_1 c arg2 harg2 arg6 harg6 arg7 harg7 arg17 harg17 arg25 harg25 x2 x6 x7 x17 d25 = (Blk.mk x1 x2 x3 x4 x5 x6 x7 x8 x9 x10 x11 x12 x13 x14 x15 x16 x17 x18).dzb from end25 .., show bodyRun.sl.dma48_2 c i arg3 harg3 arg8 harg8 arg9 harg9 arg10 harg10 arg11 harg11 arg12 harg12 arg13 harg13 arg14 harg14 arg15 harg15 arg16 harg16 arg18 harg18 arg26 harg26 x3 x8 x9 x10 x11 x12 x13 x14 x15 x16 x18 d26 = (Blk.mk x1 x2 x3 x4 x5 x6 x7 x8 x9 x10 x11 x12 x13 x14 x15 x16 x17 x18).dc i from end26 ..]

end Ends

end Cert.BrIdeal.Run

end
-- ==== Proof.BrBody.lean ====
module

public import proofs.«01_k».proof.Proof.BrPay
public import Idealize.ShloMosaic.Lib.Pipeline.TableIdle

/-!
# The run of the branches' backward call

The body's run at every point with what it leaves in the three results and in the large one, and the launch: every argument ends
as it began, every counter at zero, and every result at a closed form of the blocks read.
-/

@[expose] public section

set_option maxRecDepth 16384
noncomputable section
namespace Cert.BrIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.BrIdeal.Gen

variable {F : FTy → Type} [FloatOps F]

local notation "𝕄" => MT nD τ sig Unit (Elt F) ℕ (Pipeline.UD sig nD τ) ℕ

/-- The large result, left in memory. -/
abbrev big : Memref sig .tc .hbm S2048x9216 .bf16 := Memref.whole main_v3_0

/-- The three windows a point's copies land in do not meet. -/
theorem disj21 : ∀ t : Fin cfg0.N, LoadRect.disj (Rect.unit (s := S2048x9216) (k0_off2 (grid0.coords t)) S256x512.size (k0_off2_inb (grid0.coords t)))
    (Rect.unit (s := S2048x9216) (k0_off1 (grid0.coords t)) S256x512.size (k0_off1_inb (grid0.coords t))).toLoadRect = true := by decide +kernel
theorem disj31 : ∀ t : Fin cfg0.N, LoadRect.disj (Rect.unit (s := S2048x9216) (k0_off3 (grid0.coords t)) S256x2048.size (k0_off3_inb (grid0.coords t)))
    (Rect.unit (s := S2048x9216) (k0_off1 (grid0.coords t)) S256x512.size (k0_off1_inb (grid0.coords t))).toLoadRect = true := by decide +kernel
theorem disj32 : ∀ t : Fin cfg0.N, LoadRect.disj (Rect.unit (s := S2048x9216) (k0_off3 (grid0.coords t)) S256x2048.size (k0_off3_inb (grid0.coords t)))
    (Rect.unit (s := S2048x9216) (k0_off2 (grid0.coords t)) S256x512.size (k0_off2_inb (grid0.coords t))).toLoadRect = true := by decide +kernel

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
theorem live_12 : ∀ t : Fin cfg0.N, cfg0.idle 12 (grid0.coords t) = false := by decide +kernel
theorem live_13 : ∀ t : Fin cfg0.N, cfg0.idle 13 (grid0.coords t) = false := by decide +kernel
theorem live_14 : ∀ t : Fin cfg0.N, cfg0.idle 14 (grid0.coords t) = false := by decide +kernel
theorem live_15 : ∀ t : Fin cfg0.N, cfg0.idle 15 (grid0.coords t) = false := by decide +kernel
theorem live_16 : ∀ t : Fin cfg0.N, cfg0.idle 16 (grid0.coords t) = false := by decide +kernel
theorem live_17 : ∀ t : Fin cfg0.N, cfg0.idle 17 (grid0.coords t) = false := by decide +kernel

theorem live_18 : ∀ t : Fin cfg0.N, cfg0.idle 18 (grid0.coords t) = false := by decide +kernel
theorem live_19 : ∀ t : Fin cfg0.N, cfg0.idle 19 (grid0.coords t) = false := by decide +kernel
theorem live_20 : ∀ t : Fin cfg0.N, cfg0.idle 20 (grid0.coords t) = false := by decide +kernel
theorem notFresh : ∀ t : Fin cfg0.N, t.val ≠ 0 → cfg0.fresh 20 t.val = false := by decide +kernel
theorem first_point : ∀ t : Fin cfg0.N, t.val = 0 → isFirst (grid0.coords t) := by decide +kernel

abbrev ms_0 (t : Fin cfg0.N) : Memref sig .tc .vmem S256x512 .f32 := win0_0.stage (cfg0.slots t 0)
abbrev ms_1 (t : Fin cfg0.N) : Memref sig .tc .vmem S256x512 .f32 := win0_1.stage (cfg0.slots t 1)
abbrev ms_2 (t : Fin cfg0.N) : Memref sig .tc .vmem S256x512 .f32 := win0_2.stage (cfg0.slots t 2)
abbrev ms_3 (t : Fin cfg0.N) : Memref sig .tc .vmem S256x512 .f32 := win0_3.stage (cfg0.slots t 3)
abbrev ms_4 (t : Fin cfg0.N) : Memref sig .tc .vmem S256x512 .f32 := win0_4.stage (cfg0.slots t 4)
abbrev ms_5 (t : Fin cfg0.N) : Memref sig .tc .vmem S256x512 .f32 := win0_5.stage (cfg0.slots t 5)
abbrev ms_6 (t : Fin cfg0.N) : Memref sig .tc .vmem S256x512 .f32 := win0_6.stage (cfg0.slots t 6)
abbrev ms_7 (t : Fin cfg0.N) : Memref sig .tc .vmem S256x512 .f32 := win0_7.stage (cfg0.slots t 7)
abbrev ms_8 (t : Fin cfg0.N) : Memref sig .tc .vmem S256x512 .f32 := win0_8.stage (cfg0.slots t 8)
abbrev ms_9 (t : Fin cfg0.N) : Memref sig .tc .vmem S256x512 .f32 := win0_9.stage (cfg0.slots t 9)
abbrev ms_10 (t : Fin cfg0.N) : Memref sig .tc .vmem S256x512 .f32 := win0_10.stage (cfg0.slots t 10)
abbrev ms_11 (t : Fin cfg0.N) : Memref sig .tc .vmem S8x512 .f32 := win0_11.stage (cfg0.slots t 11)
abbrev ms_12 (t : Fin cfg0.N) : Memref sig .tc .vmem S8x512 .f32 := win0_12.stage (cfg0.slots t 12)
abbrev ms_13 (t : Fin cfg0.N) : Memref sig .tc .vmem S8x512 .f32 := win0_13.stage (cfg0.slots t 13)
abbrev ms_14 (t : Fin cfg0.N) : Memref sig .tc .vmem S8x512 .f32 := win0_14.stage (cfg0.slots t 14)
abbrev ms_15 (t : Fin cfg0.N) : Memref sig .tc .vmem S8x512 .f32 := win0_15.stage (cfg0.slots t 15)
abbrev ms_16 (t : Fin cfg0.N) : Memref sig .tc .vmem S1x512 .f32 := win0_16.stage (cfg0.slots t 16)
abbrev ms_17 (t : Fin cfg0.N) : Memref sig .tc .vmem S3x512 .f32 := win0_17.stage (cfg0.slots t 17)
abbrev ms_18 (t : Fin cfg0.N) : Memref sig .tc .vmem S256x512 .f32 := win0_18.stage (cfg0.slots t 18)
abbrev ms_19 (t : Fin cfg0.N) : Memref sig .tc .vmem S256x512 .f32 := win0_19.stage (cfg0.slots t 19)
abbrev ms_20 (t : Fin cfg0.N) : Memref sig .tc .vmem S8x512 .f32 := win0_20.stage (cfg0.slots t 20)
abbrev scr0 : Memref sig .tc .vmem S256x512 .bf16 := Memref.whole cc0_scratch0
abbrev scr1 : Memref sig .tc .vmem S256x512 .bf16 := Memref.whole cc0_scratch1
abbrev scr2 : Memref sig .tc .vmem S256x2048 .bf16 := Memref.whole cc0_scratch2

variable (m : (ℓ : Loc nD τ sig) → Buf (Elt F) ℓ) (ρ : Dev nD → PrngReg)

/-- The three counters of the copies. -/
def osem0 : Fin 3 → SemLoc sig := fun j => (![SemLoc.dma ⟨39, by decide⟩, SemLoc.dma ⟨40, by decide⟩, SemLoc.dma ⟨41, by decide⟩] : Fin 3 → SemLoc sig) j
theorem ownSemFacts0 : Pipeline.OwnSemFacts spec0 osem0 := by decide
/-- No array is read outside the windows; one is written. -/
def H0 : Finset (Ref sig .tc) := ∅
def R0 : Finset (Ref sig .tc) := {main_v3_0}
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma ⟨39, by decide⟩) 0 ∗ semVal ((c : Thread nD τ), SemLoc.dma ⟨40, by decide⟩) 0
          ∗ semVal ((c : Thread nD τ), SemLoc.dma ⟨41, by decide⟩) 0) := by
  rw [Pipeline.ownSems0_eq_of_list c osem0 [0, 1, 2] (by decide) (by decide)]; rfl

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem H0_eq (c : Dev nD) : (bigSep H0 (fun b => ((c : Thread nD τ).loc b) ↦{fullShare} V m c b) : sProp 𝕄) = iprop(emp) := by
  unfold H0; exact BI.bigSep_empty

/-- The blocks point `t` reads. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The small result after the first `n` points. -/
def vecAt (c : Dev nD) : Nat → Vec F S8x512 .f32
  | 0 => k0_pay1
  | n + 1 => if h : n < 8 then (blkAt m c ⟨n, h⟩).vstep (grid0.coords ⟨n, h⟩) (vbase (grid0.coords ⟨n, h⟩) (vecAt c n)) else vecAt c n

/-- The large result after the first `n` points. -/
def bigAt (c : Dev nD) : Nat → Buf (Elt F) (big.view.loc (c : Thread nD τ))
  | 0 => V m c main_v3_0
  | n + 1 => if h : n < 8 then
      bigStep big (grid0.coords ⟨n, h⟩) (blkAt m c ⟨n, h⟩).dza (blkAt m c ⟨n, h⟩).dzb ((blkAt m c ⟨n, h⟩).dc (grid0.coords ⟨n, h⟩)) (bigAt c n)
    else bigAt c n

theorem vecAt_succ (c : Dev nD) (t : Fin cfg0.N) :
    vecAt m c (t.val + 1) = (blkAt m c t).vstep (grid0.coords t) (vbase (grid0.coords t) (vecAt m c t.val)) := by
  have h : t.val < 8 := t.isLt
  rw [vecAt, dif_pos h]; try rfl

theorem bigAt_succ (c : Dev nD) (t : Fin cfg0.N) :
    bigAt m c (t.val + 1) = bigStep big (grid0.coords t) (blkAt m c t).dza (blkAt m c t).dzb ((blkAt m c t).dc (grid0.coords t)) (bigAt m c t.val) := by
  have h : t.val < 8 := t.isLt
  rw [bigAt, dif_pos h]; try rfl

/-- What is held after the first `n` points. -/
def Phi (c : Dev nD) (f : Buf (Elt F) (big.view.loc (c : Thread nD τ))) : sProp 𝕄 :=
  iprop(iprop((∃ d, owns (c : Thread nD τ) scr0 fullShare d) ∗ (∃ d, owns (c : Thread nD τ) scr1 fullShare d)
                ∗ (∃ d, owns (c : Thread nD τ) scr2 fullShare d))
          ∗ (∃ r, prngReg c r)
          ∗ iprop(semVal ((c : Thread nD τ), SemLoc.dma ⟨39, by decide⟩) 0 ∗ semVal ((c : Thread nD τ), SemLoc.dma ⟨40, by decide⟩) 0
                  ∗ semVal ((c : Thread nD τ), SemLoc.dma ⟨41, by decide⟩) 0)
          ∗ iprop(emp)
          ∗ ((big.view.loc (c : Thread nD τ)) ↦{fullShare} f))

theorem Phi_eq (c : Dev nD) (G : (c : Dev nD) → (b : Ref sig .tc) → Buf (Elt F) ((c.tc : Thread nD τ).loc b)) :
    (Pipeline.ΦDRG osem0 spec0 H0 R0 (V m) G c : sProp 𝕄) = Phi c (G c main_v3_0) := by
  rw [Pipeline.ΦDRG_eq, scopedRest0_eq, ownSems00_eq, H0_eq, R0, Pipeline.routed_singleton, Phi]
  simp only [scr0, scr1, scr2, owns_whole]; try rfl

/-- The contents the large result ends at. -/
def Gend (c : Dev nD) (b : Ref sig .tc) : Buf (Elt F) ((c.tc : Thread nD τ).loc b) :=
  Function.update (V m c) main_v3_0 (bigAt m c 8) b
theorem Gend_big (c : Dev nD) : Gend m c main_v3_0 = bigAt m c 8 := by unfold Gend; rw [Function.update_self]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (blkAt m c t).doa
    | ⟨19, _⟩ => (blkAt m c t).dob
    | ⟨20, _⟩ => vecAt m c (t.val + 1)
    | ⟨_ + 21, h⟩ => absurd h (Nat.not_lt.2 (Nat.le_add_left _ _))
  Φ t := Phi c (bigAt m c t.val)
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]

theorem after_18 (c : Dev nD) (t : Fin cfg0.N) : (dats m 0 c).after 18 t = (blkAt m c t).doa := by dsimp only [dats]
theorem after_19 (c : Dev nD) (t : Fin cfg0.N) : (dats m 0 c).after 19 t = (blkAt m c t).dob := by dsimp only [dats]
theorem after_20 (c : Dev nD) (t : Fin cfg0.N) : (dats m 0 c).after 20 t = vecAt m c (t.val + 1) := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem leaves_0 (c : Dev nD) (t : Fin cfg0.N) :
    (dats m 0 c).leavesExact 0 t = owns (c : Thread nD τ) (ms_0 t) fullShare (iblk m c 0 t) := by
  unfold Dat.leavesExact; rw [live_0 t, after_0]
theorem leaves_1 (c : Dev nD) (t : Fin cfg0.N) :
    (dats m 0 c).leavesExact 1 t = owns (c : Thread nD τ) (ms_1 t) fullShare (iblk m c 1 t) := by
  unfold Dat.leavesExact; rw [live_1 t, after_1]
theorem leaves_2 (c : Dev nD) (t : Fin cfg0.N) :
    (dats m 0 c).leavesExact 2 t = owns (c : Thread nD τ) (ms_2 t) fullShare (iblk m c 2 t) := by
  unfold Dat.leavesExact; rw [live_2 t, after_2]
theorem leaves_3 (c : Dev nD) (t : Fin cfg0.N) :
    (dats m 0 c).leavesExact 3 t = owns (c : Thread nD τ) (ms_3 t) fullShare (iblk m c 3 t) := by
  unfold Dat.leavesExact; rw [live_3 t, after_3]
theorem leaves_4 (c : Dev nD) (t : Fin cfg0.N) :
    (dats m 0 c).leavesExact 4 t = owns (c : Thread nD τ) (ms_4 t) fullShare (iblk m c 4 t) := by
  unfold Dat.leavesExact; rw [live_4 t, after_4]
theorem leaves_5 (c : Dev nD) (t : Fin cfg0.N) :
    (dats m 0 c).leavesExact 5 t = owns (c : Thread nD τ) (ms_5 t) fullShare (iblk m c 5 t) := by
  unfold Dat.leavesExact; rw [live_5 t, after_5]
theorem leaves_6 (c : Dev nD) (t : Fin cfg0.N) :
    (dats m 0 c).leavesExact 6 t = owns (c : Thread nD τ) (ms_6 t) fullShare (iblk m c 6 t) := by
  unfold Dat.leavesExact; rw [live_6 t, after_6]
theorem leaves_7 (c : Dev nD) (t : Fin cfg0.N) :
    (dats m 0 c).leavesExact 7 t = owns (c : Thread nD τ) (ms_7 t) fullShare (iblk m c 7 t) := by
  unfold Dat.leavesExact; rw [live_7 t, after_7]
theorem leaves_8 (c : Dev nD) (t : Fin cfg0.N) :
    (dats m 0 c).leavesExact 8 t = owns (c : Thread nD τ) (ms_8 t) fullShare (iblk m c 8 t) := by
  unfold Dat.leavesExact; rw [live_8 t, after_8]
theorem leaves_9 (c : Dev nD) (t : Fin cfg0.N) :
    (dats m 0 c).leavesExact 9 t = owns (c : Thread nD τ) (ms_9 t) fullShare (iblk m c 9 t) := by
  unfold Dat.leavesExact; rw [live_9 t, after_9]
theorem leaves_10 (c : Dev nD) (t : Fin cfg0.N) :
    (dats m 0 c).leavesExact 10 t = owns (c : Thread nD τ) (ms_10 t) fullShare (iblk m c 10 t) := by
  unfold Dat.leavesExact; rw [live_10 t, after_10]
theorem leaves_11 (c : Dev nD) (t : Fin cfg0.N) :
    (dats m 0 c).leavesExact 11 t = owns (c : Thread nD τ) (ms_11 t) fullShare (iblk m c 11 t) := by
  unfold Dat.leavesExact; rw [live_11 t, after_11]
theorem leaves_12 (c : Dev nD) (t : Fin cfg0.N) :
    (dats m 0 c).leavesExact 12 t = owns (c : Thread nD τ) (ms_12 t) fullShare (iblk m c 12 t) := by
  unfold Dat.leavesExact; rw [live_12 t, after_12]
theorem leaves_13 (c : Dev nD) (t : Fin cfg0.N) :
    (dats m 0 c).leavesExact 13 t = owns (c : Thread nD τ) (ms_13 t) fullShare (iblk m c 13 t) := by
  unfold Dat.leavesExact; rw [live_13 t, after_13]
theorem leaves_14 (c : Dev nD) (t : Fin cfg0.N) :
    (dats m 0 c).leavesExact 14 t = owns (c : Thread nD τ) (ms_14 t) fullShare (iblk m c 14 t) := by
  unfold Dat.leavesExact; rw [live_14 t, after_14]
theorem leaves_15 (c : Dev nD) (t : Fin cfg0.N) :
    (dats m 0 c).leavesExact 15 t = owns (c : Thread nD τ) (ms_15 t) fullShare (iblk m c 15 t) := by
  unfold Dat.leavesExact; rw [live_15 t, after_15]
theorem leaves_16 (c : Dev nD) (t : Fin cfg0.N) :
    (dats m 0 c).leavesExact 16 t = owns (c : Thread nD τ) (ms_16 t) fullShare (iblk m c 16 t) := by
  unfold Dat.leavesExact; rw [live_16 t, after_16]
theorem leaves_17 (c : Dev nD) (t : Fin cfg0.N) :
    (dats m 0 c).leavesExact 17 t = owns (c : Thread nD τ) (ms_17 t) fullShare (iblk m c 17 t) := by
  unfold Dat.leavesExact; rw [live_17 t, after_17]

theorem leaves_18 (c : Dev nD) (t : Fin cfg0.N) :
    (dats m 0 c).leavesExact 18 t = owns (c : Thread nD τ) (ms_18 t) fullShare (blkAt m c t).doa := by
  unfold Dat.leavesExact; rw [live_18 t, after_18]
theorem leaves_19 (c : Dev nD) (t : Fin cfg0.N) :
    (dats m 0 c).leavesExact 19 t = owns (c : Thread nD τ) (ms_19 t) fullShare (blkAt m c t).dob := by
  unfold Dat.leavesExact; rw [live_19 t, after_19]
theorem leaves_20 (c : Dev nD) (t : Fin cfg0.N) :
    (dats m 0 c).leavesExact 20 t = owns (c : Thread nD τ) (ms_20 t) fullShare (vecAt m c (t.val + 1)) := by
  unfold Dat.leavesExact; rw [live_20 t, after_20]

/-- The small result's step from what the window holds before a point. -/
theorem vec_step (c : Dev nD) (t : Fin cfg0.N) (d) :
    (blkAt m c t).vstep (grid0.coords t) (vbase (grid0.coords t) ((dats m 0 c).before 20 t d)) = vecAt m c (t.val + 1) := by
  rw [vecAt_succ]
  by_cases h : t.val = 0
  · unfold vbase
    rw [if_pos (first_point t h), if_pos (first_point t h)]
  · have carry : ∀ (t : Fin cfg0.N) (_ : t.val ≠ 0), cfg0.idle 20 (grid0.coords t) = true → cfg0.fresh 20 t.val = false →
        (dats m 0 c).after 20 t = (dats m 0 c).after 20 ⟨t.val - 1, by omega⟩ := by
      intro t _ hi _
      rw [live_20 t] at hi; exact absurd hi Bool.false_ne_true
    have e : t.val - 1 + 1 = t.val := Nat.sub_add_cancel (Nat.pos_of_ne_zero h)
    rw [Dat.before_out_traj _ 20 rfl (fun _ _ => rfl) carry t.val t rfl d, if_neg (by rw [notFresh t h]; exact Bool.false_ne_true), after_20]
    refine congrArg (fun n => (blkAt m c t).vstep (grid0.coords t) (vbase (grid0.coords t) (vecAt m c n))) e

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d))
    ∗ (∃ d, owns (c : Thread nD τ) (ms_17 t) fullShare ((dats m 0 c).before 17 t d))
    ∗ (∃ d, owns (c : Thread nD τ) (ms_18 t) fullShare ((dats m 0 c).before 18 t d))
    ∗ (∃ d, owns (c : Thread nD τ) (ms_19 t) fullShare ((dats m 0 c).before 19 t d))
    ∗ (∃ d, owns (c : Thread nD τ) (ms_20 t) fullShare ((dats m 0 c).before 20 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20,
    show (dats m 0 c).Φ t.castSucc = Phi c (bigAt m c t.val) from rfl,
    show (dats m 0 c).Φ t.succ = Phi c (bigAt m c (t.val + 1)) from rfl, bigAt_succ]
  unfold Phi
  unfold Dat.owesAt Pipeline.owesWithin
  rw [show (dats m 0 c).owed t.castSucc = 0 from rfl, show (dats m 0 c).owed t.succ = 0 from rfl]
  iintro ⟨⟨⟨⟨%d24, HS0⟩, ⟨%d25, HS1⟩, ⟨%d26, HS2⟩⟩, Hg, ⟨Hq0, Hq1, Hq2⟩, He, Hb⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((bodyRun c (grid0.coords t) _ _ _ _ _ _ _ _ _ _ _ _ _ _ _ _ _ _ _ _ _ _ _ _ _ _ _ _ _ _ _ _ _ _ _ _ _ _ _ _ _ _ _ _ _ _ _ _ big (Memref.isWhole_whole _)
    (View.disjoint_slice_of_disj big.view _ _ (disj21 t)) (View.disjoint_slice_of_disj big.view _ _ (disj31 t)) (View.disjoint_slice_of_disj big.view _ _ (disj32 t))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((dats m 0 c).before 18 t d18) ((dats m 0 c).before 19 t d19) ((dats m 0 c).before 20 t d20) d24 d25 d26 (bigAt m c t.val)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hb]; · iexact Hb
  isplitl [HW]; · iexact HW
  iintro ⟨H0, H1, H2, H3, H4, H5, H6, H7, H8, H9, H10, H11, H12, H13, H14, H15, H16, H17, H18, H19, H20, HS0, HS1, HS2, Hq0, Hq1, Hq2, Hb, ⟨%W', HW⟩⟩
  isplitl [HS0 HS1 HS2 Hg Hq0 Hq1 Hq2 He Hb]
  · isplitl [HS0 HS1 HS2]
    · isplitl [HS0]
      · iexists _; unfold owns; iexists _; isplitr; swap; · iexact HS0
        ipureintro; rfl
      isplitl [HS1]
      · iexists _; unfold owns; iexists _; isplitr; swap; · iexact HS1
        ipureintro; rfl
      iexists _; unfold owns; iexists _; isplitr; swap; · iexact HS2
      ipureintro; rfl
    isplitl [Hg]; · iexact Hg
    isplitl [Hq0 Hq1 Hq2]
    · isplitl [Hq0]; · iexact Hq0
      isplitl [Hq1]; · iexact Hq1
      iexact Hq2
    isplitl [He]; · iexact He
    rw [end20]
    iexact Hb
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr; swap; · iexact H18
    ipureintro; exact end21 ..
  isplitl [H19]
  · unfold owns; iexists _; isplitr; swap; · iexact H19
    ipureintro; exact end22 ..
  unfold owns; iexists _; isplitr; swap; · iexact H20
  ipureintro
  rw [← vec_step m c t d20]
  exact end23 ..

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePostRG cfgs (dats m) 0 R0 (V m) (Gend m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmainD m Variants.none) (hA := A_eq m) (G := Gend m)
    (hin := fun c => by rw [Phi_eq]; exact .rfl) (hout := fun c => by rw [Phi_eq, Gend_big]; exact .rfl)

theorem arr_in (c : Dev nD) (w : Fin cfg0.W) (hw : (cfg0.win w).isOut = false) :
    (dats (F := F) m 0 c).arrAt w cfg0.N = V m c (Pipeline.arrRef spec0 w) :=
  ((dats m 0 c).arrAt_in w hw _).trans (A_eq m c w)

/-- Every argument ends as it began, every counter at zero, the results as named. -/
theorem final : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v3_0) = bigAt m c 8
      ∧ r.2.mem ((c.tc : Thread nD τ).loc (Pipeline.arrRef spec0 18)) = (dats m 0 c).arrAt 18 cfg0.N
      ∧ r.2.mem ((c.tc : Thread nD τ).loc (Pipeline.arrRef spec0 19)) = (dats m 0 c).arrAt 19 cfg0.N
      ∧ r.2.mem ((c.tc : Thread nD τ).loc (Pipeline.arrRef spec0 20)) = (dats m 0 c).arrAt 20 cfg0.N)
      ∧ r.2.sem = fun _ => 0) :=
  (θ_run defs _ _).mono (fun _ h => ⟨fun c => ⟨(((h.1.1 c).1 13).trans (arr_in m c 13 rfl)).trans (V_main_arg0 m c),
      (((h.1.1 c).1 15).trans (arr_in m c 15 rfl)).trans (V_main_arg1 m c),
      (((h.1.1 c).1 3).trans (arr_in m c 3 rfl)).trans (V_main_arg2 m c),
      (((h.1.1 c).1 5).trans (arr_in m c 5 rfl)).trans (V_main_arg3 m c),
      ((h.1.1 c).2 main_arg4 (Finset.mem_sdiff.mpr ⟨Pipeline.mem_restRefs_of main_arg4 (by decide) (by decide), by decide⟩)).trans (V_main_arg4 m c),
      (((h.1.1 c).1 17).trans (arr_in m c 17 rfl)).trans (V_main_arg5 m c),
      ((h.1.1 c).2 main_arg6 (Finset.mem_sdiff.mpr ⟨Pipeline.mem_restRefs_of main_arg6 (by decide) (by decide), by decide⟩)).trans (V_main_arg6 m c),
      (h.1.2 c main_v3_0 (by decide)).trans (Gend_big m c), (h.1.1 c).1 18, (h.1.1 c).1 19, (h.1.1 c).1 20⟩,
    h.2⟩) (run_main m ρ)

end Cert.BrIdeal.Run

end
-- ==== Proof.FwdMath.lean ====
/- The forward merge: from the three mixers' outputs, their gates and the residual to the block's output, computed in eight
   tiles of 256 rows. Every result at a row reads that row of the arguments alone, except the short convolution, which also
   reads the two rows above it: within a tile those are the tile's own or the last two of an eight-row block above it, which
   the first tile replaces by zeros. Both programs perform the same operations in the same order, so the results agree at all
   arguments, finite or not. -/
module

public import proofs.«01_k».proof.Defs
public import Mathlib.Algebra.BigOperators.Fin
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Fw

/-- The logistic function. -/
def sg (z : EReal) : EReal := Ideal.div 1 (1 + Ideal.exp (-z))

/-- A value times its logistic. -/
def sil (z : EReal) : EReal := z * sg z

/-- Lane `x` of the head that lane `l` lies in. -/
def hd (l : Fin 512) (x : Fin 128) : Fin 512 := ⟨l.val / 128 * 128 + x.val, by omega⟩

/-- A row divided, head by head, by the root of the head's mean square. -/
def nrm (b : Fin 512 → EReal) (l : Fin 512) : EReal :=
  b l * Ideal.rsqrt (Ideal.div (∑ x : Fin 128, b (hd l x) * b (hd l x)) (Ideal.ofBits FTy.f32 1124073472#32)
    + Ideal.ofBits FTy.f32 897988541#32)

/-- One row of what the merge reads: the residual's row, the mixers' outputs and gates, the convolution's input at the row and
    the two rows above it, the merge gates, and the weights. -/
structure In where
  x : Fin 1024 → EReal
  oa : Fin 512 → EReal
  za : Fin 512 → EReal
  ob : Fin 512 → EReal
  zb : Fin 512 → EReal
  post : Fin 512 → EReal
  zc : Fin 512 → EReal
  a0 : Fin 512 → EReal
  a1 : Fin 512 → EReal
  a2 : Fin 512 → EReal
  g0 : Fin 1024 → EReal
  g1 : Fin 1024 → EReal
  g2 : Fin 1024 → EReal
  gate : Fin 1024 → EReal
  nw : Fin 512 → EReal
  cw : Fin 3 → Fin 512 → EReal
  W : Fin 3 → Fin 512 → Fin 1024 → EReal
  O : Fin 1024 → Fin 1024 → EReal
  lg : Fin 1024 → EReal
  lb : Fin 1024 → EReal

namespace In

variable (I : In)

def ya (l : Fin 512) : EReal := I.oa l * sil (I.za l)
def yb (l : Fin 512) : EReal := nrm I.ob l * I.nw l * sil (I.zb l)
def yc (l : Fin 512) : EReal := I.post l * (I.cw 0 l * I.a2 l + I.cw 1 l * I.a1 l + I.cw 2 l * I.a0 l) * sil (I.zc l)
def mg (l : Fin 1024) : EReal :=
  sg (I.g0 l) * (∑ k, I.ya k * I.W 0 k l) + sg (I.g1 l) * (∑ k, I.yb k * I.W 1 k l) + sg (I.g2 l) * (∑ k, I.yc k * I.W 2 k l)
def r (l : Fin 1024) : EReal := Ideal.ofBits FTy.f32 1068827891#32 * I.x l + (1 + I.gate l) * ∑ k, I.mg k * I.O k l
def rc (l : Fin 1024) : EReal := I.r l - Ideal.div (∑ x, I.r x) (Ideal.ofBits FTy.f32 1149239296#32)
def xn (l : Fin 1024) : EReal :=
  I.rc l * Ideal.rsqrt (Ideal.div (∑ x, I.rc x * I.rc x) (Ideal.ofBits FTy.f32 1149239296#32) + Ideal.ofBits FTy.f32 925353388#32)
    * I.lg l + I.lb l
/-- The three branches' outputs side by side. -/
def yy (l : Fin 1536) : EReal :=
  if h : l.val < 512 then I.ya ⟨l.val, h⟩ else if h' : l.val < 1024 then I.yb ⟨l.val - 512, by omega⟩ else I.yc ⟨l.val - 1024, by omega⟩

end In

/-- Column `o + l` of the projection. -/
def col {n : Nat} (o : Nat) (h : o + n ≤ 9216) (l : Fin n) : Fin 9216 := ⟨o + l.val, by omega⟩

/-- The convolution's input at row `t`. -/
def cin (P : (⟨2, ![2048, 9216]⟩ : Shape).Idx → EReal) (t : Fin 2048) (l : Fin 512) : EReal :=
  P (ix2 t (col 4096 (by decide) l)) * P (ix2 t (col 5120 (by decide) l))

/-- Row `t` of the arguments. -/
def rowOf (X : (⟨2, ![2048, 1024]⟩ : Shape).Idx → EReal) (P : (⟨2, ![2048, 9216]⟩ : Shape).Idx → EReal)
    (A B : (⟨2, ![2048, 512]⟩ : Shape).Idx → EReal) (G : (⟨2, ![1, 1024]⟩ : Shape).Idx → EReal) (N : (⟨2, ![1, 128]⟩ : Shape).Idx → EReal)
    (C : (⟨2, ![3, 512]⟩ : Shape).Idx → EReal) (W : (⟨3, ![3, 512, 1024]⟩ : Shape).Idx → EReal)
    (O : (⟨2, ![1024, 1024]⟩ : Shape).Idx → EReal) (lg lb : (⟨2, ![1, 1024]⟩ : Shape).Idx → EReal) (t : Fin 2048) : In where
  x l := X (ix2 t l)
  oa l := A (ix2 t l)
  za l := P (ix2 t (col 1536 (by decide) l))
  ob l := B (ix2 t l)
  zb l := P (ix2 t (col 3584 (by decide) l))
  post l := P (ix2 t (col 4608 (by decide) l))
  zc l := P (ix2 t (col 5632 (by decide) l))
  a0 l := cin P t l
  a1 l := if h : 1 ≤ t.val then cin P ⟨t.val - 1, by omega⟩ l else 0
  a2 l := if h : 2 ≤ t.val then cin P ⟨t.val - 2, by omega⟩ l else 0
  g0 l := P (ix2 t (col 6144 (by decide) l))
  g1 l := P (ix2 t (col 7168 (by decide) l))
  g2 l := P (ix2 t (col 8192 (by decide) l))
  gate l := G (ix2 0 l)
  nw l := N (ix2 0 ⟨l.val % 128, by omega⟩)
  cw k l := C (ix2 k l)
  W k l d := W (ix3 k l d)
  O k l := O (ix2 k l)
  lg l := lg (ix2 0 l)
  lb l := lb (ix2 0 l)

end Cert.Fw

end
-- ==== Proof.BrMath.lean ====
/- The backward pass of the three branches at one row: what it reads, what it leaves in every column of the projection's
   gradient, in the two mixers' gradients and in the sums over the rows, and the two facts about real numbers by which the
   kernel's and the reference's forms of the gate's and of the root mean square's derivative agree. -/
module

public import proofs.«01_k».proof.Proof.FwdMath
public import proofs.«01_k».proof.Proof.Reals

@[expose] public section

set_option maxRecDepth 16384

noncomputable section

open Idealize.ShloMosaic Idealize.ShloMosaic.TcCoe

namespace Cert.Brm

open Cert.Fw Cert.Reals

/-- The derivative of a value times its logistic. -/
def dsil (z : EReal) : EReal := sg z * (1 + z * (1 - sg z))

/-- The reciprocal of the root of the mean square of the head that lane `l` lies in. -/
def rs (b : Fin 512 → EReal) (l : Fin 512) : EReal :=
  Ideal.rsqrt (Ideal.div (∑ x : Fin 128, b (hd l x) * b (hd l x)) (Ideal.ofBits FTy.f32 1124073472#32) + Ideal.ofBits FTy.f32 897988541#32)

/-- The normalisation's derivative at `o` applied to `g`. -/
def rms (o g : Fin 512 → EReal) (l : Fin 512) : EReal :=
  rs o l * (g l - nrm o l * Ideal.div (∑ x : Fin 128, g (hd l x) * nrm o (hd l x)) (Ideal.ofBits FTy.f32 1124073472#32))

/-- Column `o + l` of the branches' gradients. -/
def dcol (o : Nat) (h : o + 512 ≤ 1536) (l : Fin 512) : Fin 1536 := ⟨o + l.val, by omega⟩

/-- The arrays the pass reads. -/
structure Args where
  D : (⟨2, ![2048, 1536]⟩ : Shape).Idx → EReal
  P : (⟨2, ![2048, 9216]⟩ : Shape).Idx → EReal
  A : (⟨2, ![2048, 512]⟩ : Shape).Idx → EReal
  B : (⟨2, ![2048, 512]⟩ : Shape).Idx → EReal
  N : (⟨2, ![1, 128]⟩ : Shape).Idx → EReal
  C : (⟨2, ![3, 512]⟩ : Shape).Idx → EReal
  Y : (⟨2, ![2048, 9216]⟩ : Shape).Idx → EReal

namespace Args

variable (X : Args) (t : Fin 2048) (l : Fin 512)

def dy0 : EReal := X.D (ix2 t (dcol 0 (by decide) l))
def dy1 : EReal := X.D (ix2 t (dcol 512 (by decide) l))
def dy2 : EReal := X.D (ix2 t (dcol 1024 (by decide) l))
def za : EReal := X.P (ix2 t (col 1536 (by decide) l))
def zb : EReal := X.P (ix2 t (col 3584 (by decide) l))
def pre : EReal := X.P (ix2 t (col 4096 (by decide) l))
def post : EReal := X.P (ix2 t (col 4608 (by decide) l))
def u : EReal := X.P (ix2 t (col 5120 (by decide) l))
def zc : EReal := X.P (ix2 t (col 5632 (by decide) l))
def ob : EReal := X.B (ix2 t l)
def nw : EReal := X.N (ix2 0 ⟨l.val % 128, by omega⟩)
def doa : EReal := X.dy0 t l * sil (X.za t l)
def dza : EReal := X.dy0 t l * X.A (ix2 t l) * dsil (X.za t l)
def dn : EReal := X.dy1 t l * sil (X.zb t l)
def gn : EReal := X.dn t l * X.nw l
def dob : EReal := rms (X.ob t) (X.gn t) l
def dzb : EReal := X.dy1 t l * (nrm (X.ob t) l * X.nw l) * dsil (X.zb t l)
def a0 : EReal := cin X.P t l
def a1 : EReal := if h : 1 ≤ t.val then cin X.P ⟨t.val - 1, by omega⟩ l else 0
def a2 : EReal := if h : 2 ≤ t.val then cin X.P ⟨t.val - 2, by omega⟩ l else 0
def cv : EReal := X.C (ix2 0 l) * X.a2 t l + X.C (ix2 1 l) * X.a1 t l + X.C (ix2 2 l) * X.a0 t l
/-- The convolution's gradient. -/
def dc : EReal := X.dy2 t l * X.post t l * sil (X.zc t l)
/-- The convolution's gradient `k` rows further down. -/
def dcn (k : Nat) : EReal := if h : t.val + k < 2048 then X.dc ⟨t.val + k, h⟩ l else 0
def da : EReal := X.C (ix2 2 l) * X.dc t l + X.C (ix2 1 l) * X.dcn t l 1 + X.C (ix2 0 l) * X.dcn t l 2
def dpre : EReal := X.da t l * X.u t l
def dpost : EReal := X.dy2 t l * X.cv t l * sil (X.zc t l)
def du : EReal := X.da t l * X.pre t l
def dzc : EReal := X.dy2 t l * X.post t l * X.cv t l * dsil (X.zc t l)

/-- The projection's gradient: six blocks of 512 columns, and the given array elsewhere. -/
def big (j : Fin 9216) : EReal :=
  if h : 1536 ≤ j.val ∧ j.val < 2048 then X.dza t ⟨j.val - 1536, by omega⟩
  else if h : 3584 ≤ j.val ∧ j.val < 4096 then X.dzb t ⟨j.val - 3584, by omega⟩
  else if h : 4096 ≤ j.val ∧ j.val < 4608 then X.dpre t ⟨j.val - 4096, by omega⟩
  else if h : 4608 ≤ j.val ∧ j.val < 5120 then X.dpost t ⟨j.val - 4608, by omega⟩
  else if h : 5120 ≤ j.val ∧ j.val < 5632 then X.du t ⟨j.val - 5120, by omega⟩
  else if h : 5632 ≤ j.val ∧ j.val < 6144 then X.dzc t ⟨j.val - 5632, by omega⟩
  else X.Y (ix2 t j)

/-- What a row adds to row `r` of the sums. -/
def term (r : Fin 8) : EReal :=
  if r.val = 3 then X.dc t l * X.a0 t l else if r.val = 2 then X.dc t l * X.a1 t l else if r.val = 1 then X.dc t l * X.a2 t l
  else if r.val = 0 then X.dn t l * nrm (X.ob t) l else 0

/-- The sums over the rows. -/
def vec (r : Fin 8) : EReal := ∑ t, X.term t l r

end Args

/-- Being a real number. -/
def Rl (x : EReal) : Prop := ∃ r : ℝ, x = r

theorem Rl.coe (r : ℝ) : Rl (r : EReal) := ⟨r, rfl⟩
theorem Rl.mul {x y : EReal} : Rl x → Rl y → Rl (x * y) := by
  rintro ⟨a, rfl⟩ ⟨b, rfl⟩; exact ⟨a * b, (EReal.coe_mul a b).symm⟩
theorem Rl.add {x y : EReal} : Rl x → Rl y → Rl (x + y) := by
  rintro ⟨a, rfl⟩ ⟨b, rfl⟩; exact ⟨a + b, (EReal.coe_add a b).symm⟩

/-- The logistic of a real. -/
def sgR (z : ℝ) : ℝ := 1 / (1 + Real.exp (-z))

theorem sg_coe (z : ℝ) : sg (z : EReal) = (sgR z : EReal) := by
  have h : (1 + Real.exp (-z)) ≠ 0 := by positivity
  unfold sg sgR
  rw [← EReal.coe_neg, Ideal.exp_coe, ← EReal.coe_one, ← EReal.coe_add, div_real _ h]

theorem Rl.sil {z : EReal} : Rl z → Rl (sil z) := by
  rintro ⟨a, rfl⟩
  unfold Fw.sil
  rw [sg_coe]
  exact (Rl.coe _).mul (Rl.coe _)

/-- The gate's derivative in the reference's form. -/
theorem dsil_ref {ct z : EReal} (hc : Rl ct) (hz : Rl z) : ct * sg z + z * ct * (sg z * (1 - sg z)) = ct * dsil z := by
  obtain ⟨c, rfl⟩ := hc
  obtain ⟨z, rfl⟩ := hz
  unfold dsil
  rw [sg_coe, ← EReal.coe_one]
  simp only [← EReal.coe_mul, ← EReal.coe_add, ← EReal.coe_sub]
  congr 1
  ring

/-- The normalisation's small constant. -/
def eps6 : ℝ := 8796093 / 2 ^ 43

theorem eps6_pos : 0 < eps6 := by unfold eps6; positivity
theorem ofBits_eps6 : Ideal.ofBits .f32 897988541#32 = (eps6 : EReal) := by
  simp [Ideal.ofBits, Ideal.ieee, eps6, -EReal.coe_mul]; norm_num
theorem ofBits_128 : Ideal.ofBits .f32 1124073472#32 = ((128 : ℝ) : EReal) := by
  simp [Ideal.ofBits, Ideal.ieee, -EReal.coe_mul]; norm_num

/-- The mean square of a head plus the small constant. -/
def ms (o : Fin 512 → ℝ) (l : Fin 512) : ℝ := (∑ x : Fin 128, o (hd l x) * o (hd l x)) / 128 + eps6
theorem ms_pos (o : Fin 512 → ℝ) (l : Fin 512) : 0 < ms o l := by
  have := eps6_pos
  have : 0 ≤ ∑ x : Fin 128, o (hd l x) * o (hd l x) := Finset.sum_nonneg fun k _ => mul_self_nonneg _
  unfold ms; positivity
/-- The reciprocal of its root. -/
def rsR (o : Fin 512 → ℝ) (l : Fin 512) : ℝ := (Real.sqrt (ms o l))⁻¹
theorem rsR_sq (o : Fin 512 → ℝ) (l : Fin 512) : rsR o l * rsR o l = 1 / ms o l := by
  unfold rsR
  rw [← mul_inv, Real.mul_self_sqrt (ms_pos o l).le, one_div]

theorem hd_hd (l : Fin 512) (x : Fin 128) : hd (hd l x) = hd l := by
  funext y
  apply Fin.ext
  change (l.val / 128 * 128 + x.val) / 128 * 128 + y.val = l.val / 128 * 128 + y.val
  omega

theorem ms_coe (o : Fin 512 → ℝ) (l : Fin 512) : Ideal.div (∑ x : Fin 128, (o (hd l x) : EReal) * (o (hd l x) : EReal))
    (Ideal.ofBits FTy.f32 1124073472#32) + Ideal.ofBits FTy.f32 897988541#32 = (ms o l : EReal) := by
  simp only [← EReal.coe_mul, coe_sum]
  rw [ofBits_128, ofBits_eps6, div_real _ (by norm_num), ← EReal.coe_add]
  rfl
theorem rs_coe (o : Fin 512 → ℝ) (l : Fin 512) : rs (fun l => (o l : EReal)) l = (rsR o l : EReal) := by
  unfold rs
  rw [ms_coe]
  exact rsqrt_real (ms_pos o l)
theorem nrm_coe (o : Fin 512 → ℝ) (l : Fin 512) : nrm (fun l => (o l : EReal)) l = ((o l * rsR o l : ℝ) : EReal) :=
  (congrArg ((o l : EReal) * ·) (rs_coe o l)).trans (EReal.coe_mul _ _).symm

theorem rsR_hd (o : Fin 512 → ℝ) (l : Fin 512) (x : Fin 128) : rsR o (hd l x) = rsR o l := by
  unfold rsR ms
  rw [hd_hd]

theorem Rl.nrm {b : Fin 512 → EReal} (h : ∀ l, Rl (b l)) (l : Fin 512) : Rl (nrm b l) := by
  choose o ho using h
  obtain rfl : b = fun l => (o l : EReal) := funext ho
  rw [nrm_coe]
  exact Rl.coe _

/-- The normalisation's derivative in the reference's form. -/
theorem rms_ref {o g : Fin 512 → EReal} (ho : ∀ l, Rl (o l)) (hg : ∀ l, Rl (g l)) (l : Fin 512) (v r k : EReal)
    (hv : v = Ideal.div (∑ x : Fin 128, o (hd l x) * o (hd l x)) (Ideal.ofBits FTy.f32 1124073472#32) + Ideal.ofBits FTy.f32 897988541#32)
    (hr : r = Ideal.rsqrt v)
    (hk : k = Ideal.div ((∑ x : Fin 128, o (hd l x) * g (hd l x)) * (Ideal.ofBits FTy.f32 0xBF000000#32 * Ideal.div r v))
      (Ideal.ofBits FTy.f32 1124073472#32)) :
    g l * r + o l * k + k * o l = rms o g l := by
  choose o' ho using ho
  choose g' hg using hg
  obtain rfl : o = fun l => (o' l : EReal) := funext ho
  obtain rfl : g = fun l => (g' l : EReal) := funext hg
  have ev : v = (ms o' l : EReal) := hv.trans (ms_coe o' l)
  have er : r = (rsR o' l : EReal) := by rw [hr, ev]; exact rsqrt_real (ms_pos o' l)
  have ek : k = (((∑ x : Fin 128, o' (hd l x) * g' (hd l x)) * (-(1 / 2) * (rsR o' l / ms o' l)) / 128 : ℝ) : EReal) := by
    rw [hk, ev, er, ofBits_neg_half, ofBits_128, div_real _ (ms_pos o' l).ne']
    simp only [← EReal.coe_mul, coe_sum]
    rw [div_real _ (by norm_num)]
  unfold rms
  simp only [nrm_coe, rs_coe, ofBits_128, rsR_hd]
  rw [ek, er]
  simp only [← EReal.coe_mul, coe_sum]
  rw [div_real _ (by norm_num)]
  simp only [← EReal.coe_mul, ← EReal.coe_add, ← EReal.coe_sub]
  congr 1
  have hs : ∑ x : Fin 128, g' (hd l x) * (o' (hd l x) * rsR o' l) = (∑ x : Fin 128, o' (hd l x) * g' (hd l x)) * rsR o' l := by
    rw [Finset.sum_mul]
    exact Finset.sum_congr rfl fun x _ => by ring
  rw [hs]
  have h := rsR_sq o' l
  have hv' : rsR o' l / ms o' l = rsR o' l * (rsR o' l * rsR o' l) := by rw [h]; ring
  rw [hv']
  ring

end Cert.Brm

end
-- ==== Proof.BrPt.lean ====
/- The branches' backward call: the payloads of a point's stores at a row and lane. -/
module

public import proofs.«01_k».proof.Proof.BrPay
public import proofs.«01_k».proof.Proof.BrMath
public import Idealize.ShloMosaic.Lib.Pipeline.ValueKit
public import Idealize.ShloMosaic.Lib.Pointwise

@[expose] public section

set_option maxRecDepth 16384

noncomputable section

namespace Cert.BrIdeal.Run

open Idealize.ShloMosaic Idealize.ShloMosaic.TcCoe
open Cert.BrIdeal.Gen Cert.Fw Cert.Brm

theorem pay3_at (z x : Vec Ideal S256x512 .f32) (i : S256x512.Idx) : k0_pay3 (F := Ideal) z x i = x i * sil (z i) := by
  pointwise [k0_pay3, k0_pay2]
  rw [zero_sub]
  rfl

theorem pay4_at (z x o : Vec Ideal S256x512 .f32) (i : S256x512.Idx) : k0_pay4 (F := Ideal) z x o i = x i * o i * dsil (z i) := by
  pointwise [k0_pay4, k0_pay2]
  rw [zero_sub]
  rfl

theorem pay29_at (z x : Vec Ideal S256x512 .f32) (i : S256x512.Idx) : k0_pay29 (F := Ideal) z x i = x i * sil (z i) := by
  pointwise [k0_pay29, k0_pay27]
  rw [zero_sub]
  rfl

/-- Four heads side by side, each normalised on its own. -/
theorem head_key (z : Vec Ideal S256x512 .f32) (a : Fin 256) (b : Fin 512) (o : Nat) (l : Fin 512) (f : Fin 128 → Fin 512)
    (hf : ∀ x, (f x).val = o + x.val) (hl : l.val = b.val) (ho : o = b.val / 128 * 128) :
    Ideal.rsqrt (Ideal.div (∑ x, z (ix2 a (f x)) * z (ix2 a (f x)))
        (Ideal.ofBits FTy.f32 1124073472#32) + Ideal.ofBits FTy.f32 897988541#32) = rs (fun l => z (ix2 a l)) b ∧ l = b := by
  have hf' : f = hd b := funext fun x => Fin.ext ((hf x).trans (by rw [ho]; rfl))
  have hl' : l = b := Fin.ext hl
  subst hl'
  rw [hf']
  exact ⟨rfl, rfl⟩

theorem ohat_at (z : Vec Ideal S256x512 .f32) (a : Fin 256) (b : Fin 512) :
    k0_pay25 (F := Ideal) (k0_pay8 (k0_pay5 z) (k0_pay6 z)) (k0_pay13 z) (k0_pay18 z) (k0_pay21 z) (k0_pay22 z) (ix2 a b)
      = nrm (fun l => z (ix2 a l)) b := by
  pointwise [k0_pay25, k0_pay24, k0_pay23, k0_pay22, k0_pay21, k0_pay18, k0_pay17, k0_pay16, k0_pay13, k0_pay12, k0_pay11, k0_pay8, k0_pay7, k0_pay6, k0_pay5]
  have key : ∀ (o : Nat) (l : Fin 512) (f : Fin 128 → Fin 512), (∀ x, (f x).val = o + x.val) → l.val = b.val → o = b.val / 128 * 128 →
      z (ix2 a l) * Ideal.rsqrt (Ideal.div (∑ x, z (ix2 a (f x)) * z (ix2 a (f x)))
        (Ideal.ofBits FTy.f32 1124073472#32) + Ideal.ofBits FTy.f32 897988541#32) = nrm (fun l => z (ix2 a l)) b := by
    intro o l f hf hl ho
    obtain ⟨e, rfl⟩ := head_key z a b o l f hf hl ho
    rw [e]
    rfl
  split
  · exact key 0 _ (fun x => ⟨x.val, by omega⟩) (fun x => (Nat.zero_add _).symm) rfl (by omega)
  split
  · exact key 128 _ _ (fun x => rfl) (by change 128 + (b.val - 128) = _; omega) (by omega)
  split
  · exact key 256 _ _ (fun x => rfl) (by change 256 + (b.val - 128 - 128) = _; omega) (by omega)
  · exact key 384 _ _ (fun x => rfl) (by change 384 + (b.val - 128 - 128 - 128) = _; omega) (by omega)

theorem rst_at (z : Vec Ideal S256x512 .f32) (a : Fin 256) (b : Fin 512) :
    k0_pay26 (F := Ideal) (k0_pay10 (k0_pay6 z)) (k0_pay15 z) (k0_pay20 z) (k0_pay22 z) (ix2 a b) = rs (fun l => z (ix2 a l)) b := by
  pointwise [k0_pay26, k0_pay23, k0_pay22, k0_pay21, k0_pay20, k0_pay17, k0_pay16, k0_pay15, k0_pay12, k0_pay11, k0_pay10, k0_pay7, k0_pay6, k0_pay5]
  have key : ∀ (o : Nat) (f : Fin 128 → Fin 512), (∀ x, (f x).val = o + x.val) → o = b.val / 128 * 128 →
      Ideal.rsqrt (Ideal.div (∑ x, z (ix2 a (f x)) * z (ix2 a (f x)))
        (Ideal.ofBits FTy.f32 1124073472#32) + Ideal.ofBits FTy.f32 897988541#32) = rs (fun l => z (ix2 a l)) b := by
    intro o f hf ho
    exact (head_key z a b o b f hf rfl ho).1
  split
  · exact key 0 (fun x => ⟨x.val, by omega⟩) (fun x => (Nat.zero_add _).symm) (by omega)
  split
  · exact key 128 _ (fun x => rfl) (by omega)
  split
  · exact key 256 _ (fun x => rfl) (by omega)
  · exact key 384 _ (fun x => rfl) (by omega)

theorem pay28_at (w : Vec Ideal S1x512 .f32) (z q x : Vec Ideal S256x512 .f32) (a : Fin 256) (b : Fin 512) :
    k0_pay28 (F := Ideal) w (k0_pay9 w (k0_pay5 z) (k0_pay6 z)) (k0_pay14 w z) (k0_pay19 w z) (k0_pay21 z) (k0_pay22 z) q x (ix2 a b)
      = x (ix2 a b) * (nrm (fun l => z (ix2 a l)) b * w (ix2 0 b)) * dsil (q (ix2 a b)) := by
  pointwise [k0_pay28, k0_pay27, k0_pay24, k0_pay23, k0_pay22, k0_pay21, k0_pay19, k0_pay18, k0_pay17, k0_pay16, k0_pay14, k0_pay13, k0_pay12, k0_pay11, k0_pay9, k0_pay8, k0_pay7, k0_pay6, k0_pay5]
  rw [zero_sub]
  refine congrArg (· * dsil (q (ix2 a b))) (congrArg (x (ix2 a b) * ·) ?_)
  have key : ∀ (o : Nat) (l : Fin 512) (f : Fin 128 → Fin 512), (∀ x, (f x).val = o + x.val) → l.val = b.val → o = b.val / 128 * 128 →
      z (ix2 a l) * Ideal.rsqrt (Ideal.div (∑ x, z (ix2 a (f x)) * z (ix2 a (f x)))
        (Ideal.ofBits FTy.f32 1124073472#32) + Ideal.ofBits FTy.f32 897988541#32) * w (ix2 0 l) = nrm (fun l => z (ix2 a l)) b * w (ix2 0 b) := by
    intro o l f hf hl ho
    obtain ⟨e, rfl⟩ := head_key z a b o l f hf hl ho
    rw [e]
    rfl
  split
  · exact key 0 _ (fun x => ⟨x.val, by omega⟩) (fun x => (Nat.zero_add _).symm) rfl (by omega)
  split
  · exact key 128 _ _ (fun x => rfl) (by change 128 + (b.val - 128) = _; omega) (by omega)
  split
  · exact key 256 _ _ (fun x => rfl) (by change 256 + (b.val - 128 - 128) = _; omega) (by omega)
  · exact key 384 _ _ (fun x => rfl) (by change 384 + (b.val - 128 - 128 - 128) = _; omega) (by omega)

/-- The normalisation's derivative from the normalised rows `O`, the reciprocal roots `R` and the gradient `D`. -/
theorem pay37_at (O R D : Vec Ideal S256x512 .f32) (w : Vec Ideal S1x512 .f32) (a : Fin 256) (b : Fin 512) :
    k0_pay37 (F := Ideal) O R (k0_pay31 w D) (k0_pay32 w O R D) (k0_pay33 w O R D) (k0_pay34 w O R D) (k0_pay35 w O D) k0_pay36 (ix2 a b)
      = R (ix2 a b) * (D (ix2 a b) * w (ix2 0 b) - O (ix2 a b) * Ideal.div (∑ x : Fin 128, D (ix2 a (hd b x)) * w (ix2 0 (hd b x)) * O (ix2 a (hd b x)))
          (Ideal.ofBits FTy.f32 1124073472#32)) := by
  pointwise [k0_pay37, k0_pay36, k0_pay35, k0_pay34, k0_pay33, k0_pay32, k0_pay31]
  have key : ∀ (o : Nat) (l : Fin 512) (f : Fin 128 → Fin 512), (∀ x, (f x).val = o + x.val) → l.val = b.val → o = b.val / 128 * 128 →
      R (ix2 a l) * (D (ix2 a l) * w (ix2 0 l) - O (ix2 a l) * Ideal.div (∑ x : Fin 128, D (ix2 a (f x)) * w (ix2 0 (f x)) * O (ix2 a (f x)))
          (Ideal.ofBits FTy.f32 1124073472#32))
        = R (ix2 a b) * (D (ix2 a b) * w (ix2 0 b) - O (ix2 a b) * Ideal.div (∑ x : Fin 128, D (ix2 a (hd b x)) * w (ix2 0 (hd b x)) * O (ix2 a (hd b x)))
          (Ideal.ofBits FTy.f32 1124073472#32)) := by
    intro o l f hf hl ho
    have hf' : f = hd b := funext fun x => Fin.ext ((hf x).trans (by rw [ho]; rfl))
    have hl' : l = b := Fin.ext hl
    subst hl'
    rw [hf']
  split
  · exact key 0 _ (fun x => ⟨x.val, by omega⟩) (fun x => (Nat.zero_add _).symm) rfl (by omega)
  split
  · exact key 128 _ _ (fun x => rfl) (by change 128 + (b.val - 128) = _; omega) (by omega)
  split
  · exact key 256 _ _ (fun x => rfl) (by change 256 + (b.val - 128 - 128) = _; omega) (by omega)
  · exact key 384 _ _ (fun x => rfl) (by change 384 + (b.val - 128 - 128 - 128) = _; omega) (by omega)

/-- The convolution's input one row up. -/
theorem pay40_at (c : BitVec 32) (p u : Vec Ideal S256x512 .f32) (v w : Vec Ideal S8x512 .f32) (a : Fin 256) (b : Fin 512) :
    k0_pay40 (F := Ideal) c p u v w (ix2 a b)
      = if h : 1 ≤ a.val then p (ix2 ⟨a.val - 1, by omega⟩ b) * u (ix2 ⟨a.val - 1, by omega⟩ b)
        else Scalar.select (Scalar.cmpi .sgt c 0#32) (v (ix2 7 b) * w (ix2 7 b)) 0 := by
  pointwise [k0_pay40, k0_pay39, k0_pay38]
  by_cases h : 1 ≤ a.val
  · rw [dif_pos h, dif_neg (by omega)]
    have e : ∀ k hk, k = a.val - 1 → p (ix2 (⟨k, hk⟩ : Fin 256) b) * u (ix2 (⟨k, hk⟩ : Fin 256) b)
        = p (ix2 (⟨a.val - 1, by omega⟩ : Fin 256) b) * u (ix2 (⟨a.val - 1, by omega⟩ : Fin 256) b) := by
      intro k hk e; subst e; rfl
    exact e _ _ (by omega)
  · rw [dif_neg h, dif_pos (by omega)]
    have e : ∀ k hk, k = 7 → Scalar.select (Scalar.cmpi .sgt c 0#32) (v (ix2 (⟨k, hk⟩ : Fin 8) b) * w (ix2 (⟨k, hk⟩ : Fin 8) b)) (0 : EReal)
        = Scalar.select (Scalar.cmpi .sgt c 0#32) (v (ix2 7 b) * w (ix2 7 b)) 0 := by
      intro k hk e; subst e; rfl
    exact e _ _ (by omega)

/-- Two rows up. -/
theorem pay41_at (c : BitVec 32) (p u : Vec Ideal S256x512 .f32) (v w : Vec Ideal S8x512 .f32) (a : Fin 256) (b : Fin 512) :
    k0_pay41 (F := Ideal) c p u v w (ix2 a b)
      = if h : 2 ≤ a.val then p (ix2 ⟨a.val - 2, by omega⟩ b) * u (ix2 ⟨a.val - 2, by omega⟩ b)
        else Scalar.select (Scalar.cmpi .sgt c 0#32) (v (ix2 ⟨a.val % 2 + 6, by omega⟩ b) * w (ix2 ⟨a.val % 2 + 6, by omega⟩ b)) 0 := by
  pointwise [k0_pay41, k0_pay39, k0_pay38]
  by_cases h : 2 ≤ a.val
  · rw [dif_pos h, dif_neg (by omega)]
    have e : ∀ k hk, k = a.val - 2 → p (ix2 (⟨k, hk⟩ : Fin 256) b) * u (ix2 (⟨k, hk⟩ : Fin 256) b)
        = p (ix2 (⟨a.val - 2, by omega⟩ : Fin 256) b) * u (ix2 (⟨a.val - 2, by omega⟩ : Fin 256) b) := by
      intro k hk e; subst e; rfl
    exact e _ _ (by omega)
  · rw [dif_neg h, dif_pos (by omega)]
    have e : ∀ k hk, k = a.val % 2 + 6 → Scalar.select (Scalar.cmpi .sgt c 0#32) (v (ix2 (⟨k, hk⟩ : Fin 8) b) * w (ix2 (⟨k, hk⟩ : Fin 8) b)) (0 : EReal)
        = Scalar.select (Scalar.cmpi .sgt c 0#32) (v (ix2 ⟨a.val % 2 + 6, by omega⟩ b) * w (ix2 ⟨a.val % 2 + 6, by omega⟩ b)) 0 := by
      intro k hk e; subst e; rfl
    exact e _ _ (by omega)

/-- The convolution. -/
theorem pay42_at (c : BitVec 32) (C : Vec Ideal S3x512 .f32) (p u : Vec Ideal S256x512 .f32) (v w : Vec Ideal S8x512 .f32) (a : Fin 256) (b : Fin 512) :
    k0_pay42 (F := Ideal) c C p u v w (ix2 a b)
      = C (ix2 0 b) * k0_pay41 (F := Ideal) c p u v w (ix2 a b) + C (ix2 1 b) * k0_pay40 (F := Ideal) c p u v w (ix2 a b)
        + C (ix2 2 b) * (p (ix2 a b) * u (ix2 a b)) := by
  generalize hA : k0_pay41 (F := Ideal) c p u v w = A
  generalize hB : k0_pay40 (F := Ideal) c p u v w = B
  pointwise [k0_pay42, k0_pay38, hA, hB]

theorem pay46_at (q z x : Vec Ideal S256x512 .f32) (i : S256x512.Idx) : k0_pay46 (F := Ideal) q z x i = x i * q i * sil (z i) := by
  pointwise [k0_pay46, k0_pay44, k0_pay43]
  rw [zero_sub]
  rfl

theorem pay47_at (c : BitVec 32) (z x q : Vec Ideal S8x512 .f32) (i : S8x512.Idx) :
    k0_pay47 (F := Ideal) c z x q i = Scalar.select (Scalar.cmpi .slt c 7#32) (x i * q i * sil (z i)) 0 := by
  pointwise [k0_pay47]
  rw [zero_sub]
  rfl

theorem pay49_at (c : BitVec 32) (q z x : Vec Ideal S256x512 .f32) (Z Xn Qn : Vec Ideal S8x512 .f32) (a : Fin 256) (b : Fin 512) :
    k0_pay49 (F := Ideal) c q z x Z Xn Qn (ix2 a b)
      = if h : a.val + 1 < 256 then k0_pay46 (F := Ideal) q z x (ix2 ⟨a.val + 1, h⟩ b) else k0_pay47 (F := Ideal) c Z Xn Qn (ix2 0 b) := by
  unfold k0_pay49
  generalize k0_pay46 (F := Ideal) q z x = A
  generalize k0_pay47 (F := Ideal) c Z Xn Qn = B
  pointwise []
  by_cases h : a.val + 1 < 256
  · rw [dif_pos h, dif_pos (by omega)]
    have e : ∀ k hk, k = a.val + 1 → A (ix2 (⟨k, hk⟩ : Fin 256) b) = A (ix2 (⟨a.val + 1, h⟩ : Fin 256) b) := by
      intro k hk e; subst e; rfl
    exact e _ _ (by omega)
  · rw [dif_neg h, dif_neg (by omega)]
    have e : ∀ k hk, k = 0 → B (ix2 (⟨k, hk⟩ : Fin 8) b) = B (ix2 (0 : Fin 8) b) := by
      intro k hk e; subst e; rfl
    exact e _ _ (by omega)

theorem pay51_at (C : Vec Ideal S3x512 .f32) (A : Vec Ideal S256x512 .f32) (B : Vec Ideal S8x512 .f32) (s0 s1 w1 : Vec Ideal S256x512 .f32)
    (a : Fin 256) (b : Fin 512) :
    k0_pay51 (F := Ideal) C A B s0 s1 w1 (ix2 a b)
      = s0 (ix2 a b) + w1 (ix2 a b) * s1 (ix2 a b)
        + C (ix2 0 b) * (if h : a.val + 2 < 256 then A (ix2 ⟨a.val + 2, h⟩ b) else B (ix2 ⟨a.val % 2, by omega⟩ b)) := by
  pointwise [k0_pay51]
  refine congrArg (s0 (ix2 a b) + w1 (ix2 a b) * s1 (ix2 a b) + C (ix2 0 b) * ·) ?_
  by_cases h : a.val + 2 < 256
  · rw [dif_pos h, dif_pos (by omega)]
    have e : ∀ k hk, k = a.val + 2 → A (ix2 (⟨k, hk⟩ : Fin 256) b) = A (ix2 (⟨a.val + 2, h⟩ : Fin 256) b) := by
      intro k hk e; subst e; rfl
    exact e _ _ (by omega)
  · rw [dif_neg h, dif_neg (by omega)]
    have e : ∀ k hk, k = a.val % 2 → B (ix2 (⟨k, hk⟩ : Fin 8) b) = B (ix2 (⟨a.val % 2, by omega⟩ : Fin 8) b) := by
      intro k hk e; subst e; rfl
    exact e _ _ (by omega)

theorem pay48_at (C : Vec Ideal S3x512 .f32) (q z x : Vec Ideal S256x512 .f32) (a : Fin 256) (b : Fin 512) :
    k0_pay48 (F := Ideal) C q z x (ix2 a b) = C (ix2 2 b) * k0_pay46 (F := Ideal) q z x (ix2 a b) := by
  unfold k0_pay48
  generalize k0_pay46 (F := Ideal) q z x = A
  pointwise []

theorem pay50_at (C : Vec Ideal S3x512 .f32) (a : Fin 256) (b : Fin 512) : k0_pay50 (F := Ideal) C (ix2 a b) = C (ix2 1 b) := by
  pointwise [k0_pay50]

theorem pay52_at (C : Vec Ideal S3x512 .f32) (u A : Vec Ideal S256x512 .f32) (B : Vec Ideal S8x512 .f32) (s0 s1 w1 : Vec Ideal S256x512 .f32)
    (i : S256x512.Idx) : k0_pay52 (F := Ideal) C u A B s0 s1 w1 i = k0_pay51 (F := Ideal) C A B s0 s1 w1 i * u i := by
  unfold k0_pay52
  generalize k0_pay51 (F := Ideal) C A B s0 s1 w1 = Q
  pointwise []

theorem pay54_at (C : Vec Ideal S3x512 .f32) (u A : Vec Ideal S256x512 .f32) (B : Vec Ideal S8x512 .f32) (s0 s1 w1 : Vec Ideal S256x512 .f32)
    (i : S256x512.Idx) : k0_pay54 (F := Ideal) C u A B s0 s1 w1 i = k0_pay51 (F := Ideal) C A B s0 s1 w1 i * u i := by
  unfold k0_pay54
  generalize k0_pay51 (F := Ideal) C A B s0 s1 w1 = Q
  pointwise []

theorem pay53_at (v z x : Vec Ideal S256x512 .f32) (i : S256x512.Idx) :
    k0_pay53 (F := Ideal) v (k0_pay44 z) x i = x i * v i * sil (z i) := by
  pointwise [k0_pay53, k0_pay44, k0_pay43]
  rw [zero_sub]
  rfl

theorem pay55_at (q v z x : Vec Ideal S256x512 .f32) (i : S256x512.Idx) :
    k0_pay55 (F := Ideal) q v (k0_pay45 z) x i = x i * q i * v i * dsil (z i) := by
  pointwise [k0_pay55, k0_pay45, k0_pay43]
  rw [zero_sub]
  rfl

theorem pay56_at (s d : Vec Ideal S256x512 .f32) (u : Vec Ideal S1x512 .f32) (b : Fin 512) :
    k0_pay56 (F := Ideal) s d u (ix2 0 b) = u (ix2 0 b) + ∑ a : Fin 256, d (ix2 a b) * s (ix2 a b) := by
  pointwise [k0_pay56]

theorem pay57_at (s d : Vec Ideal S256x512 .f32) (u : Vec Ideal S1x512 .f32) (b : Fin 512) :
    k0_pay57 (F := Ideal) s d u (ix2 0 b) = u (ix2 0 b) + ∑ a : Fin 256, d (ix2 a b) * s (ix2 a b) := by
  pointwise [k0_pay57]

theorem pay58_at (s d : Vec Ideal S256x512 .f32) (u : Vec Ideal S1x512 .f32) (b : Fin 512) :
    k0_pay58 (F := Ideal) s d u (ix2 0 b) = u (ix2 0 b) + ∑ a : Fin 256, d (ix2 a b) * s (ix2 a b) := by
  pointwise [k0_pay58]

theorem pay30_at (x0 x1 x2 x3 : FVec Ideal S256x128 .f32) (x4 : FVec Ideal S256x1 .f32) (z x : Vec Ideal S256x512 .f32) (u : Vec Ideal S1x512 .f32)
    (b : Fin 512) : k0_pay30 (F := Ideal) x0 x1 x2 x3 x4 z x u (ix2 0 b)
      = u (ix2 0 b) + ∑ a : Fin 256, k0_pay29 (F := Ideal) z x (ix2 a b) * k0_pay25 (F := Ideal) x0 x1 x2 x3 x4 (ix2 a b) := by
  unfold k0_pay30
  generalize k0_pay29 (F := Ideal) z x = A
  generalize k0_pay25 (F := Ideal) x0 x1 x2 x3 x4 = B
  pointwise []

end Cert.BrIdeal.Run

end
-- ==== Proof.BrBlk.lean ====
/- The branches' backward call: what a point leaves, from the rows its blocks are of. -/
module

public import proofs.«01_k».proof.Proof.BrPt

@[expose] public section

set_option maxRecDepth 16384

noncomputable section

namespace Cert.BrIdeal.Run

open Idealize.ShloMosaic Idealize.ShloMosaic.TcCoe
open Cert.BrIdeal.Gen Cert.Fw Cert.Brm

/-- Row `a` of tile `t`. -/
def gr (t : Fin 8) (a : Fin 256) : Fin 2048 := ⟨256 * t.val + a.val, by omega⟩

/-- The blocks of point `t`, as rows of the arrays. -/
structure Reads (B : Blk Ideal) (X : Args) (t : Fin 8) : Prop where
  h1 : ∀ a b, B.x1 (ix2 a b) = X.dy0 (gr t a) b
  h2 : ∀ a b, B.x2 (ix2 a b) = X.dy1 (gr t a) b
  h3 : ∀ a b, B.x3 (ix2 a b) = X.dy2 (gr t a) b
  h4 : ∀ a b, B.x4 (ix2 a b) = X.A (ix2 (gr t a) b)
  h5 : ∀ a b, B.x5 (ix2 a b) = X.za (gr t a) b
  h6 : ∀ a b, B.x6 (ix2 a b) = X.ob (gr t a) b
  h7 : ∀ a b, B.x7 (ix2 a b) = X.zb (gr t a) b
  h8 : ∀ a b, B.x8 (ix2 a b) = X.pre (gr t a) b
  h9 : ∀ a b, B.x9 (ix2 a b) = X.post (gr t a) b
  h10 : ∀ a b, B.x10 (ix2 a b) = X.u (gr t a) b
  h11 : ∀ a b, B.x11 (ix2 a b) = X.zc (gr t a) b
  h12 : ∀ (a : Fin 8) b (s : Fin 2048), s.val = (t.val * 32 - 1) * 8 + a.val → B.x12 (ix2 a b) = X.pre s b
  h13 : ∀ (a : Fin 8) b (s : Fin 2048), s.val = (t.val * 32 - 1) * 8 + a.val → B.x13 (ix2 a b) = X.u s b
  h14 : ∀ (a : Fin 8) b (s : Fin 2048), s.val = (t.val + 1) * 256 + a.val → B.x14 (ix2 a b) = X.dy2 s b
  h15 : ∀ (a : Fin 8) b (s : Fin 2048), s.val = (t.val + 1) * 256 + a.val → B.x15 (ix2 a b) = X.post s b
  h16 : ∀ (a : Fin 8) b (s : Fin 2048), s.val = (t.val + 1) * 256 + a.val → B.x16 (ix2 a b) = X.zc s b
  h17 : ∀ b, B.x17 (ix2 0 b) = X.nw b
  h18 : ∀ a b, B.x18 (ix2 a b) = X.C (ix2 a b)

theorem cond_first (t : Fin cfg0.N) (x : EReal) :
    Scalar.select (Scalar.cmpi .sgt (Blk.pt (grid0.coords t)) 0#32) x 0 = if 0 < t.val then x else 0 := by
  have h : ∀ t : Fin cfg0.N, Scalar.cmpi .sgt (Blk.pt (grid0.coords t)) 0#32 = if 0 < t.val then 1#1 else 0#1 :=
    (by decide +kernel : ∀ t : Fin grid0.N, _)
  rw [h]
  by_cases h0 : 0 < t.val
  · rw [if_pos h0, if_pos h0]; rfl
  · rw [if_neg h0, if_neg h0]; rfl

theorem cond_last (t : Fin cfg0.N) (x : EReal) :
    Scalar.select (Scalar.cmpi .slt (Blk.pt (grid0.coords t)) 7#32) x 0 = if t.val < 7 then x else 0 := by
  have h : ∀ t : Fin cfg0.N, Scalar.cmpi .slt (Blk.pt (grid0.coords t)) 7#32 = if t.val < 7 then 1#1 else 0#1 :=
    (by decide +kernel : ∀ t : Fin grid0.N, _)
  rw [h]
  by_cases h0 : t.val < 7
  · rw [if_pos h0, if_pos h0]; rfl
  · rw [if_neg h0, if_neg h0]; rfl

theorem pay38_at (p u : Vec Ideal S256x512 .f32) (i : S256x512.Idx) : k0_pay38 (F := Ideal) p u i = p i * u i := by
  pointwise [k0_pay38]

namespace Reads

variable {B : Blk Ideal} {X : Args} {t : Fin cfg0.N} (R : Reads B X t)
include R

theorem doa (a : Fin 256) (b : Fin 512) : B.doa (ix2 a b) = X.doa (gr t a) b := by
  unfold Blk.doa; rw [pay3_at, R.h1, R.h5]; rfl
theorem dza (a : Fin 256) (b : Fin 512) : B.dza (ix2 a b) = X.dza (gr t a) b := by
  unfold Blk.dza; rw [pay4_at, R.h1, R.h5, R.h4]; rfl
theorem row6 (a : Fin 256) : (fun l => B.x6 (ix2 a l)) = X.ob (gr t a) := funext fun l => R.h6 a l
theorem ohat (a : Fin 256) (b : Fin 512) : B.ohat (ix2 a b) = nrm (X.ob (gr t a)) b := by
  unfold Blk.ohat Blk.h0; rw [ohat_at, R.row6]
theorem rst (a : Fin 256) (b : Fin 512) : B.rst (ix2 a b) = rs (X.ob (gr t a)) b := by
  unfold Blk.rst; rw [rst_at, R.row6]
theorem dn (a : Fin 256) (b : Fin 512) : B.dn (ix2 a b) = X.dn (gr t a) b := by
  unfold Blk.dn; rw [pay29_at, R.h2, R.h7]; rfl
theorem dob (a : Fin 256) (b : Fin 512) : B.dob (ix2 a b) = X.dob (gr t a) b := by
  unfold Blk.dob; rw [pay37_at]
  simp only [R.ohat, R.rst, R.dn, R.h17]
  rfl
theorem dzb (a : Fin 256) (b : Fin 512) : B.dzb (ix2 a b) = X.dzb (gr t a) b := by
  unfold Blk.dzb; rw [pay28_at, R.row6, R.h2, R.h7, R.h17]; rfl
theorem a0 (a : Fin 256) (b : Fin 512) : B.a0 (ix2 a b) = X.a0 (gr t a) b := by
  unfold Blk.a0; rw [pay38_at, R.h8, R.h10]; rfl
theorem a1 (a : Fin 256) (b : Fin 512) : B.a1 (grid0.coords t) (ix2 a b) = X.a1 (gr t a) b := by
  have hN : t.val < 8 := t.isLt
  unfold Blk.a1; rw [pay40_at]
  change _ = (if h : 1 ≤ 256 * t.val + a.val then cin X.P ⟨256 * t.val + a.val - 1, _⟩ b else 0)
  by_cases h : 1 ≤ a.val
  · rw [dif_pos h, dif_pos (by omega), R.h8, R.h10]
    have e : (⟨256 * t.val + a.val - 1, by omega⟩ : Fin 2048) = gr t ⟨a.val - 1, by omega⟩ := Fin.ext (by change 256 * t.val + a.val - 1 = 256 * t.val + (a.val - 1); omega)
    rw [e]
    rfl
  · rw [dif_neg h, cond_first]
    by_cases h0 : 0 < t.val
    · rw [if_pos h0, dif_pos (by omega), R.h12 7 b ⟨256 * t.val + a.val - 1, by omega⟩ (by change 256 * t.val + a.val - 1 = (t.val * 32 - 1) * 8 + 7; omega),
        R.h13 7 b ⟨256 * t.val + a.val - 1, by omega⟩ (by change 256 * t.val + a.val - 1 = (t.val * 32 - 1) * 8 + 7; omega)]
      rfl
    · rw [if_neg h0, dif_neg (by omega)]
theorem a2 (a : Fin 256) (b : Fin 512) : B.a2 (grid0.coords t) (ix2 a b) = X.a2 (gr t a) b := by
  have hN : t.val < 8 := t.isLt
  unfold Blk.a2; rw [pay41_at]
  change _ = (if h : 2 ≤ 256 * t.val + a.val then cin X.P ⟨256 * t.val + a.val - 2, _⟩ b else 0)
  by_cases h : 2 ≤ a.val
  · rw [dif_pos h, dif_pos (by omega), R.h8, R.h10]
    have e : (⟨256 * t.val + a.val - 2, by omega⟩ : Fin 2048) = gr t ⟨a.val - 2, by omega⟩ := Fin.ext (by change 256 * t.val + a.val - 2 = 256 * t.val + (a.val - 2); omega)
    rw [e]
    rfl
  · rw [dif_neg h, cond_first]
    by_cases h0 : 0 < t.val
    · rw [if_pos h0, dif_pos (by omega),
        R.h12 _ b ⟨256 * t.val + a.val - 2, by omega⟩ (by change 256 * t.val + a.val - 2 = (t.val * 32 - 1) * 8 + (a.val % 2 + 6); omega),
        R.h13 _ b ⟨256 * t.val + a.val - 2, by omega⟩ (by change 256 * t.val + a.val - 2 = (t.val * 32 - 1) * 8 + (a.val % 2 + 6); omega)]
      rfl
    · rw [if_neg h0, dif_neg (by omega)]
theorem conv (a : Fin 256) (b : Fin 512) : B.conv (grid0.coords t) (ix2 a b) = X.cv (gr t a) b := by
  have e1 := R.a1 a b
  have e2 := R.a2 a b
  unfold Blk.a1 at e1
  unfold Blk.a2 at e2
  unfold Blk.conv
  rw [pay42_at, e1, e2, R.h18, R.h18, R.h18, R.h8, R.h10]
  rfl
theorem dcv (a : Fin 256) (b : Fin 512) : B.dcv (ix2 a b) = X.dc (gr t a) b := by
  unfold Blk.dcv; rw [pay46_at, R.h3, R.h9, R.h11]; rfl
theorem nxt (a : Fin 8) (b : Fin 512) (s : Nat) (hs : s = (t.val + 1) * 256 + a.val) :
    B.nxt (grid0.coords t) (ix2 a b) = if h : s < 2048 then X.dc ⟨s, h⟩ b else 0 := by
  have hN : t.val < 8 := t.isLt
  unfold Blk.nxt
  rw [pay47_at, cond_last]
  by_cases h0 : t.val < 7
  · rw [if_pos h0, dif_pos (by omega), R.h14 a b ⟨s, by omega⟩ hs, R.h15 a b ⟨s, by omega⟩ hs, R.h16 a b ⟨s, by omega⟩ hs]
    rfl
  · rw [if_neg h0, dif_neg (by omega)]
theorem sh1 (a : Fin 256) (b : Fin 512) :
    k0_pay49 (Blk.pt (grid0.coords t)) B.x9 B.x11 B.x3 B.x16 B.x14 B.x15 (ix2 a b) = X.dcn (gr t a) b 1 := by
  have hN : t.val < 8 := t.isLt
  rw [pay49_at]
  change _ = if h : 256 * t.val + a.val + 1 < 2048 then X.dc ⟨256 * t.val + a.val + 1, h⟩ b else 0
  by_cases h : a.val + 1 < 256
  · rw [dif_pos h, dif_pos (by omega)]
    exact R.dcv ⟨a.val + 1, h⟩ b
  · rw [dif_neg h]
    exact R.nxt 0 b (256 * t.val + a.val + 1) (by change _ = (t.val + 1) * 256 + 0; omega)
theorem da (a : Fin 256) (b : Fin 512) :
    k0_pay51 B.x18 B.dcv (B.nxt (grid0.coords t)) (k0_pay48 B.x18 B.x9 B.x11 B.x3)
      (k0_pay49 (Blk.pt (grid0.coords t)) B.x9 B.x11 B.x3 B.x16 B.x14 B.x15) (k0_pay50 B.x18) (ix2 a b) = X.da (gr t a) b := by
  have hN : t.val < 8 := t.isLt
  have e0 := R.dcv a b
  unfold Blk.dcv at e0
  rw [pay51_at, pay48_at, pay50_at, R.sh1, e0, R.h18, R.h18, R.h18]
  refine congrArg (X.C (ix2 2 b) * X.dc (gr t a) b + X.C (ix2 1 b) * X.dcn (gr t a) b 1 + ·) (congrArg (X.C (ix2 0 b) * ·) ?_)
  change _ = if h : 256 * t.val + a.val + 2 < 2048 then X.dc ⟨256 * t.val + a.val + 2, h⟩ b else 0
  by_cases h : a.val + 2 < 256
  · rw [dif_pos h, dif_pos (by omega)]
    exact R.dcv ⟨a.val + 2, h⟩ b
  · rw [dif_neg h]
    exact R.nxt _ b (256 * t.val + a.val + 2) (by change _ = (t.val + 1) * 256 + a.val % 2; omega)
theorem dc0 (a : Fin 256) (b : Fin 512) : B.dc0 (grid0.coords t) (ix2 a b) = X.dpre (gr t a) b := by
  unfold Blk.dc0; rw [pay52_at, R.da, R.h10]; rfl
theorem dc2 (a : Fin 256) (b : Fin 512) : B.dc2 (grid0.coords t) (ix2 a b) = X.du (gr t a) b := by
  unfold Blk.dc2; rw [pay54_at, R.da, R.h8]; rfl
theorem dc1 (a : Fin 256) (b : Fin 512) : B.dc1 (grid0.coords t) (ix2 a b) = X.dpost (gr t a) b := by
  unfold Blk.dc1; rw [pay53_at, R.conv, R.h3, R.h11]; rfl
theorem dc3 (a : Fin 256) (b : Fin 512) : B.dc3 (grid0.coords t) (ix2 a b) = X.dzc (gr t a) b := by
  unfold Blk.dc3; rw [pay55_at, R.conv, R.h3, R.h11, R.h9]; rfl

/-- The small result's step adds a tile's rows to the sums. -/
theorem vstep (u : Vec Ideal S8x512 .f32) (r : Fin 8) (l : Fin 512) :
    B.vstep (grid0.coords t) u (ix2 r l) = u (ix2 r l) + ∑ a : Fin 256, X.term (gr t a) l r := by
  have eo := R.ohat
  have ed := R.dn
  unfold Blk.ohat at eo
  unfold Blk.dn at ed
  change (if r.val = 3 then k0_pay58 B.a0 B.dcv (vrow 3 _ u) (ix2 (0 : Fin 1) l)
    else if r.val = 2 then k0_pay57 (B.a1 (grid0.coords t)) B.dcv (vrow 2 _ u) (ix2 (0 : Fin 1) l)
    else if r.val = 1 then k0_pay56 (B.a2 (grid0.coords t)) B.dcv (vrow 1 _ u) (ix2 (0 : Fin 1) l)
    else if r.val = 0 then k0_pay30 B.h0 _ _ _ _ B.x7 B.x2 (vrow 0 _ u) (ix2 (0 : Fin 1) l) else u (ix2 r l)) = _
  unfold Args.term
  by_cases h3 : r.val = 3
  · obtain rfl : r = 3 := Fin.ext h3
    simp only [if_pos h3]
    rw [pay58_at]
    simp only [R.dcv, R.a0]
    rfl
  by_cases h2 : r.val = 2
  · obtain rfl : r = 2 := Fin.ext h2
    simp only [if_neg h3, if_pos h2]
    rw [pay57_at]
    simp only [R.dcv, R.a1]
    rfl
  by_cases h1 : r.val = 1
  · obtain rfl : r = 1 := Fin.ext h1
    simp only [if_neg h3, if_neg h2, if_pos h1]
    rw [pay56_at]
    simp only [R.dcv, R.a2]
    rfl
  by_cases h0 : r.val = 0
  · obtain rfl : r = 0 := Fin.ext h0
    simp only [if_neg h3, if_neg h2, if_neg h1, if_pos h0]
    rw [pay30_at]
    simp only [eo, ed]
    rfl
  · simp only [if_neg h3, if_neg h2, if_neg h1, if_neg h0, Finset.sum_const_zero, add_zero]

end Reads

end Cert.BrIdeal.Run

end
-- ==== Proof.BrK.lean ====
/- The branches' backward call: what it computes. The blocks a point reads as rows of the arguments, the sums and the large
   result after all points, and the four results in closed form. -/
module

public import proofs.«01_k».proof.Proof.BrBody
public import proofs.«01_k».proof.Proof.BrBlk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.BrIdeal.Run

open Cert.BrIdeal Cert.BrIdeal.Gen Cert.Fw Cert.Brm

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 3] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 7] := (by decide +kernel : ∀ t : Fin grid0.N, _)
theorem idx7 : ∀ t : Fin cfg0.N, win0_7.index t = ![t.val, 8] := (by decide +kernel : ∀ t : Fin grid0.N, _)
theorem idx8 : ∀ t : Fin cfg0.N, win0_8.index t = ![t.val, 9] := (by decide +kernel : ∀ t : Fin grid0.N, _)
theorem idx9 : ∀ t : Fin cfg0.N, win0_9.index t = ![t.val, 10] := (by decide +kernel : ∀ t : Fin grid0.N, _)
theorem idx10 : ∀ t : Fin cfg0.N, win0_10.index t = ![t.val, 11] := (by decide +kernel : ∀ t : Fin grid0.N, _)
theorem idx11 : ∀ t : Fin cfg0.N, win0_11.index t = ![t.val * 32 - 1, 8] := (by decide +kernel : ∀ t : Fin grid0.N, _)
theorem idx12 : ∀ t : Fin cfg0.N, win0_12.index t = ![t.val * 32 - 1, 10] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![0, 0] := (by decide +kernel : ∀ t : Fin grid0.N, _)
theorem idx13 : ∀ t : Fin cfg0.N, t.val < 7 → win0_13.index t = ![(t.val + 1) * 32, 2] := (by decide +kernel : ∀ t : Fin grid0.N, _)
theorem idx14 : ∀ t : Fin cfg0.N, t.val < 7 → win0_14.index t = ![(t.val + 1) * 32, 9] := (by decide +kernel : ∀ t : Fin grid0.N, _)
theorem idx15 : ∀ t : Fin cfg0.N, t.val < 7 → win0_15.index t = ![(t.val + 1) * 32, 11] := (by decide +kernel : ∀ t : Fin grid0.N, _)

variable (m : (ℓ : Loc nD τ sig) → Buf (Elt Ideal) ℓ) (ρ : Dev nD → PrngReg) (c : Dev nD)

abbrev aD := m ((c : Thread nD τ).loc main_arg0)
abbrev aP := m ((c : Thread nD τ).loc main_arg1)
abbrev aA := m ((c : Thread nD τ).loc main_arg2)
abbrev aB := m ((c : Thread nD τ).loc main_arg3)
abbrev aN := m ((c : Thread nD τ).loc main_arg4)
abbrev aC := m ((c : Thread nD τ).loc main_arg5)
abbrev aY := m ((c : Thread nD τ).loc main_arg6)

/-- What the call reads. -/
def aR : Args := ⟨aD m c, aP m c, aA m c, aB m c, aN m c, aC m c, aY m c⟩

theorem blk0 (t : Fin cfg0.N) (a : Fin 256) (b : Fin 512) : iblk m c 0 t (ix2 a b) = aD m c (ix2 (gr t a) (dcol 0 (by decide) b)) := by
  unfold gr dcol
  blk_point [iblk, V, idx0]
theorem blk1 (t : Fin cfg0.N) (a : Fin 256) (b : Fin 512) : iblk m c 1 t (ix2 a b) = aD m c (ix2 (gr t a) (dcol 512 (by decide) b)) := by
  unfold gr dcol
  blk_point [iblk, V, idx1]
theorem blk2 (t : Fin cfg0.N) (a : Fin 256) (b : Fin 512) : iblk m c 2 t (ix2 a b) = aD m c (ix2 (gr t a) (dcol 1024 (by decide) b)) := by
  unfold gr dcol
  blk_point [iblk, V, idx2]
theorem blk3 (t : Fin cfg0.N) (a : Fin 256) (b : Fin 512) : iblk m c 3 t (ix2 a b) = aA m c (ix2 (gr t a) b) := by
  unfold gr
  blk_point [iblk, V, idx3]
theorem blk4 (t : Fin cfg0.N) (a : Fin 256) (b : Fin 512) : iblk m c 4 t (ix2 a b) = aP m c (ix2 (gr t a) (col 1536 (by decide) b)) := by
  unfold gr col
  blk_point [iblk, V, idx4]
theorem blk5 (t : Fin cfg0.N) (a : Fin 256) (b : Fin 512) : iblk m c 5 t (ix2 a b) = aB m c (ix2 (gr t a) b) := by
  unfold gr
  blk_point [iblk, V, idx5]
theorem blk6 (t : Fin cfg0.N) (a : Fin 256) (b : Fin 512) : iblk m c 6 t (ix2 a b) = aP m c (ix2 (gr t a) (col 3584 (by decide) b)) := by
  unfold gr col
  blk_point [iblk, V, idx6]
theorem blk7 (t : Fin cfg0.N) (a : Fin 256) (b : Fin 512) : iblk m c 7 t (ix2 a b) = aP m c (ix2 (gr t a) (col 4096 (by decide) b)) := by
  unfold gr col
  blk_point [iblk, V, idx7]
theorem blk8 (t : Fin cfg0.N) (a : Fin 256) (b : Fin 512) : iblk m c 8 t (ix2 a b) = aP m c (ix2 (gr t a) (col 4608 (by decide) b)) := by
  unfold gr col
  blk_point [iblk, V, idx8]
theorem blk9 (t : Fin cfg0.N) (a : Fin 256) (b : Fin 512) : iblk m c 9 t (ix2 a b) = aP m c (ix2 (gr t a) (col 5120 (by decide) b)) := by
  unfold gr col
  blk_point [iblk, V, idx9]
theorem blk10 (t : Fin cfg0.N) (a : Fin 256) (b : Fin 512) : iblk m c 10 t (ix2 a b) = aP m c (ix2 (gr t a) (col 5632 (by decide) b)) := by
  unfold gr col
  blk_point [iblk, V, idx10]
theorem blk11 (t : Fin cfg0.N) (a : Fin 8) (b : Fin 512) (s : Fin 2048) (hs : s.val = (t.val * 32 - 1) * 8 + a.val) :
    iblk m c 11 t (ix2 a b) = aP m c (ix2 s (col 4096 (by decide) b)) := by
  obtain ⟨s, h⟩ := s
  subst hs
  unfold col
  blk_point [iblk, V, idx11]
theorem blk12 (t : Fin cfg0.N) (a : Fin 8) (b : Fin 512) (s : Fin 2048) (hs : s.val = (t.val * 32 - 1) * 8 + a.val) :
    iblk m c 12 t (ix2 a b) = aP m c (ix2 s (col 5120 (by decide) b)) := by
  obtain ⟨s, h⟩ := s
  subst hs
  unfold col
  blk_point [iblk, V, idx12]
theorem blk13 (t : Fin cfg0.N) (a : Fin 8) (b : Fin 512) (s : Fin 2048) (hs : s.val = (t.val + 1) * 256 + a.val) :
    iblk m c 13 t (ix2 a b) = aD m c (ix2 s (dcol 1024 (by decide) b)) := by
  have ht : t.val < 7 := by omega
  have hi := idx13 t ht
  obtain ⟨s, h⟩ := s
  have hs' : s = (t.val + 1) * 32 * 8 + a.val := hs.trans (by omega)
  subst hs'
  unfold dcol
  blk_point [iblk, V, hi]
theorem blk14 (t : Fin cfg0.N) (a : Fin 8) (b : Fin 512) (s : Fin 2048) (hs : s.val = (t.val + 1) * 256 + a.val) :
    iblk m c 14 t (ix2 a b) = aP m c (ix2 s (col 4608 (by decide) b)) := by
  have ht : t.val < 7 := by omega
  have hi := idx14 t ht
  obtain ⟨s, h⟩ := s
  have hs' : s = (t.val + 1) * 32 * 8 + a.val := hs.trans (by omega)
  subst hs'
  unfold col
  blk_point [iblk, V, hi]
theorem blk15 (t : Fin cfg0.N) (a : Fin 8) (b : Fin 512) (s : Fin 2048) (hs : s.val = (t.val + 1) * 256 + a.val) :
    iblk m c 15 t (ix2 a b) = aP m c (ix2 s (col 5632 (by decide) b)) := by
  have ht : t.val < 7 := by omega
  have hi := idx15 t ht
  obtain ⟨s, h⟩ := s
  have hs' : s = (t.val + 1) * 32 * 8 + a.val := hs.trans (by omega)
  subst hs'
  unfold col
  blk_point [iblk, V, hi]
theorem host2 (i : S1x512.Idx) : V m c main_v2 i = aN m c (ix2 0 ⟨(i 1).val % 128, by omega⟩) := by
  unfold_abbrev_sides
  after_results
  pointwise []
theorem blk16 (t : Fin cfg0.N) (b : Fin 512) : iblk m c 16 t (ix2 0 b) = aN m c (ix2 0 ⟨b.val % 128, by omega⟩) := by
  refine Eq.trans ?_ (host2 m c (ix2 0 b))
  unfold iblk
  change ((cfg0.win 16).blk t).view.read (Elt Ideal) (V m c main_v2) _ = _
  generalize V m c main_v2 = Q
  blk_point [idx16]
theorem blk17 (t : Fin cfg0.N) (a : Fin 3) (b : Fin 512) : iblk m c 17 t (ix2 a b) = aC m c (ix2 a b) := by
  blk_point [iblk, V, idx17]

theorem reads (t : Fin cfg0.N) : Reads (blkAt m c t) (aR m c) t :=
  ⟨blk0 m c t, blk1 m c t, blk2 m c t, blk3 m c t, blk4 m c t, blk5 m c t, blk6 m c t, blk7 m c t, blk8 m c t, blk9 m c t, blk10 m c t,
    blk11 m c t, blk12 m c t, blk13 m c t, blk14 m c t, blk15 m c t, blk16 m c t, blk17 m c t⟩

def resA (i : S2048x512.Idx) : EReal := (aR m c).doa (i 0) (i 1)
def resB (i : S2048x512.Idx) : EReal := (aR m c).dob (i 0) (i 1)
def resV (i : S8x512.Idx) : EReal := (aR m c).vec (i 1) (i 0)
def resP (i : S2048x9216.Idx) : EReal := (aR m c).big (i 0) (i 1)

theorem final18 : (dats m 0 c).arrAt 18 cfg0.N = resA m c := by
  refine (dats m 0 c).arrAt_eq_of_covers 18 _ (by decide +kernel) fun t hf y => ?_
  blk_simp
  rw [after_18]
  obtain ⟨a, b, rfl⟩ : ∃ a b, y = ix2 a b := ⟨y 0, y 1, (ix2_eta y).symm⟩
  refine ((reads m c t).doa a b).trans ?_
  change resA m c (ix2 (gr t a) b) = _
  unfold gr
  generalize resA m c = Q
  blk_point [idx18]

theorem final19 : (dats m 0 c).arrAt 19 cfg0.N = resB m c := by
  refine (dats m 0 c).arrAt_eq_of_covers 19 _ (by decide +kernel) fun t hf y => ?_
  blk_simp
  rw [after_19]
  obtain ⟨a, b, rfl⟩ : ∃ a b, y = ix2 a b := ⟨y 0, y 1, (ix2_eta y).symm⟩
  refine ((reads m c t).dob a b).trans ?_
  change resB m c (ix2 (gr t a) b) = _
  unfold gr
  generalize resB m c = Q
  blk_point [idx19]

theorem pay1_at (i : S8x512.Idx) : k0_pay1 (F := Ideal) i = (0 : EReal) := by
  pointwise [k0_pay1]

theorem not_first : ∀ t : Fin cfg0.N, t.val ≠ 0 → ¬ isFirst (grid0.coords t) := by decide +kernel

theorem vbase_at (t : Fin cfg0.N) : vbase (grid0.coords t) (vecAt m c t.val) = vecAt m c t.val := by
  unfold vbase
  by_cases h : t.val = 0
  · rw [if_pos (first_point t h), h]; rfl
  · rw [if_neg (not_first t h)]

/-- The sums after the first `n` points. -/
theorem vecAt_eq (r : Fin 8) (l : Fin 512) : ∀ n, n ≤ 8 →
    vecAt m c n (ix2 r l) = ∑ s ∈ Finset.range n, if h : s < 8 then ∑ a : Fin 256, (aR m c).term (gr ⟨s, h⟩ a) l r else 0
  | 0, _ => by rw [Finset.sum_range_zero]; exact pay1_at _
  | n + 1, h => by
    have hn : n < 8 := h
    have e := vecAt_succ m c ⟨n, hn⟩
    rw [vbase_at] at e
    rw [Finset.sum_range_succ, dif_pos hn, ← vecAt_eq r l n (by omega)]
    exact (congrFun e (ix2 r l)).trans ((reads m c ⟨n, hn⟩).vstep _ r l)

theorem vec_end (r : Fin 8) (l : Fin 512) : vecAt m c 8 (ix2 r l) = (aR m c).vec l r := by
  rw [vecAt_eq m c r l 8 (le_refl _), Finset.sum_range]
  unfold Args.vec
  refine (Finset.sum_congr rfl fun s _ => dif_pos s.isLt).trans ?_
  refine Fin.sum_mul_add_congr fun s k hl => ?_
  exact congrArg (fun t => (aR m c).term t l r) (Fin.ext (by change 256 * s.val + k.val = s.val * 256 + k.val; omega))

theorem final20 : (dats m 0 c).arrAt 20 cfg0.N = resV m c := by
  refine (dats m 0 c).arrAt_eq_of_covers 20 _ (by decide +kernel) fun t hf y => ?_
  have ht : t.val = 7 := by
    have h : t.val % 8 = 7 := (flush0_20 t).mp hf
    have h' : t.val < 8 := t.isLt
    omega
  blk_simp
  rw [after_20, ht]
  obtain ⟨a, b, rfl⟩ : ∃ a b, y = ix2 a b := ⟨y 0, y 1, (ix2_eta y).symm⟩
  refine (vec_end m c a b).trans ?_
  change resV m c (ix2 a b) = _
  generalize resV m c = Q
  blk_point [idx20]

/-- A store into a rectangle of a whole array: inside it the stored value, outside what was there. -/
theorem wr_gen {sg : RefSig} {κ : Kind} {Val : EltTy → Type} (b : Ref sg κ) (off size : Fin b.ty.shape.rank → Nat) (inb : ∀ a, off a + size a ≤ b.ty.shape.size a)
    (f : b.ty.Contents Val) (w : (Rect.unit off size inb).shape.Idx → Val b.ty.elt) (i : b.ty.shape.Idx) :
    (∀ x : (Rect.unit off size inb).shape.Idx, (∀ a : Fin b.ty.shape.rank, (i a).val = off a + (x a).val) →
      ((View.whole b).slice (Rect.unit off size inb)).write Val f w Finset.univ i = w x)
    ∧ ((∃ a : Fin b.ty.shape.rank, (i a).val < off a ∨ off a + size a ≤ (i a).val) →
      ((View.whole b).slice (Rect.unit off size inb)).write Val f w Finset.univ i = f i) := by
  rw [View.write_whole_slice_unit]
  unfold updateSlice
  constructor
  · intro x hx
    rw [dif_pos (fun a => by have := hx a; have h := (x a).isLt; change (x a).val < size a at h; change off a ≤ _ ∧ _ < off a + size a; omega)]
    refine congrArg w (funext fun a => Fin.ext ?_)
    have := hx a
    change (i a).val - off a = (x a).val
    omega
  · rintro ⟨a, ha⟩
    rw [dif_neg (fun h => by have h := h a; change off a ≤ _ ∧ _ < off a + size a at h; omega)]

/-- The same for a tile's rows of the large result. -/
theorem wr1 (W : Nat) (off : Fin 2 → Nat) (inb : ∀ a, off a + (![256, W] : Fin 2 → Nat) a ≤ S2048x9216.size a) (f : S2048x9216.Idx → EReal)
    (w : (⟨2, ![256, W]⟩ : Shape).Idx → EReal) (q o : Nat) (ho : off = ![q, o]) (r : Fin 2048) (j : Fin 9216) :
    View.write (Elt Ideal) (big.slice (Rect.unit (s := S2048x9216) off ![256, W] inb) (fun _ => rfl)).view f w Finset.univ (ix2 r j)
      = if h : (q ≤ r.val ∧ r.val < q + 256) ∧ o ≤ j.val ∧ j.val < o + W then w (ix2 ⟨r.val - q, by omega⟩ ⟨j.val - o, by omega⟩)
        else f (ix2 r j) := by
  have g := wr_gen (Val := Elt Ideal) main_v3_0 off ![256, W] inb f w (ix2 r j)
  subst ho
  by_cases h : (q ≤ r.val ∧ r.val < q + 256) ∧ o ≤ j.val ∧ j.val < o + W
  · rw [dif_pos h]
    refine g.1 (ix2 ⟨r.val - q, by omega⟩ ⟨j.val - o, by omega⟩) (Fin.forall_fin_two.mpr ⟨?_, ?_⟩)
    · change r.val = q + (r.val - q); omega
    · change j.val = o + (j.val - o); omega
  · rw [dif_neg h]
    refine g.2 ?_
    by_cases h0 : q ≤ r.val ∧ r.val < q + 256
    · exact ⟨(1 : Fin 2), by change j.val < o ∨ o + W ≤ j.val; omega⟩
    · exact ⟨(0 : Fin 2), by change r.val < q ∨ q + 256 ≤ r.val; omega⟩

theorem off1 : ∀ t : Fin cfg0.N, k0_off1 (grid0.coords t) = ![256 * t.val, 1536] := (by decide +kernel : ∀ t : Fin grid0.N, _)
theorem off2 : ∀ t : Fin cfg0.N, k0_off2 (grid0.coords t) = ![256 * t.val, 3584] := (by decide +kernel : ∀ t : Fin grid0.N, _)
theorem off3 : ∀ t : Fin cfg0.N, k0_off3 (grid0.coords t) = ![256 * t.val, 4096] := (by decide +kernel : ∀ t : Fin grid0.N, _)

/-- A point's three copies, at a row and a column. -/
theorem bigStep_at (t : Fin cfg0.N) (sa sb : FVec Ideal S256x512 .bf16) (sc : FVec Ideal S256x2048 .bf16) (f : S2048x9216.Idx → EReal)
    (r : Fin 2048) (j : Fin 9216) :
    bigStep (F := Ideal) big (grid0.coords t) sa sb sc f (ix2 r j)
      = if h : (256 * t.val ≤ r.val ∧ r.val < 256 * t.val + 256) ∧ 4096 ≤ j.val ∧ j.val < 4096 + 2048 then
          sc (ix2 ⟨r.val - 256 * t.val, by omega⟩ ⟨j.val - 4096, by omega⟩)
        else if h : (256 * t.val ≤ r.val ∧ r.val < 256 * t.val + 256) ∧ 3584 ≤ j.val ∧ j.val < 3584 + 512 then
          sb (ix2 ⟨r.val - 256 * t.val, by omega⟩ ⟨j.val - 3584, by omega⟩)
        else if h : (256 * t.val ≤ r.val ∧ r.val < 256 * t.val + 256) ∧ 1536 ≤ j.val ∧ j.val < 1536 + 512 then
          sa (ix2 ⟨r.val - 256 * t.val, by omega⟩ ⟨j.val - 1536, by omega⟩)
        else f (ix2 r j) := by
  unfold bigStep
  refine (wr1 2048 (k0_off3 (grid0.coords t)) (k0_off3_inb _) _ sc (256 * t.val) 4096 (off3 t) r j).trans ?_
  by_cases h3 : (256 * t.val ≤ r.val ∧ r.val < 256 * t.val + 256) ∧ 4096 ≤ j.val ∧ j.val < 4096 + 2048
  · rw [dif_pos h3, dif_pos h3]
  rw [dif_neg h3, dif_neg h3]
  refine (wr1 512 (k0_off2 (grid0.coords t)) (k0_off2_inb _) _ sb (256 * t.val) 3584 (off2 t) r j).trans ?_
  by_cases h2 : (256 * t.val ≤ r.val ∧ r.val < 256 * t.val + 256) ∧ 3584 ≤ j.val ∧ j.val < 3584 + 512
  · rw [dif_pos h2, dif_pos h2]
  rw [dif_neg h2, dif_neg h2]
  exact wr1 512 (k0_off1 (grid0.coords t)) (k0_off1_inb _) f sa (256 * t.val) 1536 (off1 t) r j

/-- A tile's rows of the large result after its point. -/
theorem tile_at (B : Blk Ideal) (X : Args) (t : Fin cfg0.N) (R : Reads B X t) (f : S2048x9216.Idx → EReal) (a : Fin 256) (j : Fin 9216)
    (hf : f (ix2 (gr t a) j) = X.Y (ix2 (gr t a) j)) :
    bigStep (F := Ideal) big (grid0.coords t) B.dza B.dzb (B.dc (grid0.coords t)) f (ix2 (gr t a) j) = X.big (gr t a) j := by
  have ea : ∀ h, (⟨256 * t.val + a.val - 256 * t.val, h⟩ : Fin 256) = a := fun h => Fin.ext (by change 256 * t.val + a.val - 256 * t.val = _; omega)
  have hr : 256 * t.val ≤ 256 * t.val + a.val ∧ 256 * t.val + a.val < 256 * t.val + 256 := by omega
  rw [bigStep_at]
  unfold Args.big gr
  simp only [ea, hr, true_and]
  by_cases h3 : 4096 ≤ j.val ∧ j.val < 4096 + 2048
  · rw [dif_pos h3, dif_neg (by omega), dif_neg (by omega)]
    change (if h3 : 1536 ≤ j.val - 4096 ∧ j.val - 4096 < 1536 + 512 then B.dc3 (grid0.coords t) (ix2 a (⟨j.val - 4096 - 1536, by omega⟩ : Fin 512))
      else if h2 : 1024 ≤ j.val - 4096 ∧ j.val - 4096 < 1024 + 512 then B.dc2 (grid0.coords t) (ix2 a (⟨j.val - 4096 - 1024, by omega⟩ : Fin 512))
      else if h1 : 512 ≤ j.val - 4096 ∧ j.val - 4096 < 512 + 512 then B.dc1 (grid0.coords t) (ix2 a (⟨j.val - 4096 - 512, by omega⟩ : Fin 512))
      else if h0 : 0 ≤ j.val - 4096 ∧ j.val - 4096 < 0 + 512 then B.dc0 (grid0.coords t) (ix2 a (⟨j.val - 4096 - 0, by omega⟩ : Fin 512))
      else B.dc0 (grid0.coords t) (ix2 a (0 : Fin 512))) = _
    have key : ∀ (f : Fin 512 → EReal) (n k : Nat) hn hk, n = k → f ⟨n, hn⟩ = f ⟨k, hk⟩ := by
      intro f n k hn hk e; subst e; rfl
    by_cases k3 : 1536 ≤ j.val - 4096 ∧ j.val - 4096 < 1536 + 512
    · rw [dif_pos k3, dif_neg (by omega), dif_neg (by omega), dif_neg (by omega), dif_pos (by omega), R.dc3]
      exact key (X.dzc (gr t a)) _ _ _ _ (by omega)
    by_cases k2 : 1024 ≤ j.val - 4096 ∧ j.val - 4096 < 1024 + 512
    · rw [dif_neg k3, dif_pos k2, dif_neg (by omega), dif_neg (by omega), dif_pos (by omega), R.dc2]
      exact key (X.du (gr t a)) _ _ _ _ (by omega)
    by_cases k1 : 512 ≤ j.val - 4096 ∧ j.val - 4096 < 512 + 512
    · rw [dif_neg k3, dif_neg k2, dif_pos k1, dif_neg (by omega), dif_pos (by omega), R.dc1]
      exact key (X.dpost (gr t a)) _ _ _ _ (by omega)
    · rw [dif_neg k3, dif_neg k2, dif_neg k1, dif_pos (by omega), dif_pos (by omega), R.dc0]
      exact key (X.dpre (gr t a)) _ _ _ _ (by omega)
  rw [dif_neg h3]
  by_cases h2 : 3584 ≤ j.val ∧ j.val < 3584 + 512
  · rw [dif_pos h2, dif_neg (by omega), dif_pos (by omega), R.dzb]
    rfl
  rw [dif_neg h2]
  by_cases h1 : 1536 ≤ j.val ∧ j.val < 1536 + 512
  · rw [dif_pos h1, dif_pos (by omega), R.dza]
    rfl
  rw [dif_neg h1, dif_neg (by omega), dif_neg (by omega), dif_neg (by omega), dif_neg (by omega), dif_neg (by omega), dif_neg (by omega)]
  exact hf

theorem big_start : V m c main_v3_0 = aY m c := by
  unfold_abbrev_sides
  after_results
  rfl

/-- The large result after the first `n` points. -/
theorem bigAt_eq (r : Fin 2048) (j : Fin 9216) : ∀ n, n ≤ 8 →
    bigAt m c n (ix2 r j) = if r.val < 256 * n then (aR m c).big r j else aY m c (ix2 r j)
  | 0, _ => by
    rw [if_neg (by omega)]
    exact congrFun (big_start m c) (ix2 r j)
  | n + 1, h => by
    have hn : n < 8 := h
    have ih := bigAt_eq r j n (by omega)
    refine (congrFun (bigAt_succ m c ⟨n, hn⟩) (ix2 r j)).trans ?_
    change bigStep big (grid0.coords ⟨n, hn⟩) _ _ _ (bigAt m c n) (ix2 r j) = _
    by_cases h1 : r.val < 256 * n
    · rw [if_pos h1] at ih
      rw [if_pos (by omega)]
      refine (bigStep_at ⟨n, hn⟩ _ _ _ _ r j).trans ?_
      change (if h : (256 * n ≤ r.val ∧ r.val < 256 * n + 256) ∧ _ then _ else if h : (256 * n ≤ r.val ∧ r.val < 256 * n + 256) ∧ _ then _
        else if h : (256 * n ≤ r.val ∧ r.val < 256 * n + 256) ∧ _ then _ else _) = _
      rw [dif_neg (by omega), dif_neg (by omega), dif_neg (by omega)]
      exact ih
    · rw [if_neg h1] at ih
      by_cases h2 : r.val < 256 * (n + 1)
      · rw [if_pos h2]
        have e : r = gr ⟨n, hn⟩ ⟨r.val - 256 * n, by omega⟩ := Fin.ext (by change r.val = 256 * n + (r.val - 256 * n); omega)
        rw [e] at ih ⊢
        exact tile_at (blkAt m c ⟨n, hn⟩) (aR m c) ⟨n, hn⟩ (reads m c ⟨n, hn⟩) (bigAt m c n) _ j ih
      · rw [if_neg h2]
        refine (bigStep_at ⟨n, hn⟩ _ _ _ _ r j).trans ?_
        change (if h : (256 * n ≤ r.val ∧ r.val < 256 * n + 256) ∧ _ then _ else if h : (256 * n ≤ r.val ∧ r.val < 256 * n + 256) ∧ _ then _
          else if h : (256 * n ≤ r.val ∧ r.val < 256 * n + 256) ∧ _ then _ else _) = _
        rw [dif_neg (by omega), dif_neg (by omega), dif_neg (by omega)]
        exact ih

theorem big_end : bigAt m c 8 = resP m c := by
  funext i
  have h : (i 0).val < 2048 := (i 0).isLt
  refine (congrArg (bigAt m c 8) (ix2_eta i).symm).trans ((bigAt_eq m c (i 0) (i 1) 8 (le_refl _)).trans ?_)
  rw [if_pos (by omega)]
  rfl

end Cert.BrIdeal.Run

end
-- ==== Proof.BrRef.lean ====
/- The branches' backward call: what the reference computes. -/
module

public import proofs.«01_k».proof.Defs
public import proofs.«01_k».proof.Proof.Gen.BrRefIdeal.Read
public import proofs.«01_k».proof.Proof.BrMath
public import Idealize.ShloMosaic.Lib.Pipeline.ValueKit
public import Idealize.ShloMosaic.Lib.Pointwise

@[expose] public section

set_option maxRecDepth 16384

noncomputable section

open Idealize.ShloMosaic Idealize.ShloMosaic.TcCoe
open Idealize.ShloMosaic.StableHlo

namespace Cert.BrRefIdeal.Value

open Cert.BrRefIdeal Cert.BrRefIdeal.Gen Cert.BrRefIdeal.Read Cert.Fw Cert.Brm

/-- Every entry a real number. -/
abbrev Re {s : Shape} (x : s.Idx → EReal) : Prop := ∀ i, Rl (x i)

variable (x0 : Vec Ideal S2048x1536 .f32) (x1 : Vec Ideal S2048x9216 .f32) (x2 x3 : Vec Ideal S2048x512 .f32)
  (x4 : Vec Ideal S1x128 .f32) (x5 : Vec Ideal S3x512 .f32) (x6 : Vec Ideal S2048x9216 .bf16)

/-- What the reference reads. -/
abbrev XX : Args := ⟨x0, x1, x2, x3, x4, x5, x6⟩

theorem v113_at (t : Fin 2048) (l : Fin 512) : val_main_v113 (F := Ideal) x0 x1 (ix2 t l) = (XX x0 x1 x2 x3 x4 x5 x6).doa t l := by
  pointwise [val_main_v113, val_main_v51, val_main_v9_0, val_main_v9_2, val_main_call0_v4, val_main_call0_cst_0, val_main_call0_v3, val_main_call0_v2, val_main_call0_cst, val_main_call0_v1, val_main_call0_v0, val_main_v0]
  exact congrArg (fun k => x0 (ix2 t k) * sil (x1 (ix2 t (col 1536 (by decide) l)))) (Fin.ext (Nat.zero_add _).symm)

theorem v114_at (h0 : Re x0) (h1 : Re x1) (h2 : Re x2) (t : Fin 2048) (l : Fin 512) :
    val_main_v114 (F := Ideal) x0 x1 x2 (ix2 t l) = (XX x0 x1 x2 x3 x4 x5 x6).dza t l := by
  pointwise [val_main_v114, val_main_call5_v2, val_main_call5_v1, val_main_call5_v0, val_main_v112, val_main_v51, val_main_v9_1, val_main_call0_v7, val_main_call0_v6, val_main_call0_cst_1, val_main_v9_2, val_main_call0_v4, val_main_call0_cst_0, val_main_call0_v3, val_main_call0_v2, val_main_call0_cst, val_main_call0_v1, val_main_call0_v0, val_main_v0]
  refine (dsil_ref ((h2 _).mul (h0 _)) (h1 _)).trans ?_
  rw [mul_comm (x2 _) (x0 _)]
  exact congrArg (fun k => x0 (ix2 t k) * x2 (ix2 t l) * dsil (x1 (ix2 t (col 1536 (by decide) l)))) (Fin.ext (Nat.zero_add _).symm)

theorem v25_at (t : Fin 2048) (l : Fin 512) : val_main_v25 (F := Ideal) x3 (ix2 t l) = nrm ((XX x0 x1 x2 x3 x4 x5 x6).ob t) l := by
  pointwise [val_main_v25, val_main_v24, val_main_v23, val_main_v19, val_main_v18, val_main_v17, val_main_cst_1, val_main_v16, val_main_v15, val_main_cst_0, val_main_v14, val_main_v13, val_main_cst, val_main_v12, val_main_v11]
  rfl

theorem v8_at (l : Fin 512) (t : Fin 2048) : val_main_v8 (F := Ideal) x4 (ix2 0 l) = (XX x0 x1 x2 x3 x4 x5 x6).nw l := by
  pointwise [val_main_v8, val_main_v7, val_main_v6]
  rfl

theorem v89_at (t : Fin 2048) (l : Fin 512) : val_main_v89 (F := Ideal) x0 x1 (ix2 t l) = (XX x0 x1 x2 x3 x4 x5 x6).dn t l := by
  pointwise [val_main_v89, val_main_v52, val_main_v28_0, val_main_v28_2, val_main_call1_v4, val_main_call1_cst_0, val_main_call1_v3, val_main_call1_v2, val_main_call1_cst, val_main_call1_v1, val_main_call1_v0, val_main_v1]
  rfl

theorem v90_at (h0 : Re x0) (h1 : Re x1) (h3 : Re x3) (h4 : Re x4) (t : Fin 2048) (l : Fin 512) :
    val_main_v90 (F := Ideal) x0 x1 x3 x4 (ix2 t l) = (XX x0 x1 x2 x3 x4 x5 x6).dzb t l := by
  have ho := v25_at x0 x1 x2 x3 x4 x5 x6 t
  have hw := fun l => v8_at x0 x1 x2 x3 x4 x5 x6 l t
  pointwise [val_main_v90, val_main_call4_v2, val_main_call4_v1, val_main_call4_v0, val_main_v88, val_main_v52, val_main_v27, val_main_v26, val_main_v28_1, val_main_call1_v7, val_main_call1_v6, val_main_call1_cst_1, val_main_v28_2, val_main_call1_v4, val_main_call1_cst_0, val_main_call1_v3, val_main_call1_v2, val_main_call1_cst, val_main_call1_v1, val_main_call1_v0, val_main_v1]
  simp only [ho, hw]
  refine (dsil_ref (((Rl.nrm (fun l => h3 _) l).mul (h4 _)).mul (h0 _)) (h1 _)).trans ?_
  rw [mul_comm (nrm _ _ * _) (x0 _)]
  rfl

theorem v95_at (t : Fin 2048) (l : Fin 512) : val_main_v95 (F := Ideal) x0 x1 x4 (ix2 t l) = (XX x0 x1 x2 x3 x4 x5 x6).gn t l := by
  have hd := v89_at x0 x1 x2 x3 x4 x5 x6 t
  have hw := fun l => v8_at x0 x1 x2 x3 x4 x5 x6 l t
  pointwise [val_main_v95, val_main_v94]
  simp only [hd, hw]
  rfl

theorem v111_at (h0 : Re x0) (h1 : Re x1) (h3 : Re x3) (h4 : Re x4) (t : Fin 2048) (l : Fin 512) :
    val_main_v111 (F := Ideal) x0 x1 x3 x4 (ix2 t l) = (XX x0 x1 x2 x3 x4 x5 x6).dob t l := by
  have hg := v95_at x0 x1 x2 x3 x4 x5 x6 t
  pointwise [val_main_v111, val_main_v110, val_main_v109, val_main_v108, val_main_v107, val_main_v106, val_main_v105, val_main_cst_17, val_main_v104, val_main_v103, val_main_cst_16, val_main_v102, val_main_v101, val_main_v100, val_main_v99, val_main_v98, val_main_cst_15, val_main_v97, val_main_v96, val_main_v22, val_main_v21, val_main_cst_2, val_main_v20, val_main_v19, val_main_v18, val_main_v17, val_main_cst_1, val_main_v16, val_main_v15, val_main_cst_0, val_main_v14, val_main_v13, val_main_cst, val_main_v12, val_main_v11]
  simp only [hg, Fin.sum_univ_one]
  exact rms_ref (o := (XX x0 x1 x2 x3 x4 x5 x6).ob t) (g := (XX x0 x1 x2 x3 x4 x5 x6).gn t) (fun l => h3 _)
    (fun l => ((h0 _).mul (Rl.sil (h1 _))).mul (h4 _)) l _ _ _ rfl rfl rfl

theorem v35_at (t : Fin 2048) (l : Fin 512) : val_main_v35 (F := Ideal) x1 (ix2 t l) = (XX x0 x1 x2 x3 x4 x5 x6).a2 t l := by
  pointwise [val_main_v35, val_main_v32, val_main_v31, val_main_v30, val_main_cst_3, val_main_v4, val_main_v2]
  change _ = if h : 2 ≤ t.val then cin x1 ⟨t.val - 2, _⟩ l else 0
  by_cases h : 2 ≤ t.val
  · rw [dif_pos h, dif_neg (by omega)]
    rfl
  · rw [dif_neg h, dif_pos (by omega)]
theorem v39_at (t : Fin 2048) (l : Fin 512) : val_main_v39 (F := Ideal) x1 (ix2 t l) = (XX x0 x1 x2 x3 x4 x5 x6).a1 t l := by
  pointwise [val_main_v39, val_main_v32, val_main_v31, val_main_v30, val_main_cst_3, val_main_v4, val_main_v2]
  change _ = if h : 1 ≤ t.val then cin x1 ⟨t.val - 1, _⟩ l else 0
  by_cases h : 1 ≤ t.val
  · rw [dif_pos h, dif_neg (by omega)]
    have e : ∀ k hk, k = t.val - 1 → cin x1 ⟨k, hk⟩ l = cin x1 ⟨t.val - 1, by omega⟩ l := by intro k hk e; subst e; rfl
    exact e _ _ (by omega)
  · rw [dif_neg h, dif_pos (by omega)]
theorem v44_at (t : Fin 2048) (l : Fin 512) : val_main_v44 (F := Ideal) x1 (ix2 t l) = (XX x0 x1 x2 x3 x4 x5 x6).a0 t l := by
  pointwise [val_main_v44, val_main_v32, val_main_v31, val_main_v30, val_main_cst_3, val_main_v4, val_main_v2]
  rfl

theorem v47_at (t : Fin 2048) (l : Fin 512) : val_main_v47 (F := Ideal) x1 x5 (ix2 t l) = (XX x0 x1 x2 x3 x4 x5 x6).cv t l := by
  have e0 := v44_at x0 x1 x2 x3 x4 x5 x6 t
  have e1 := v39_at x0 x1 x2 x3 x4 x5 x6 t
  have e2 := v35_at x0 x1 x2 x3 x4 x5 x6 t
  pointwise [val_main_v47, val_main_v46, val_main_v45, val_main_v43, val_main_v42, val_main_v41, val_main_v40, val_main_v38, val_main_v37, val_main_v36, val_main_v34]
  simp only [e0, e1, e2]
  rfl

theorem v57_at (t : Fin 2048) (l : Fin 512) : val_main_v57 (F := Ideal) x0 x1 (ix2 t l) = (XX x0 x1 x2 x3 x4 x5 x6).dc t l := by
  pointwise [val_main_v57, val_main_v55, val_main_v53, val_main_v49_0, val_main_v49_2, val_main_call2_v4, val_main_call2_cst_0, val_main_call2_v3, val_main_call2_v2, val_main_call2_cst, val_main_call2_v1, val_main_call2_v0, val_main_v5, val_main_v3]
  rw [mul_left_comm, ← mul_assoc]
  rfl

theorem v58_at (t : Fin 2048) (l : Fin 512) : val_main_v58 (F := Ideal) x0 x1 x5 (ix2 t l) = (XX x0 x1 x2 x3 x4 x5 x6).dpost t l := by
  have ec := v47_at x0 x1 x2 x3 x4 x5 x6 t
  pointwise [val_main_v58, val_main_v55, val_main_v53, val_main_v49_0, val_main_v49_2, val_main_call2_v4, val_main_call2_cst_0, val_main_call2_v3, val_main_call2_v2, val_main_call2_cst, val_main_call2_v1, val_main_call2_v0, val_main_v5]
  simp only [ec]
  rw [mul_right_comm]
  rfl

theorem a_real (h1 : Re x1) (t : Fin 2048) (l : Fin 512) : Rl (cin x1 t l) := (h1 _).mul (h1 _)

theorem cv_real (h1 : Re x1) (h5 : Re x5) (t : Fin 2048) (l : Fin 512) : Rl ((XX x0 x1 x2 x3 x4 x5 x6).cv t l) := by
  have z : Rl 0 := ⟨0, rfl⟩
  have e2 : Rl ((XX x0 x1 x2 x3 x4 x5 x6).a2 t l) := by
    unfold Args.a2; split
    · exact a_real x1 h1 _ _
    · exact z
  have e1 : Rl ((XX x0 x1 x2 x3 x4 x5 x6).a1 t l) := by
    unfold Args.a1; split
    · exact a_real x1 h1 _ _
    · exact z
  exact (((h5 _).mul e2).add ((h5 _).mul e1)).add ((h5 _).mul (a_real x1 h1 t l))

theorem v56_at (h0 : Re x0) (h1 : Re x1) (h5 : Re x5) (t : Fin 2048) (l : Fin 512) :
    val_main_v56 (F := Ideal) x0 x1 x5 (ix2 t l) = (XX x0 x1 x2 x3 x4 x5 x6).dzc t l := by
  have ec := v47_at x0 x1 x2 x3 x4 x5 x6 t
  pointwise [val_main_v56, val_main_call3_v2, val_main_call3_v1, val_main_call3_v0, val_main_v54, val_main_v53, val_main_v48, val_main_v49_1, val_main_call2_v7, val_main_call2_v6, val_main_call2_cst_1, val_main_v49_2, val_main_call2_v4, val_main_call2_cst_0, val_main_call2_v3, val_main_call2_v2, val_main_call2_cst, val_main_call2_v1, val_main_call2_v0, val_main_v5, val_main_v3]
  simp only [ec]
  refine (dsil_ref (((h1 _).mul (cv_real x0 x1 x2 x3 x4 x5 x6 h1 h5 t l)).mul (h0 _)) (h1 _)).trans ?_
  rw [mul_comm (x1 _ * _) (x0 _), ← mul_assoc]
  rfl

theorem v85_at (t : Fin 2048) (l : Fin 512) : val_main_v85 (F := Ideal) x0 x1 x5 (ix2 t l) = (XX x0 x1 x2 x3 x4 x5 x6).da t l := by
  have ed := v57_at x0 x1 x2 x3 x4 x5 x6
  pointwise [val_main_v85, val_main_v81, val_main_v80, val_main_cst_12, val_main_v76, val_main_v75, val_main_v72, val_main_v71, val_main_cst_9, val_main_v67, val_main_v66, val_main_v64, val_main_cst_6, val_main_v60, val_main_v59, val_main_v34, val_main_v38, val_main_v43]
  simp only [ed]
  refine congrArg₂ (· + ·) (congrArg (x5 (ix2 2 l) * (XX x0 x1 x2 x3 x4 x5 x6).dc t l + ·) ?_) ?_
  · change _ = x5 (ix2 1 l) * (if h : t.val + 1 < 2048 then (XX x0 x1 x2 x3 x4 x5 x6).dc ⟨t.val + 1, h⟩ l else 0)
    have e : ∀ k hk, k = t.val + 1 → ∀ h, (XX x0 x1 x2 x3 x4 x5 x6).dc ⟨k, hk⟩ l = (XX x0 x1 x2 x3 x4 x5 x6).dc ⟨t.val + 1, h⟩ l := by
      intro k hk e h; subst e; rfl
    by_cases h : t.val + 1 < 2048
    · rw [dif_pos (by omega), dif_pos h, e _ _ (by omega) h]
    · rw [dif_neg (by omega), dif_neg h, mul_zero]
  · change _ = x5 (ix2 0 l) * (if h : t.val + 2 < 2048 then (XX x0 x1 x2 x3 x4 x5 x6).dc ⟨t.val + 2, h⟩ l else 0)
    have e : ∀ k hk, k = t.val + 2 → ∀ h, (XX x0 x1 x2 x3 x4 x5 x6).dc ⟨k, hk⟩ l = (XX x0 x1 x2 x3 x4 x5 x6).dc ⟨t.val + 2, h⟩ l := by
      intro k hk e h; subst e; rfl
    by_cases h : t.val + 2 < 2048
    · rw [dif_pos (by omega), dif_pos h, e _ _ (by omega) h]
    · rw [dif_neg (by omega), dif_neg h, mul_zero]

theorem v87_at (t : Fin 2048) (l : Fin 512) : val_main_v87 (F := Ideal) x0 x1 x5 (ix2 t l) = (XX x0 x1 x2 x3 x4 x5 x6).dpre t l := by
  have e := v85_at x0 x1 x2 x3 x4 x5 x6 t
  pointwise [val_main_v87, val_main_v4]
  simp only [e]
  rfl

theorem v86_at (t : Fin 2048) (l : Fin 512) : val_main_v86 (F := Ideal) x0 x1 x5 (ix2 t l) = (XX x0 x1 x2 x3 x4 x5 x6).du t l := by
  have e := v85_at x0 x1 x2 x3 x4 x5 x6 t
  pointwise [val_main_v86, val_main_v2]
  simp only [e]
  rw [mul_comm]
  rfl

theorem v124_at (h0 : Re x0) (h1 : Re x1) (h2 : Re x2) (h3 : Re x3) (h4 : Re x4) (h5 : Re x5) (t : Fin 2048) (j : Fin 9216) :
    val_main_v124 (F := Ideal) x0 x1 x2 x3 x4 x5 x6 (ix2 t j) = (XX x0 x1 x2 x3 x4 x5 x6).big t j := by
  have ea := v114_at x0 x1 x2 x3 x4 x5 x6 h0 h1 h2 t
  have eb := v90_at x0 x1 x2 x3 x4 x5 x6 h0 h1 h3 h4 t
  have ec := v87_at x0 x1 x2 x3 x4 x5 x6 t
  have ed := v58_at x0 x1 x2 x3 x4 x5 x6 t
  have ee := v86_at x0 x1 x2 x3 x4 x5 x6 t
  have ef := v56_at x0 x1 x2 x3 x4 x5 x6 h0 h1 h5 t
  pointwise [val_main_v124, val_main_v123, val_main_v122, val_main_v121, val_main_v120, val_main_v119, val_main_v118, val_main_v117, val_main_v116, val_main_v115]
  simp only [ea, eb, ec, ed, ee, ef]
  have key : ∀ (n : Nat) (f : Fin n → EReal) (a b : Nat) ha hb, a = b → f ⟨a, ha⟩ = f ⟨b, hb⟩ := by
    intro n f a b ha hb e; subst e; rfl
  unfold Args.big
  by_cases h1 : j.val < 1536
  · rw [dif_pos h1, dif_neg (by omega), dif_neg (by omega), dif_neg (by omega), dif_neg (by omega), dif_neg (by omega), dif_neg (by omega)]
  rw [dif_neg h1]
  by_cases h2 : j.val - 1536 < 512
  · rw [dif_pos h2, dif_pos (by omega)]
  rw [dif_neg h2, dif_neg (show ¬(1536 ≤ j.val ∧ j.val < 2048) by omega)]
  by_cases h3 : j.val - 1536 - 512 < 1536
  · rw [dif_pos h3, dif_neg (by omega), dif_neg (by omega), dif_neg (by omega), dif_neg (by omega), dif_neg (by omega)]
    exact key _ (fun k => x6 (ix2 t k)) _ j.val _ j.isLt (by omega)
  rw [dif_neg h3]
  by_cases h4 : j.val - 1536 - 512 - 1536 < 512
  · rw [dif_pos h4, dif_pos (by omega)]
    exact key _ ((XX x0 x1 x2 x3 x4 x5 x6).dzb t) _ _ _ _ (by omega)
  rw [dif_neg h4, dif_neg (show ¬(3584 ≤ j.val ∧ j.val < 4096) by omega)]
  by_cases h5 : j.val - 1536 - 512 - 1536 - 512 < 512
  · rw [dif_pos h5, dif_pos (by omega)]
    exact key _ ((XX x0 x1 x2 x3 x4 x5 x6).dpre t) _ _ _ _ (by omega)
  rw [dif_neg h5, dif_neg (show ¬(4096 ≤ j.val ∧ j.val < 4608) by omega)]
  by_cases h6 : j.val - 1536 - 512 - 1536 - 512 - 512 < 512
  · rw [dif_pos h6, dif_pos (by omega)]
    exact key _ ((XX x0 x1 x2 x3 x4 x5 x6).dpost t) _ _ _ _ (by omega)
  rw [dif_neg h6, dif_neg (show ¬(4608 ≤ j.val ∧ j.val < 5120) by omega)]
  by_cases h7 : j.val - 1536 - 512 - 1536 - 512 - 512 - 512 < 512
  · rw [dif_pos h7, dif_pos (by omega)]
    exact key _ ((XX x0 x1 x2 x3 x4 x5 x6).du t) _ _ _ _ (by omega)
  rw [dif_neg h7, dif_neg (show ¬(5120 ≤ j.val ∧ j.val < 5632) by omega)]
  by_cases h8 : j.val - 1536 - 512 - 1536 - 512 - 512 - 512 - 512 < 512
  · rw [dif_pos h8, dif_pos (by omega)]
    exact key _ ((XX x0 x1 x2 x3 x4 x5 x6).dzc t) _ _ _ _ (by omega)
  · rw [dif_neg h8, dif_neg (show ¬(5632 ≤ j.val ∧ j.val < 6144) by omega)]
    exact key _ (fun k => x6 (ix2 t k)) _ j.val _ j.isLt (by omega)

theorem v126_at (r : Fin 8) (l : Fin 512) : val_main_v126 (F := Ideal) x0 x1 x3 (ix2 r l) = (XX x0 x1 x2 x3 x4 x5 x6).vec l r := by
  have eo := v25_at x0 x1 x2 x3 x4 x5 x6
  have en := v89_at x0 x1 x2 x3 x4 x5 x6
  have ed := v57_at x0 x1 x2 x3 x4 x5 x6
  have e0 := v44_at x0 x1 x2 x3 x4 x5 x6
  have e1 := v39_at x0 x1 x2 x3 x4 x5 x6
  have e2 := v35_at x0 x1 x2 x3 x4 x5 x6
  pointwise [val_main_v126, val_main_v125, val_main_cst_18, val_main_v93, val_main_v92, val_main_cst_14, val_main_v91, val_main_v83, val_main_v82, val_main_cst_13, val_main_v79, val_main_v78, val_main_cst_11, val_main_v77, val_main_v74, val_main_v73, val_main_cst_10, val_main_v70, val_main_v69, val_main_cst_8, val_main_v68, val_main_v65, val_main_cst_7, val_main_v63, val_main_v62, val_main_cst_5, val_main_v61]
  simp only [eo, en, ed, e0, e1, e2]
  unfold Args.vec Args.term
  by_cases r0 : r.val = 0
  · rw [dif_pos (by omega)]
    refine Finset.sum_congr rfl fun x _ => ?_
    rw [if_neg (by omega), if_neg (by omega), if_neg (by omega), if_pos r0, mul_comm]
  rw [dif_neg (by omega)]
  by_cases r1 : r.val = 1
  · rw [dif_pos (by omega), dif_neg (by omega), dif_neg (by omega), dif_pos (by omega), zero_add, zero_add]
    refine Finset.sum_congr rfl fun x _ => ?_
    rw [if_neg (by omega), if_neg (by omega), if_pos r1]
  by_cases r2 : r.val = 2
  · rw [dif_pos (by omega), dif_neg (by omega), dif_pos (by omega), dif_neg (by omega), zero_add, add_zero]
    refine Finset.sum_congr rfl fun x _ => ?_
    rw [if_neg (by omega), if_pos r2]
  by_cases r3 : r.val = 3
  · rw [dif_pos (by omega), dif_pos (by omega), dif_neg (by omega), dif_neg (by omega), add_zero, add_zero]
    refine Finset.sum_congr rfl fun x _ => ?_
    rw [if_pos r3]
  · rw [dif_neg (by omega)]
    refine (Finset.sum_eq_zero fun x _ => ?_).symm
    rw [if_neg r3, if_neg r2, if_neg r1, if_neg r0]

/-- The four results as functions of an index. -/
theorem ref_big (h0 : Re x0) (h1 : Re x1) (h2 : Re x2) (h3 : Re x3) (h4 : Re x4) (h5 : Re x5) :
    val_main_v124 (F := Ideal) x0 x1 x2 x3 x4 x5 x6 = fun i => (XX x0 x1 x2 x3 x4 x5 x6).big (i 0) (i 1) := by
  funext i
  exact (congrArg _ (ix2_eta i).symm).trans (v124_at x0 x1 x2 x3 x4 x5 x6 h0 h1 h2 h3 h4 h5 (i 0) (i 1))
theorem ref_doa : val_main_v113 (F := Ideal) x0 x1 = fun i => (XX x0 x1 x2 x3 x4 x5 x6).doa (i 0) (i 1) := by
  funext i
  exact (congrArg _ (ix2_eta i).symm).trans (v113_at x0 x1 x2 x3 x4 x5 x6 (i 0) (i 1))
theorem ref_dob (h0 : Re x0) (h1 : Re x1) (h3 : Re x3) (h4 : Re x4) :
    val_main_v111 (F := Ideal) x0 x1 x3 x4 = fun i => (XX x0 x1 x2 x3 x4 x5 x6).dob (i 0) (i 1) := by
  funext i
  exact (congrArg _ (ix2_eta i).symm).trans (v111_at x0 x1 x2 x3 x4 x5 x6 h0 h1 h3 h4 (i 0) (i 1))
theorem ref_vec : val_main_v126 (F := Ideal) x0 x1 x3 = fun i => (XX x0 x1 x2 x3 x4 x5 x6).vec (i 1) (i 0) := by
  funext i
  exact (congrArg _ (ix2_eta i).symm).trans (v126_at x0 x1 x2 x3 x4 x5 x6 (i 0) (i 1))

end Cert.BrRefIdeal.Value

end
-- ==== Proof.Branch.lean ====
/- The branches' backward call: its value claim. At finite arguments the kernel's four results are the reference's. -/
module

public import proofs.«01_k».proof.Defs
public import proofs.«01_k».proof.Proof.Gen.BrRefIdeal.Read
public import proofs.«01_k».proof.Proof.Gen.BrRefIdeal.Run
public import proofs.«01_k».proof.Proof.Gen.Pre_branch_finite
public import proofs.«01_k».proof.Proof.BrK
public import proofs.«01_k».proof.Proof.BrRef

@[expose] public section

set_option maxRecDepth 16384

noncomputable section

open Idealize.ShloMosaic Idealize.ShloMosaic.TcCoe Idealize.SL.Sem

namespace Cert.Proof

open Cert.Reals Cert.Brm

/-- The precondition makes every entry the call reads for its products a real number. -/
theorem branch_real (a : FVec Ideal Cert.Pre_branch_finite.S2048x1536 .f32) (b : FVec Ideal Cert.Pre_branch_finite.S2048x9216 .f32)
    (d e : FVec Ideal Cert.Pre_branch_finite.S2048x512 .f32) (f : FVec Ideal Cert.Pre_branch_finite.S1x128 .f32)
    (g : FVec Ideal Cert.Pre_branch_finite.S3x512 .f32) (y : FVec Ideal Cert.Pre_branch_finite.S2048x9216 .bf16)
    (h : Cert.Pre_branch_finite.fn (F := Ideal) a b d e f g y = fun _ => 1#1) :
    (∀ i, Rl (a i)) ∧ (∀ i, Rl (b i)) ∧ (∀ i, Rl (d i)) ∧ (∀ i, Rl (e i)) ∧ (∀ i, Rl (f i)) ∧ ∀ i, Rl (g i) := by
  have k := congrFun h (fun k => k.elim0)
  unfold Cert.Pre_branch_finite.fn Cert.Pre_branch_finite.fn_part1 at k
  obtain ⟨k, k5⟩ := IntOp.andi_eq_one.mp k
  obtain ⟨k, k4⟩ := IntOp.andi_eq_one.mp k
  obtain ⟨k, k3⟩ := IntOp.andi_eq_one.mp k
  obtain ⟨k, k2⟩ := IntOp.andi_eq_one.mp k
  obtain ⟨k, k1⟩ := IntOp.andi_eq_one.mp k
  obtain ⟨_, k0⟩ := IntOp.andi_eq_one.mp k
  obtain ⟨r0, h0⟩ := real_of_all _ _ _ _ _ k0
  obtain ⟨r1, h1⟩ := real_of_all _ _ _ _ _ k1
  obtain ⟨r2, h2⟩ := real_of_all _ _ _ _ _ k2
  obtain ⟨r3, h3⟩ := real_of_all _ _ _ _ _ k3
  obtain ⟨r4, h4⟩ := real_of_all _ _ _ _ _ k4
  obtain ⟨r5, h5⟩ := real_of_all _ _ _ _ _ k5
  exact ⟨fun i => ⟨r0 i, congrFun h0 i⟩, fun i => ⟨r1 i, congrFun h1 i⟩, fun i => ⟨r2 i, congrFun h2 i⟩, fun i => ⟨r3 i, congrFun h3 i⟩,
    fun i => ⟨r4 i, congrFun h4 i⟩, fun i => ⟨r5 i, congrFun h5 i⟩⟩

/-- The branches' backward call's value claim. -/
theorem br_algebraic : Cert.algebraic_BrIdeal_BrRefIdeal_pre_branch_finite := by
  intro m g m' g' hpre hag
  refine ⟨Cert.BrIdeal.Run.resP m, Cert.BrIdeal.Run.resA m, Cert.BrIdeal.Run.resB m, Cert.BrIdeal.Run.resV m, ?_, ?_⟩
  · refine (θ_run _ _ _).mono (fun r h c => ?_) (Cert.BrIdeal.Run.final m g)
    obtain ⟨h0, h1, h2, h3, h4, h5, h6, h7, h8, h9, h10⟩ := h.1 c
    exact ⟨h7.trans (Cert.BrIdeal.Run.big_end m c), h8.trans (Cert.BrIdeal.Run.final18 m c), h9.trans (Cert.BrIdeal.Run.final19 m c),
      h10.trans (Cert.BrIdeal.Run.final20 m c), h0, h1, h2, h3, h4, h5, h6⟩
  · refine (θ_run _ _ _).mono (fun r h c => ?_) (Cert.BrRefIdeal.Value.run m' g')
    obtain ⟨h0, h1, h2, h3, h4⟩ := h c
    have e := hag c
    obtain ⟨p0, p1, p2, p3, p4, p5⟩ := branch_real _ _ _ _ _ _ _ (hpre c)
    have q0 := e.1.symm ▸ p0
    have q1 := e.2.1.symm ▸ p1
    have q2 := e.2.2.1.symm ▸ p2
    have q3 := e.2.2.2.1.symm ▸ p3
    have q4 := e.2.2.2.2.1.symm ▸ p4
    have q5 := e.2.2.2.2.2.1.symm ▸ p5
    have eX : Cert.BrRefIdeal.Value.XX (m' ((c.tc : Thread Cert.BrRefIdeal.nD Cert.BrRefIdeal.τ).loc Cert.BrRefIdeal.main_arg0)) (m' ((c.tc : Thread Cert.BrRefIdeal.nD Cert.BrRefIdeal.τ).loc Cert.BrRefIdeal.main_arg1)) (m' ((c.tc : Thread Cert.BrRefIdeal.nD Cert.BrRefIdeal.τ).loc Cert.BrRefIdeal.main_arg2)) (m' ((c.tc : Thread Cert.BrRefIdeal.nD Cert.BrRefIdeal.τ).loc Cert.BrRefIdeal.main_arg3)) (m' ((c.tc : Thread Cert.BrRefIdeal.nD Cert.BrRefIdeal.τ).loc Cert.BrRefIdeal.main_arg4)) (m' ((c.tc : Thread Cert.BrRefIdeal.nD Cert.BrRefIdeal.τ).loc Cert.BrRefIdeal.main_arg5)) (m' ((c.tc : Thread Cert.BrRefIdeal.nD Cert.BrRefIdeal.τ).loc Cert.BrRefIdeal.main_arg6)) = Cert.BrIdeal.Run.aR m c := by
      unfold Cert.BrRefIdeal.Value.XX Cert.BrIdeal.Run.aR
      exact congr (congr (congr (congr (congr (congr (congrArg Args.mk e.1) e.2.1) e.2.2.1) e.2.2.2.1) e.2.2.2.2.1) e.2.2.2.2.2.1) e.2.2.2.2.2.2
    refine ⟨h0.trans ((Cert.BrRefIdeal.Read.val_main_v124_eq _).trans ((Cert.BrRefIdeal.Value.ref_big (m' ((c.tc : Thread Cert.BrRefIdeal.nD Cert.BrRefIdeal.τ).loc Cert.BrRefIdeal.main_arg0)) (m' ((c.tc : Thread Cert.BrRefIdeal.nD Cert.BrRefIdeal.τ).loc Cert.BrRefIdeal.main_arg1)) (m' ((c.tc : Thread Cert.BrRefIdeal.nD Cert.BrRefIdeal.τ).loc Cert.BrRefIdeal.main_arg2)) (m' ((c.tc : Thread Cert.BrRefIdeal.nD Cert.BrRefIdeal.τ).loc Cert.BrRefIdeal.main_arg3)) (m' ((c.tc : Thread Cert.BrRefIdeal.nD Cert.BrRefIdeal.τ).loc Cert.BrRefIdeal.main_arg4)) (m' ((c.tc : Thread Cert.BrRefIdeal.nD Cert.BrRefIdeal.τ).loc Cert.BrRefIdeal.main_arg5)) (m' ((c.tc : Thread Cert.BrRefIdeal.nD Cert.BrRefIdeal.τ).loc Cert.BrRefIdeal.main_arg6)) q0 q1 q2 q3 q4 q5).trans ?_)),
      h1.trans ((Cert.BrRefIdeal.Read.val_main_v113_eq _).trans ((Cert.BrRefIdeal.Value.ref_doa (m' ((c.tc : Thread Cert.BrRefIdeal.nD Cert.BrRefIdeal.τ).loc Cert.BrRefIdeal.main_arg0)) (m' ((c.tc : Thread Cert.BrRefIdeal.nD Cert.BrRefIdeal.τ).loc Cert.BrRefIdeal.main_arg1)) (m' ((c.tc : Thread Cert.BrRefIdeal.nD Cert.BrRefIdeal.τ).loc Cert.BrRefIdeal.main_arg2)) (m' ((c.tc : Thread Cert.BrRefIdeal.nD Cert.BrRefIdeal.τ).loc Cert.BrRefIdeal.main_arg3)) (m' ((c.tc : Thread Cert.BrRefIdeal.nD Cert.BrRefIdeal.τ).loc Cert.BrRefIdeal.main_arg4)) (m' ((c.tc : Thread Cert.BrRefIdeal.nD Cert.BrRefIdeal.τ).loc Cert.BrRefIdeal.main_arg5)) (m' ((c.tc : Thread Cert.BrRefIdeal.nD Cert.BrRefIdeal.τ).loc Cert.BrRefIdeal.main_arg6))).trans ?_)),
      h2.trans ((Cert.BrRefIdeal.Read.val_main_v111_eq _).trans ((Cert.BrRefIdeal.Value.ref_dob (m' ((c.tc : Thread Cert.BrRefIdeal.nD Cert.BrRefIdeal.τ).loc Cert.BrRefIdeal.main_arg0)) (m' ((c.tc : Thread Cert.BrRefIdeal.nD Cert.BrRefIdeal.τ).loc Cert.BrRefIdeal.main_arg1)) (m' ((c.tc : Thread Cert.BrRefIdeal.nD Cert.BrRefIdeal.τ).loc Cert.BrRefIdeal.main_arg2)) (m' ((c.tc : Thread Cert.BrRefIdeal.nD Cert.BrRefIdeal.τ).loc Cert.BrRefIdeal.main_arg3)) (m' ((c.tc : Thread Cert.BrRefIdeal.nD Cert.BrRefIdeal.τ).loc Cert.BrRefIdeal.main_arg4)) (m' ((c.tc : Thread Cert.BrRefIdeal.nD Cert.BrRefIdeal.τ).loc Cert.BrRefIdeal.main_arg5)) (m' ((c.tc : Thread Cert.BrRefIdeal.nD Cert.BrRefIdeal.τ).loc Cert.BrRefIdeal.main_arg6)) q0 q1 q3 q4).trans ?_)),
      h3.trans ((Cert.BrRefIdeal.Read.val_main_v126_eq _).trans ((Cert.BrRefIdeal.Value.ref_vec (m' ((c.tc : Thread Cert.BrRefIdeal.nD Cert.BrRefIdeal.τ).loc Cert.BrRefIdeal.main_arg0)) (m' ((c.tc : Thread Cert.BrRefIdeal.nD Cert.BrRefIdeal.τ).loc Cert.BrRefIdeal.main_arg1)) (m' ((c.tc : Thread Cert.BrRefIdeal.nD Cert.BrRefIdeal.τ).loc Cert.BrRefIdeal.main_arg2)) (m' ((c.tc : Thread Cert.BrRefIdeal.nD Cert.BrRefIdeal.τ).loc Cert.BrRefIdeal.main_arg3)) (m' ((c.tc : Thread Cert.BrRefIdeal.nD Cert.BrRefIdeal.τ).loc Cert.BrRefIdeal.main_arg4)) (m' ((c.tc : Thread Cert.BrRefIdeal.nD Cert.BrRefIdeal.τ).loc Cert.BrRefIdeal.main_arg5)) (m' ((c.tc : Thread Cert.BrRefIdeal.nD Cert.BrRefIdeal.τ).loc Cert.BrRefIdeal.main_arg6))).trans ?_)), h4⟩
    · funext i; exact congrArg (fun X => Args.big X (i 0) (i 1)) eX
    · funext i; exact congrArg (fun X => Args.doa X (i 0) (i 1)) eX
    · funext i; exact congrArg (fun X => Args.dob X (i 0) (i 1)) eX
    · funext i; exact congrArg (fun X => Args.vec X (i 1) (i 0)) eX

end Cert.Proof

end
-- ==== Proof.FwdK.lean ====
/- The forward merge: what the kernel computes. A tile's blocks of the arguments, the payloads of the stores at a row, and the
   three result arrays. -/
module

public import proofs.«01_k».proof.Defs
public import proofs.«01_k».proof.Proof.Gen.FwdIdeal.Value
public import proofs.«01_k».proof.Proof.FwdMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.FwdIdeal.Value

open Cert.FwdIdeal Cert.FwdIdeal.Gen Cert.Fw

theorem pay2_at (z o : Vec Ideal S256x512 .f32) (i : S256x512.Idx) : k0_pay2 (F := Ideal) z o i = o i * sil (z i) := by
  pointwise [k0_pay2]
  rw [zero_sub]
  rfl

theorem pay5_at (z q : Vec Ideal S256x512 .f32) (w : Vec Ideal S1x512 .f32) (a : Fin 256) (b : Fin 512) :
    k0_pay5 (F := Ideal) z w (k0_pay3 z w) (k0_pay4 z w) q (ix2 a b) = nrm (fun l => z (ix2 a l)) b * w (ix2 0 b) * sil (q (ix2 a b)) := by
  pointwise [k0_pay5, k0_pay3, k0_pay4]
  rw [zero_sub]
  refine congrArg (· * sil (q (ix2 a b))) ?_
  have key : ∀ (o : Nat) (l : Fin 512) (f : Fin 128 → Fin 512), (∀ x, (f x).val = o + x.val) → l.val = b.val → o = b.val / 128 * 128 →
      z (ix2 a l) * Ideal.rsqrt (Ideal.div (∑ x, z (ix2 a (f x)) * z (ix2 a (f x)))
        (Ideal.ofBits FTy.f32 1124073472#32) + Ideal.ofBits FTy.f32 897988541#32) * w (ix2 0 l)
        = nrm (fun l => z (ix2 a l)) b * w (ix2 0 b) := by
    intro o l f hf hl ho
    have hf' : f = hd b := funext fun x => Fin.ext ((hf x).trans (by rw [ho]; rfl))
    have hl' : l = b := Fin.ext hl
    subst hl'
    rw [hf']
    rfl
  split
  · exact key 0 _ (fun x => ⟨x.val, by omega⟩) (fun x => (Nat.zero_add _).symm) rfl (by omega)
  split
  · exact key 128 _ _ (fun x => rfl) (by change 128 + (b.val - 128) = _; omega) (by omega)
  split
  · exact key 256 _ _ (fun x => rfl) (by change 256 + (b.val - 128 - 128) = _; omega) (by omega)
  · exact key 384 _ _ (fun x => rfl) (by change 384 + (b.val - 128 - 128 - 128) = _; omega) (by omega)

theorem pay7_at (p u q s : Vec Ideal S256x512 .f32) (c : BitVec 1) (v w : Vec Ideal S8x512 .f32) (C : Vec Ideal S3x512 .f32) (i : S256x512.Idx)
    (a1 a2 : EReal)
    (h1 : a1 = if h : 1 ≤ (i 0).val then p (ix2 ⟨(i 0).val - 1, by have h : (i 0).val < 256 := (i 0).isLt; omega⟩ (i 1))
        * u (ix2 ⟨(i 0).val - 1, by have h : (i 0).val < 256 := (i 0).isLt; omega⟩ (i 1))
      else Scalar.select c (v (ix2 7 (i 1)) * w (ix2 7 (i 1))) 0)
    (h2 : a2 = if h : 2 ≤ (i 0).val then p (ix2 ⟨(i 0).val - 2, by have h : (i 0).val < 256 := (i 0).isLt; omega⟩ (i 1))
        * u (ix2 ⟨(i 0).val - 2, by have h : (i 0).val < 256 := (i 0).isLt; omega⟩ (i 1))
      else Scalar.select c (v (ix2 ⟨(i 0).val % 2 + 6, by omega⟩ (i 1)) * w (ix2 ⟨(i 0).val % 2 + 6, by omega⟩ (i 1))) 0) :
    k0_pay7 (F := Ideal) (k0_pay6 p u) c v w C q s i
      = s i * (C (ix2 0 (i 1)) * a2 + C (ix2 1 (i 1)) * a1 + C (ix2 2 (i 1)) * (p i * u i)) * sil (q i) := by
  have hi : (i 0).val < 256 := (i 0).isLt
  pointwise [k0_pay7, k0_pay6]
  rw [zero_sub]
  refine congrArg (· * sil (q i)) (congrArg (s i * ·) (congrArg (· + C (ix2 2 (i 1)) * (p i * u i)) ?_))
  refine congrArg₂ (· + ·) (congrArg (C (ix2 0 (i 1)) * ·) ?_) (congrArg (C (ix2 1 (i 1)) * ·) ?_)
  · rw [h2]
    by_cases h : 2 ≤ (i 0).val
    · rw [dif_pos h, dif_neg (by omega)]
      have e : ∀ k hk, k = (i 0).val - 2 → p (ix2 (⟨k, hk⟩ : Fin 256) (i 1)) * u (ix2 (⟨k, hk⟩ : Fin 256) (i 1))
          = p (ix2 (⟨(i 0).val - 2, by omega⟩ : Fin 256) (i 1)) * u (ix2 (⟨(i 0).val - 2, by omega⟩ : Fin 256) (i 1)) := by
        intro k hk e; subst e; rfl
      exact e _ _ (by omega)
    · rw [dif_neg h, dif_pos (by omega)]
      have e : ∀ k hk, k = (i 0).val % 2 + 6 → Scalar.select c (v (ix2 (⟨k, hk⟩ : Fin 8) (i 1)) * w (ix2 (⟨k, hk⟩ : Fin 8) (i 1))) (0 : EReal)
          = Scalar.select c (v (ix2 (⟨(i 0).val % 2 + 6, by omega⟩ : Fin 8) (i 1)) * w (ix2 (⟨(i 0).val % 2 + 6, by omega⟩ : Fin 8) (i 1))) 0 := by
        intro k hk e; subst e; rfl
      exact e _ _ (by omega)
  · rw [h1]
    by_cases h : 1 ≤ (i 0).val
    · rw [dif_pos h, dif_neg (by omega)]
      have e : ∀ k hk, k = (i 0).val - 1 → p (ix2 (⟨k, hk⟩ : Fin 256) (i 1)) * u (ix2 (⟨k, hk⟩ : Fin 256) (i 1))
          = p (ix2 (⟨(i 0).val - 1, by omega⟩ : Fin 256) (i 1)) * u (ix2 (⟨(i 0).val - 1, by omega⟩ : Fin 256) (i 1)) := by
        intro k hk e; subst e; rfl
      exact e _ _ (by omega)
    · rw [dif_neg h, dif_pos (by omega)]
      have e : ∀ k hk, k = 7 → Scalar.select c (v (ix2 (⟨k, hk⟩ : Fin 8) (i 1)) * w (ix2 (⟨k, hk⟩ : Fin 8) (i 1))) (0 : EReal)
          = Scalar.select c (v (ix2 7 (i 1)) * w (ix2 7 (i 1))) 0 := by
        intro k hk e; subst e; rfl
      exact e _ _ (by omega)

theorem sg_zero_sub (x z : EReal) (h : x = 0) : Ideal.div 1 (1 + Ideal.exp (x - z)) = sg z := by
  rw [h, zero_sub]
  rfl

theorem zero_bits : (FloatOps.ofBits FTy.f32 0#32 : Ideal .f32) = (0 : EReal) :=
  congrFun (show (fun _ : S256x1024.Idx => (FloatOps.ofBits FTy.f32 0#32 : Ideal .f32)) = fun _ => (0 : EReal) from by
    funext i; pointwise []) (ix2 0 0)

/-- The merged branches, from the branches' outputs. -/
theorem pay10_at (ya yb yc : Vec Ideal S256x512 .bf16) (g0 g1 g2 : Vec Ideal S256x1024 .f32) (w0 w1 w2 : Vec Ideal S1x512x1024 .bf16)
    (z : Ideal .f32) (hz : z = (0 : EReal)) (i : S256x1024.Idx) :
    k0_pay10 (F := Ideal) yc (k0_pay8 ya yb g0 z w0 g1 w1) (k0_pay9 g2) w2 i
      = sg (g0 i) * (∑ k, ya (ix2 (i 0) k) * w0 (ix3 0 k (i 1))) + sg (g1 i) * (∑ k, yb (ix2 (i 0) k) * w1 (ix3 0 k (i 1)))
        + sg (g2 i) * (∑ k, yc (ix2 (i 0) k) * w2 (ix3 0 k (i 1))) := by
  pointwise [k0_pay10, k0_pay8, k0_pay9]
  exact congrArg₂ (· + ·) (congrArg₂ (· + ·) (congrArg (· * _) (sg_zero_sub _ _ hz)) (congrArg (· * _) (sg_zero_sub _ _ rfl)))
    (congrArg (· * _) (sg_zero_sub _ _ rfl))

/-- The normalised residual, from the merged branches. -/
theorem pay1_at (ya yb yc : Vec Ideal S256x512 .bf16) (g0 g1 g2 : Vec Ideal S256x1024 .f32) (w0 w1 w2 : Vec Ideal S1x512x1024 .bf16)
    (O : Vec Ideal S1024x1024 .bf16) (X : Vec Ideal S256x1024 .f32) (G lg lb : Vec Ideal S1x1024 .f32) (z : Ideal .f32)
    (a : Fin 256) (b : Fin 1024) (I : In)
    (hm : ∀ l, k0_pay10 (F := Ideal) yc (k0_pay8 ya yb g0 z w0 g1 w1) (k0_pay9 g2) w2 (ix2 a l) = I.mg l)
    (hX : ∀ l, X (ix2 a l) = I.x l) (hG : ∀ l, G (ix2 0 l) = I.gate l) (hO : ∀ k l, O (ix2 k l) = I.O k l)
    (hg : ∀ l, lg (ix2 0 l) = I.lg l) (hb : ∀ l, lb (ix2 0 l) = I.lb l) :
    k0_pay1 (F := Ideal) (k0_pay11 yc (k0_pay8 ya yb g0 z w0 g1 w1) (k0_pay9 g2) w2 O X G lg) lb (ix2 a b) = I.xn b := by
  pointwise [k0_pay1, k0_pay11]
  simp only [hm, hX, hG, hO, hg, hb]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 3] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 7] := (by decide +kernel : ∀ t : Fin grid0.N, _)
theorem idx5 : ∀ t : Fin cfg0.N, win0_5.index t = ![t.val, 8] := (by decide +kernel : ∀ t : Fin grid0.N, _)
theorem idx6 : ∀ t : Fin cfg0.N, win0_6.index t = ![t.val, 9] := (by decide +kernel : ∀ t : Fin grid0.N, _)
theorem idx7 : ∀ t : Fin cfg0.N, win0_7.index t = ![t.val, 10] := (by decide +kernel : ∀ t : Fin grid0.N, _)
theorem idx8 : ∀ t : Fin cfg0.N, win0_8.index t = ![t.val, 11] := (by decide +kernel : ∀ t : Fin grid0.N, _)
theorem idx9 : ∀ t : Fin cfg0.N, win0_9.index t = ![t.val * 32 - 1, 8] := (by decide +kernel : ∀ t : Fin grid0.N, _)
theorem idx10 : ∀ t : Fin cfg0.N, win0_10.index t = ![t.val * 32 - 1, 10] := (by decide +kernel : ∀ t : Fin grid0.N, _)
theorem idx11 : ∀ t : Fin cfg0.N, win0_11.index t = ![t.val, 2] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)
theorem idx21 : ∀ t : Fin cfg0.N, win0_21.index t = ![t.val, 0] := (by decide +kernel : ∀ t : Fin grid0.N, _)

variable (m : (ℓ : Loc nD τ sig) → Buf (Elt Ideal) ℓ) (ρ : Dev nD → PrngReg)

/-- Row `a` of tile `t`. -/
def gr (t : Fin cfg0.N) (a : Fin 256) : Fin 2048 := ⟨256 * t.val + a.val, by have h : t.val < 8 := t.isLt; omega⟩

section Args

variable (c : Dev nD)

abbrev aX := m ((c : Thread nD τ).loc main_arg0)
abbrev aP := m ((c : Thread nD τ).loc main_arg1)
abbrev aA := m ((c : Thread nD τ).loc main_arg2)
abbrev aB := m ((c : Thread nD τ).loc main_arg3)
abbrev aG := m ((c : Thread nD τ).loc main_arg4)
abbrev aN := m ((c : Thread nD τ).loc main_arg5)
abbrev aC := m ((c : Thread nD τ).loc main_arg6)
abbrev aW := m ((c : Thread nD τ).loc main_arg7)
abbrev aO := m ((c : Thread nD τ).loc main_arg8)
abbrev aL := m ((c : Thread nD τ).loc main_arg9)
abbrev aM := m ((c : Thread nD τ).loc main_arg10)

/-- Row `t` of what the merge reads. -/
def AR (t : Fin 2048) : In :=
  rowOf (aX m c) (aP m c) (aA m c) (aB m c) (aG m c) (aN m c) (aC m c) (aW m c) (aO m c) (aL m c) (aM m c) t

theorem blk0 (t : Fin cfg0.N) (a : Fin 256) (b : Fin 1024) : iblk m c 0 t (ix2 a b) = aX m c (ix2 (gr t a) b) := by
  unfold gr
  blk_point [iblk, V, idx0]
theorem blk1 (t : Fin cfg0.N) (a : Fin 256) (b : Fin 512) : iblk m c 1 t (ix2 a b) = aA m c (ix2 (gr t a) b) := by
  unfold gr
  blk_point [iblk, V, idx1]
theorem blk2 (t : Fin cfg0.N) (a : Fin 256) (b : Fin 512) : iblk m c 2 t (ix2 a b) = aP m c (ix2 (gr t a) (col 1536 (by decide) b)) := by
  unfold gr col
  blk_point [iblk, V, idx2]
theorem blk3 (t : Fin cfg0.N) (a : Fin 256) (b : Fin 512) : iblk m c 3 t (ix2 a b) = aB m c (ix2 (gr t a) b) := by
  unfold gr
  blk_point [iblk, V, idx3]
theorem blk4 (t : Fin cfg0.N) (a : Fin 256) (b : Fin 512) : iblk m c 4 t (ix2 a b) = aP m c (ix2 (gr t a) (col 3584 (by decide) b)) := by
  unfold gr col
  blk_point [iblk, V, idx4]
theorem blk5 (t : Fin cfg0.N) (a : Fin 256) (b : Fin 512) : iblk m c 5 t (ix2 a b) = aP m c (ix2 (gr t a) (col 4096 (by decide) b)) := by
  unfold gr col
  blk_point [iblk, V, idx5]
theorem blk6 (t : Fin cfg0.N) (a : Fin 256) (b : Fin 512) : iblk m c 6 t (ix2 a b) = aP m c (ix2 (gr t a) (col 4608 (by decide) b)) := by
  unfold gr col
  blk_point [iblk, V, idx6]
theorem blk7 (t : Fin cfg0.N) (a : Fin 256) (b : Fin 512) : iblk m c 7 t (ix2 a b) = aP m c (ix2 (gr t a) (col 5120 (by decide) b)) := by
  unfold gr col
  blk_point [iblk, V, idx7]
theorem blk8 (t : Fin cfg0.N) (a : Fin 256) (b : Fin 512) : iblk m c 8 t (ix2 a b) = aP m c (ix2 (gr t a) (col 5632 (by decide) b)) := by
  unfold gr col
  blk_point [iblk, V, idx8]
theorem blk9 (t : Fin cfg0.N) (a : Fin 8) (b : Fin 512) (s : Fin 2048) (hs : s.val = (t.val * 32 - 1) * 8 + a.val) :
    iblk m c 9 t (ix2 a b) = aP m c (ix2 s (col 4096 (by decide) b)) := by
  obtain ⟨s, h⟩ := s
  subst hs
  unfold col
  blk_point [iblk, V, idx9]
theorem blk10 (t : Fin cfg0.N) (a : Fin 8) (b : Fin 512) (s : Fin 2048) (hs : s.val = (t.val * 32 - 1) * 8 + a.val) :
    iblk m c 10 t (ix2 a b) = aP m c (ix2 s (col 5120 (by decide) b)) := by
  obtain ⟨s, h⟩ := s
  subst hs
  unfold col
  blk_point [iblk, V, idx10]
theorem blk11 (t : Fin cfg0.N) (a : Fin 256) (b : Fin 3072) : iblk m c 11 t (ix2 a b) = aP m c (ix2 (gr t a) (col 6144 (by decide) b)) := by
  unfold gr col
  blk_point [iblk, V, idx11]
theorem blk12 (t : Fin cfg0.N) (b : Fin 1024) : iblk m c 12 t (ix2 0 b) = aG m c (ix2 0 b) := by
  blk_point [iblk, V, idx12]
theorem host2 (i : S1x512.Idx) : V m c main_v2 i = aN m c (ix2 0 ⟨(i 1).val % 128, by omega⟩) := by
  unfold_abbrev_sides
  after_results
  pointwise []
theorem blk13 (t : Fin cfg0.N) (b : Fin 512) : iblk m c 13 t (ix2 0 b) = aN m c (ix2 0 ⟨b.val % 128, by omega⟩) := by
  refine Eq.trans ?_ (host2 m c (ix2 0 b))
  unfold iblk
  change ((cfg0.win 13).blk t).view.read (Elt Ideal) (V m c main_v2) _ = _
  generalize V m c main_v2 = Q
  blk_point [idx13]
theorem blk14 (t : Fin cfg0.N) (a : Fin 3) (b : Fin 512) : iblk m c 14 t (ix2 a b) = aC m c (ix2 a b) := by
  blk_point [iblk, V, idx14]
theorem blk15 (t : Fin cfg0.N) (a : Fin 3) (b : Fin 512) (d : Fin 1024) : iblk m c 15 t (ix3 a b d) = aW m c (ix3 a b d) := by
  blk_point [iblk, V, idx15]
theorem blk16 (t : Fin cfg0.N) (a b : Fin 1024) : iblk m c 16 t (ix2 a b) = aO m c (ix2 a b) := by
  blk_point [iblk, V, idx16]
theorem blk17 (t : Fin cfg0.N) (b : Fin 1024) : iblk m c 17 t (ix2 0 b) = aL m c (ix2 0 b) := by
  blk_point [iblk, V, idx17]
theorem blk18 (t : Fin cfg0.N) (b : Fin 1024) : iblk m c 18 t (ix2 0 b) = aM m c (ix2 0 b) := by
  blk_point [iblk, V, idx18]

theorem ldg (G : Vec Ideal S256x3072 .f32) (o : Nat) (inb) (a : Fin 256) (b : Fin 1024) (k : Fin 3072) (hk : k.val = o + b.val) :
    View.ld (e' := .f32) G (Rect.unit (s := S256x3072) ![0, o] S256x1024.size inb) (ix2 a b) = G (ix2 a k) := by
  refine View.ld_unit_apply_of _ _ _ _ (ix2 a b) (ix2 a k) fun q => ?_
  match q with
  | ⟨0, _⟩ => exact (Nat.zero_add _).symm
  | ⟨1, _⟩ => exact hk

theorem ldw (G : Vec Ideal S3x512x1024 .bf16) (o : Nat) (inb) (a : Fin 512) (b : Fin 1024) (k : Fin 3) (hk : k.val = o) :
    View.ld (e' := .bf16) G (Rect.unit (s := S3x512x1024) ![o, 0, 0] S1x512x1024.size inb) (ix3 (0 : Fin 1) a b) = G (ix3 k a b) := by
  refine View.ld_unit_apply_of _ _ _ _ (ix3 (0 : Fin 1) a b) (ix3 k a b) fun q => ?_
  match q with
  | ⟨0, _⟩ => exact hk
  | ⟨1, _⟩ => exact (Nat.zero_add _).symm
  | ⟨2, _⟩ => exact (Nat.zero_add _).symm

/-- The merge gates' three thirds of the tile. -/
theorem ldG0 (t : Fin cfg0.N) (a : Fin 256) (b : Fin 1024) :
    View.ld (e' := .f32) (iblk m c 11 t) r0_5 (ix2 a b) = aP m c (ix2 (gr t a) (col 6144 (by decide) b)) :=
  (ldg (iblk m c 11 t) 0 _ a b ⟨b.val, by omega⟩ (Nat.zero_add _).symm).trans (blk11 m c t a _)
theorem ldG1 (t : Fin cfg0.N) (a : Fin 256) (b : Fin 1024) :
    View.ld (e' := .f32) (iblk m c 11 t) r0_8 (ix2 a b) = aP m c (ix2 (gr t a) (col 7168 (by decide) b)) :=
  (ldg (iblk m c 11 t) 1024 _ a b ⟨1024 + b.val, by omega⟩ rfl).trans ((blk11 m c t a _).trans
    (congrArg (fun k => aP m c (ix2 (gr t a) k)) (Fin.ext (by change 6144 + (1024 + b.val) = 7168 + b.val; omega))))
theorem ldG2 (t : Fin cfg0.N) (a : Fin 256) (b : Fin 1024) :
    View.ld (e' := .f32) (iblk m c 11 t) r0_11 (ix2 a b) = aP m c (ix2 (gr t a) (col 8192 (by decide) b)) :=
  (ldg (iblk m c 11 t) 2048 _ a b ⟨2048 + b.val, by omega⟩ rfl).trans ((blk11 m c t a _).trans
    (congrArg (fun k => aP m c (ix2 (gr t a) k)) (Fin.ext (by change 6144 + (2048 + b.val) = 8192 + b.val; omega))))

/-- The branches' three weights. -/
theorem ldW0 (t : Fin cfg0.N) (a : Fin 512) (b : Fin 1024) : View.ld (e' := .bf16) (iblk m c 15 t) r0_6 (ix3 (0 : Fin 1) a b) = aW m c (ix3 0 a b) :=
  (ldw (iblk m c 15 t) 0 _ a b 0 rfl).trans (blk15 m c t 0 a b)
theorem ldW1 (t : Fin cfg0.N) (a : Fin 512) (b : Fin 1024) : View.ld (e' := .bf16) (iblk m c 15 t) r0_9 (ix3 (0 : Fin 1) a b) = aW m c (ix3 1 a b) :=
  (ldw (iblk m c 15 t) 1 _ a b 1 rfl).trans (blk15 m c t 1 a b)
theorem ldW2 (t : Fin cfg0.N) (a : Fin 512) (b : Fin 1024) : View.ld (e' := .bf16) (iblk m c 15 t) r0_12 (ix3 (0 : Fin 1) a b) = aW m c (ix3 2 a b) :=
  (ldw (iblk m c 15 t) 2 _ a b 2 rfl).trans (blk15 m c t 2 a b)

/-- The first branch's output on a tile. -/
def Ya (t : Fin cfg0.N) : Vec Ideal S256x512 .bf16 := k0_pay2 (iblk m c 2 t) (iblk m c 1 t)
/-- The second branch's. -/
def Yb (t : Fin cfg0.N) : Vec Ideal S256x512 .bf16 :=
  k0_pay5 (iblk m c 3 t) (iblk m c 13 t) (k0_pay3 (iblk m c 3 t) (iblk m c 13 t)) (k0_pay4 (iblk m c 3 t) (iblk m c 13 t)) (iblk m c 4 t)
/-- The third's. -/
def Yc (t : Fin cfg0.N) : Vec Ideal S256x512 .bf16 :=
  k0_pay7 (k0_pay6 (iblk m c 5 t) (iblk m c 7 t)) (Scalar.cmpi .sgt (BitVec.ofNat 32 ↑(grid0.coords t 0)) 0#32) (iblk m c 9 t) (iblk m c 10 t)
    (iblk m c 14 t) (iblk m c 8 t) (iblk m c 6 t)

theorem Ya_at (t : Fin cfg0.N) (a : Fin 256) (b : Fin 512) : Ya m c t (ix2 a b) = (AR m c (gr t a)).ya b := by
  unfold Ya
  rw [pay2_at, blk1, blk2]
  rfl

theorem Yb_at (t : Fin cfg0.N) (a : Fin 256) (b : Fin 512) : Yb m c t (ix2 a b) = (AR m c (gr t a)).yb b := by
  unfold Yb
  rw [pay5_at, blk4, blk13]
  simp only [blk3]
  rfl

theorem cond_first (t : Fin cfg0.N) (x : EReal) :
    Scalar.select (Scalar.cmpi .sgt (BitVec.ofNat 32 ↑(grid0.coords t 0)) 0#32) x 0 = if 0 < t.val then x else 0 := by
  have h : ∀ t : Fin cfg0.N, Scalar.cmpi .sgt (BitVec.ofNat 32 ↑(grid0.coords t 0)) 0#32 = if 0 < t.val then 1#1 else 0#1 :=
    (by decide +kernel : ∀ t : Fin grid0.N, _)
  rw [h]
  by_cases h0 : 0 < t.val
  · rw [if_pos h0, if_pos h0]; rfl
  · rw [if_neg h0, if_neg h0]; rfl

theorem Yc_at (t : Fin cfg0.N) (a : Fin 256) (b : Fin 512) : Yc m c t (ix2 a b) = (AR m c (gr t a)).yc b := by
  have hN : t.val < 8 := t.isLt
  unfold Yc
  have key : ∀ (p u q s : Vec Ideal S256x512 .f32) (v w : Vec Ideal S8x512 .f32) (C : Vec Ideal S3x512 .f32),
      (∀ a b, p (ix2 a b) = aP m c (ix2 (gr t a) (col 4096 (by decide) b))) → (∀ a b, u (ix2 a b) = aP m c (ix2 (gr t a) (col 5120 (by decide) b))) →
      (∀ a b, q (ix2 a b) = aP m c (ix2 (gr t a) (col 5632 (by decide) b))) → (∀ a b, s (ix2 a b) = aP m c (ix2 (gr t a) (col 4608 (by decide) b))) →
      (∀ a b s, s.val = (t.val * 32 - 1) * 8 + a.val → v (ix2 a b) = aP m c (ix2 s (col 4096 (by decide) b))) →
      (∀ a b s, s.val = (t.val * 32 - 1) * 8 + a.val → w (ix2 a b) = aP m c (ix2 s (col 5120 (by decide) b))) →
      (∀ a b, C (ix2 a b) = aC m c (ix2 a b)) →
      k0_pay7 (k0_pay6 p u) (Scalar.cmpi .sgt (BitVec.ofNat 32 ↑(grid0.coords t 0)) 0#32) v w C q s (ix2 a b) = (AR m c (gr t a)).yc b := ?_
  · exact key _ _ _ _ _ _ _ (blk5 m c t) (blk7 m c t) (blk8 m c t) (blk6 m c t) (blk9 m c t) (blk10 m c t) (blk14 m c t)
  intro p u q s v w C hp hu hq hs hv hw hC
  refine (pay7_at _ _ _ _ _ _ _ _ (ix2 a b) ((AR m c (gr t a)).a1 b) ((AR m c (gr t a)).a2 b) ?_ ?_).trans ?_
  · change (if h : 1 ≤ 256 * t.val + a.val then cin (aP m c) ⟨256 * t.val + a.val - 1, _⟩ b else 0) = if h : 1 ≤ a.val then
      p (ix2 ⟨a.val - 1, _⟩ b) * u (ix2 ⟨a.val - 1, _⟩ b)
      else Scalar.select _ (v (ix2 7 b) * w (ix2 7 b)) 0
    by_cases h : 1 ≤ a.val
    · rw [dif_pos h, dif_pos (by omega), hp, hu]
      have e : (⟨256 * t.val + a.val - 1, by omega⟩ : Fin 2048) = gr t ⟨a.val - 1, by omega⟩ := Fin.ext (by change 256 * t.val + a.val - 1 = 256 * t.val + (a.val - 1); omega)
      rw [e]
      rfl
    · rw [dif_neg h, cond_first]
      by_cases h0 : 0 < t.val
      · rw [if_pos h0, dif_pos (by omega), hv 7 b ⟨256 * t.val + a.val - 1, by omega⟩ (by change 256 * t.val + a.val - 1 = (t.val * 32 - 1) * 8 + 7; omega),
          hw 7 b ⟨256 * t.val + a.val - 1, by omega⟩ (by change 256 * t.val + a.val - 1 = (t.val * 32 - 1) * 8 + 7; omega)]
        rfl
      · rw [if_neg h0, dif_neg (by omega)]
  · change (if h : 2 ≤ 256 * t.val + a.val then cin (aP m c) ⟨256 * t.val + a.val - 2, _⟩ b else 0) = if h : 2 ≤ a.val then
      p (ix2 ⟨a.val - 2, _⟩ b) * u (ix2 ⟨a.val - 2, _⟩ b)
      else Scalar.select _ (v (ix2 ⟨a.val % 2 + 6, _⟩ b) * w (ix2 ⟨a.val % 2 + 6, _⟩ b)) 0
    by_cases h : 2 ≤ a.val
    · rw [dif_pos h, dif_pos (by omega), hp, hu]
      have e : (⟨256 * t.val + a.val - 2, by omega⟩ : Fin 2048) = gr t ⟨a.val - 2, by omega⟩ := Fin.ext (by change 256 * t.val + a.val - 2 = 256 * t.val + (a.val - 2); omega)
      rw [e]
      rfl
    · rw [dif_neg h, cond_first]
      by_cases h0 : 0 < t.val
      · rw [if_pos h0, dif_pos (by omega),
          hv _ b ⟨256 * t.val + a.val - 2, by omega⟩ (by change 256 * t.val + a.val - 2 = (t.val * 32 - 1) * 8 + (a.val % 2 + 6); omega),
          hw _ b ⟨256 * t.val + a.val - 2, by omega⟩ (by change 256 * t.val + a.val - 2 = (t.val * 32 - 1) * 8 + (a.val % 2 + 6); omega)]
        rfl
      · rw [if_neg h0, dif_neg (by omega)]
  · change s (ix2 a b) * (C (ix2 0 b) * _ + C (ix2 1 b) * _
      + C (ix2 2 b) * (p (ix2 a b) * u (ix2 a b))) * sil (q (ix2 a b)) = _
    rw [hs, hC, hC, hC, hp, hu, hq]
    rfl

/-- The merged branches on a tile. -/
theorem mg_at (t : Fin cfg0.N) (z : Ideal .f32) (hz : z = (0 : EReal)) (a : Fin 256) (l : Fin 1024) :
    k0_pay10 (F := Ideal) (Yc m c t) (k0_pay8 (Ya m c t) (Yb m c t) (View.ld (iblk m c 11 t) r0_5) z (View.ld (iblk m c 15 t) r0_6)
      (View.ld (iblk m c 11 t) r0_8) (View.ld (iblk m c 15 t) r0_9)) (k0_pay9 (View.ld (iblk m c 11 t) r0_11)) (View.ld (iblk m c 15 t) r0_12)
      (ix2 a l) = (AR m c (gr t a)).mg l := by
  refine (pay10_at _ _ _ _ _ _ _ _ _ z hz _).trans ?_
  refine congrArg₂ (· + ·) (congrArg₂ (· + ·) (congrArg₂ (· * ·) (congrArg sg (ldG0 m c t a l)) (Finset.sum_congr rfl fun k _ => ?_))
    (congrArg₂ (· * ·) (congrArg sg (ldG1 m c t a l)) (Finset.sum_congr rfl fun k _ => ?_)))
    (congrArg₂ (· * ·) (congrArg sg (ldG2 m c t a l)) (Finset.sum_congr rfl fun k _ => ?_))
  · exact congrArg₂ (· * ·) (Ya_at m c t a k) (ldW0 m c t k l)
  · exact congrArg₂ (· * ·) (Yb_at m c t a k) (ldW1 m c t k l)
  · exact congrArg₂ (· * ·) (Yc_at m c t a k) (ldW2 m c t k l)

/-- The first result: the normalised residual. -/
def resX (m : (ℓ : Loc nD τ sig) → Buf (Elt Ideal) ℓ) (c : Dev nD) (i : S2048x1024.Idx) : EReal := (AR m c (i 0)).xn (i 1)
/-- The second: the merged branches. -/
def resM (m : (ℓ : Loc nD τ sig) → Buf (Elt Ideal) ℓ) (c : Dev nD) (i : S2048x1024.Idx) : EReal := (AR m c (i 0)).mg (i 1)
/-- The third: the branches side by side. -/
def resY (m : (ℓ : Loc nD τ sig) → Buf (Elt Ideal) ℓ) (c : Dev nD) (i : S2048x1536.Idx) : EReal := (AR m c (i 0)).yy (i 1)

theorem final19 : (dats m 0 c).arrAt 19 cfg0.N = resX m c := by
  refine (dats m 0 c).arrAt_eq_of_covers 19 _ (by decide +kernel) fun t hf y => ?_
  blk_simp
  rw [after0_19]; frame_out
  unfold k0_pay16 k0_pay15 k0_pay14 k0_pay13 k0_pay12
  frame_out
  obtain ⟨a, b, rfl⟩ : ∃ a b, y = ix2 a b := ⟨y 0, y 1, (ix2_eta y).symm⟩
  refine (pay1_at (Ya m c t) (Yb m c t) (Yc m c t) _ _ _ _ _ _ _ _ _ _ _ _ a b (AR m c (gr t a))
    (mg_at m c t _ zero_bits a) (fun l => blk0 m c t a l) (fun l => blk12 m c t l) (fun k l => blk16 m c t k l) (fun l => blk17 m c t l)
    (fun l => blk18 m c t l)).trans ?_
  change resX m c (ix2 (gr t a) b) = _
  unfold gr
  generalize resX m c = Q
  blk_point [idx19]

theorem final20 : (dats m 0 c).arrAt 20 cfg0.N = resM m c := by
  refine (dats m 0 c).arrAt_eq_of_covers 20 _ (by decide +kernel) fun t hf y => ?_
  blk_simp
  rw [after0_20]; frame_out
  unfold k0_pay16 k0_pay15 k0_pay14 k0_pay13 k0_pay12
  frame_out
  obtain ⟨a, b, rfl⟩ : ∃ a b, y = ix2 a b := ⟨y 0, y 1, (ix2_eta y).symm⟩
  refine (mg_at m c t _ zero_bits a b).trans ?_
  change resM m c (ix2 (gr t a) b) = _
  unfold gr
  generalize resM m c = Q
  blk_point [idx20]

theorem canonY (A B C : Vec Ideal S256x512 .bf16) (I : In) (a : Fin 256) (hA : ∀ b, A (ix2 a b) = I.ya b) (hB : ∀ b, B (ix2 a b) = I.yb b)
    (hC : ∀ b, C (ix2 a b) = I.yc b) (b : Fin 1536) : View.canon [⟨r0_10, C⟩, ⟨r0_7, B⟩, ⟨r0_4, A⟩] (ix2 a b) = I.yy b := by
  have key : ∀ (D : Vec Ideal S256x512 .bf16) (f : Fin 512 → EReal) (x : S256x512.Idx) (l : Fin 512), (∀ b, D (ix2 a b) = f b) → a.val = (x 0).val →
      l.val = (x 1).val → D x = f l := by
    intro D f x l hD h0 h1
    have e0 : a = x 0 := Fin.ext h0
    have e1 : l = x 1 := Fin.ext h1
    subst e0 e1
    exact (congrArg D (ix2_eta x).symm).trans (hD _)
  unfold In.yy
  canon_tiles x h
  · have h1' : b.val = 1024 + (x 1).val := h1
    rw [dif_neg (by omega), dif_neg (by omega)]
    exact key _ _ _ _ hC h0 (by change b.val - 1024 = _; omega)
  · have h1' : b.val = 512 + (x 1).val := h1
    rw [dif_neg (by omega), dif_pos (by omega)]
    exact key _ _ _ _ hB h0 (by change b.val - 512 = _; omega)
  · have h1' : b.val = (x 1).val := h1
    rw [dif_pos (by omega)]
    exact key _ _ _ _ hA h0 (by change b.val = _; omega)

theorem final21 : (dats m 0 c).arrAt 21 cfg0.N = resY m c := by
  refine (dats m 0 c).arrAt_eq_of_covers 21 _ (by decide +kernel) fun t hf y => ?_
  blk_simp
  rw [after0_21]; frame_out
  unfold k0_pay14 k0_pay13 k0_pay12
  frame_out
  obtain ⟨a, b, rfl⟩ : ∃ a b, y = ix2 a b := ⟨y 0, y 1, (ix2_eta y).symm⟩
  have e := canonY (Ya m c t) (Yb m c t) (Yc m c t) (AR m c (gr t a)) a (Ya_at m c t a) (Yb_at m c t a) (Yc_at m c t a)
  refine (e b).trans ?_
  change resY m c (ix2 (gr t a) b) = _
  unfold gr
  generalize resY m c = Q
  blk_point [idx21]

end Args

end Cert.FwdIdeal.Value

end
-- ==== Proof.Fwd.lean ====
/- The forward merge: what the reference computes, and the value claim. -/
module

public import proofs.«01_k».proof.Defs
public import proofs.«01_k».proof.Proof.Gen.FwdIdeal.Value
public import proofs.«01_k».proof.Proof.Gen.FwdRefIdeal.Read
public import proofs.«01_k».proof.Proof.Gen.FwdRefIdeal.Run
public import proofs.«01_k».proof.Proof.FwdK
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.FwdRefIdeal.Value

open Cert.FwdRefIdeal Cert.FwdRefIdeal.Gen Cert.FwdRefIdeal.Read Cert.Fw

variable (x0 : Vec Ideal S2048x1024 .f32) (x1 : Vec Ideal S2048x9216 .f32) (x2 x3 : Vec Ideal S2048x512 .f32) (x4 : Vec Ideal S1x1024 .f32)
  (x5 : Vec Ideal S1x128 .f32) (x6 : Vec Ideal S3x512 .f32) (x7 : Vec Ideal S3x512x1024 .bf16) (x8 : Vec Ideal S1024x1024 .bf16)
  (x9 x10 : Vec Ideal S1x1024 .f32)

theorem v3_at (t : Fin 2048) (I : In) (hA : ∀ l, x2 (ix2 t l) = I.oa l) (hz : ∀ l, x1 (ix2 t (col 1536 (by decide) l)) = I.za l) (l : Fin 512) :
    val_main_v3 (F := Ideal) x1 x2 (ix2 t l) = I.ya l := by
  pointwise [val_main_v3, val_main_v2, val_main_v1, val_main_call0_v5, val_main_call0_v4, val_main_call0_cst_0, val_main_call0_v3, val_main_call0_v2, val_main_call0_cst, val_main_call0_v1, val_main_call0_v0, val_main_v0]
  rw [hA]
  exact congrArg (I.oa l * ·) (congrArg sil (hz l))

theorem v18_at (t : Fin 2048) (I : In) (hB : ∀ l, x3 (ix2 t l) = I.ob l) (hn : ∀ l : Fin 512, x5 (ix2 0 ⟨l.val % 128, by omega⟩) = I.nw l)
    (l : Fin 512) : val_main_v18 (F := Ideal) x3 x5 (ix2 t l) = nrm I.ob l * I.nw l := by
  pointwise [val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v4]
  rw [hn]
  simp only [hB]
  rfl

theorem sitofp_zero : (FloatOps.sitofp FTy.f32 0#32 : Ideal .f32) = (0 : EReal) := by
  change (((0#32 : BitVec 32).toInt : ℝ) : EReal) = 0
  simp

theorem v45_at (t : Fin 2048) (l : Fin 512) :
    val_main_v45 (F := Ideal) x1 x6 (ix2 t l) = (rowOf x0 x1 x2 x3 x4 x5 x6 x7 x8 x9 x10 t).yc l := by
  pointwise [val_main_v45, val_main_v44, val_main_v43, val_main_call3_v5, val_main_call3_v4, val_main_call3_cst_0, val_main_call3_v3, val_main_call3_v2, val_main_call3_cst, val_main_call3_v1, val_main_call3_v0, val_main_v42, val_main_v41, val_main_v40, val_main_v39, val_main_v38, val_main_v37, val_main_v36, val_main_v35, val_main_v34, val_main_v33, val_main_v32, val_main_v31, val_main_v30, val_main_v29, val_main_v28, val_main_v27, val_main_call2_v0, val_main_c, val_main_v26, val_main_v25, val_main_v24, val_main_v23]
  refine congrArg (· * sil (x1 (ix2 t (col 5632 (by decide) l)))) (congrArg (x1 (ix2 t (col 4608 (by decide) l)) * ·)
    (congrArg (· + x6 (ix2 2 l) * cin x1 t l) ?_))
  refine congrArg₂ (· + ·) (congrArg (x6 (ix2 0 l) * ·) ?_) (congrArg (x6 (ix2 1 l) * ·) ?_)
  · change _ = if h : 2 ≤ t.val then cin x1 ⟨t.val - 2, _⟩ l else 0
    by_cases h : 2 ≤ t.val
    · rw [dif_pos h, dif_pos ⟨h, by omega⟩]; rfl
    · rw [dif_neg h, dif_neg (fun h' => h h'.1)]; exact sitofp_zero
  · change _ = if h : 1 ≤ t.val then cin x1 ⟨t.val - 1, _⟩ l else 0
    by_cases h : 1 ≤ t.val
    · rw [dif_pos h, dif_pos ⟨by omega, by omega⟩]
      have e : (⟨1 + t.val - 2, by omega⟩ : Fin 2048) = ⟨t.val - 1, by omega⟩ := Fin.ext (by change 1 + t.val - 2 = t.val - 1; omega)
      rw [e]; rfl
    · rw [dif_neg h, dif_neg (fun h' => by omega)]; exact sitofp_zero

/-- Row `t` of the reference's arguments. -/
abbrev RR (t : Fin 2048) : In := rowOf x0 x1 x2 x3 x4 x5 x6 x7 x8 x9 x10 t

theorem v22_at (t : Fin 2048) (l : Fin 512) : val_main_v22 (F := Ideal) x1 x3 x5 (ix2 t l) = (RR x0 x1 x2 x3 x4 x5 x6 x7 x8 x9 x10 t).yb l := by
  pointwise [val_main_v22, val_main_v21, val_main_v20, val_main_call1_v5, val_main_call1_v4, val_main_call1_cst_0, val_main_call1_v3, val_main_call1_v2, val_main_call1_cst, val_main_call1_v1, val_main_call1_v0, val_main_v19]
  rw [v18_at x3 x5 t (RR x0 x1 x2 x3 x4 x5 x6 x7 x8 x9 x10 t) (fun _ => rfl) (fun _ => rfl)]
  rfl

theorem v87_at (t : Fin 2048) (l : Fin 1024) :
    val_main_v87 (F := Ideal) x1 x2 x3 x5 x6 x7 (ix2 t l) = (RR x0 x1 x2 x3 x4 x5 x6 x7 x8 x9 x10 t).mg l := by
  have ha := v3_at x1 x2 t (RR x0 x1 x2 x3 x4 x5 x6 x7 x8 x9 x10 t) (fun _ => rfl) (fun _ => rfl)
  have hb := v22_at x0 x1 x2 x3 x4 x5 x6 x7 x8 x9 x10 t
  have hc := v45_at x0 x1 x2 x3 x4 x5 x6 x7 x8 x9 x10 t
  pointwise [val_main_v87, val_main_v86, val_main_v85, val_main_v84, val_main_v83, val_main_v82, val_main_v81, val_main_v80, val_main_v79, val_main_v78, val_main_cst_7, val_main_v77, val_main_v76, val_main_cst_6, val_main_v75, val_main_v74, val_main_v73, val_main_v72, val_main_v71, val_main_v70, val_main_v69, val_main_v68, val_main_v67, val_main_v66, val_main_v65, val_main_cst_5, val_main_v64, val_main_v63, val_main_cst_4, val_main_v62, val_main_v61, val_main_v60, val_main_v59, val_main_v58, val_main_v57, val_main_v56, val_main_v55, val_main_v54, val_main_v53, val_main_cst_3, val_main_v52, val_main_v51, val_main_cst_2, val_main_v50, val_main_v49, val_main_v48, val_main_v47, val_main_v46]
  simp only [ha, hb, hc]
  rfl

theorem v97_at (t : Fin 2048) (l : Fin 1024) :
    val_main_v97 (F := Ideal) x0 x1 x2 x3 x4 x5 x6 x7 x8 (ix2 t l) = (RR x0 x1 x2 x3 x4 x5 x6 x7 x8 x9 x10 t).r l := by
  have hm := v87_at x0 x1 x2 x3 x4 x5 x6 x7 x8 x9 x10 t
  pointwise [val_main_v97, val_main_v96, val_main_v95, val_main_v94, val_main_v93, val_main_cst_9, val_main_v92, val_main_v91, val_main_cst_8, val_main_v90, val_main_v89, val_main_v88]
  simp only [hm]
  rfl

theorem v103_at (t : Fin 2048) (l : Fin 1024) :
    val_main_v103 (F := Ideal) x0 x1 x2 x3 x4 x5 x6 x7 x8 (ix2 t l) = (RR x0 x1 x2 x3 x4 x5 x6 x7 x8 x9 x10 t).rc l := by
  have hr := v97_at x0 x1 x2 x3 x4 x5 x6 x7 x8 x9 x10 t
  pointwise [val_main_v103, val_main_v102, val_main_v101, val_main_v100, val_main_cst_11, val_main_v99, val_main_v98, val_main_cst_10]
  simp only [hr]
  rfl

theorem v117_at (t : Fin 2048) (l : Fin 1024) :
    val_main_v117 (F := Ideal) x0 x1 x2 x3 x4 x5 x6 x7 x8 x9 x10 (ix2 t l) = (RR x0 x1 x2 x3 x4 x5 x6 x7 x8 x9 x10 t).xn l := by
  have hr := v103_at x0 x1 x2 x3 x4 x5 x6 x7 x8 x9 x10 t
  have hq := v97_at x0 x1 x2 x3 x4 x5 x6 x7 x8 x9 x10 t
  pointwise [val_main_v117, val_main_v116, val_main_v115, val_main_v114, val_main_v113, val_main_v112, val_main_v111, val_main_v110, val_main_v109, val_main_cst_14, val_main_v108, val_main_v107, val_main_cst_13, val_main_v106, val_main_v105, val_main_cst_12, val_main_v104]
  simp only [hr]
  rfl

theorem v118_at (t : Fin 2048) (l : Fin 1536) :
    val_main_v118 (F := Ideal) x1 x2 x3 x5 x6 (ix2 t l) = (RR x0 x1 x2 x3 x4 x5 x6 x7 x8 x9 x10 t).yy l := by
  have ha := v3_at x1 x2 t (RR x0 x1 x2 x3 x4 x5 x6 x7 x8 x9 x10 t) (fun _ => rfl) (fun _ => rfl)
  have hb := v22_at x0 x1 x2 x3 x4 x5 x6 x7 x8 x9 x10 t
  have hc := v45_at x0 x1 x2 x3 x4 x5 x6 x7 x8 x9 x10 t
  pointwise [val_main_v118]
  unfold In.yy
  by_cases h : l.val < 512
  · rw [dif_pos h, dif_pos h, ha]
  by_cases h' : l.val < 1024
  · rw [dif_neg h, dif_neg h, dif_pos h', dif_pos (by omega), hb]
  · rw [dif_neg h, dif_neg h, dif_neg h', dif_neg (by omega), hc]
    exact congrArg _ (Fin.ext (by change l.val - 512 - 512 = l.val - 1024; omega))

theorem ref_xn : val_main_v117 (F := Ideal) x0 x1 x2 x3 x4 x5 x6 x7 x8 x9 x10 = fun i => (RR x0 x1 x2 x3 x4 x5 x6 x7 x8 x9 x10 (i 0)).xn (i 1) := by
  funext i
  exact (congrArg _ (ix2_eta i).symm).trans (v117_at x0 x1 x2 x3 x4 x5 x6 x7 x8 x9 x10 (i 0) (i 1))
theorem ref_mg : val_main_v87 (F := Ideal) x1 x2 x3 x5 x6 x7 = fun i => (RR x0 x1 x2 x3 x4 x5 x6 x7 x8 x9 x10 (i 0)).mg (i 1) := by
  funext i
  exact (congrArg _ (ix2_eta i).symm).trans (v87_at x0 x1 x2 x3 x4 x5 x6 x7 x8 x9 x10 (i 0) (i 1))
theorem ref_yy : val_main_v118 (F := Ideal) x1 x2 x3 x5 x6 = fun i => (RR x0 x1 x2 x3 x4 x5 x6 x7 x8 x9 x10 (i 0)).yy (i 1) := by
  funext i
  exact (congrArg _ (ix2_eta i).symm).trans (v118_at x0 x1 x2 x3 x4 x5 x6 x7 x8 x9 x10 (i 0) (i 1))

end Cert.FwdRefIdeal.Value

namespace Cert.Proof

/-- The forward merge's value claim. -/
theorem fwd_algebraic : Cert.algebraic_FwdIdeal_FwdRefIdeal := by
  intro m g m' g' _ hag
  refine ⟨Cert.FwdIdeal.Value.resX m, Cert.FwdIdeal.Value.resM m, Cert.FwdIdeal.Value.resY m, ?_, ?_⟩
  · refine (θ_run _ _ _).mono (fun r h c => ?_) (Cert.FwdIdeal.Value.run_blocks m g)
    obtain ⟨h0, h1, h2, h3⟩ := h c
    exact ⟨h0.trans (Cert.FwdIdeal.Value.final19 m c), h1.trans (Cert.FwdIdeal.Value.final20 m c), h2.trans (Cert.FwdIdeal.Value.final21 m c), h3⟩
  · refine (θ_run _ _ _).mono (fun r h c => ?_) (Cert.FwdRefIdeal.Value.run m' g')
    obtain ⟨h0, h1, h2, h3⟩ := h c
    have e := hag c
    have eR : (fun t => Cert.FwdRefIdeal.Value.RR (m' ((c.tc : Thread Cert.FwdRefIdeal.nD Cert.FwdRefIdeal.τ).loc Cert.FwdRefIdeal.main_arg0)) (m' ((c.tc : Thread Cert.FwdRefIdeal.nD Cert.FwdRefIdeal.τ).loc Cert.FwdRefIdeal.main_arg1)) (m' ((c.tc : Thread Cert.FwdRefIdeal.nD Cert.FwdRefIdeal.τ).loc Cert.FwdRefIdeal.main_arg2)) (m' ((c.tc : Thread Cert.FwdRefIdeal.nD Cert.FwdRefIdeal.τ).loc Cert.FwdRefIdeal.main_arg3)) (m' ((c.tc : Thread Cert.FwdRefIdeal.nD Cert.FwdRefIdeal.τ).loc Cert.FwdRefIdeal.main_arg4)) (m' ((c.tc : Thread Cert.FwdRefIdeal.nD Cert.FwdRefIdeal.τ).loc Cert.FwdRefIdeal.main_arg5)) (m' ((c.tc : Thread Cert.FwdRefIdeal.nD Cert.FwdRefIdeal.τ).loc Cert.FwdRefIdeal.main_arg6)) (m' ((c.tc : Thread Cert.FwdRefIdeal.nD Cert.FwdRefIdeal.τ).loc Cert.FwdRefIdeal.main_arg7)) (m' ((c.tc : Thread Cert.FwdRefIdeal.nD Cert.FwdRefIdeal.τ).loc Cert.FwdRefIdeal.main_arg8)) (m' ((c.tc : Thread Cert.FwdRefIdeal.nD Cert.FwdRefIdeal.τ).loc Cert.FwdRefIdeal.main_arg9)) (m' ((c.tc : Thread Cert.FwdRefIdeal.nD Cert.FwdRefIdeal.τ).loc Cert.FwdRefIdeal.main_arg10)) t) = Cert.FwdIdeal.Value.AR m c := by
      funext t
      unfold Cert.FwdRefIdeal.Value.RR Cert.FwdIdeal.Value.AR
      exact congr (congr (congr (congr (congr (congr (congr (congr (congr (congr (congr (congrArg Cert.Fw.rowOf e.1) e.2.1) e.2.2.1) e.2.2.2.1)
        e.2.2.2.2.1) e.2.2.2.2.2.1) e.2.2.2.2.2.2.1) e.2.2.2.2.2.2.2.1) e.2.2.2.2.2.2.2.2.1) e.2.2.2.2.2.2.2.2.2.1) e.2.2.2.2.2.2.2.2.2.2) rfl
    refine ⟨h0.trans ((Cert.FwdRefIdeal.Read.val_main_v117_eq _ _).trans ((Cert.FwdRefIdeal.Value.ref_xn _ _ _ _ _ _ _ _ _ _ _).trans ?_)),
      h1.trans ((Cert.FwdRefIdeal.Read.val_main_v87_eq _ _).trans ((Cert.FwdRefIdeal.Value.ref_mg (m' ((c.tc : Thread Cert.FwdRefIdeal.nD Cert.FwdRefIdeal.τ).loc Cert.FwdRefIdeal.main_arg0)) _ _ _ (m' ((c.tc : Thread Cert.FwdRefIdeal.nD Cert.FwdRefIdeal.τ).loc Cert.FwdRefIdeal.main_arg4)) _ _ _ (m' ((c.tc : Thread Cert.FwdRefIdeal.nD Cert.FwdRefIdeal.τ).loc Cert.FwdRefIdeal.main_arg8)) (m' ((c.tc : Thread Cert.FwdRefIdeal.nD Cert.FwdRefIdeal.τ).loc Cert.FwdRefIdeal.main_arg9)) (m' ((c.tc : Thread Cert.FwdRefIdeal.nD Cert.FwdRefIdeal.τ).loc Cert.FwdRefIdeal.main_arg10))).trans ?_)),
      h2.trans ((Cert.FwdRefIdeal.Read.val_main_v118_eq _ _).trans ((Cert.FwdRefIdeal.Value.ref_yy (m' ((c.tc : Thread Cert.FwdRefIdeal.nD Cert.FwdRefIdeal.τ).loc Cert.FwdRefIdeal.main_arg0)) _ _ _ (m' ((c.tc : Thread Cert.FwdRefIdeal.nD Cert.FwdRefIdeal.τ).loc Cert.FwdRefIdeal.main_arg4)) _ _ (m' ((c.tc : Thread Cert.FwdRefIdeal.nD Cert.FwdRefIdeal.τ).loc Cert.FwdRefIdeal.main_arg7)) (m' ((c.tc : Thread Cert.FwdRefIdeal.nD Cert.FwdRefIdeal.τ).loc Cert.FwdRefIdeal.main_arg8)) (m' ((c.tc : Thread Cert.FwdRefIdeal.nD Cert.FwdRefIdeal.τ).loc Cert.FwdRefIdeal.main_arg9)) (m' ((c.tc : Thread Cert.FwdRefIdeal.nD Cert.FwdRefIdeal.τ).loc Cert.FwdRefIdeal.main_arg10))).trans ?_)), h3⟩
    · funext i; exact congrArg (fun f => (f (i 0)).xn (i 1)) eR
    · funext i; exact congrArg (fun f => (f (i 0)).mg (i 1)) eR
    · funext i; exact congrArg (fun f => (f (i 0)).yy (i 1)) eR

end Cert.Proof

end
-- ==== Proof.MergeMath.lean ====
/- The real arithmetic of the merge's backward pass, row by row: the residual, the gradient through its standardisation, the
   output projection's gradient, and each gated branch's gradients. `a` is the number of rows, 256 for one of the kernel's
   tiles and 2048 for the whole. -/
module

public import proofs.«01_k».proof.Proof.Reals
public import Idealize.ShloMosaic.Lib.Pipeline.ValueKit

@[expose] public section

noncomputable section

namespace Cert.Mg

open Idealize.ShloMosaic Cert.Reals

/-- A matrix of reals as an array of extended reals. -/
def mat {a b : Nat} (X : Fin a → Fin b → ℝ) : (⟨2, ![a, b]⟩ : Shape).Idx → EReal := fun i => (X (i 0) (i 1) : EReal)

/-- Likewise with three axes. -/
def mat3 {a b c : Nat} (X : Fin a → Fin b → Fin c → ℝ) : (⟨3, ![a, b, c]⟩ : Shape).Idx → EReal :=
  fun i => (X (i 0) (i 1) (i 2) : EReal)

/-- Likewise with four axes. -/
def mat4 {a b c d : Nat} (X : Fin a → Fin b → Fin c → Fin d → ℝ) : (⟨4, ![a, b, c, d]⟩ : Shape).Idx → EReal :=
  fun i => (X (i 0) (i 1) (i 2) (i 3) : EReal)

theorem eq_mat {a b : Nat} (r : (⟨2, ![a, b]⟩ : Shape).Idx → ℝ) : (fun i => (r i : EReal)) = mat fun p q => r (ix2 p q) := by
  funext i
  unfold mat
  congr 2
  exact (ix2_eta i).symm

theorem eq_mat3 {a b c : Nat} (r : (⟨3, ![a, b, c]⟩ : Shape).Idx → ℝ) :
    (fun i => (r i : EReal)) = mat3 fun p q s => r (ix3 p q s) := by
  funext i
  unfold mat3
  congr 2
  exact (ix3_eta i).symm

/-- The residual's factor. -/
def alpha : ℝ := 11863283 / 2 ^ 23

theorem ofBits_alpha : Ideal.ofBits .f32 0x3FB504F3#32 = (alpha : EReal) := by
  simp [Ideal.ofBits, Ideal.ieee, alpha, -EReal.coe_mul]; norm_num

/-- Column `j` of branch `k` among the branches' outputs. -/
def cY (k : Fin 3) (j : Fin 512) : Fin 1536 := ⟨512 * k.val + j.val, by omega⟩
/-- Column `l` of branch `k` among the gates. -/
def cG (k : Fin 3) (l : Fin 1024) : Fin 3072 := ⟨1024 * k.val + l.val, by omega⟩

/-- What the pass reads: the cotangent, the block's input, the merged branches, the branches' outputs, the gates before the
    logistic function, the residual's gate, the branches' and the output's weights, and the normalisation's scale. -/
structure In (a : Nat) where
  D : Fin a → Fin 1024 → ℝ
  X : Fin a → Fin 1024 → ℝ
  M : Fin a → Fin 1024 → ℝ
  Y : Fin a → Fin 1536 → ℝ
  G : Fin a → Fin 3072 → ℝ
  g : Fin 1 → Fin 1024 → ℝ
  W : Fin 3 → Fin 512 → Fin 1024 → ℝ
  O : Fin 1024 → Fin 1024 → ℝ
  L : Fin 1 → Fin 1024 → ℝ

/-- The logistic function. -/
def sigm (x : ℝ) : ℝ := 1 / (1 + Real.exp (-x))

theorem one_add_exp_ne (x : ℝ) : 1 + Real.exp x ≠ 0 := by positivity

variable {a : Nat} (I : In a)

namespace In

/-- The output projection. -/
def y (r : Fin a) (l : Fin 1024) : ℝ := ∑ k, I.M r k * I.O k l
/-- The residual. -/
def res (r : Fin a) (l : Fin 1024) : ℝ := alpha * I.X r l + (1 + I.g 0 l) * I.y r l
/-- The gradient the standardised residual receives. -/
def ct (r : Fin a) (l : Fin 1024) : ℝ := I.D r l * I.L 0 l
/-- The residual's gradient. -/
def dr (r : Fin a) (l : Fin 1024) : ℝ := stdBwd (I.res r) (I.ct r) l
/-- The input's gradient. -/
def dres (r : Fin a) (l : Fin 1024) : ℝ := alpha * I.dr r l
/-- The projection's gradient. -/
def dy (r : Fin a) (l : Fin 1024) : ℝ := (1 + I.g 0 l) * I.dr r l
/-- The merged branches' gradient. -/
def dm (r : Fin a) (k : Fin 1024) : ℝ := ∑ l, I.dy r l * I.O k l
/-- Branch `k`'s gate. -/
def sg (k : Fin 3) (r : Fin a) (l : Fin 1024) : ℝ := sigm (I.G r (cG k l))
/-- Branch `k`'s projection. -/
def pk (k : Fin 3) (r : Fin a) (l : Fin 1024) : ℝ := ∑ j, I.Y r (cY k j) * I.W k j l
/-- The gradient of branch `k`'s gate before the logistic function. -/
def dg (k : Fin 3) (r : Fin a) (l : Fin 1024) : ℝ := I.dm r l * I.pk k r l * I.sg k r l * (1 - I.sg k r l)
/-- The gradient of branch `k`'s projection. -/
def dpk (k : Fin 3) (r : Fin a) (l : Fin 1024) : ℝ := I.dm r l * I.sg k r l
/-- The gradient of branch `k`'s output. -/
def dyc (k : Fin 3) (r : Fin a) (j : Fin 512) : ℝ := ∑ l, I.dpk k r l * I.W k j l
/-- The output weight's gradient. -/
def gwo (k l : Fin 1024) : ℝ := ∑ r, I.M r k * I.dy r l
/-- The branch weights' gradient. -/
def gwb (k : Fin 3) (j : Fin 512) (l : Fin 1024) : ℝ := ∑ r, I.Y r (cY k j) * I.dpk k r l
/-- The gradients of the normalisation's scale and shift and of the residual's gate, in rows 0, 1 and 2 of eight. -/
def vec (q : Fin 8) (l : Fin 1024) : ℝ :=
  if q.val = 0 then ∑ r, I.D r l * xhat (I.res r) l
  else if q.val = 1 then ∑ r, I.D r l
  else if q.val = 2 then ∑ r, I.dr r l * I.y r l
  else 0

end In

/-- The gradients of the three branches' outputs side by side. -/
def allY (I : In a) (r : Fin a) (q : Fin 1536) : ℝ := I.dyc ⟨q.val / 512, by omega⟩ r ⟨q.val % 512, by omega⟩
/-- The gradients of the three gates side by side. -/
def allG (I : In a) (r : Fin a) (q : Fin 3072) : ℝ := I.dg ⟨q.val / 1024, by omega⟩ r ⟨q.val % 1024, by omega⟩

/-- The output weight's gradient in eight bands of rows. -/
def bandO (X : Fin 1024 → Fin 1024 → ℝ) (o : Fin 8) (p : Fin 128) (l : Fin 1024) : ℝ := X ⟨128 * o.val + p.val, by omega⟩ l
/-- The branch weights' gradient in eight bands of columns. -/
def bandB (X : Fin 3 → Fin 512 → Fin 1024 → ℝ) (o : Fin 8) (k : Fin 3) (j : Fin 512) (p : Fin 128) : ℝ :=
  X k j ⟨128 * o.val + p.val, by omega⟩

/-- The rows of tile `t`. -/
def In.tile (I : In 2048) (t : Fin 8) : In 256 where
  D r := I.D ⟨256 * t.val + r.val, by omega⟩
  X r := I.X ⟨256 * t.val + r.val, by omega⟩
  M r := I.M ⟨256 * t.val + r.val, by omega⟩
  Y r := I.Y ⟨256 * t.val + r.val, by omega⟩
  G r := I.G ⟨256 * t.val + r.val, by omega⟩
  g := I.g
  W := I.W
  O := I.O
  L := I.L

/-- The gates' columns among the projection's. -/
def cP (q : Fin 3072) : Fin 9216 := ⟨6144 + q.val, by omega⟩

/-- The merged branches, from the branches' outputs, the projection and the branches' weights. -/
def merged (Y : Fin a → Fin 1536 → ℝ) (P : Fin a → Fin 9216 → ℝ) (W : Fin 3 → Fin 512 → Fin 1024 → ℝ) (r : Fin a) (l : Fin 1024) : ℝ :=
  sigm (P r (cP (cG 0 l))) * (∑ j, Y r (cY 0 j) * W 0 j l) + sigm (P r (cP (cG 1 l))) * (∑ j, Y r (cY 1 j) * W 1 j l)
    + sigm (P r (cP (cG 2 l))) * (∑ j, Y r (cY 2 j) * W 2 j l)

/-- A branch's term of the merge, its columns named in any way. -/
theorem branch_term (Y : Fin a → Fin 1536 → ℝ) (P : Fin a → Fin 9216 → ℝ) (W : Fin 3 → Fin 512 → Fin 1024 → ℝ) (r : Fin a) (l : Fin 1024)
    (k : Fin 3) (p : Fin 9216) (q : Fin 512 → Fin 1536) (hp : p.val = 6144 + 1024 * k.val + l.val) (hq : ∀ j, (q j).val = 512 * k.val + j.val) :
    sigm (P r p) * (∑ j, Y r (q j) * W k j l) = sigm (P r (cP (cG k l))) * (∑ j, Y r (cY k j) * W k j l) := by
  rw [show p = cP (cG k l) from Fin.ext (hp.trans (Nat.add_assoc _ _ _))]
  refine congrArg _ (Finset.sum_congr rfl fun j _ => ?_)
  rw [show q j = cY k j from Fin.ext (hq j)]

/-- The logistic function, as the programs compute it. -/
theorem sigm_neg (x : ℝ) : Ideal.div 1 (1 + Ideal.exp (-(x : EReal))) = (sigm x : EReal) := by
  rw [← EReal.coe_neg, Ideal.exp_coe, show (1 : EReal) = ((1 : ℝ) : EReal) from rfl, ← EReal.coe_add, div_real _ (by positivity)]
  rfl

/-- What the pass reads, from the programs' arguments. -/
def args (D X : Fin 2048 → Fin 1024 → ℝ) (Y : Fin 2048 → Fin 1536 → ℝ) (P : Fin 2048 → Fin 9216 → ℝ) (g : Fin 1 → Fin 1024 → ℝ)
    (W : Fin 3 → Fin 512 → Fin 1024 → ℝ) (O : Fin 1024 → Fin 1024 → ℝ) (L : Fin 1 → Fin 1024 → ℝ) : In 2048 where
  D := D
  X := X
  M := merged Y P W
  Y := Y
  G r q := P r (cP q)
  g := g
  W := W
  O := O
  L := L

theorem sum_tiles (f : Fin 2048 → ℝ) : ∑ t : Fin 8, ∑ r : Fin 256, f ⟨256 * t.val + r.val, by omega⟩ = ∑ r, f r := by
  refine Fin.sum_mul_add_congr fun s k hl => congrArg f (Fin.ext ?_)
  exact congrArg (· + k.val) (Nat.mul_comm _ _)

variable (J : In 2048)

theorem sum_gwo (k l : Fin 1024) : ∑ t : Fin 8, (J.tile t).gwo k l = J.gwo k l := sum_tiles fun r => J.M r k * J.dy r l

theorem sum_gwb (k : Fin 3) (j : Fin 512) (l : Fin 1024) : ∑ t : Fin 8, (J.tile t).gwb k j l = J.gwb k j l :=
  sum_tiles fun r => J.Y r (cY k j) * J.dpk k r l

theorem sum_vec (q : Fin 8) (l : Fin 1024) : ∑ t : Fin 8, (J.tile t).vec q l = J.vec q l := by
  unfold In.vec
  split
  · exact sum_tiles fun r => J.D r l * xhat (J.res r) l
  split
  · exact sum_tiles fun r => J.D r l
  split
  · exact sum_tiles fun r => J.dr r l * J.y r l
  · simp

/-- The gradients of the gates at their columns of the wide projection. -/
def wide (J : In 2048) : Fin 2048 → Fin 9216 → ℝ := fun r q =>
  if h : 6144 ≤ q.val then allG J r ⟨q.val - 6144, by omega⟩ else 0

end Cert.Mg

end
-- ==== Proof.MergePay.lean ====
/- The payloads of the merge's backward kernel over matrices of reals. -/
module

public import proofs.«01_k».proof.Proof.Gen.MergeIdeal.Skeleton
public import proofs.«01_k».proof.Proof.MergeMath

@[expose] public section

set_option maxRecDepth 16384

noncomputable section

open Idealize.ShloMosaic Idealize.ShloMosaic.TcCoe

namespace Cert.MergeIdeal.Value

open Cert.MergeIdeal Cert.MergeIdeal.Gen Cert.Mg Cert.Reals

theorem one_coe : (1 : EReal) = ((1 : ℝ) : EReal) := rfl

section Tile

variable (I : In 256)

theorem pay44_mat (g : Fin 1 → Fin 1024 → ℝ) : k0_pay44 (F := Ideal) (mat g) = mat fun r l => 1 + g r l := by
  funext i
  pointwise [k0_pay44, mat]
  simp only [one_coe, ← EReal.coe_add]

theorem pay43_mat (M : Fin 256 → Fin 1024 → ℝ) : k0_pay43 (F := Ideal) (mat M) = mat M := by
  funext i
  pointwise [k0_pay43]

/-- The output projection. -/
theorem pay45_mat : k0_pay45 (F := Ideal) (mat I.M) (mat I.O) = mat I.y := by
  unfold k0_pay45
  rw [pay43_mat]
  funext i
  pointwise [mat]
  simp only [← EReal.coe_mul, coe_sum]
  rfl

/-- The residual less its row's mean. -/
theorem pay46_mat : k0_pay46 (F := Ideal) (mat I.M) (mat I.g) (mat I.O) (mat I.X) = mat fun r l => xc (I.res r) l := by
  unfold k0_pay46
  rw [pay44_mat, pay45_mat]
  funext i
  pointwise [mat]
  simp only [ofBits_width, ofBits_alpha, ← EReal.coe_mul, ← EReal.coe_add, coe_sum]
  rw [div_real _ (by norm_num), ← EReal.coe_sub]
  rfl

theorem pay47_mat : k0_pay47 (F := Ideal) (mat I.M) (mat I.g) (mat I.O) (mat I.X) = mat fun r _ => rstd (I.res r) := by
  unfold k0_pay47
  rw [pay46_mat]
  funext i
  pointwise [mat]
  simp only [ofBits_width, ofBits_eps, ← EReal.coe_mul, coe_sum]
  rw [div_real _ (by norm_num), ← EReal.coe_add]
  exact rsqrt_real (var_pos _)

theorem pay48_mat : k0_pay48 (F := Ideal) (mat I.M) (mat I.g) (mat I.O) (mat I.X) = mat fun r l => xhat (I.res r) l := by
  unfold k0_pay48
  rw [pay46_mat, pay47_mat]
  funext i
  pointwise [mat]
  rw [← EReal.coe_mul]
  rfl

theorem pay49_mat : k0_pay49 (F := Ideal) (mat I.D) (mat I.L) = mat I.ct := by
  funext i
  pointwise [k0_pay49, mat]
  rw [← EReal.coe_mul]
  rfl

/-- The residual's gradient. -/
theorem pay50_mat : k0_pay50 (F := Ideal) (mat fun r (_ : Fin 1) => rstd (I.res r)) (mat fun r l => xhat (I.res r) l) (mat I.ct)
    = mat I.dr := by
  funext i
  pointwise [k0_pay50, mat]
  simp only [ofBits_width, ← EReal.coe_mul, coe_sum]
  rw [div_real _ (by norm_num), div_real _ (by norm_num)]
  simp only [← EReal.coe_mul, ← EReal.coe_sub]
  rfl

theorem pay51_apply (v : Vec Ideal S1x1024 .f32) (i : S1x1024.Idx) :
    k0_pay51 (F := Ideal) (mat fun r l => xhat (I.res r) l) (mat I.D) v i
      = v i + ((∑ r, I.D r (i 1) * xhat (I.res r) (i 1) : ℝ) : EReal) := by
  pointwise [k0_pay51, mat]
  simp only [← EReal.coe_mul, coe_sum]

theorem pay52_apply (v : Vec Ideal S1x1024 .f32) (i : S1x1024.Idx) :
    k0_pay52 (F := Ideal) (mat I.D) v i = v i + ((∑ r, I.D r (i 1) : ℝ) : EReal) := by
  pointwise [k0_pay52, mat]
  simp only [coe_sum]

theorem pay53_apply (v : Vec Ideal S1x1024 .f32) (i : S1x1024.Idx) :
    k0_pay53 (F := Ideal) (mat I.y) (mat fun r (_ : Fin 1) => rstd (I.res r)) (mat fun r l => xhat (I.res r) l) (mat I.ct) v i
      = v i + ((∑ r, I.dr r (i 1) * I.y r (i 1) : ℝ) : EReal) := by
  unfold k0_pay53
  rw [pay50_mat]
  pointwise [mat]
  simp only [← EReal.coe_mul, coe_sum]

theorem pay55_mat : k0_pay55 (F := Ideal) (mat I.dr) k0_pay54 = mat I.dres := by
  funext i
  pointwise [k0_pay55, k0_pay54, mat]
  rw [ofBits_alpha, ← EReal.coe_mul]
  rfl

theorem pay56_mat : k0_pay56 (F := Ideal) (mat fun r l => 1 + I.g r l) (mat I.dr) = mat I.dy := by
  funext i
  pointwise [k0_pay56, mat]
  rw [← EReal.coe_mul]
  rfl

theorem pay57_apply (v : Vec Ideal S1024x1024 .f32) (i : S1024x1024.Idx) :
    k0_pay57 (F := Ideal) (mat I.M) (mat fun r l => 1 + I.g r l) (mat I.dr) v i = v i + (I.gwo (i 0) (i 1) : EReal) := by
  unfold k0_pay57
  rw [pay56_mat]
  pointwise [mat]
  simp only [← EReal.coe_mul, coe_sum]
  rfl

theorem pay58_mat : k0_pay58 (F := Ideal) (mat fun r l => 1 + I.g r l) (mat I.dr) (mat I.O) = mat I.dm := by
  unfold k0_pay58
  rw [pay56_mat]
  funext i
  pointwise [mat]
  simp only [← EReal.coe_mul, coe_sum]
  rfl

theorem sigm_coe (x : ℝ) : Ideal.div 1 (1 + Ideal.exp (0 - (x : EReal))) = (sigm x : EReal) := by
  rw [← EReal.coe_zero, ← EReal.coe_sub, Ideal.exp_coe, one_coe, ← EReal.coe_add, div_real _ (by positivity), zero_sub]
  rfl

theorem pay59_mat (G : Fin 256 → Fin 1024 → ℝ) : k0_pay59 (F := Ideal) (mat G) = mat fun r l => sigm (G r l) := by
  funext i
  pointwise [k0_pay59, mat]
  exact sigm_coe _

theorem pay65_mat (G : Fin 256 → Fin 1024 → ℝ) : k0_pay65 (F := Ideal) (mat G) = mat fun r l => sigm (G r l) := by
  funext i
  pointwise [k0_pay65, mat]
  exact sigm_coe _

theorem pay70_mat (G : Fin 256 → Fin 1024 → ℝ) : k0_pay70 (F := Ideal) (mat G) = mat fun r l => sigm (G r l) := by
  funext i
  pointwise [k0_pay70, mat]
  exact sigm_coe _

/-- Branch `k`'s columns of the branches' outputs. -/
def colY (k : Fin 3) : Fin 256 → Fin 512 → ℝ := fun r j => I.Y r (cY k j)
/-- Branch `k`'s columns of the gates. -/
def colG (k : Fin 3) : Fin 256 → Fin 1024 → ℝ := fun r l => I.G r (cG k l)
/-- Branch `k`'s weight. -/
def rowW (k : Fin 3) : Fin 1 → Fin 512 → Fin 1024 → ℝ := fun _ j l => I.W k j l

theorem pay60_mat (k : Fin 3) : k0_pay60 (F := Ideal) (mat fun r l => 1 + I.g r l) (mat I.dr) (mat I.O) (mat (colY I k)) (mat (colG I k))
    (mat3 (rowW I k)) = mat (I.dg k) := by
  unfold k0_pay60
  rw [pay58_mat, pay59_mat]
  funext i
  pointwise [mat, mat3]
  simp only [one_coe, ← EReal.coe_mul, coe_sum, ← EReal.coe_sub]
  rfl

theorem pay66_mat (k : Fin 3) : k0_pay66 (F := Ideal) (mat I.dm) (mat (colY I k)) (mat (colG I k)) (mat3 (rowW I k)) = mat (I.dg k) := by
  unfold k0_pay66
  rw [pay65_mat]
  funext i
  pointwise [mat, mat3]
  simp only [one_coe, ← EReal.coe_mul, coe_sum, ← EReal.coe_sub]
  rfl

theorem pay71_mat (k : Fin 3) : k0_pay71 (F := Ideal) (mat I.dm) (mat (colY I k)) (mat (colG I k)) (mat3 (rowW I k)) = mat (I.dg k) := by
  unfold k0_pay71
  rw [pay70_mat]
  funext i
  pointwise [mat, mat3]
  simp only [one_coe, ← EReal.coe_mul, coe_sum, ← EReal.coe_sub]
  rfl

theorem pay61_mat (k : Fin 3) : k0_pay61 (F := Ideal) (mat fun r l => 1 + I.g r l) (mat I.dr) (mat I.O) (mat (colG I k)) = mat (I.dpk k) := by
  unfold k0_pay61
  rw [pay58_mat, pay59_mat]
  funext i
  pointwise [mat]
  rw [← EReal.coe_mul]
  rfl

theorem pay62_mat (k : Fin 3) : k0_pay62 (F := Ideal) (mat (I.dpk k)) = mat (I.dpk k) := by
  funext i
  pointwise [k0_pay62]

theorem pay63_mat (k : Fin 3) : k0_pay63 (F := Ideal) (mat (I.dpk k)) (mat3 (rowW I k)) = mat (I.dyc k) := by
  unfold k0_pay63
  rw [pay62_mat]
  funext i
  pointwise [mat, mat3]
  simp only [← EReal.coe_mul, coe_sum]
  rfl

theorem pay64_apply (k : Fin 3) (v : Vec Ideal S1x512x1024 .f32) (i : S1x512x1024.Idx) :
    k0_pay64 (F := Ideal) (mat (colY I k)) (mat (I.dpk k)) v i = v i + (I.gwb k (i 1) (i 2) : EReal) := by
  unfold k0_pay64
  rw [pay62_mat]
  pointwise [mat]
  simp only [← EReal.coe_mul, coe_sum]
  rfl

theorem pay67_mat (k : Fin 3) : k0_pay67 (F := Ideal) (mat I.dm) (mat (I.sg k)) = mat (I.dpk k) := by
  funext i
  pointwise [k0_pay67, mat]
  rw [← EReal.coe_mul]
  rfl

theorem pay68_mat (k : Fin 3) : k0_pay68 (F := Ideal) (mat I.dm) (mat (I.sg k)) (mat3 (rowW I k)) = mat (I.dyc k) := by
  unfold k0_pay68
  rw [pay67_mat]
  funext i
  pointwise [mat, mat3]
  simp only [← EReal.coe_mul, coe_sum]
  rfl

theorem pay69_apply (k : Fin 3) (v : Vec Ideal S1x512x1024 .f32) (i : S1x512x1024.Idx) :
    k0_pay69 (F := Ideal) (mat I.dm) (mat (colY I k)) (mat (I.sg k)) v i = v i + (I.gwb k (i 1) (i 2) : EReal) := by
  unfold k0_pay69
  rw [pay67_mat]
  pointwise [mat]
  simp only [← EReal.coe_mul, coe_sum]
  rfl

theorem pay1_mat (k : Fin 3) : k0_pay1 (F := Ideal) (mat I.dm) (mat (I.sg k)) = mat (I.dpk k) := by
  funext i
  pointwise [k0_pay1, mat]
  rw [← EReal.coe_mul]
  rfl

theorem pay2_mat (k : Fin 3) : k0_pay2 (F := Ideal) (mat I.dm) (mat (I.sg k)) (mat3 (rowW I k)) = mat (I.dyc k) := by
  unfold k0_pay2
  rw [pay1_mat]
  funext i
  pointwise [mat, mat3]
  simp only [← EReal.coe_mul, coe_sum]
  rfl

theorem pay3_apply (k : Fin 3) (v : Vec Ideal S1x512x1024 .f32) (i : S1x512x1024.Idx) :
    k0_pay3 (F := Ideal) (mat I.dm) (mat (colY I k)) (mat (I.sg k)) v i = v i + (I.gwb k (i 1) (i 2) : EReal) := by
  unfold k0_pay3
  rw [pay1_mat]
  pointwise [mat]
  simp only [← EReal.coe_mul, coe_sum]
  rfl

end Tile

end Cert.MergeIdeal.Value

end
-- ==== Proof.MergeHost.lean ====
/- The merged branches, which the host computes before the kernel's call. -/
module

public import proofs.«01_k».proof.Proof.Gen.MergeIdeal.Frame.Runs
public import proofs.«01_k».proof.Proof.MergePay

@[expose] public section

set_option maxRecDepth 16384

noncomputable section

open Idealize.ShloMosaic Idealize.ShloMosaic.TcCoe
open Idealize.ShloMosaic.StableHlo

namespace Cert.MergeIdeal.Value

open Cert.MergeIdeal Cert.MergeIdeal.Gen Cert.Mg Cert.Reals

variable (m : (ℓ : Loc nD τ sig) → Buf (Elt Ideal) ℓ)

theorem V46 (c : Dev nD) (Y : Fin 2048 → Fin 1536 → ℝ) (P : Fin 2048 → Fin 9216 → ℝ) (W : Fin 3 → Fin 512 → Fin 1024 → ℝ)
    (h2 : m ((c : Thread nD τ).loc main_arg2) = mat Y) (h3 : m ((c : Thread nD τ).loc main_arg3) = mat P)
    (h5 : m ((c : Thread nD τ).loc main_arg5) = mat3 W) : V m c main_v46 = mat (merged Y P W) := by
  unfold_abbrev_sides
  after_results
  have h2' : m (c, Proc.tc.devRef main_arg2) = mat Y := h2
  have h3' : m (c, Proc.tc.devRef main_arg3) = mat P := h3
  have h5' : m (c, Proc.tc.devRef main_arg5) = mat3 W := h5
  rw [h2', h3', h5']
  funext i
  pointwise [mat, mat3]
  simp only [sigm_neg, ← EReal.coe_mul, coe_sum, ← EReal.coe_add]
  refine congrArg (fun x : ℝ => (x : EReal)) (congr (congrArg _ (congr (congrArg _ ?_) ?_)) ?_)
  · exact branch_term Y P W _ _ 0 _ _ rfl fun j => (Nat.zero_add _).symm
  · exact branch_term Y P W _ _ 1 _ _ rfl fun j => rfl
  · exact branch_term Y P W _ _ 2 _ _ rfl fun j => rfl

end Cert.MergeIdeal.Value

end
-- ==== Proof.MergeK.lean ====
/- The merge's backward kernel: its eight row tiles of 256 rows, and the six result arrays they leave. -/
module

public import proofs.«01_k».proof.Proof.Gen.MergeIdeal.Value
public import proofs.«01_k».proof.Proof.MergeHost
public import proofs.«01_k».proof.Proof.MergePay
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Mg Cert.Reals

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 2] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 2] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0, 0] := (by decide +kernel : ∀ t : Fin grid0.N, _)
theorem idx14 : ∀ t : Fin cfg0.N, win0_14.index t = ![0, 0] := (by decide +kernel : ∀ t : Fin grid0.N, _)

section Real

variable (c : Dev nD) (D X : Fin 2048 → Fin 1024 → ℝ) (Y : Fin 2048 → Fin 1536 → ℝ) (P : Fin 2048 → Fin 9216 → ℝ)
  (g : Fin 1 → Fin 1024 → ℝ) (W : Fin 3 → Fin 512 → Fin 1024 → ℝ) (O : Fin 1024 → Fin 1024 → ℝ) (L : Fin 1 → Fin 1024 → ℝ)

/-- The launch's arguments are these reals. -/
structure Holds : Prop where
  h0 : m ((c : Thread nD τ).loc main_arg0) = mat D
  h1 : m ((c : Thread nD τ).loc main_arg1) = mat X
  h2 : m ((c : Thread nD τ).loc main_arg2) = mat Y
  h3 : m ((c : Thread nD τ).loc main_arg3) = mat P
  h4 : m ((c : Thread nD τ).loc main_arg4) = mat g
  h5 : m ((c : Thread nD τ).loc main_arg5) = mat3 W
  h6 : m ((c : Thread nD τ).loc main_arg6) = mat O
  h7 : m ((c : Thread nD τ).loc main_arg7) = mat L

/-- The tile of point `t`. -/
def tileAt (t : Fin cfg0.N) : In 256 := (args D X Y P g W O L).tile t

variable (H : Holds m c D X Y P g W O L)
include H

theorem blk0 (t : Fin cfg0.N) : iblk m c 0 t = mat (tileAt D X Y P g W O L t).D := by
  funext y
  have e : iblk m c 0 t y = m ((c : Thread nD τ).loc main_arg0)
      (ix2 (⟨256 * t.val + (y 0).val, by have h : t.val < 8 := t.isLt; have := (y 0).isLt; simp at this; omega⟩ : Fin 2048) (y 1)) := by
    blk_point [iblk, V, idx0]
  rw [e, H.h0]
  rfl
theorem blk1 (t : Fin cfg0.N) : iblk m c 1 t = mat (tileAt D X Y P g W O L t).X := by
  funext y
  have e : iblk m c 1 t y = m ((c : Thread nD τ).loc main_arg1)
      (ix2 (⟨256 * t.val + (y 0).val, by have h : t.val < 8 := t.isLt; have := (y 0).isLt; simp at this; omega⟩ : Fin 2048) (y 1)) := by
    blk_point [iblk, V, idx1]
  rw [e, H.h1]
  rfl
theorem blk2 (t : Fin cfg0.N) : iblk m c 2 t = mat (tileAt D X Y P g W O L t).M := by
  funext y
  have e : iblk m c 2 t y = V m c main_v46
      (ix2 (⟨256 * t.val + (y 0).val, by have h : t.val < 8 := t.isLt; have := (y 0).isLt; simp at this; omega⟩ : Fin 2048) (y 1)) := by
    unfold iblk
    change ((cfg0.win 2).blk t).view.read (Elt Ideal) (V m c main_v46) y = _
    generalize V m c main_v46 = Q
    blk_point [idx2]
  rw [e, V46 m c Y P W H.h2 H.h3 H.h5]
  rfl
theorem blk3 (t : Fin cfg0.N) : iblk m c 3 t = mat (tileAt D X Y P g W O L t).Y := by
  funext y
  have e : iblk m c 3 t y = m ((c : Thread nD τ).loc main_arg2)
      (ix2 (⟨256 * t.val + (y 0).val, by have h : t.val < 8 := t.isLt; have := (y 0).isLt; simp at this; omega⟩ : Fin 2048) (y 1)) := by
    blk_point [iblk, V, idx3]
  rw [e, H.h2]
  rfl
theorem blk4 (t : Fin cfg0.N) : iblk m c 4 t = mat (tileAt D X Y P g W O L t).G := by
  funext y
  have e : iblk m c 4 t y = m ((c : Thread nD τ).loc main_arg3)
      (ix2 (⟨256 * t.val + (y 0).val, by have h : t.val < 8 := t.isLt; have := (y 0).isLt; simp at this; omega⟩ : Fin 2048)
        (⟨6144 + (y 1).val, by have := (y 1).isLt; simp at this; omega⟩ : Fin 9216)) := by
    blk_point [iblk, V, idx4]
  rw [e, H.h3]
  rfl
theorem blk5 (t : Fin cfg0.N) : iblk m c 5 t = mat (tileAt D X Y P g W O L t).g := by
  have e : iblk m c 5 t = m ((c : Thread nD τ).loc main_arg4) := by
    funext y
    blk_point [iblk, V, idx5]
  rw [e, H.h4]
  rfl
theorem blk6 (t : Fin cfg0.N) : iblk m c 6 t = mat3 (tileAt D X Y P g W O L t).W := by
  have e : iblk m c 6 t = m ((c : Thread nD τ).loc main_arg5) := by
    funext y
    blk_point [iblk, V, idx6]
  rw [e, H.h5]
  rfl
theorem blk7 (t : Fin cfg0.N) : iblk m c 7 t = mat (tileAt D X Y P g W O L t).O := by
  have e : iblk m c 7 t = m ((c : Thread nD τ).loc main_arg6) := by
    funext y
    blk_point [iblk, V, idx7]
  rw [e, H.h6]
  rfl
theorem blk8 (t : Fin cfg0.N) : iblk m c 8 t = mat (tileAt D X Y P g W O L t).L := by
  have e : iblk m c 8 t = m ((c : Thread nD τ).loc main_arg7) := by
    funext y
    blk_point [iblk, V, idx8]
  rw [e, H.h7]
  rfl

/-- The first result array is the input's gradient. -/
theorem final9' : (dats m 0 c).arrAt 9 cfg0.N = mat (args D X Y P g W O L).dres := by
  refine (dats m 0 c).arrAt_eq_of_covers 9 _ (by decide +kernel) fun t hf y => ?_
  blk_simp
  have e : (outsAt0 m c t.val t.isLt).1 = mat (tileAt D X Y P g W O L t).dres := by
    by_cases h0 : t.val % 8 = 0
    · rw [outsAt0_A m c t h0 (by omega)]; frame_out
      simp only [blk0 m c D X Y P g W O L H, blk1 m c D X Y P g W O L H, blk2 m c D X Y P g W O L H, blk5 m c D X Y P g W O L H, blk7 m c D X Y P g W O L H, blk8 m c D X Y P g W O L H, pay47_mat, pay48_mat, pay49_mat, pay50_mat, pay55_mat]
    by_cases h1 : t.val % 8 = 7
    · rw [outsAt0_C m c t h0 h1]; frame_out
      simp only [blk0 m c D X Y P g W O L H, blk1 m c D X Y P g W O L H, blk2 m c D X Y P g W O L H, blk5 m c D X Y P g W O L H, blk7 m c D X Y P g W O L H, blk8 m c D X Y P g W O L H, pay47_mat, pay48_mat, pay49_mat, pay50_mat, pay55_mat]
    · rw [outsAt0_B m c t h0 h1]; frame_out
      simp only [blk0 m c D X Y P g W O L H, blk1 m c D X Y P g W O L H, blk2 m c D X Y P g W O L H, blk5 m c D X Y P g W O L H, blk7 m c D X Y P g W O L H, blk8 m c D X Y P g W O L H, pay47_mat, pay48_mat, pay49_mat, pay50_mat, pay55_mat]
  rw [after0_9, e]
  change mat (args D X Y P g W O L).dres (ix2 (⟨256 * t.val + (y 0).val, _⟩ : Fin 2048) (y 1)) = _
  generalize mat (args D X Y P g W O L).dres = Q
  blk_point [idx9]

end Real

end Cert.MergeIdeal.Value

end
-- ==== Proof.MergeL.lean ====
/- The merge's backward kernel: the loads of one tile and the payloads of its stores. -/
module

public import proofs.«01_k».proof.Proof.Gen.MergeIdeal.Value
public import proofs.«01_k».proof.Proof.MergeK
public import proofs.«01_k».proof.Proof.MergePay
public import proofs.«01_k».proof.Proof.Rows
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Mg Cert.Reals

variable (m : (ℓ : Loc nD τ sig) → Buf (Elt Ideal) ℓ)
variable (c : Dev nD) (D X : Fin 2048 → Fin 1024 → ℝ) (Y : Fin 2048 → Fin 1536 → ℝ) (P : Fin 2048 → Fin 9216 → ℝ)
  (g : Fin 1 → Fin 1024 → ℝ) (W : Fin 3 → Fin 512 → Fin 1024 → ℝ) (O : Fin 1024 → Fin 1024 → ℝ) (L : Fin 1 → Fin 1024 → ℝ)
variable (H : Holds m c D X Y P g W O L)
include H

omit H in
theorem dY (I : In 256) (k : Fin 3) (o : Nat) (ho : o = 512 * k.val) (inb) :
    View.ld (Val := Elt Ideal) (e' := .bf16) (mat I.Y) (Rect.unit (s := S256x1536) ![0, o] ![256, 512] inb) = mat (colY I k) := by
  subst ho
  funext x
  refine (View.ld_unit_apply_of _ _ _ _ x (ix2 (x 0) (cY k (x 1))) ?_).trans rfl
  exact Fin.forall_fin_two.mpr ⟨(Nat.zero_add _).symm, rfl⟩
omit H in
theorem dG (I : In 256) (k : Fin 3) (o : Nat) (ho : o = 1024 * k.val) (inb) :
    View.ld (Val := Elt Ideal) (e' := .f32) (mat I.G) (Rect.unit (s := S256x3072) ![0, o] ![256, 1024] inb) = mat (colG I k) := by
  subst ho
  funext x
  refine (View.ld_unit_apply_of _ _ _ _ x (ix2 (x 0) (cG k (x 1))) ?_).trans rfl
  exact Fin.forall_fin_two.mpr ⟨(Nat.zero_add _).symm, rfl⟩
omit H in
theorem dW (I : In 256) (k : Fin 3) (o : Nat) (ho : o = k.val) (inb) :
    View.ld (Val := Elt Ideal) (e' := .bf16) (mat3 I.W) (Rect.unit (s := S3x512x1024) ![o, 0, 0] ![1, 512, 1024] inb) = mat3 (rowW I k) := by
  subst ho
  funext x
  refine (View.ld_unit_apply_of _ _ _ _ x (ix3 k (x 1) (x 2)) ?_).trans rfl
  exact Rows.all3 (by have h : (x 0).val < 1 := (x 0).isLt; change k.val = k.val + (x 0).val; omega) (Nat.zero_add _).symm (Nat.zero_add _).symm

omit H in
theorem sg65 (I : In 256) (k : Fin 3) : k0_pay65 (F := Ideal) (mat (colG I k)) = mat (I.sg k) := pay65_mat _
omit H in
theorem sg70 (I : In 256) (k : Fin 3) : k0_pay70 (F := Ideal) (mat (colG I k)) = mat (I.sg k) := pay70_mat _

omit H in
theorem allY_at (I : In 256) (k : Fin 3) (x : S256x512.Idx) (y : S256x1536.Idx) (h0 : (y 0).val = (x 0).val)
    (h1 : (y 1).val = 512 * k.val + (x 1).val) : mat (I.dyc k) x = mat (allY I) y := by
  have hx : (x 1).val < 512 := (x 1).isLt
  have e0 : x 0 = y 0 := Fin.ext h0.symm
  have e1 : (⟨(y 1).val / 512, by have h : (y 1).val < 1536 := (y 1).isLt; omega⟩ : Fin 3) = k := Fin.ext (by change (y 1).val / 512 = k.val; omega)
  have e2 : (⟨(y 1).val % 512, by omega⟩ : Fin 512) = x 1 := Fin.ext (by change (y 1).val % 512 = (x 1).val; omega)
  change ((I.dyc k (x 0) (x 1) : ℝ) : EReal) = ((I.dyc ⟨(y 1).val / 512, _⟩ (y 0) ⟨(y 1).val % 512, _⟩ : ℝ) : EReal)
  rw [e1, e2, e0]
omit H in
theorem allG_at (I : In 256) (k : Fin 3) (x : S256x1024.Idx) (y : S256x3072.Idx) (h0 : (y 0).val = (x 0).val)
    (h1 : (y 1).val = 1024 * k.val + (x 1).val) : mat (I.dg k) x = mat (allG I) y := by
  have hx : (x 1).val < 1024 := (x 1).isLt
  have e0 : x 0 = y 0 := Fin.ext h0.symm
  have e1 : (⟨(y 1).val / 1024, by have h : (y 1).val < 3072 := (y 1).isLt; omega⟩ : Fin 3) = k := Fin.ext (by change (y 1).val / 1024 = k.val; omega)
  have e2 : (⟨(y 1).val % 1024, by omega⟩ : Fin 1024) = x 1 := Fin.ext (by change (y 1).val % 1024 = (x 1).val; omega)
  change ((I.dg k (x 0) (x 1) : ℝ) : EReal) = ((I.dg ⟨(y 1).val / 1024, _⟩ (y 0) ⟨(y 1).val % 1024, _⟩ : ℝ) : EReal)
  rw [e1, e2, e0]

/-- The second result at point `t`. -/
theorem out10 (t : Fin cfg0.N) : (outsAt0 m c t.val t.isLt).2.1 = mat (allY (tileAt D X Y P g W O L t)) := by
  by_cases c0 : t.val % 8 = 0
  · rw [outsAt0_A m c t c0 (by omega)]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    funext y
    canon_tiles x h
    · exact allY_at _ 2 x y h0 h1
    · exact allY_at _ 1 x y h0 h1
    · exact allY_at _ 0 x y h0 (h1.trans (Nat.zero_add _).symm)
  by_cases c1 : t.val % 8 = 7
  · rw [outsAt0_C m c t c0 c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    funext y
    canon_tiles x h
    · exact allY_at _ 2 x y h0 h1
    · exact allY_at _ 1 x y h0 h1
    · exact allY_at _ 0 x y h0 (h1.trans (Nat.zero_add _).symm)
  · rw [outsAt0_B m c t c0 c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    funext y
    canon_tiles x h
    · exact allY_at _ 2 x y h0 h1
    · exact allY_at _ 1 x y h0 h1
    · exact allY_at _ 0 x y h0 (h1.trans (Nat.zero_add _).symm)

/-- The third result at point `t`. -/
theorem out11 (t : Fin cfg0.N) : (outsAt0 m c t.val t.isLt).2.2.1 = mat (allG (tileAt D X Y P g W O L t)) := by
  by_cases c0 : t.val % 8 = 0
  · rw [outsAt0_A m c t c0 (by omega)]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    funext y
    canon_tiles x h
    · exact allG_at _ 2 x y h0 h1
    · exact allG_at _ 1 x y h0 h1
    · exact allG_at _ 0 x y h0 (h1.trans (Nat.zero_add _).symm)
  by_cases c1 : t.val % 8 = 7
  · rw [outsAt0_C m c t c0 c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    funext y
    canon_tiles x h
    · exact allG_at _ 2 x y h0 h1
    · exact allG_at _ 1 x y h0 h1
    · exact allG_at _ 0 x y h0 (h1.trans (Nat.zero_add _).symm)
  · rw [outsAt0_B m c t c0 c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    funext y
    canon_tiles x h
    · exact allG_at _ 2 x y h0 h1
    · exact allG_at _ 1 x y h0 h1
    · exact allG_at _ 0 x y h0 (h1.trans (Nat.zero_add _).symm)

omit H in
theorem z40 (i : S1024x1024.Idx) : k0_pay40 (F := Ideal) i = 0 := by pointwise [k0_pay40]
omit H in
theorem z41 (i : S3x512x1024.Idx) : k0_pay41 (F := Ideal) i = 0 := by pointwise [k0_pay41]
omit H in
theorem z42 (i : S8x1024.Idx) : k0_pay42 (F := Ideal) i = 0 := by pointwise [k0_pay42]

/-- What point `t` adds to the output weight's gradient. -/
def termO (t : Fin cfg0.N) (j : S1024x1024.Idx) : EReal := ((tileAt D X Y P g W O L t).gwo (j 0) (j 1) : EReal)

theorem accO_first (t : Fin cfg0.N) (h : t.val % 8 = 0) (j : S1024x1024.Idx) :
    (outsAt0 m c t.val t.isLt).2.2.2.2.2.2.1 j = 0 + termO D X Y P g W O L t j := by
  rw [outsAt0_A m c t h (by omega)]; frame_out
  simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
  simp only [pay43_mat, pay44_mat, pay45_mat, pay47_mat, pay48_mat, pay49_mat, pay50_mat, pay58_mat, pay60_mat, pay66_mat, pay71_mat, pay61_mat, pay63_mat, pay68_mat, pay2_mat, sg65, sg70]
  exact (pay57_apply _ _ j).trans (congrArg (· + _) (z40 _))

theorem accO_next (t : Fin cfg0.N) (h : ¬t.val % 8 = 0) (j : S1024x1024.Idx) :
    (outsAt0 m c t.val t.isLt).2.2.2.2.2.2.1 j
      = (outsAt0 m c (t.val - 1) (Nat.lt_of_le_of_lt (Nat.sub_le _ _) t.isLt)).2.2.2.2.2.2.1 j + termO D X Y P g W O L t j := by
  by_cases c1 : t.val % 8 = 7
  · rw [outsAt0_C m c t h c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [pay43_mat, pay44_mat, pay45_mat, pay47_mat, pay48_mat, pay49_mat, pay50_mat, pay58_mat, pay60_mat, pay66_mat, pay71_mat, pay61_mat, pay63_mat, pay68_mat, pay2_mat, sg65, sg70]
    refine (pay57_apply _ _ j).trans ?_
    rw [read_unread_whole]
    rfl
  · rw [outsAt0_B m c t h c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [pay43_mat, pay44_mat, pay45_mat, pay47_mat, pay48_mat, pay49_mat, pay50_mat, pay58_mat, pay60_mat, pay66_mat, pay71_mat, pay61_mat, pay63_mat, pay68_mat, pay2_mat, sg65, sg70]
    refine (pay57_apply _ _ j).trans ?_
    rw [read_unread_whole]
    rfl

/-- What point `t` adds to the branch weights' gradient. -/
def termB (t : Fin cfg0.N) (j : S3x512x1024.Idx) : EReal := ((tileAt D X Y P g W O L t).gwb (j 0) (j 1) (j 2) : EReal)

omit H in
theorem gwb_pt (v : S3x512x1024.Idx → EReal) (I : In 256) (k : Fin 3) (j : S3x512x1024.Idx) (h : (j 0).val = k.val) :
    v (ix3 (⟨k.val, k.isLt⟩ : Fin 3) (j 1) (j 2)) + (I.gwb k (j 1) (j 2) : EReal) = v j + (I.gwb (j 0) (j 1) (j 2) : EReal) := by
  have e : j 0 = k := Fin.ext h
  have e' : ix3 (⟨k.val, k.isLt⟩ : Fin 3) (j 1) (j 2) = j := by
    funext a
    exact Rows.all3 (p := fun a => ix3 (⟨k.val, k.isLt⟩ : Fin 3) (j 1) (j 2) a = j a) e.symm rfl rfl a
  exact congrArg₂ (· + ·) (congrArg v e') (by rw [e])
omit H in
theorem gwb_pt0 (z : EReal) (I : In 256) (k : Fin 3) (j : S3x512x1024.Idx) (h : (j 0).val = k.val) (hz : z = 0) :
    z + (I.gwb k (j 1) (j 2) : EReal) = 0 + (I.gwb (j 0) (j 1) (j 2) : EReal) := by
  have e : j 0 = k := Fin.ext h
  rw [e, hz]

theorem accB_first (t : Fin cfg0.N) (h : t.val % 8 = 0) (j : S3x512x1024.Idx) :
    (outsAt0 m c t.val t.isLt).2.2.2.2.2.2.2 j = 0 + termB D X Y P g W O L t j := by
  rw [outsAt0_A m c t h (by omega)]; frame_out
  simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
  simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
  simp only [pay43_mat, pay44_mat, pay45_mat, pay47_mat, pay48_mat, pay49_mat, pay50_mat, pay58_mat, pay60_mat, pay66_mat, pay71_mat, pay61_mat, pay63_mat, pay68_mat, pay2_mat, sg65, sg70]
  unfold termB
  simp only [View.readCov_eq_canon']
  refine (Rows.canon_slab 2 _ _ _ j).trans ?_
  by_cases c2 : (j 0).val = 2
  · rw [if_pos c2]
    refine (pay3_apply _ 2 _ _).trans ?_
    refine gwb_pt0 _ _ 2 j c2 ?_
    rw [Rows.slab_idx 2 _ (by decide)]
    refine (Rows.canon_slab 1 _ _ _ _).trans ((if_neg (show ¬((2 : Nat) = 1) by decide)).trans ?_)
    refine (Rows.canon_slab 0 _ _ _ _).trans ((if_neg (show ¬((2 : Nat) = 0) by decide)).trans ?_)
    exact (Rows.canon_all _ _ _ _).trans (z41 _)
  rw [if_neg c2]
  refine (Rows.canon_slab 1 _ _ _ j).trans ?_
  by_cases c1 : (j 0).val = 1
  · rw [if_pos c1]
    refine (pay69_apply _ 1 _ _).trans ?_
    refine gwb_pt0 _ _ 1 j c1 ?_
    rw [Rows.slab_idx 1 _ (by decide)]
    refine (Rows.canon_slab 0 _ _ _ _).trans ((if_neg (show ¬((1 : Nat) = 0) by decide)).trans ?_)
    exact (Rows.canon_all _ _ _ _).trans (z41 _)
  rw [if_neg c1]
  refine (Rows.canon_slab 0 _ _ _ j).trans ?_
  by_cases c0 : (j 0).val = 0
  · rw [if_pos c0]
    refine (pay64_apply _ 0 _ _).trans ?_
    refine gwb_pt0 _ _ 0 j c0 ?_
    rw [Rows.slab_idx 0 _ (by decide)]
    exact (Rows.canon_all _ _ _ _).trans (z41 _)
  rw [if_neg c0]
  have := (j 0).isLt
  simp at this
  omega

theorem accB_next (t : Fin cfg0.N) (h : ¬t.val % 8 = 0) (j : S3x512x1024.Idx) :
    (outsAt0 m c t.val t.isLt).2.2.2.2.2.2.2 j
      = (outsAt0 m c (t.val - 1) (Nat.lt_of_le_of_lt (Nat.sub_le _ _) t.isLt)).2.2.2.2.2.2.2 j + termB D X Y P g W O L t j := by
  unfold termB
  by_cases c1 : t.val % 8 = 7
  · rw [outsAt0_C m c t h c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    refine (Rows.canon_slab 2 _ _ _ j).trans ?_
    by_cases c2 : (j 0).val = 2
    · rw [if_pos c2]
      refine (pay3_apply _ 2 _ _).trans ?_
      rw [View.ld_apply, Rows.slab_idx 2 _ (by decide), read_unread_whole]
      exact gwb_pt _ _ 2 j c2
    rw [if_neg c2]
    refine (Rows.canon_slab 1 _ _ _ j).trans ?_
    by_cases c1 : (j 0).val = 1
    · rw [if_pos c1]
      refine (pay69_apply _ 1 _ _).trans ?_
      rw [View.ld_apply, Rows.slab_idx 1 _ (by decide), read_unread_whole]
      exact gwb_pt _ _ 1 j c1
    rw [if_neg c1]
    refine (Rows.canon_slab 0 _ _ _ j).trans ?_
    by_cases c0 : (j 0).val = 0
    · rw [if_pos c0]
      refine (pay64_apply _ 0 _ _).trans ?_
      rw [View.ld_apply, Rows.slab_idx 0 _ (by decide), read_unread_whole]
      exact gwb_pt _ _ 0 j c0
    rw [if_neg c0]
    have := (j 0).isLt
    simp at this
    omega
  · rw [outsAt0_B m c t h c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [dY _ 0 0 rfl, dY _ 1 512 rfl, dY _ 2 1024 rfl, dG _ 0 0 rfl, dG _ 1 1024 rfl, dG _ 2 2048 rfl, dW _ 0 0 rfl, dW _ 1 1 rfl, dW _ 2 2 rfl]
    simp only [pay43_mat, pay44_mat, pay45_mat, pay47_mat, pay48_mat, pay49_mat, pay50_mat, pay58_mat, pay60_mat, pay66_mat, pay71_mat, pay61_mat, pay63_mat, pay68_mat, pay2_mat, sg65, sg70]
    refine (Rows.canon_slab 2 _ _ _ j).trans ?_
    by_cases c2 : (j 0).val = 2
    · rw [if_pos c2]
      refine (pay3_apply _ 2 _ _).trans ?_
      rw [View.ld_apply, Rows.slab_idx 2 _ (by decide), read_unread_whole]
      exact gwb_pt _ _ 2 j c2
    rw [if_neg c2]
    refine (Rows.canon_slab 1 _ _ _ j).trans ?_
    by_cases c1 : (j 0).val = 1
    · rw [if_pos c1]
      refine (pay69_apply _ 1 _ _).trans ?_
      rw [View.ld_apply, Rows.slab_idx 1 _ (by decide), read_unread_whole]
      exact gwb_pt _ _ 1 j c1
    rw [if_neg c1]
    refine (Rows.canon_slab 0 _ _ _ j).trans ?_
    by_cases c0 : (j 0).val = 0
    · rw [if_pos c0]
      refine (pay64_apply _ 0 _ _).trans ?_
      rw [View.ld_apply, Rows.slab_idx 0 _ (by decide), read_unread_whole]
      exact gwb_pt _ _ 0 j c0
    rw [if_neg c0]
    have := (j 0).isLt
    simp at this
    omega

/-- What point `t` adds to the sums. -/
def termV (t : Fin cfg0.N) (j : S8x1024.Idx) : EReal := ((tileAt D X Y P g W O L t).vec (j 0) (j 1) : EReal)

omit H in
theorem vec_pt (v : S8x1024.Idx → EReal) (I : In 256) (k : Fin 8) (j : S8x1024.Idx) (h : (j 0).val = k.val) (s : ℝ) (hs : I.vec k (j 1) = s) :
    v (ix2 (⟨k.val, k.isLt⟩ : Fin 8) (j 1)) + (s : EReal) = v j + (I.vec (j 0) (j 1) : EReal) := by
  have e : j 0 = k := Fin.ext h
  have e' : ix2 (⟨k.val, k.isLt⟩ : Fin 8) (j 1) = j := by
    funext a
    revert a
    exact Fin.forall_fin_two.mpr ⟨e.symm, rfl⟩
  exact congrArg₂ (· + ·) (congrArg v e') (by rw [e, hs])
omit H in
theorem vec_pt0 (I : In 256) (k : Fin 8) (j : S8x1024.Idx) (h : (j 0).val = k.val) (s : ℝ) (hs : I.vec k (j 1) = s) :
    (0 : EReal) + (s : EReal) = 0 + (I.vec (j 0) (j 1) : EReal) := by
  have e : j 0 = k := Fin.ext h
  rw [e, hs]
omit H in
theorem vec_rest (I : In 256) (j : S8x1024.Idx) (c0 : ¬(j 0).val = 0) (c1 : ¬(j 0).val = 1) (c2 : ¬(j 0).val = 2) :
    (I.vec (j 0) (j 1) : EReal) = 0 := by
  unfold In.vec
  rw [if_neg c0, if_neg c1, if_neg c2]
  rfl

theorem accV_first (t : Fin cfg0.N) (h : t.val % 8 = 0) (j : S8x1024.Idx) :
    (outsAt0 m c t.val t.isLt).2.2.2.2.2.1 j = 0 + termV D X Y P g W O L t j := by
  rw [outsAt0_A m c t h (by omega)]; frame_out
  simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
  simp only [pay43_mat, pay44_mat, pay45_mat, pay47_mat, pay48_mat, pay49_mat, pay50_mat, pay58_mat, pay60_mat, pay66_mat, pay71_mat, pay61_mat, pay63_mat, pay68_mat, pay2_mat, sg65, sg70]
  unfold termV
  simp only [View.readCov_eq_canon', ← View.read_writes_junk_apply_eq_canon (ms0_14 t).view]
  refine (Rows.read_row _ _ 2 _ _ _ j).trans ?_
  by_cases c2 : (j 0).val = 2
  · rw [if_pos c2]
    refine (pay53_apply _ _ _).trans ?_
    refine (congrArg (· + _) (?_ : _ = (0 : EReal))).trans (vec_pt0 _ 2 j c2 _ rfl)
    rw [Rows.row_idx 2 _ (by decide)]
    refine (Rows.read_row _ _ 1 _ _ _ _).trans ((if_neg (show ¬((2 : Nat) = 1) by decide)).trans ?_)
    refine (Rows.read_row _ _ 0 _ _ _ _).trans ((if_neg (show ¬((2 : Nat) = 0) by decide)).trans ?_)
    exact (Rows.read_whole _ _ _ _ _ _).trans (z42 _)
  rw [if_neg c2]
  refine (Rows.read_row _ _ 1 _ _ _ j).trans ?_
  by_cases c1 : (j 0).val = 1
  · rw [if_pos c1]
    refine (pay52_apply _ _ _).trans ?_
    refine (congrArg (· + _) (?_ : _ = (0 : EReal))).trans (vec_pt0 _ 1 j c1 _ rfl)
    rw [Rows.row_idx 1 _ (by decide)]
    refine (Rows.read_row _ _ 0 _ _ _ _).trans ((if_neg (show ¬((1 : Nat) = 0) by decide)).trans ?_)
    exact (Rows.read_whole _ _ _ _ _ _).trans (z42 _)
  rw [if_neg c1]
  refine (Rows.read_row _ _ 0 _ _ _ j).trans ?_
  by_cases c0 : (j 0).val = 0
  · rw [if_pos c0]
    refine (pay51_apply _ _ _).trans ?_
    refine (congrArg (· + _) (?_ : _ = (0 : EReal))).trans (vec_pt0 _ 0 j c0 _ rfl)
    rw [Rows.row_idx 0 _ (by decide)]
    exact (Rows.read_whole _ _ _ _ _ _).trans (z42 _)
  rw [if_neg c0]
  rw [vec_rest _ j c0 c1 c2, zero_add]
  exact (Rows.read_whole _ _ _ _ _ _).trans (z42 _)

theorem accV_next (t : Fin cfg0.N) (h : ¬t.val % 8 = 0) (j : S8x1024.Idx) :
    (outsAt0 m c t.val t.isLt).2.2.2.2.2.1 j
      = (outsAt0 m c (t.val - 1) (Nat.lt_of_le_of_lt (Nat.sub_le _ _) t.isLt)).2.2.2.2.2.1 j + termV D X Y P g W O L t j := by
  unfold termV
  by_cases c1 : t.val % 8 = 7
  · rw [outsAt0_C m c t h c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [pay43_mat, pay44_mat, pay45_mat, pay47_mat, pay48_mat, pay49_mat, pay50_mat, pay58_mat, pay60_mat, pay66_mat, pay71_mat, pay61_mat, pay63_mat, pay68_mat, pay2_mat, sg65, sg70]
    refine (Rows.read_row _ _ 2 _ _ _ j).trans ?_
    by_cases c2 : (j 0).val = 2
    · rw [if_pos c2]
      refine (pay53_apply _ _ _).trans ?_
      rw [View.ld_apply, Rows.row_idx 2 _ (by decide)]
      exact vec_pt _ _ 2 j c2 _ rfl
    rw [if_neg c2]
    refine (Rows.read_row _ _ 1 _ _ _ j).trans ?_
    by_cases c1 : (j 0).val = 1
    · rw [if_pos c1]
      refine (pay52_apply _ _ _).trans ?_
      rw [View.ld_apply, Rows.row_idx 1 _ (by decide)]
      exact vec_pt _ _ 1 j c1 _ rfl
    rw [if_neg c1]
    refine (Rows.read_row _ _ 0 _ _ _ j).trans ?_
    by_cases c0 : (j 0).val = 0
    · rw [if_pos c0]
      refine (pay51_apply _ _ _).trans ?_
      rw [View.ld_apply, Rows.row_idx 0 _ (by decide)]
      exact vec_pt _ _ 0 j c0 _ rfl
    rw [if_neg c0]
    rw [vec_rest _ j c0 c1 c2, add_zero, View.writes_nil]
    exact congrFun ((hs0_14 t).read_unread _) j
  · rw [outsAt0_B m c t h c1]; frame_out
    simp only [blk0 m c D X Y P g W O L H, blk1 m c D X Y P g W O L H, blk2 m c D X Y P g W O L H, blk3 m c D X Y P g W O L H, blk4 m c D X Y P g W O L H, blk5 m c D X Y P g W O L H, blk6 m c D X Y P g W O L H, blk7 m c D X Y P g W O L H, blk8 m c D X Y P g W O L H]
    simp only [pay43_mat, pay44_mat, pay45_mat, pay47_mat, pay48_mat, pay49_mat, pay50_mat, pay58_mat, pay60_mat, pay66_mat, pay71_mat, pay61_mat, pay63_mat, pay68_mat, pay2_mat, sg65, sg70]
    refine (Rows.read_row _ _ 2 _ _ _ j).trans ?_
    by_cases c2 : (j 0).val = 2
    · rw [if_pos c2]
      refine (pay53_apply _ _ _).trans ?_
      rw [View.ld_apply, Rows.row_idx 2 _ (by decide)]
      exact vec_pt _ _ 2 j c2 _ rfl
    rw [if_neg c2]
    refine (Rows.read_row _ _ 1 _ _ _ j).trans ?_
    by_cases c1 : (j 0).val = 1
    · rw [if_pos c1]
      refine (pay52_apply _ _ _).trans ?_
      rw [View.ld_apply, Rows.row_idx 1 _ (by decide)]
      exact vec_pt _ _ 1 j c1 _ rfl
    rw [if_neg c1]
    refine (Rows.read_row _ _ 0 _ _ _ j).trans ?_
    by_cases c0 : (j 0).val = 0
    · rw [if_pos c0]
      refine (pay51_apply _ _ _).trans ?_
      rw [View.ld_apply, Rows.row_idx 0 _ (by decide)]
      exact vec_pt _ _ 0 j c0 _ rfl
    rw [if_neg c0]
    rw [vec_rest _ j c0 c1 c2, add_zero, View.writes_nil]
    exact congrFun ((hs0_14 t).read_unread _) j

end Cert.MergeIdeal.Value

end
-- ==== Proof.MergeF.lean ====
/- The merge's backward kernel: its six result arrays. -/
module

public import proofs.«01_k».proof.Proof.Gen.MergeIdeal.Value
public import proofs.«01_k».proof.Proof.MergeL
public import proofs.«01_k».proof.Proof.MergePay
public import proofs.«01_k».proof.Proof.Rows
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Mg Cert.Reals

theorem rd4 (v : FVec Ideal S512x128 .bf16) (x : S1x1x512x128.Idx) : k0_pay4 (F := Ideal) v x = v (ix2 (x 2) (x 3)) := by pointwise [k0_pay4]
theorem rd5 (v : Vec Ideal S128x1024 .f32) (x : S1x128x1024.Idx) : k0_pay5 (F := Ideal) v x = v (ix2 (x 1) (x 2)) := by pointwise [k0_pay5]
theorem rd6 (v : Vec Ideal S1x512x128 .f32) (x : S1x1x512x128.Idx) : k0_pay6 (F := Ideal) v x = v (ix3 (0 : Fin 1) (x 2) (x 3)) := by pointwise [k0_pay6]
theorem rd7 (v : Vec Ideal S1x512x128 .f32) (x : S1x1x512x128.Idx) : k0_pay7 (F := Ideal) v x = v (ix3 (0 : Fin 1) (x 2) (x 3)) := by pointwise [k0_pay7]
theorem rd8 (v : Vec Ideal S1x512x128 .f32) (x : S1x1x512x128.Idx) : k0_pay8 (F := Ideal) v x = v (ix3 (0 : Fin 1) (x 2) (x 3)) := by pointwise [k0_pay8]
theorem rd9 (v : Vec Ideal S128x1024 .f32) (x : S128x1024.Idx) : k0_pay9 (F := Ideal) v x = v (x) := by pointwise [k0_pay9]
theorem rd10 (v : FVec Ideal S128x1024 .bf16) (x : S1x128x1024.Idx) : k0_pay10 (F := Ideal) v x = v (ix2 (x 1) (x 2)) := by pointwise [k0_pay10]
theorem rd11 (v : Vec Ideal S1x512x128 .f32) (x : S1x1x512x128.Idx) : k0_pay11 (F := Ideal) v x = v (ix3 (0 : Fin 1) (x 2) (x 3)) := by pointwise [k0_pay11]
theorem rd12 (v : Vec Ideal S1x512x128 .f32) (x : S1x1x512x128.Idx) : k0_pay12 (F := Ideal) v x = v (ix3 (0 : Fin 1) (x 2) (x 3)) := by pointwise [k0_pay12]
theorem rd13 (v : Vec Ideal S1x512x128 .f32) (x : S1x1x512x128.Idx) : k0_pay13 (F := Ideal) v x = v (ix3 (0 : Fin 1) (x 2) (x 3)) := by pointwise [k0_pay13]
theorem rd14 (v : Vec Ideal S128x1024 .f32) (x : S1x128x1024.Idx) : k0_pay14 (F := Ideal) v x = v (ix2 (x 1) (x 2)) := by pointwise [k0_pay14]
theorem rd15 (v : Vec Ideal S1x512x128 .f32) (x : S1x1x512x128.Idx) : k0_pay15 (F := Ideal) v x = v (ix3 (0 : Fin 1) (x 2) (x 3)) := by pointwise [k0_pay15]
theorem rd16 (v : Vec Ideal S1x512x128 .f32) (x : S1x1x512x128.Idx) : k0_pay16 (F := Ideal) v x = v (ix3 (0 : Fin 1) (x 2) (x 3)) := by pointwise [k0_pay16]
theorem rd17 (v : Vec Ideal S1x512x128 .f32) (x : S1x1x512x128.Idx) : k0_pay17 (F := Ideal) v x = v (ix3 (0 : Fin 1) (x 2) (x 3)) := by pointwise [k0_pay17]
theorem rd18 (v : Vec Ideal S128x1024 .f32) (x : S1x128x1024.Idx) : k0_pay18 (F := Ideal) v x = v (ix2 (x 1) (x 2)) := by pointwise [k0_pay18]
theorem rd19 (v : Vec Ideal S1x512x128 .f32) (x : S512x128.Idx) : k0_pay19 (F := Ideal) v x = v (ix3 (0 : Fin 1) (x 0) (x 1)) := by pointwise [k0_pay19]
theorem rd20 (v : FVec Ideal S512x128 .bf16) (x : S1x1x512x128.Idx) : k0_pay20 (F := Ideal) v x = v (ix2 (x 2) (x 3)) := by pointwise [k0_pay20]
theorem rd21 (v : Vec Ideal S1x512x128 .f32) (x : S1x1x512x128.Idx) : k0_pay21 (F := Ideal) v x = v (ix3 (0 : Fin 1) (x 2) (x 3)) := by pointwise [k0_pay21]
theorem rd22 (v : Vec Ideal S1x512x128 .f32) (x : S1x1x512x128.Idx) : k0_pay22 (F := Ideal) v x = v (ix3 (0 : Fin 1) (x 2) (x 3)) := by pointwise [k0_pay22]
theorem rd23 (v : Vec Ideal S128x1024 .f32) (x : S1x128x1024.Idx) : k0_pay23 (F := Ideal) v x = v (ix2 (x 1) (x 2)) := by pointwise [k0_pay23]
theorem rd24 (v : Vec Ideal S1x512x128 .f32) (x : S1x1x512x128.Idx) : k0_pay24 (F := Ideal) v x = v (ix3 (0 : Fin 1) (x 2) (x 3)) := by pointwise [k0_pay24]
theorem rd25 (v : Vec Ideal S1x512x128 .f32) (x : S1x1x512x128.Idx) : k0_pay25 (F := Ideal) v x = v (ix3 (0 : Fin 1) (x 2) (x 3)) := by pointwise [k0_pay25]
theorem rd26 (v : Vec Ideal S1x512x128 .f32) (x : S1x1x512x128.Idx) : k0_pay26 (F := Ideal) v x = v (ix3 (0 : Fin 1) (x 2) (x 3)) := by pointwise [k0_pay26]
theorem rd27 (v : Vec Ideal S128x1024 .f32) (x : S1x128x1024.Idx) : k0_pay27 (F := Ideal) v x = v (ix2 (x 1) (x 2)) := by pointwise [k0_pay27]
theorem rd28 (v : Vec Ideal S1x512x128 .f32) (x : S1x1x512x128.Idx) : k0_pay28 (F := Ideal) v x = v (ix3 (0 : Fin 1) (x 2) (x 3)) := by pointwise [k0_pay28]
theorem rd29 (v : Vec Ideal S1x512x128 .f32) (x : S512x128.Idx) : k0_pay29 (F := Ideal) v x = v (ix3 (0 : Fin 1) (x 0) (x 1)) := by pointwise [k0_pay29]
theorem rd30 (v : FVec Ideal S512x128 .bf16) (x : S1x1x512x128.Idx) : k0_pay30 (F := Ideal) v x = v (ix2 (x 2) (x 3)) := by pointwise [k0_pay30]
theorem rd31 (v : Vec Ideal S1x512x128 .f32) (x : S1x1x512x128.Idx) : k0_pay31 (F := Ideal) v x = v (ix3 (0 : Fin 1) (x 2) (x 3)) := by pointwise [k0_pay31]
theorem rd32 (v : Vec Ideal S128x1024 .f32) (x : S1x128x1024.Idx) : k0_pay32 (F := Ideal) v x = v (ix2 (x 1) (x 2)) := by pointwise [k0_pay32]
theorem rd33 (v : Vec Ideal S1x512x128 .f32) (x : S1x1x512x128.Idx) : k0_pay33 (F := Ideal) v x = v (ix3 (0 : Fin 1) (x 2) (x 3)) := by pointwise [k0_pay33]
theorem rd34 (v : Vec Ideal S1x512x128 .f32) (x : S1x1x512x128.Idx) : k0_pay34 (F := Ideal) v x = v (ix3 (0 : Fin 1) (x 2) (x 3)) := by pointwise [k0_pay34]
theorem rd35 (v : Vec Ideal S1x512x128 .f32) (x : S1x1x512x128.Idx) : k0_pay35 (F := Ideal) v x = v (ix3 (0 : Fin 1) (x 2) (x 3)) := by pointwise [k0_pay35]
theorem rd36 (v : Vec Ideal S128x1024 .f32) (x : S1x128x1024.Idx) : k0_pay36 (F := Ideal) v x = v (ix2 (x 1) (x 2)) := by pointwise [k0_pay36]
theorem rd37 (v : Vec Ideal S1x512x128 .f32) (x : S1x1x512x128.Idx) : k0_pay37 (F := Ideal) v x = v (ix3 (0 : Fin 1) (x 2) (x 3)) := by pointwise [k0_pay37]
theorem rd38 (v : Vec Ideal S1x512x128 .f32) (x : S1x1x512x128.Idx) : k0_pay38 (F := Ideal) v x = v (ix3 (0 : Fin 1) (x 2) (x 3)) := by pointwise [k0_pay38]
theorem rd39 (v : Vec Ideal S1x512x128 .f32) (x : S512x128.Idx) : k0_pay39 (F := Ideal) v x = v (ix3 (0 : Fin 1) (x 0) (x 1)) := by pointwise [k0_pay39]

variable (m : (ℓ : Loc nD τ sig) → Buf (Elt Ideal) ℓ)
variable (c : Dev nD) (D X : Fin 2048 → Fin 1024 → ℝ) (Y : Fin 2048 → Fin 1536 → ℝ) (P : Fin 2048 → Fin 9216 → ℝ)
  (g : Fin 1 → Fin 1024 → ℝ) (W : Fin 3 → Fin 512 → Fin 1024 → ℝ) (O : Fin 1024 → Fin 1024 → ℝ) (L : Fin 1 → Fin 1024 → ℝ)
variable (H : Holds m c D X Y P g W O L)
include H

theorem lastO (t : Fin cfg0.N) (ht : t.val + 1 = 8) : (outsAt0 m c t.val t.isLt).2.2.2.2.2.2.1 = mat (args D X Y P g W O L).gwo := by
  funext j
  rw [Pipeline.eq_sum_fin_of_reset_step_apply_last (fun n h => (outsAt0 m c n h).2.2.2.2.2.2.1) 8 (fun _ => 0) (termO D X Y P g W O L)
    (accO_first m c D X Y P g W O L H) (accO_next m c D X Y P g W O L H) (by decide) t ht j, zero_add]
  unfold termO
  rw [coe_sum]
  exact congrArg _ (sum_gwo (args D X Y P g W O L) (j 0) (j 1))

theorem lastB (t : Fin cfg0.N) (ht : t.val + 1 = 8) : (outsAt0 m c t.val t.isLt).2.2.2.2.2.2.2 = mat3 (args D X Y P g W O L).gwb := by
  funext j
  rw [Pipeline.eq_sum_fin_of_reset_step_apply_last (fun n h => (outsAt0 m c n h).2.2.2.2.2.2.2) 8 (fun _ => 0) (termB D X Y P g W O L)
    (accB_first m c D X Y P g W O L H) (accB_next m c D X Y P g W O L H) (by decide) t ht j, zero_add]
  unfold termB
  rw [coe_sum]
  exact congrArg _ (sum_gwb (args D X Y P g W O L) (j 0) (j 1) (j 2))

theorem lastV (t : Fin cfg0.N) (ht : t.val + 1 = 8) : (outsAt0 m c t.val t.isLt).2.2.2.2.2.1 = mat (args D X Y P g W O L).vec := by
  funext j
  rw [Pipeline.eq_sum_fin_of_reset_step_apply_last (fun n h => (outsAt0 m c n h).2.2.2.2.2.1) 8 (fun _ => 0) (termV D X Y P g W O L)
    (accV_first m c D X Y P g W O L H) (accV_next m c D X Y P g W O L H) (by decide) t ht j, zero_add]
  unfold termV
  rw [coe_sum]
  exact congrArg _ (sum_vec (args D X Y P g W O L) (j 0) (j 1))

omit H in
theorem bandO_at (G : Fin 1024 → Fin 1024 → ℝ) (o : Fin 8) (a : Nat) (ha : a = 128 * o.val) (inb) (x : S1x128x1024.Idx) (y : S8x128x1024.Idx)
    (h0 : (y 0).val = o.val) (h1 : (y 1).val = (x 1).val) (h2 : (y 2).val = (x 2).val) :
    mat G ((Rect.unit (s := S1024x1024) ![a, 0] ![128, 1024] inb).idx (ix2 (x 1) (x 2))) = mat3 (bandO G) y := by
  subst ha
  have e : (Rect.unit (s := S1024x1024) ![128 * o.val, 0] ![128, 1024] inb).idx (ix2 (x 1) (x 2))
      = ix2 (⟨128 * (y 0).val + (y 1).val, by have h : (y 0).val < 8 := (y 0).isLt; have h' : (y 1).val < 128 := (y 1).isLt; omega⟩ : Fin 1024) (y 2) := by
    funext b
    refine Fin.ext ((Rect.idx_unit_val _ _ _ _ b).trans ?_)
    revert b
    refine Fin.forall_fin_two.mpr ⟨?_, (Nat.zero_add _).trans h2.symm⟩
    change 128 * o.val + (x 1).val = 128 * (y 0).val + (y 1).val
    rw [h0, h1]
  exact congrArg _ e
omit H in
theorem bandB_at (G : Fin 3 → Fin 512 → Fin 1024 → ℝ) (o : Fin 8) (k : Fin 3) (a : Nat) (ha : a = 128 * o.val) (b : Nat) (hb : b = k.val) (inb)
    (x : S1x1x512x128.Idx) (y : S8x3x512x128.Idx)
    (h0 : (y 0).val = o.val) (h1 : (y 1).val = k.val) (h2 : (y 2).val = (x 2).val) (h3 : (y 3).val = (x 3).val) :
    mat3 G ((Rect.unit (s := S3x512x1024) ![b, 0, a] ![1, 512, 128] inb).idx (ix3 (0 : Fin 1) (x 2) (x 3))) = mat4 (bandB G) y := by
  subst ha hb
  have e : (Rect.unit (s := S3x512x1024) ![k.val, 0, 128 * o.val] ![1, 512, 128] inb).idx (ix3 (0 : Fin 1) (x 2) (x 3))
      = ix3 (y 1) (y 2) (⟨128 * (y 0).val + (y 3).val, by have h : (y 0).val < 8 := (y 0).isLt; have h' : (y 3).val < 128 := (y 3).isLt; omega⟩ : Fin 1024) := by
    funext b
    refine Fin.ext ((Rect.idx_unit_val _ _ _ _ b).trans ?_)
    revert b
    refine Rows.all3 h1.symm ((Nat.zero_add _).trans h2.symm) ?_
    change 128 * o.val + (x 3).val = 128 * (y 0).val + (y 3).val
    rw [h0, h3]
  exact congrArg _ e

theorem out12 (t : Fin cfg0.N) (ht : t.val + 1 = 8) : (outsAt0 m c t.val t.isLt).2.2.2.1 = mat3 (bandO (args D X Y P g W O L).gwo) := by
  have key := lastO m c D X Y P g W O L H t ht
  rw [outsAt0_C m c t (by omega) (by omega)] at key ⊢
  frame_out at key ⊢
  rw [key]
  simp only [View.readCov_eq_canon']
  funext y
  canon_tiles x h
  all_goals simp only [rd4, rd5, rd6, rd7, rd8, rd9, rd10, rd11, rd12, rd13, rd14, rd15, rd16, rd17, rd18, rd19, rd20, rd21, rd22, rd23, rd24, rd25, rd26, rd27, rd28, rd29, rd30, rd31, rd32, rd33, rd34, rd35, rd36, rd37, rd38, rd39]
  · exact (Rows.canon_all2 _ _ _ _).trans (bandO_at _ 7 896 rfl _ x y (by change _ = 7; omega) h1 h2)
  · exact (Rows.canon_all2 _ _ _ _).trans (bandO_at _ 6 768 rfl _ x y (by change _ = 6; omega) h1 h2)
  · exact (Rows.canon_all2 _ _ _ _).trans (bandO_at _ 5 640 rfl _ x y (by change _ = 5; omega) h1 h2)
  · exact (Rows.canon_all2 _ _ _ _).trans (bandO_at _ 4 512 rfl _ x y (by change _ = 4; omega) h1 h2)
  · exact (Rows.canon_all2 _ _ _ _).trans (bandO_at _ 3 384 rfl _ x y (by change _ = 3; omega) h1 h2)
  · exact (Rows.canon_all2 _ _ _ _).trans (bandO_at _ 2 256 rfl _ x y (by change _ = 2; omega) h1 h2)
  · exact (Rows.canon_all2 _ _ _ _).trans (bandO_at _ 1 128 rfl _ x y (by change _ = 1; omega) h1 h2)
  · exact (Rows.canon_all2 _ _ _ _).trans (bandO_at _ 0 0 rfl _ x y (by change _ = 0; omega) h1 h2)

theorem out13 (t : Fin cfg0.N) (ht : t.val + 1 = 8) : (outsAt0 m c t.val t.isLt).2.2.2.2.1 = mat4 (bandB (args D X Y P g W O L).gwb) := by
  have key := lastB m c D X Y P g W O L H t ht
  rw [outsAt0_C m c t (by omega) (by omega)] at key ⊢
  frame_out at key ⊢
  simp only [View.readCov_eq_canon', key]
  funext y
  canon_tiles x h
  all_goals simp only [rd4, rd5, rd6, rd7, rd8, rd9, rd10, rd11, rd12, rd13, rd14, rd15, rd16, rd17, rd18, rd19, rd20, rd21, rd22, rd23, rd24, rd25, rd26, rd27, rd28, rd29, rd30, rd31, rd32, rd33, rd34, rd35, rd36, rd37, rd38, rd39]
  · exact bandB_at _ 7 2 896 rfl 2 rfl _ x y (by change _ = 7; omega) (by change _ = 2; omega) h2 h3
  · exact bandB_at _ 7 1 896 rfl 1 rfl _ x y (by change _ = 7; omega) (by change _ = 1; omega) h2 h3
  · exact bandB_at _ 7 0 896 rfl 0 rfl _ x y (by change _ = 7; omega) (by change _ = 0; omega) h2 h3
  · exact bandB_at _ 6 2 768 rfl 2 rfl _ x y (by change _ = 6; omega) (by change _ = 2; omega) h2 h3
  · exact bandB_at _ 6 1 768 rfl 1 rfl _ x y (by change _ = 6; omega) (by change _ = 1; omega) h2 h3
  · exact bandB_at _ 6 0 768 rfl 0 rfl _ x y (by change _ = 6; omega) (by change _ = 0; omega) h2 h3
  · exact bandB_at _ 5 2 640 rfl 2 rfl _ x y (by change _ = 5; omega) (by change _ = 2; omega) h2 h3
  · exact bandB_at _ 5 1 640 rfl 1 rfl _ x y (by change _ = 5; omega) (by change _ = 1; omega) h2 h3
  · exact bandB_at _ 5 0 640 rfl 0 rfl _ x y (by change _ = 5; omega) (by change _ = 0; omega) h2 h3
  · exact bandB_at _ 4 2 512 rfl 2 rfl _ x y (by change _ = 4; omega) (by change _ = 2; omega) h2 h3
  · exact bandB_at _ 4 1 512 rfl 1 rfl _ x y (by change _ = 4; omega) (by change _ = 1; omega) h2 h3
  · exact bandB_at _ 4 0 512 rfl 0 rfl _ x y (by change _ = 4; omega) (by change _ = 0; omega) h2 h3
  · exact bandB_at _ 3 2 384 rfl 2 rfl _ x y (by change _ = 3; omega) (by change _ = 2; omega) h2 h3
  · exact bandB_at _ 3 1 384 rfl 1 rfl _ x y (by change _ = 3; omega) (by change _ = 1; omega) h2 h3
  · exact bandB_at _ 3 0 384 rfl 0 rfl _ x y (by change _ = 3; omega) (by change _ = 0; omega) h2 h3
  · exact bandB_at _ 2 2 256 rfl 2 rfl _ x y (by change _ = 2; omega) (by change _ = 2; omega) h2 h3
  · exact bandB_at _ 2 1 256 rfl 1 rfl _ x y (by change _ = 2; omega) (by change _ = 1; omega) h2 h3
  · exact bandB_at _ 2 0 256 rfl 0 rfl _ x y (by change _ = 2; omega) (by change _ = 0; omega) h2 h3
  · exact bandB_at _ 1 2 128 rfl 2 rfl _ x y (by change _ = 1; omega) (by change _ = 2; omega) h2 h3
  · exact bandB_at _ 1 1 128 rfl 1 rfl _ x y (by change _ = 1; omega) (by change _ = 1; omega) h2 h3
  · exact bandB_at _ 1 0 128 rfl 0 rfl _ x y (by change _ = 1; omega) (by change _ = 0; omega) h2 h3
  · exact bandB_at _ 0 2 0 rfl 2 rfl _ x y (by change _ = 0; omega) (by change _ = 2; omega) h2 h3
  · exact bandB_at _ 0 1 0 rfl 1 rfl _ x y (by change _ = 0; omega) (by change _ = 1; omega) h2 h3
  · exact bandB_at _ 0 0 0 rfl 0 rfl _ x y (by change _ = 0; omega) (by change _ = 0; omega) h2 h3

/-- The second result array is the gradients of the branches' outputs side by side. -/
theorem final10' : (dats m 0 c).arrAt 10 cfg0.N = mat (allY (args D X Y P g W O L)) := by
  refine (dats m 0 c).arrAt_eq_of_covers 10 _ (by decide +kernel) fun t hf y => ?_
  blk_simp
  rw [after0_10, out10 m c D X Y P g W O L H t]
  change mat (allY (args D X Y P g W O L)) (ix2 (⟨256 * t.val + (y 0).val, _⟩ : Fin 2048) (y 1)) = _
  generalize mat (allY (args D X Y P g W O L)) = Q
  blk_point [idx10]

/-- The third result array holds, at the gates' columns, the gradients of the gates. -/
theorem final11' (i : S2048x9216.Idx) (hi : 6144 ≤ (i 1).val) : (dats m 0 c).arrAt 11 cfg0.N i = mat (wide (args D X Y P g W O L)) i := by
  have h := (dats m 0 c).arrAt_eq_of_coversWhere 11 (mat (wide (args D X Y P g W O L))) (fun β => 2 ≤ β (1 : Fin 2)) (by decide +kernel)
    (P := fun i : S2048x9216.Idx => 2 ≤ (i 1).val / 3072) (fun t hf y => ?_) (fun j => Iff.rfl)
  · refine (congrFun h i).trans (if_pos ?_)
    change 2 ≤ (i 1).val / 3072
    omega
  · blk_simp
    rw [after0_11, out11 m c D X Y P g W O L H t]
    have hy0 : (y 0).val < 256 := (y 0).isLt
    have hy1 : (y 1).val < 3072 := (y 1).isLt
    have ht : t.val < 8 := t.isLt
    have e : mat (wide (args D X Y P g W O L)) (ix2 (⟨256 * t.val + (y 0).val, by omega⟩ : Fin 2048) (⟨6144 + (y 1).val, by omega⟩ : Fin 9216))
        = mat (wide (args D X Y P g W O L)) ((win0_11.blk t).view.emb y) := by
      generalize mat (wide (args D X Y P g W O L)) = Q
      blk_point [idx11]
    refine Eq.trans ?_ e
    change _ = ((wide (args D X Y P g W O L) ⟨256 * t.val + (y 0).val, _⟩ ⟨6144 + (y 1).val, _⟩ : ℝ) : EReal)
    unfold wide
    rw [dif_pos (show 6144 ≤ 6144 + (y 1).val by omega)]
    have e1 : (⟨6144 + (y 1).val - 6144, by omega⟩ : Fin 3072) = y 1 := Fin.ext (by change 6144 + (y 1).val - 6144 = (y 1).val; omega)
    rw [e1]
    rfl

/-- The fourth result array is the output weight's gradient in bands. -/
theorem final12' : (dats m 0 c).arrAt 12 cfg0.N = mat3 (bandO (args D X Y P g W O L).gwo) := by
  refine (dats m 0 c).arrAt_eq_of_covers 12 _ (by decide +kernel) fun t hf y => ?_
  blk_simp
  rw [after0_12, out12 m c D X Y P g W O L H t (by have h : t.val % 8 = 7 := (flush0_12 t).mp hf; have h' : t.val < 8 := t.isLt; omega)]
  change mat3 (bandO (args D X Y P g W O L).gwo) y = _
  generalize mat3 (bandO (args D X Y P g W O L).gwo) = Q
  blk_point [idx12]

/-- The fifth result array is the branch weights' gradient in bands. -/
theorem final13' : (dats m 0 c).arrAt 13 cfg0.N = mat4 (bandB (args D X Y P g W O L).gwb) := by
  refine (dats m 0 c).arrAt_eq_of_covers 13 _ (by decide +kernel) fun t hf y => ?_
  blk_simp
  rw [after0_13, out13 m c D X Y P g W O L H t (by have h : t.val % 8 = 7 := (flush0_13 t).mp hf; have h' : t.val < 8 := t.isLt; omega)]
  change mat4 (bandB (args D X Y P g W O L).gwb) y = _
  generalize mat4 (bandB (args D X Y P g W O L).gwb) = Q
  blk_point [idx13]

/-- The sixth result array is the sums over the rows. -/
theorem final14' : (dats m 0 c).arrAt 14 cfg0.N = mat (args D X Y P g W O L).vec := by
  refine (dats m 0 c).arrAt_eq_of_covers 14 _ (by decide +kernel) fun t hf y => ?_
  blk_simp
  rw [after0_14, lastV m c D X Y P g W O L H t (by have h : t.val % 8 = 7 := (flush0_14 t).mp hf; have h' : t.val < 8 := t.isLt; omega)]
  change mat (args D X Y P g W O L).vec y = _
  generalize mat (args D X Y P g W O L).vec = Q
  blk_point [idx14]

end Cert.MergeIdeal.Value

end
-- ==== Proof.MergeR.lean ====
/- The merge's reference: its values, operation by operation, over the reals. -/
module

public import proofs.«01_k».proof.Proof.Gen.MergeRefIdeal.Read
public import proofs.«01_k».proof.Proof.MergeMath

@[expose] public section

set_option maxRecDepth 16384

noncomputable section

open Idealize.ShloMosaic

namespace Cert.MergeRefIdeal.Value

open Cert.MergeRefIdeal Cert.MergeRefIdeal.Gen Cert.MergeRefIdeal.Read Cert.Mg Cert.Reals

variable (D X : Fin 2048 → Fin 1024 → ℝ) (Y : Fin 2048 → Fin 1536 → ℝ) (P : Fin 2048 → Fin 9216 → ℝ)
  (g : Fin 1 → Fin 1024 → ℝ) (W : Fin 3 → Fin 512 → Fin 1024 → ℝ) (O : Fin 1024 → Fin 1024 → ℝ) (L : Fin 1 → Fin 1024 → ℝ)

theorem one_coe : (1 : EReal) = ((1 : ℝ) : EReal) := rfl

theorem allY_eq (I : In 2048) (k : Fin 3) (r : Fin 2048) (q : Fin 1536) (j : Fin 512) (h : q.val = 512 * k.val + j.val) :
    ((I.dyc k r j : ℝ) : EReal) = ((allY I r q : ℝ) : EReal) := by
  refine congrArg (fun x : ℝ => (x : EReal)) (congr (congrArg (fun z => I.dyc z r) (Fin.ext ?_)) (Fin.ext ?_))
  · show k.val = q.val / 512
    omega
  · show j.val = q.val % 512
    omega

theorem allG_eq (I : In 2048) (k : Fin 3) (r : Fin 2048) (q : Fin 3072) (j : Fin 1024) (h : q.val = 1024 * k.val + j.val) :
    ((I.dg k r j : ℝ) : EReal) = ((allG I r q : ℝ) : EReal) := by
  refine congrArg (fun x : ℝ => (x : EReal)) (congr (congrArg (fun z => I.dg z r) (Fin.ext ?_)) (Fin.ext ?_))
  · show k.val = q.val / 1024
    omega
  · show j.val = q.val % 1024
    omega

theorem v5 : val_main_v5 (F := Ideal) (mat P) = mat fun r l => P r (cP (cG 0 l)) := by
  funext i
  pointwise [val_main_v5, val_main_v1, mat]
  refine congrArg (fun q => ((P (i 0) q : ℝ) : EReal)) (Fin.ext ?_)
  change _ = 6144 + (1024 * 0 + (i 1).val)
  have := (i 1).isLt
  simp
  try omega

include D X Y P g W O L in
/-- Branch 0's gate. -/
theorem v11 : val_main_v11 (F := Ideal) (mat P) = mat ((args D X Y P g W O L).sg 0) := by
  unfold val_main_v11 val_main_v9 val_main_v7 val_main_v6
  rw [v5]
  funext i
  pointwise [val_main_v8, val_main_v10, val_main_cst_0, val_main_cst_1, mat]
  exact sigm_neg _

theorem v20 : val_main_v20 (F := Ideal) (mat P) = mat fun r l => P r (cP (cG 1 l)) := by
  funext i
  pointwise [val_main_v20, val_main_v1, mat]
  refine congrArg (fun q => ((P (i 0) q : ℝ) : EReal)) (Fin.ext ?_)
  change _ = 6144 + (1024 * 1 + (i 1).val)
  have := (i 1).isLt
  simp
  try omega

include D X Y P g W O L in
/-- Branch 1's gate. -/
theorem v26 : val_main_v26 (F := Ideal) (mat P) = mat ((args D X Y P g W O L).sg 1) := by
  unfold val_main_v26 val_main_v24 val_main_v22 val_main_v21
  rw [v20]
  funext i
  pointwise [val_main_v23, val_main_v25, val_main_cst_3, val_main_cst_4, mat]
  exact sigm_neg _

theorem v36 : val_main_v36 (F := Ideal) (mat P) = mat fun r l => P r (cP (cG 2 l)) := by
  funext i
  pointwise [val_main_v36, val_main_v1, mat]
  refine congrArg (fun q => ((P (i 0) q : ℝ) : EReal)) (Fin.ext ?_)
  change _ = 6144 + (1024 * 2 + (i 1).val)
  have := (i 1).isLt
  simp
  try omega

include D X Y P g W O L in
/-- Branch 2's gate. -/
theorem v42 : val_main_v42 (F := Ideal) (mat P) = mat ((args D X Y P g W O L).sg 2) := by
  unfold val_main_v42 val_main_v40 val_main_v38 val_main_v37
  rw [v36]
  funext i
  pointwise [val_main_v39, val_main_v41, val_main_cst_6, val_main_cst_7, mat]
  exact sigm_neg _

include D X Y P g W O L in
theorem v14 : val_main_v14 (F := Ideal) (mat P) = mat fun r l => (args D X Y P g W O L).sg 0 r l * (1 - (args D X Y P g W O L).sg 0 r l) := by
  unfold val_main_v14 val_main_v13
  rw [v11 D X Y P g W O L]
  funext i
  pointwise [val_main_v12, val_main_cst_2, mat]
  rw [one_coe, ← EReal.coe_sub, ← EReal.coe_mul]

include D X Y P g W O L in
theorem v29 : val_main_v29 (F := Ideal) (mat P) = mat fun r l => (args D X Y P g W O L).sg 1 r l * (1 - (args D X Y P g W O L).sg 1 r l) := by
  unfold val_main_v29 val_main_v28
  rw [v26 D X Y P g W O L]
  funext i
  pointwise [val_main_v27, val_main_cst_5, mat]
  rw [one_coe, ← EReal.coe_sub, ← EReal.coe_mul]

include D X Y P g W O L in
theorem v45 : val_main_v45 (F := Ideal) (mat P) = mat fun r l => (args D X Y P g W O L).sg 2 r l * (1 - (args D X Y P g W O L).sg 2 r l) := by
  unfold val_main_v45 val_main_v44
  rw [v42 D X Y P g W O L]
  funext i
  pointwise [val_main_v43, val_main_cst_8, mat]
  rw [one_coe, ← EReal.coe_sub, ← EReal.coe_mul]

theorem v15 : val_main_v15 (F := Ideal) (mat Y) = mat fun r j => Y r (cY 0 j) := by
  funext i
  pointwise [val_main_v15, val_main_v0, mat]
  refine congrArg (fun q => ((Y (i 0) q : ℝ) : EReal)) (Fin.ext ?_)
  change _ = 512 * 0 + (i 1).val
  simp

theorem v30 : val_main_v30 (F := Ideal) (mat Y) = mat fun r j => Y r (cY 1 j) := by
  funext i
  pointwise [val_main_v30, val_main_v0, mat]
  refine congrArg (fun q => ((Y (i 0) q : ℝ) : EReal)) (Fin.ext ?_)
  change _ = 512 * 1 + (i 1).val
  simp

theorem v46 : val_main_v46 (F := Ideal) (mat Y) = mat fun r j => Y r (cY 2 j) := by
  funext i
  pointwise [val_main_v46, val_main_v0, mat]
  refine congrArg (fun q => ((Y (i 0) q : ℝ) : EReal)) (Fin.ext ?_)
  change _ = 512 * 2 + (i 1).val
  simp

theorem v17 : val_main_v17 (F := Ideal) (mat3 W) = mat (W 0) := by
  funext i
  pointwise [val_main_v17, val_main_v16, val_main_v2, mat, mat3]

theorem v32 : val_main_v32 (F := Ideal) (mat3 W) = mat (W 1) := by
  funext i
  pointwise [val_main_v32, val_main_v31, val_main_v2, mat, mat3]

theorem v48 : val_main_v48 (F := Ideal) (mat3 W) = mat (W 2) := by
  funext i
  pointwise [val_main_v48, val_main_v47, val_main_v2, mat, mat3]

include D X Y P g W O L in
/-- Branch 0's projection. -/
theorem v18 : val_main_v18 (F := Ideal) (mat Y) (mat3 W) = mat ((args D X Y P g W O L).pk 0) := by
  unfold val_main_v18
  rw [v15, v17]
  funext i
  pointwise [mat]
  simp only [← EReal.coe_mul, coe_sum]
  rfl

include D X Y P g W O L in
/-- Branch 1's projection. -/
theorem v33 : val_main_v33 (F := Ideal) (mat Y) (mat3 W) = mat ((args D X Y P g W O L).pk 1) := by
  unfold val_main_v33
  rw [v30, v32]
  funext i
  pointwise [mat]
  simp only [← EReal.coe_mul, coe_sum]
  rfl

include D X Y P g W O L in
/-- Branch 2's projection. -/
theorem v49 : val_main_v49 (F := Ideal) (mat Y) (mat3 W) = mat ((args D X Y P g W O L).pk 2) := by
  unfold val_main_v49
  rw [v46, v48]
  funext i
  pointwise [mat]
  simp only [← EReal.coe_mul, coe_sum]
  rfl

include D X Y P g W O L in
/-- The merged branches. -/
theorem v51 : val_main_v51 (F := Ideal) (mat Y) (mat P) (mat3 W) = mat (args D X Y P g W O L).M := by
  unfold val_main_v51 val_main_v50 val_main_v35 val_main_v34 val_main_v19
  rw [v11 D X Y P g W O L, v26 D X Y P g W O L, v42 D X Y P g W O L, v18 D X Y P g W O L, v33 D X Y P g W O L, v49 D X Y P g W O L]
  funext i
  pointwise [mat]
  simp only [← EReal.coe_mul, ← EReal.coe_add]
  rfl

theorem v3 : val_main_v3 (F := Ideal) (mat O) = mat O := by
  funext i
  pointwise [val_main_v3, mat]

include D X Y P g W O L in
/-- The output projection. -/
theorem v52 : val_main_v52 (F := Ideal) (mat Y) (mat P) (mat3 W) (mat O) = mat (args D X Y P g W O L).y := by
  unfold val_main_v52
  rw [v51 D X Y P g W O L, v3]
  funext i
  pointwise [mat]
  simp only [← EReal.coe_mul, coe_sum]
  rfl

include D X Y P g W O L in
/-- The residual. -/
theorem v59 : val_main_v59 (F := Ideal) (mat X) (mat Y) (mat P) (mat g) (mat3 W) (mat O) = mat (args D X Y P g W O L).res := by
  unfold val_main_v59 val_main_v58 val_main_v54
  rw [v52 D X Y P g W O L]
  funext i
  pointwise [val_main_v53, val_main_cst_9, val_main_v57, val_main_v56, val_main_v55, val_main_cst_10, mat]
  rw [ofBits_alpha]
  simp only [one_coe, ← EReal.coe_mul, ← EReal.coe_add]
  rfl

include D X Y P g W O L in
theorem v65 : val_main_v65 (F := Ideal) (mat X) (mat Y) (mat P) (mat g) (mat3 W) (mat O) = mat fun r l => xc ((args D X Y P g W O L).res r) l := by
  unfold val_main_v65 val_main_v64 val_main_v63 val_main_v61 val_main_v60
  rw [v59 D X Y P g W O L]
  funext i
  pointwise [val_main_v62, val_main_cst_11, val_main_cst_12, mat]
  simp only [ofBits_width, coe_sum]
  rw [div_real _ (by norm_num), ← EReal.coe_sub]
  rfl

include D X Y P g W O L in
theorem v72 : val_main_v72 (F := Ideal) (mat X) (mat Y) (mat P) (mat g) (mat3 W) (mat O) = mat fun r _ => var ((args D X Y P g W O L).res r) := by
  unfold val_main_v72 val_main_v70 val_main_v68 val_main_v67 val_main_v66
  rw [v65 D X Y P g W O L]
  funext i
  pointwise [val_main_v69, val_main_v71, val_main_cst_13, val_main_cst_14, val_main_cst_15, mat]
  simp only [ofBits_width, ofBits_eps, ← EReal.coe_mul, coe_sum]
  rw [div_real _ (by norm_num), ← EReal.coe_add]
  rfl

include D X Y P g W O L in
theorem v73 : val_main_v73 (F := Ideal) (mat X) (mat Y) (mat P) (mat g) (mat3 W) (mat O) = mat fun r _ => rstd ((args D X Y P g W O L).res r) := by
  unfold val_main_v73
  rw [v72 D X Y P g W O L]
  funext i
  exact rsqrt_real (var_pos _)

include D X Y P g W O L in
theorem v76 : val_main_v76 (F := Ideal) (mat X) (mat Y) (mat P) (mat g) (mat3 W) (mat O) = mat fun r _ => -(1 / 2) * (rstd ((args D X Y P g W O L).res r) / var ((args D X Y P g W O L).res r)) := by
  unfold val_main_v76 val_main_v74
  rw [v73 D X Y P g W O L, v72 D X Y P g W O L]
  funext i
  pointwise [val_main_v75, val_main_cst_16, mat]
  rw [ofBits_neg_half, div_real _ (var_pos _).ne', ← EReal.coe_mul]

include D X Y P g W O L in
theorem v78 : val_main_v78 (F := Ideal) (mat X) (mat Y) (mat P) (mat g) (mat3 W) (mat O) = mat fun r l => xhat ((args D X Y P g W O L).res r) l := by
  unfold val_main_v78 val_main_v77
  rw [v73 D X Y P g W O L, v65 D X Y P g W O L]
  funext i
  pointwise [mat]
  rw [← EReal.coe_mul]
  rfl

include D X Y P g W O L in
theorem v90 : val_main_v90 (F := Ideal) (mat D) (mat L) = mat (args D X Y P g W O L).ct := by
  funext i
  pointwise [val_main_v90, val_main_v83, val_main_v89, mat]
  rw [← EReal.coe_mul]
  rfl

theorem v99 : val_main_v99 (F := Ideal) (mat D) (mat X) (mat Y) (mat P) (mat g) (mat3 W) (mat O) (mat L) = fun i => ((refC ((args D X Y P g W O L).res (i 0)) ((args D X Y P g W O L).ct (i 0)) : ℝ) : EReal) := by
  unfold val_main_v99 val_main_v98 val_main_v96 val_main_v93 val_main_v92 val_main_v91
  rw [v65 D X Y P g W O L, v76 D X Y P g W O L, v90 D X Y P g W O L]
  funext i
  pointwise [val_main_v97, val_main_cst_19, val_main_cst_20, val_main_cst_21, mat]
  simp only [ofBits_width, ← EReal.coe_mul, coe_sum]
  rw [div_real _ (by norm_num)]
  exact Fin.sum_univ_one _

theorem v104 : val_main_v104 (F := Ideal) (mat D) (mat X) (mat Y) (mat P) (mat g) (mat3 W) (mat O) (mat L) = mat fun r l => refT ((args D X Y P g W O L).res r) ((args D X Y P g W O L).ct r) l := by
  unfold val_main_v104 val_main_v102 val_main_v103 val_main_v101 val_main_v100 val_main_v95 val_main_v94
  rw [v65 D X Y P g W O L, v73 D X Y P g W O L, v90 D X Y P g W O L, v99]
  funext i
  pointwise [mat]
  simp only [← EReal.coe_mul, ← EReal.coe_add]
  rfl

/-- The residual's gradient. -/
theorem v112 : val_main_v112 (F := Ideal) (mat D) (mat X) (mat Y) (mat P) (mat g) (mat3 W) (mat O) (mat L) = mat (args D X Y P g W O L).dr := by
  unfold val_main_v112 val_main_v111 val_main_v110 val_main_v109 val_main_v107 val_main_v106 val_main_v105
  rw [v104 D X Y P g W O L]
  funext i
  pointwise [val_main_v108, val_main_cst_22, val_main_cst_23, val_main_cst_24, mat]
  simp only [ofBits_width, ← EReal.coe_neg, coe_sum]
  rw [div_real _ (by norm_num)]
  refine (congrArg (fun x : EReal => ((refT ((args D X Y P g W O L).res (i 0)) ((args D X Y P g W O L).ct (i 0)) (i 1) : ℝ) : EReal) + x) (Fin.sum_univ_one _)).trans ?_
  exact congrArg (fun x : ℝ => (x : EReal)) (refBwd_eq ((args D X Y P g W O L).res (i 0)) ((args D X Y P g W O L).ct (i 0)) (i 1))

/-- The projection's gradient. -/
theorem v114 : val_main_v114 (F := Ideal) (mat D) (mat X) (mat Y) (mat P) (mat g) (mat3 W) (mat O) (mat L) = mat (args D X Y P g W O L).dy := by
  unfold val_main_v114
  rw [v112]
  funext i
  pointwise [val_main_v113, val_main_v56, val_main_v55, val_main_cst_10, mat]
  simp only [one_coe, ← EReal.coe_add, ← EReal.coe_mul]
  rfl

/-- The first result is the input's gradient. -/
theorem v119 : val_main_v119 (F := Ideal) (mat D) (mat X) (mat Y) (mat P) (mat g) (mat3 W) (mat O) (mat L) = mat (args D X Y P g W O L).dres := by
  unfold val_main_v119
  rw [v112]
  funext i
  pointwise [val_main_v118, val_main_cst_26, mat]
  rw [ofBits_alpha, ← EReal.coe_mul]
  rfl

/-- The merged branches' gradient. -/
theorem v122 : val_main_v122 (F := Ideal) (mat D) (mat X) (mat Y) (mat P) (mat g) (mat3 W) (mat O) (mat L) = mat (args D X Y P g W O L).dm := by
  unfold val_main_v122
  rw [v114, v3]
  funext i
  pointwise [mat]
  simp only [← EReal.coe_mul, coe_sum]
  rfl

/-- The fourth result is the output weight's gradient in bands. -/
theorem v163 : val_main_v163 (F := Ideal) (mat D) (mat X) (mat Y) (mat P) (mat g) (mat3 W) (mat O) (mat L) = mat3 (bandO (args D X Y P g W O L).gwo) := by
  unfold val_main_v163 val_main_v162 val_main_v121 val_main_v120
  rw [v114, v51 D X Y P g W O L]
  funext i
  pointwise [mat, mat3]
  simp only [← EReal.coe_mul, coe_sum]
  refine congrArg (fun x : ℝ => (x : EReal)) ?_
  refine (Finset.sum_congr rfl fun r _ => mul_comm _ _).trans ?_
  exact congrArg (fun q => (args D X Y P g W O L).gwo q (i 2)) (Fin.ext (congrArg (· + (i 1).val) (Nat.mul_comm (i 0).val 128)))

theorem v123 : val_main_v123 (F := Ideal) (mat D) (mat X) (mat Y) (mat P) (mat g) (mat3 W) (mat O) (mat L) = mat ((args D X Y P g W O L).dpk 2) := by
  unfold val_main_v123
  rw [v42 D X Y P g W O L, v122]
  funext i
  pointwise [mat]
  rw [← EReal.coe_mul]
  exact congrArg _ (mul_comm _ _)

theorem v127 : val_main_v127 (F := Ideal) (mat D) (mat X) (mat Y) (mat P) (mat g) (mat3 W) (mat O) (mat L) = mat ((args D X Y P g W O L).dyc 2) := by
  unfold val_main_v127
  rw [v123, v48]
  funext i
  pointwise [mat]
  simp only [← EReal.coe_mul, coe_sum]
  rfl

theorem v131 : val_main_v131 (F := Ideal) (mat D) (mat X) (mat Y) (mat P) (mat g) (mat3 W) (mat O) (mat L) = mat ((args D X Y P g W O L).dg 2) := by
  unfold val_main_v131 val_main_v124
  rw [v122, v49 D X Y P g W O L, v45 D X Y P g W O L]
  funext i
  pointwise [mat]
  rw [← EReal.coe_mul, ← EReal.coe_mul]
  exact congrArg (fun x : ℝ => (x : EReal)) (mul_assoc _ _ _).symm

theorem v126 : val_main_v126 (F := Ideal) (mat D) (mat X) (mat Y) (mat P) (mat g) (mat3 W) (mat O) (mat L) = mat ((args D X Y P g W O L).gwb 2) := by
  unfold val_main_v126 val_main_v125
  rw [v123, v46]
  funext i
  pointwise [mat]
  simp only [← EReal.coe_mul, coe_sum]
  exact congrArg (fun x : ℝ => (x : EReal)) (Finset.sum_congr rfl fun r _ => mul_comm _ _)

theorem v133 : val_main_v133 (F := Ideal) (mat D) (mat X) (mat Y) (mat P) (mat g) (mat3 W) (mat O) (mat L) = mat ((args D X Y P g W O L).dpk 1) := by
  unfold val_main_v133
  rw [v26 D X Y P g W O L, v122]
  funext i
  pointwise [mat]
  rw [← EReal.coe_mul]
  exact congrArg _ (mul_comm _ _)

theorem v137 : val_main_v137 (F := Ideal) (mat D) (mat X) (mat Y) (mat P) (mat g) (mat3 W) (mat O) (mat L) = mat ((args D X Y P g W O L).dyc 1) := by
  unfold val_main_v137
  rw [v133, v32]
  funext i
  pointwise [mat]
  simp only [← EReal.coe_mul, coe_sum]
  rfl

theorem v143 : val_main_v143 (F := Ideal) (mat D) (mat X) (mat Y) (mat P) (mat g) (mat3 W) (mat O) (mat L) = mat ((args D X Y P g W O L).dg 1) := by
  unfold val_main_v143 val_main_v134
  rw [v122, v33 D X Y P g W O L, v29 D X Y P g W O L]
  funext i
  pointwise [mat]
  rw [← EReal.coe_mul, ← EReal.coe_mul]
  exact congrArg (fun x : ℝ => (x : EReal)) (mul_assoc _ _ _).symm

theorem v136 : val_main_v136 (F := Ideal) (mat D) (mat X) (mat Y) (mat P) (mat g) (mat3 W) (mat O) (mat L) = mat ((args D X Y P g W O L).gwb 1) := by
  unfold val_main_v136 val_main_v135
  rw [v133, v30]
  funext i
  pointwise [mat]
  simp only [← EReal.coe_mul, coe_sum]
  exact congrArg (fun x : ℝ => (x : EReal)) (Finset.sum_congr rfl fun r _ => mul_comm _ _)

theorem v146 : val_main_v146 (F := Ideal) (mat D) (mat X) (mat Y) (mat P) (mat g) (mat3 W) (mat O) (mat L) = mat ((args D X Y P g W O L).dpk 0) := by
  unfold val_main_v146
  rw [v11 D X Y P g W O L, v122]
  funext i
  pointwise [mat]
  rw [← EReal.coe_mul]
  exact congrArg _ (mul_comm _ _)

theorem v150 : val_main_v150 (F := Ideal) (mat D) (mat X) (mat Y) (mat P) (mat g) (mat3 W) (mat O) (mat L) = mat ((args D X Y P g W O L).dyc 0) := by
  unfold val_main_v150
  rw [v146, v17]
  funext i
  pointwise [mat]
  simp only [← EReal.coe_mul, coe_sum]
  rfl

theorem v156 : val_main_v156 (F := Ideal) (mat D) (mat X) (mat Y) (mat P) (mat g) (mat3 W) (mat O) (mat L) = mat ((args D X Y P g W O L).dg 0) := by
  unfold val_main_v156 val_main_v147
  rw [v122, v18 D X Y P g W O L, v14 D X Y P g W O L]
  funext i
  pointwise [mat]
  rw [← EReal.coe_mul, ← EReal.coe_mul]
  exact congrArg (fun x : ℝ => (x : EReal)) (mul_assoc _ _ _).symm

theorem v149 : val_main_v149 (F := Ideal) (mat D) (mat X) (mat Y) (mat P) (mat g) (mat3 W) (mat O) (mat L) = mat ((args D X Y P g W O L).gwb 0) := by
  unfold val_main_v149 val_main_v148
  rw [v146, v15]
  funext i
  pointwise [mat]
  simp only [← EReal.coe_mul, coe_sum]
  exact congrArg (fun x : ℝ => (x : EReal)) (Finset.sum_congr rfl fun r _ => mul_comm _ _)

/-- The second result. -/
theorem v155 : val_main_v155 (F := Ideal) (mat D) (mat X) (mat Y) (mat P) (mat g) (mat3 W) (mat O) (mat L) = mat (allY (args D X Y P g W O L)) := by
  unfold val_main_v155 val_main_v142 val_main_v154 val_main_v141 val_main_v130
  rw [v127, v137, v150]
  funext i
  pointwise [val_main_cst_28, val_main_cst_31, val_main_cst_34, mat]
  have hi : (i 1).val < 1536 := (i 1).isLt
  by_cases h2 : 1024 ≤ (i 1).val
  · rw [dif_pos ⟨h2, by omega⟩, dif_neg (by omega), dif_neg (by omega), add_zero, add_zero]
    exact allY_eq _ 2 (i 0) (i 1) _ (show (i 1).val = 512 * 2 + ((i 1).val - 1024) by omega)
  by_cases h1 : 512 ≤ (i 1).val
  · rw [dif_neg (by omega), dif_pos ⟨h1, by omega⟩, dif_neg (by omega), zero_add, add_zero]
    exact allY_eq _ 1 (i 0) (i 1) _ (show (i 1).val = 512 * 1 + ((i 1).val - 512) by omega)
  rw [dif_neg (by omega), dif_neg (by omega), dif_pos (by omega), zero_add, zero_add]
  exact allY_eq _ 0 (i 0) (i 1) _ (show (i 1).val = 512 * 0 + (i 1).val by omega)

/-- The gates' gradients. -/
theorem v158 : val_main_v158 (F := Ideal) (mat D) (mat X) (mat Y) (mat P) (mat g) (mat3 W) (mat O) (mat L) = mat (allG (args D X Y P g W O L)) := by
  unfold val_main_v158 val_main_v145 val_main_v157 val_main_v144 val_main_v132
  rw [v131, v143, v156]
  funext i
  pointwise [val_main_cst_29, val_main_cst_32, val_main_cst_35, mat]
  have hi : (i 1).val < 3072 := (i 1).isLt
  by_cases h2 : 2048 ≤ (i 1).val
  · rw [dif_pos ⟨h2, by omega⟩, dif_neg (by omega), dif_neg (by omega), add_zero, add_zero]
    exact allG_eq _ 2 (i 0) (i 1) _ (show (i 1).val = 1024 * 2 + ((i 1).val - 2048) by omega)
  by_cases h1 : 1024 ≤ (i 1).val
  · rw [dif_neg (by omega), dif_pos ⟨h1, by omega⟩, dif_neg (by omega), zero_add, add_zero]
    exact allG_eq _ 1 (i 0) (i 1) _ (show (i 1).val = 1024 * 1 + ((i 1).val - 1024) by omega)
  rw [dif_neg (by omega), dif_neg (by omega), dif_pos (by omega), zero_add, zero_add]
  exact allG_eq _ 0 (i 0) (i 1) _ (show (i 1).val = 1024 * 0 + (i 1).val by omega)

/-- The branch weights' gradient. -/
theorem v153 : val_main_v153 (F := Ideal) (mat D) (mat X) (mat Y) (mat P) (mat g) (mat3 W) (mat O) (mat L) = mat3 (args D X Y P g W O L).gwb := by
  unfold val_main_v153 val_main_v140 val_main_v152 val_main_v139 val_main_v129 val_main_v151 val_main_v138 val_main_v128
  rw [v126, v136, v149]
  generalize (args D X Y P g W O L).gwb = Z
  funext i
  pointwise [val_main_cst_27, val_main_cst_30, val_main_cst_33, mat, mat3]
  have h0 : (i 0).val < 3 := (i 0).isLt
  by_cases e2 : (i 0).val = 2
  · rw [dif_pos (by omega), dif_neg (by omega), dif_neg (by omega), add_zero, add_zero]
    exact congrArg (fun z => ((Z z (i 1) (i 2) : ℝ) : EReal)) (Fin.ext e2.symm)
  by_cases e1 : (i 0).val = 1
  · rw [dif_neg (by omega), dif_pos (by omega), dif_neg (by omega), zero_add, add_zero]
    exact congrArg (fun z => ((Z z (i 1) (i 2) : ℝ) : EReal)) (Fin.ext e1.symm)
  rw [dif_neg (by omega), dif_neg (by omega), dif_pos (by omega), zero_add, zero_add]
  exact congrArg (fun z => ((Z z (i 1) (i 2) : ℝ) : EReal)) (Fin.ext (show 0 = (i 0).val by omega))

/-- The fifth result is the branch weights' gradient in bands. -/
theorem v166 : val_main_v166 (F := Ideal) (mat D) (mat X) (mat Y) (mat P) (mat g) (mat3 W) (mat O) (mat L) = mat4 (bandB (args D X Y P g W O L).gwb) := by
  unfold val_main_v166 val_main_v165 val_main_v164
  rw [v153]
  funext i
  pointwise [mat3, mat4]
  exact congrArg (fun z => (((args D X Y P g W O L).gwb (i 1) (i 2) z : ℝ) : EReal)) (Fin.ext (congrArg (· + (i 3).val) (Nat.mul_comm (i 0).val 128)))

/-- The third result. -/
theorem v161 : val_main_v161 (F := Ideal) (mat D) (mat X) (mat Y) (mat P) (mat g) (mat3 W) (mat O) (mat L) = mat (wide (args D X Y P g W O L)) := by
  unfold val_main_v161 val_main_v160
  rw [v158]
  funext i
  pointwise [val_main_v159, val_main_cst_36, mat]
  unfold wide
  by_cases h : 6144 ≤ (i 1).val
  · rw [dif_neg (by omega), dif_pos h]
  · rw [dif_pos (by omega), dif_neg h]
    rfl

/-- The sixth result. -/
theorem v168 : val_main_v168 (F := Ideal) (mat D) (mat X) (mat Y) (mat P) (mat g) (mat3 W) (mat O) (mat L) = mat (args D X Y P g W O L).vec := by
  unfold val_main_v168 val_main_v117 val_main_v116 val_main_v115 val_main_v88 val_main_v87 val_main_v86 val_main_v85 val_main_v84
  rw [v112, v52 D X Y P g W O L, v78 D X Y P g W O L]
  funext i
  pointwise [val_main_v83, val_main_v167, val_main_cst_37, val_main_cst_17, val_main_cst_18, val_main_cst_25, mat]
  simp only [← EReal.coe_mul, coe_sum]
  unfold In.vec
  by_cases h0 : (i 0).val = 0
  · rw [dif_pos (by omega), if_pos h0]
    exact congrArg (fun x : ℝ => (x : EReal)) (Finset.sum_congr rfl fun r _ => mul_comm _ _)
  rw [dif_neg (by omega), if_neg h0]
  by_cases h1 : (i 0).val = 1
  · rw [dif_pos (by omega), if_pos h1]
    rfl
  rw [dif_neg (by omega), if_neg h1]
  by_cases h2 : (i 0).val = 2
  · rw [dif_pos (by omega), if_pos h2]
  rw [dif_neg (by omega), if_neg h2]
  rfl

end Cert.MergeRefIdeal.Value

end
-- ==== Proof.Merge.lean ====
/- The value claim of the merge's backward pass. -/
module

public import proofs.«01_k».proof.Defs
public import proofs.«01_k».proof.Proof.Gen.Pre_merge_finite
public import proofs.«01_k».proof.Proof.MergeF
public import proofs.«01_k».proof.Proof.MergeR

@[expose] public section

set_option maxRecDepth 16384

noncomputable section

namespace Cert.Proof

open Idealize.ShloMosaic Idealize.SL.Sem Cert.Mg Cert.Reals

/-- The side conditions of the mask of written elements. -/
theorem written_facts : Cert.On_merge_written.Facts where
  bcast_S_S2048x1024 := by decide
  bcast_S_S2048x1536 := by decide
  bcast_S_S2048x9216 := by decide
  bcast_S_S8x128x1024 := by decide
  bcast_S_S8x3x512x128 := by decide
  bcast_S_S8x1024 := by decide

/-- The precondition: every element of every argument is a real. -/
theorem merge_real (d x : FVec Ideal Cert.Pre_merge_finite.S2048x1024 .f32) (y : FVec Ideal Cert.Pre_merge_finite.S2048x1536 .bf16)
    (p : FVec Ideal Cert.Pre_merge_finite.S2048x9216 .f32) (g : FVec Ideal Cert.Pre_merge_finite.S1x1024 .f32)
    (w : FVec Ideal Cert.Pre_merge_finite.S3x512x1024 .bf16) (o : FVec Ideal Cert.Pre_merge_finite.S1024x1024 .bf16)
    (l : FVec Ideal Cert.Pre_merge_finite.S1x1024 .f32)
    (h : Cert.Pre_merge_finite.fn (F := Ideal) d x y p g w o l = fun _ => 1#1) :
    ∃ (D X : Fin 2048 → Fin 1024 → ℝ) (Y : Fin 2048 → Fin 1536 → ℝ) (P : Fin 2048 → Fin 9216 → ℝ) (G : Fin 1 → Fin 1024 → ℝ)
      (W : Fin 3 → Fin 512 → Fin 1024 → ℝ) (O : Fin 1024 → Fin 1024 → ℝ) (L : Fin 1 → Fin 1024 → ℝ),
      d = mat D ∧ x = mat X ∧ y = mat Y ∧ p = mat P ∧ g = mat G ∧ w = mat3 W ∧ o = mat O ∧ l = mat L := by
  have e := congrFun h (fun k => k.elim0)
  unfold Cert.Pre_merge_finite.fn Cert.Pre_merge_finite.fn_part1 Cert.Pre_merge_finite.fn_part2 at e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨_, e0⟩ := IntOp.andi_eq_one.mp e
  obtain ⟨r0, h0⟩ := real_of_all _ _ _ _ _ e0
  obtain ⟨r1, h1⟩ := real_of_all _ _ _ _ _ e1
  obtain ⟨r2, h2⟩ := real_of_all _ _ _ _ _ e2
  obtain ⟨r3, h3⟩ := real_of_all _ _ _ _ _ e3
  obtain ⟨r4, h4⟩ := real_of_all _ _ _ _ _ e4
  obtain ⟨r5, h5⟩ := real_of_all _ _ _ _ _ e5
  obtain ⟨r6, h6⟩ := real_of_all _ _ _ _ _ e6
  obtain ⟨r7, h7⟩ := real_of_all _ _ _ _ _ e7
  exact ⟨_, _, _, _, _, _, _, _, h0.trans (eq_mat r0), h1.trans (eq_mat r1), h2.trans (eq_mat r2), h3.trans (eq_mat r3),
    h4.trans (eq_mat r4), h5.trans (eq_mat3 r5), h6.trans (eq_mat r6), h7.trans (eq_mat r7)⟩

theorem le_of_sge (n : Nat) (hn : n < 9216) (h : IntOp.cmpi .sge (BitVec.ofNat 32 n) 6144#32 = 1#1) : 6144 ≤ n := by
  by_contra hc
  have hs : (BitVec.ofNat 32 n).toInt = n := by
    rw [BitVec.toInt_eq_toNat_cond, BitVec.toNat_ofNat]
    omega
  have ht : ((6144#32).sle (BitVec.ofNat 32 n)) = false := by
    rw [BitVec.sle_eq_decide, hs]
    simp
    omega
  have h' : BitVec.ofBool ((6144#32).sle (BitVec.ofNat 32 n)) = 1#1 := h
  rw [ht] at h'
  exact absurd h' (by decide)

/-- The merge's value claim. -/
theorem merge_algebraic [hOn_merge_written : Cert.On_merge_written.Facts] :
    Cert.algebraic_MergeIdeal_MergeRefIdeal_on_merge_written_pre_merge_finite := by
  intro m g m' g' hpre hag
  choose D X Y P G W O L hD hX hY hP hG hW hO hL using fun c => merge_real _ _ _ _ _ _ _ _ (hpre c)
  have H : ∀ c, Cert.MergeIdeal.Value.Holds m c (D c) (X c) (Y c) (P c) (G c) (W c) (O c) (L c) := fun c =>
    ⟨hD c, hX c, hY c, hP c, hG c, hW c, hO c, hL c⟩
  let J := fun c => args (D c) (X c) (Y c) (P c) (G c) (W c) (O c) (L c)
  refine ⟨fun c => mat (J c).dres, fun c => mat (allY (J c)), fun c => mat (wide (J c)), fun c => mat3 (bandO (J c).gwo),
    fun c => mat4 (bandB (J c).gwb), fun c => mat (J c).vec, ?_, ?_⟩
  · refine (θ_run _ _ _).mono (fun r h c => ?_) (Cert.MergeIdeal.Value.run_blocks m g)
    obtain ⟨h0, h1, h2, h3, h4, h5, hk⟩ := h c
    refine ⟨fun i _ => congrFun (h0.trans (Cert.MergeIdeal.Value.final9' m c _ _ _ _ _ _ _ _ (H c))) i,
      fun i _ => congrFun (h1.trans (Cert.MergeIdeal.Value.final10' m c _ _ _ _ _ _ _ _ (H c))) i,
      fun i hi => ?_,
      fun i _ => congrFun (h3.trans (Cert.MergeIdeal.Value.final12' m c _ _ _ _ _ _ _ _ (H c))) i,
      fun i _ => congrFun (h4.trans (Cert.MergeIdeal.Value.final13' m c _ _ _ _ _ _ _ _ (H c))) i,
      fun i _ => congrFun (h5.trans (Cert.MergeIdeal.Value.final14' m c _ _ _ _ _ _ _ _ (H c))) i, hk⟩
    exact (congrFun h2 i).trans (Cert.MergeIdeal.Value.final11' m c _ _ _ _ _ _ _ _ (H c) i (le_of_sge _ (i 1).isLt hi))
  · refine (θ_run _ _ _).mono (fun r h c => ?_) (Cert.MergeRefIdeal.Value.run m' g')
    obtain ⟨h0, h1, h2, h3, h4, h5, hk⟩ := h c
    obtain ⟨e0, e1, e2, e3, e4, e5, e6, e7⟩ := hag c
    have q0 := e0.trans (hD c)
    have q1 := e1.trans (hX c)
    have q2 := e2.trans (hY c)
    have q3 := e3.trans (hP c)
    have q4 := e4.trans (hG c)
    have q5 := e5.trans (hW c)
    have q6 := e6.trans (hO c)
    have q7 := e7.trans (hL c)
    refine ⟨fun i _ => congrFun (h0.trans ?_) i, fun i _ => congrFun (h1.trans ?_) i, fun i _ => congrFun (h2.trans ?_) i,
      fun i _ => congrFun (h3.trans ?_) i, fun i _ => congrFun (h4.trans ?_) i, fun i _ => congrFun (h5.trans ?_) i, hk⟩
    · refine (Cert.MergeRefIdeal.Read.val_main_v119_eq _).trans ?_
      exact ((congr (congr (congr (congr (congr (congr (congr (congrArg _ q0) q1) q2) q3) q4) q5) q6) q7)).trans
        (Cert.MergeRefIdeal.Value.v119 _ _ _ _ _ _ _ _)
    · refine (Cert.MergeRefIdeal.Read.val_main_v155_eq _).trans ?_
      exact ((congr (congr (congr (congr (congr (congr (congr (congrArg _ q0) q1) q2) q3) q4) q5) q6) q7)).trans
        (Cert.MergeRefIdeal.Value.v155 _ _ _ _ _ _ _ _)
    · refine (Cert.MergeRefIdeal.Read.val_main_v161_eq _).trans ?_
      exact ((congr (congr (congr (congr (congr (congr (congr (congrArg _ q0) q1) q2) q3) q4) q5) q6) q7)).trans
        (Cert.MergeRefIdeal.Value.v161 _ _ _ _ _ _ _ _)
    · refine (Cert.MergeRefIdeal.Read.val_main_v163_eq _).trans ?_
      exact ((congr (congr (congr (congr (congr (congr (congr (congrArg _ q0) q1) q2) q3) q4) q5) q6) q7)).trans
        (Cert.MergeRefIdeal.Value.v163 _ _ _ _ _ _ _ _)
    · refine (Cert.MergeRefIdeal.Read.val_main_v166_eq _).trans ?_
      exact ((congr (congr (congr (congr (congr (congr (congr (congrArg _ q0) q1) q2) q3) q4) q5) q6) q7)).trans
        (Cert.MergeRefIdeal.Value.v166 _ _ _ _ _ _ _ _)
    · refine (Cert.MergeRefIdeal.Read.val_main_v168_eq _).trans ?_
      exact ((congr (congr (congr (congr (congr (congr (congr (congrArg _ q0) q1) q2) q3) q4) q5) q6) q7)).trans
        (Cert.MergeRefIdeal.Value.v168 _ _ _ _ _ _ _ _)

end Cert.Proof

end
-- ==== Proof.lean ====
/- The claims about the calls, assembled: the frames of the kernels are the generated ones, but for the normalise-and-project
   call's and the branches' backward call's, which are ProjRun's and BrBody's, one run for both programs each; the frames of the references hold because a host program writes no argument
   and declares no semaphore, the ideal programs are the kernels' own texts, and the value claims are those of the modules
   Gw, Dh, Ln, Merge, Proj, Fwd and Branch. -/
module

public import proofs.«01_k».proof.Defs
public import proofs.«01_k».proof.Proof.Gw
public import proofs.«01_k».proof.Proof.Dh
public import proofs.«01_k».proof.Proof.Ln
public import proofs.«01_k».proof.Proof.Proj
public import proofs.«01_k».proof.Proof.ProjRun
public import proofs.«01_k».proof.Proof.BrRun
public import proofs.«01_k».proof.Proof.Branch
public import proofs.«01_k».proof.Proof.Gen.BrRefIdeal.Run
public import proofs.«01_k».proof.Proof.Gen.BrRefIdeal.Read
public import proofs.«01_k».proof.Proof.Gen.BrRefIdeal
public import proofs.«01_k».proof.Proof.Gen.Br
public import proofs.«01_k».proof.Proof.Gen.Pre_branch_finite
public import proofs.«01_k».proof.Proof.Fwd
public import proofs.«01_k».proof.Proof.Merge
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Gw
public import proofs.«01_k».proof.Proof.Gen.Gw.Skeleton
public import proofs.«01_k».proof.Proof.Gen.Gw.Launch
public import proofs.«01_k».proof.Proof.Gen.Gw.Points
public import proofs.«01_k».proof.Proof.Gen.Gw.Frame
public import proofs.«01_k».proof.Proof.Gen.GwIdeal
public import proofs.«01_k».proof.Proof.Gen.GwIdeal.Skeleton
public import proofs.«01_k».proof.Proof.Gen.GwIdeal.Launch
public import proofs.«01_k».proof.Proof.Gen.GwIdeal.Points
public import proofs.«01_k».proof.Proof.Gen.GwIdeal.Frame
public import proofs.«01_k».proof.Proof.Gen.GwRefIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnRefIdeal
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Pre_ln_finite
public import proofs.«01_k».proof.Proof.Gen.Pre_merge_finite
public import Idealize.ShloMosaic.Adequacy
public import Idealize.ShloMosaic.Init

@[expose] public section

noncomputable section

namespace Cert.Proof

open Idealize.ShloMosaic Idealize.SL.Sem

theorem mergeRef_frame : Cert.quiescent_MergeRefIdeal := fun m ρ _ =>
  (θ_run _ _ _).mono (fun r h => ⟨fun c => (h c).2.2.2.2.2.2, Idealize.ShloMosaic.sem_eq_zero_of_no_sems (by decide) r.2⟩)
    (Cert.MergeRefIdeal.Value.run m ρ)

theorem gwRef_frame : Cert.quiescent_GwRefIdeal := fun m ρ _ =>
  (θ_run _ _ _).mono (fun r h => ⟨fun c => (h c).2, Idealize.ShloMosaic.sem_eq_zero_of_no_sems (by decide) r.2⟩)
    (Cert.GwRefIdeal.Value.run m ρ)

theorem dhRef_frame : Cert.quiescent_DhRefIdeal := fun m ρ _ =>
  (θ_run _ _ _).mono (fun r h => ⟨fun c => (h c).2, Idealize.ShloMosaic.sem_eq_zero_of_no_sems (by decide) r.2⟩)
    (Cert.DhRefIdeal.Value.run m ρ)

theorem lnRef_frame : Cert.quiescent_LnRefIdeal := fun m ρ _ =>
  (θ_run _ _ _).mono (fun r h => ⟨fun c => (h c).2.2, Idealize.ShloMosaic.sem_eq_zero_of_no_sems (by decide) r.2⟩)
    (Cert.LnRefIdeal.Value.run m ρ)

theorem projRef_frame : Cert.quiescent_ProjRefIdeal := fun m ρ _ =>
  (θ_run _ _ _).mono (fun r h => ⟨fun c => (h c).2.2, Idealize.ShloMosaic.sem_eq_zero_of_no_sems (by decide) r.2⟩)
    (Cert.ProjRefIdeal.Value.run m ρ)

/-- The printed program's body table is the ideal reading's: the two texts are one. -/
theorem proj_bodies : Cert.Proj.defs₀ (F := Bits) = Cert.ProjIdeal.defs₀ (F := Bits) := by
  unfold Cert.Proj.defs₀ Cert.ProjIdeal.defs₀
  congr 1
  funext l
  match l with
  | 0 => rfl
  | ⟨n + 1, h⟩ => exact absurd h (Nat.not_lt.2 (Nat.le_add_left _ _))

theorem proj_defs : Cert.Proj.defs (F := Bits) = Cert.ProjIdeal.defs (F := Bits) := by
  unfold Cert.Proj.defs Cert.ProjIdeal.defs
  rw [proj_bodies]; rfl

/-- So the run at any float values, taken at the machine's, is the printed program's. -/
theorem proj_frame : Cert.quiescent_Proj := fun m ρ _ => by
  rw [proj_defs]; exact Cert.ProjIdeal.Run.frame (F := Bits) m ρ

theorem fwdRef_frame : Cert.quiescent_FwdRefIdeal := fun m ρ _ =>
  (θ_run _ _ _).mono (fun r h => ⟨fun c => (h c).2.2.2, Idealize.ShloMosaic.sem_eq_zero_of_no_sems (by decide) r.2⟩)
    (Cert.FwdRefIdeal.Value.run m ρ)

/-- The branches' backward call leaves its arguments, whatever the floats; the printed program's text is the ideal reading's. -/
theorem br_run {F : FTy → Type} [FloatOps F] (m : (ℓ : Loc Cert.BrIdeal.nD Cert.BrIdeal.τ Cert.BrIdeal.sig) → Buf (Elt F) ℓ)
    (ρ : Dev Cert.BrIdeal.nD → PrngReg) :
    θ_run (Cert.BrIdeal.defs (F := F)) (onTc (τ := Cert.BrIdeal.τ) (Cert.BrIdeal.main (F := F))) ⟨m, fun _ => 0, ρ⟩ (fun r =>
      (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1)
      ∧ r.2.mem ((c.tc : Thread Cert.BrIdeal.nD Cert.BrIdeal.τ).loc Cert.BrIdeal.main_arg2) = m ((c.tc : Thread Cert.BrIdeal.nD Cert.BrIdeal.τ).loc Cert.BrIdeal.main_arg2)
      ∧ r.2.mem ((c.tc : Thread Cert.BrIdeal.nD Cert.BrIdeal.τ).loc Cert.BrIdeal.main_arg3) = m ((c.tc : Thread Cert.BrIdeal.nD Cert.BrIdeal.τ).loc Cert.BrIdeal.main_arg3)
      ∧ r.2.mem ((c.tc : Thread Cert.BrIdeal.nD Cert.BrIdeal.τ).loc Cert.BrIdeal.main_arg4) = m ((c.tc : Thread Cert.BrIdeal.nD Cert.BrIdeal.τ).loc Cert.BrIdeal.main_arg4)
      ∧ r.2.mem ((c.tc : Thread Cert.BrIdeal.nD Cert.BrIdeal.τ).loc Cert.BrIdeal.main_arg5) = m ((c.tc : Thread Cert.BrIdeal.nD Cert.BrIdeal.τ).loc Cert.BrIdeal.main_arg5)
      ∧ r.2.mem ((c.tc : Thread Cert.BrIdeal.nD Cert.BrIdeal.τ).loc Cert.BrIdeal.main_arg6) = m ((c.tc : Thread Cert.BrIdeal.nD Cert.BrIdeal.τ).loc Cert.BrIdeal.main_arg6))
      ∧ r.2.sem = fun _ => 0) :=
  (θ_run _ _ _).mono (fun r h => ⟨fun c => by
    obtain ⟨h0, h1, h2, h3, h4, h5, h6, _⟩ := h.1 c
    exact ⟨h0, h1, h2, h3, h4, h5, h6⟩, h.2⟩) (Cert.BrIdeal.Run.final m ρ)

set_option maxHeartbeats 4000000 in
/-- The two texts' body tables are one. -/
theorem br_bodies : Cert.Br.defs₀ (F := Bits) = Cert.BrIdeal.defs₀ (F := Bits) := by
  unfold Cert.Br.defs₀ Cert.BrIdeal.defs₀
  congr 1
  funext l
  match l with
  | 0 => rfl
  | ⟨n + 1, h⟩ => exact absurd h (Nat.not_lt.2 (Nat.le_add_left _ _))

set_option maxHeartbeats 4000000 in
theorem br_defs : Cert.Br.defs (F := Bits) = Cert.BrIdeal.defs (F := Bits) := by
  unfold Cert.Br.defs Cert.BrIdeal.defs
  rw [br_bodies]; rfl

set_option maxHeartbeats 4000000 in
theorem br_frame : Cert.quiescent_Br := fun m ρ _ => by
  rw [br_defs]; exact br_run (F := Bits) m ρ

theorem brRef_frame : Cert.quiescent_BrRefIdeal := fun m ρ _ =>
  (θ_run _ _ _).mono (fun r h => ⟨fun c => (h c).2.2.2.2, Idealize.ShloMosaic.sem_eq_zero_of_no_sems (by decide) r.2⟩)
    (Cert.BrRefIdeal.Value.run m ρ)

theorem claim : Cert.Claim :=
  ⟨Cert.Merge.Gen.facts, Cert.MergeIdeal.Gen.facts, Cert.MergeRefIdeal.Gen.facts, Cert.Gw.Gen.facts, Cert.GwIdeal.Gen.facts,
    Cert.GwRefIdeal.Gen.facts, Cert.Dh.Gen.facts, Cert.DhIdeal.Gen.facts, Cert.DhRefIdeal.Gen.facts, Cert.Ln.Gen.facts,
    Cert.LnIdeal.Gen.facts, Cert.LnRefIdeal.Gen.facts, Cert.Proj.Gen.facts, Cert.ProjIdeal.Gen.facts,
    Cert.ProjRefIdeal.Gen.facts, Cert.Fwd.Gen.facts, Cert.FwdIdeal.Gen.facts, Cert.FwdRefIdeal.Gen.facts, Cert.Br.Gen.facts,
    Cert.BrIdeal.Gen.facts, Cert.BrRefIdeal.Gen.facts, Cert.Pre_merge_finite.Gen.facts, Cert.Pre_ln_finite.Gen.facts,
    Cert.Pre_branch_finite.Gen.facts, written_facts,
    fun m ρ _ => Cert.Merge.Gen.frame m ρ, fun m ρ _ => Cert.MergeIdeal.Gen.frame m ρ,
    fun m ρ _ => Cert.MergeIdeal.Gen.frame m ρ, mergeRef_frame, fun m ρ _ => mergeRef_frame m ρ trivial,
    fun m ρ _ => Cert.Gw.Gen.frame m ρ, fun m ρ _ => Cert.GwIdeal.Gen.frame m ρ, gwRef_frame,
    fun m ρ _ => Cert.Dh.Gen.frame m ρ, fun m ρ _ => Cert.DhIdeal.Gen.frame m ρ, dhRef_frame,
    fun m ρ _ => Cert.Ln.Gen.frame m ρ, fun m ρ _ => Cert.LnIdeal.Gen.frame m ρ, fun m ρ _ => Cert.LnIdeal.Gen.frame m ρ,
    lnRef_frame, fun m ρ _ => lnRef_frame m ρ trivial,
    proj_frame, fun m ρ _ => Cert.ProjIdeal.Run.frame m ρ, projRef_frame,
    fun m ρ _ => Cert.Fwd.Gen.frame m ρ, fun m ρ _ => Cert.FwdIdeal.Gen.frame m ρ, fwdRef_frame,
    br_frame, fun m ρ _ => br_run m ρ, fun m ρ _ => br_run m ρ, brRef_frame,
    fun m ρ _ => brRef_frame m ρ trivial,
    trivial, merge_algebraic (hOn_merge_written := written_facts), trivial, gw_algebraic, trivial, dh_algebraic, trivial, ln_algebraic,
    trivial, proj_algebraic, trivial, fwd_algebraic, trivial, br_algebraic⟩

end Cert.Proof

end
